-- ==== Defs.lean ====
def Pre_Kernel [hPre_buckets_in_range : Cert.Pre_buckets_in_range.Facts] (m : (ℓ : Loc Cert.Kernel.nD Cert.Kernel.τ Cert.Kernel.sig) → Buf (Elt Bits) ℓ) : Prop :=
  ∀ c : Dev Cert.Kernel.nD,
    (Cert.Pre_buckets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_buckets_in_range : Cert.Pre_buckets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_buckets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_buckets_in_range : Cert.Pre_buckets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_buckets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_buckets_in_range : Cert.Pre_buckets_in_range.Facts] (m : (ℓ : Loc Cert.Reference.nD Cert.Reference.τ Cert.Reference.sig) → Buf (Elt Bits) ℓ) : Prop :=
  ∀ c : Dev Cert.Reference.nD,
    (Cert.Pre_buckets_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_all_finite [hPre_all_finite : Cert.Pre_all_finite.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_all_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_all_finite [hPre_all_finite : Cert.Pre_all_finite.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_all_finite.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_tokens_apart [hPre_tokens_apart : Cert.Pre_tokens_apart.Facts] (m : (ℓ : Loc Cert.AttendIdeal.nD Cert.AttendIdeal.τ Cert.AttendIdeal.sig) → Buf (Elt Ideal) ℓ) : Prop :=
  ∀ c : Dev Cert.AttendIdeal.nD,
    (Cert.Pre_tokens_apart.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_tokens_apart [hPre_tokens_apart : Cert.Pre_tokens_apart.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_tokens_apart.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] [hPre_buckets_in_range : Cert.Pre_buckets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_buckets_in_range : Cert.Pre_buckets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_buckets_in_range : Cert.Pre_buckets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_buckets_in_range : Cert.Pre_buckets_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectIdeal_pre_all_finite [hProjectIdeal : Cert.ProjectIdeal.Facts] [hPre_all_finite : Cert.Pre_all_finite.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_all_finite m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_ProjectReferenceIdeal_pre_all_finite [hProjectReferenceIdeal : Cert.ProjectReferenceIdeal.Facts] [hPre_all_finite : Cert.Pre_all_finite.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_all_finite m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ r.2.sem = fun _ => 0)

def quiescent_AttendIdeal_pre_tokens_apart [hAttendIdeal : Cert.AttendIdeal.Facts] [hPre_tokens_apart : Cert.Pre_tokens_apart.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_tokens_apart m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1))
      ∧ r.2.sem = fun _ => 0)

def quiescent_AttendReferenceIdeal_pre_tokens_apart [hAttendReferenceIdeal : Cert.AttendReferenceIdeal.Facts] [hPre_tokens_apart : Cert.Pre_tokens_apart.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_tokens_apart m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Kernel_KernelIdeal : Prop :=
  True

def bitexact_Kernel_Reference [hKernel : Cert.Kernel.Facts] [hReference : Cert.Reference.Facts] [hPre_buckets_in_range : Cert.Pre_buckets_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)) (v2 : (c : Dev Cert.Kernel.nD) → Buf (Elt Bits) ((c.tc : Thread Cert.Kernel.nD Cert.Kernel.τ).loc Cert.Kernel.main_v2_2)) (v3 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_v2_2) = v2 c
          ∧ r.2.mem ((c.tc : Thread Cert.Kernel.nD Cert.Kernel.τ).loc Cert.Kernel.main_v4) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v21) = v0 c
          ∧ r.2.mem ((c.tc : Thread Cert.Reference.nD Cert.Reference.τ).loc Cert.Reference.main_v23) = v1 c
          ∧ r.2.mem ((c.tc : Thread Cert.Reference.nD Cert.Reference.τ).loc Cert.Reference.main_v24) = v2 c
          ∧ r.2.mem ((c.tc : Thread Cert.Reference.nD Cert.Reference.τ).loc Cert.Reference.main_v25) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_buckets_in_range : Cert.Pre_buckets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectReferenceIdeal_pre_all_finite [hProjectIdeal : Cert.ProjectIdeal.Facts] [hProjectReferenceIdeal : Cert.ProjectReferenceIdeal.Facts] [hPre_all_finite : Cert.Pre_all_finite.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_all_finite m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v4_0)) (v1 : (c : Dev Cert.ProjectIdeal.nD) → Buf (Elt Ideal) ((c.tc : Thread Cert.ProjectIdeal.nD Cert.ProjectIdeal.τ).loc Cert.ProjectIdeal.main_v4_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4_0) = v0 c
          ∧ r.2.mem ((c.tc : Thread Cert.ProjectIdeal.nD Cert.ProjectIdeal.τ).loc Cert.ProjectIdeal.main_v4_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v13) = v0 c
          ∧ r.2.mem ((c.tc : Thread Cert.ProjectReferenceIdeal.nD Cert.ProjectReferenceIdeal.τ).loc Cert.ProjectReferenceIdeal.main_v12) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Attend_AttendIdeal : Prop :=
  IdealRules.named_const.Statement Cert.AttendIdeal.κ "mask" .f32 0xF149F2CA#32 ⊥

def algebraic_AttendIdeal_AttendReferenceIdeal_pre_tokens_apart [hAttendIdeal : Cert.AttendIdeal.Facts] [hAttendReferenceIdeal : Cert.AttendReferenceIdeal.Facts] [hPre_tokens_apart : Cert.Pre_tokens_apart.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_tokens_apart m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)) →
    ∃ (v0 : (c : Dev Cert.AttendIdeal.nD) → Buf (Elt Ideal) ((c.tc : Thread Cert.AttendIdeal.nD Cert.AttendIdeal.τ).loc Cert.AttendIdeal.main_v2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v2) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v45) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v24) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hProject : Cert.Project.Facts) (hProjectIdeal : Cert.ProjectIdeal.Facts) (hProjectReferenceIdeal : Cert.ProjectReferenceIdeal.Facts) (hAttend : Cert.Attend.Facts) (hAttendIdeal : Cert.AttendIdeal.Facts) (hAttendReferenceIdeal : Cert.AttendReferenceIdeal.Facts) (hCombine : Cert.Combine.Facts) (hCombineIdeal : Cert.CombineIdeal.Facts) (hCombineReferenceIdeal : Cert.CombineReferenceIdeal.Facts) (hPre_buckets_in_range : Cert.Pre_buckets_in_range.Facts) (hPre_all_finite : Cert.Pre_all_finite.Facts) (hPre_tokens_apart : Cert.Pre_tokens_apart.Facts),
    quiescent_Kernel (hKernel := hKernel) (hPre_buckets_in_range := hPre_buckets_in_range)
    ∧ quiescent_KernelIdeal (hKernelIdeal := hKernelIdeal) (hPre_buckets_in_range := hPre_buckets_in_range)
    ∧ quiescent_ReferenceIdeal (hReferenceIdeal := hReferenceIdeal) (hPre_buckets_in_range := hPre_buckets_in_range)
    ∧ quiescent_Reference (hReference := hReference) (hPre_buckets_in_range := hPre_buckets_in_range)
    ∧ quiescent_Project (hProject := hProject)
    ∧ quiescent_ProjectIdeal (hProjectIdeal := hProjectIdeal)
    ∧ quiescent_ProjectIdeal_pre_all_finite (hProjectIdeal := hProjectIdeal) (hPre_all_finite := hPre_all_finite)
    ∧ quiescent_ProjectReferenceIdeal (hProjectReferenceIdeal := hProjectReferenceIdeal)
    ∧ quiescent_ProjectReferenceIdeal_pre_all_finite (hProjectReferenceIdeal := hProjectReferenceIdeal) (hPre_all_finite := hPre_all_finite)
    ∧ quiescent_Attend (hAttend := hAttend)
    ∧ quiescent_AttendIdeal (hAttendIdeal := hAttendIdeal)
    ∧ quiescent_AttendIdeal_pre_tokens_apart (hAttendIdeal := hAttendIdeal) (hPre_tokens_apart := hPre_tokens_apart)
    ∧ quiescent_AttendReferenceIdeal (hAttendReferenceIdeal := hAttendReferenceIdeal)
    ∧ quiescent_AttendReferenceIdeal_pre_tokens_apart (hAttendReferenceIdeal := hAttendReferenceIdeal) (hPre_tokens_apart := hPre_tokens_apart)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ bitexact_Kernel_Reference (hKernel := hKernel) (hReference := hReference) (hPre_buckets_in_range := hPre_buckets_in_range)
    ∧ algebraic_KernelIdeal_ReferenceIdeal (hKernelIdeal := hKernelIdeal) (hReferenceIdeal := hReferenceIdeal) (hPre_buckets_in_range := hPre_buckets_in_range)
    ∧ preserves_Project_ProjectIdeal
    ∧ algebraic_ProjectIdeal_ProjectReferenceIdeal_pre_all_finite (hProjectIdeal := hProjectIdeal) (hProjectReferenceIdeal := hProjectReferenceIdeal) (hPre_all_finite := hPre_all_finite)
    ∧ preserves_Attend_AttendIdeal
    ∧ algebraic_AttendIdeal_AttendReferenceIdeal_pre_tokens_apart (hAttendIdeal := hAttendIdeal) (hAttendReferenceIdeal := hAttendReferenceIdeal) (hPre_tokens_apart := hPre_tokens_apart)
    ∧ preserves_Combine_CombineIdeal
    ∧ algebraic_CombineIdeal_CombineReferenceIdeal (hCombineIdeal := hCombineIdeal) (hCombineReferenceIdeal := hCombineReferenceIdeal)
-- ==== Pre_all_finite.lean ====
abbrev S2x2048x1024 : Shape := ⟨3, ![2, 2048, 1024]⟩
abbrev S1024x1024 : Shape := ⟨2, ![1024, 1024]⟩
abbrev S64x4x16 : Shape := ⟨3, ![64, 4, 16]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x4x16 : S_.BroadcastsInDim S64x4x16 (![] : Fin 0 → Fin S64x4x16.rank)
  reducesTo_S64x4x16_S_d0_1_2 : S64x4x16.ReducesTo [0, 1, 2] S_

variable [Facts]

def fn {F : FTy → Type} [FloatOps F] (main_arg0 : FVec F S2x2048x1024 .f32) (main_arg1 : FVec F S1024x1024 .f32) (main_arg2 : FVec F S1024x1024 .f32) (main_arg3 : FVec F S64x4x16 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S64x4x16 .f32 := Host.absf main_arg3
  let main_cst_2 : FVec F S_ .f32 := constant S_ .f32 0x7F800000#32
  let main_v9 : FVec F S64x4x16 .f32 := broadcastInDim S64x4x16 ![] bcast_S_S64x4x16 main_cst_2
  let main_v10 : IVec S64x4x16 1 := cmpf .olt main_v8 main_v9
  let main_c_3 : IVec S_ 1 := constantI S_ 1 1#1
  let main_v11 : IVec S_ 1 := (fun x v => Host.reduce IntOp.andi x v reducesTo_S64x4x16_S_d0_1_2 h_S_) main_v10 main_c_3
  let main_v12 : IVec S_ 1 := andi main_v7 main_v11
  let main_v13 : IVec S_ 1 := andi main_v3 main_v12
  main_v13
-- ==== Pre_buckets_in_range.lean ====
abbrev S32x4x2048 : Shape := ⟨3, ![32, 4, 2048]⟩
abbrev S32x2048x128 : Shape := ⟨3, ![32, 2048, 128]⟩
abbrev S32x8192x128 : Shape := ⟨3, ![32, 8192, 128]⟩
abbrev S_ : Shape := ⟨0, ![]⟩

class Facts : Prop where
  bcast_S_S32x4x2048 : S_.BroadcastsInDim S32x4x2048 (![] : Fin 0 → Fin S32x4x2048.rank)
  reducesTo_S32x4x2048_S_d0_1_2 : S32x4x2048.ReducesTo [0, 1, 2] S_
  h_S_ : 0 < S_.numel

variable [Facts]

def fn {F : FTy → Type} [FloatOps F] (main_arg0 : IVec S32x4x2048 32) (main_arg1 : FVec F S32x2048x128 .f32) (main_arg2 : FVec F S32x8192x128 .f32) : IVec S_ 1 :=
  let main_c : IVec S_ 32 := constantI S_ 32 0#32
  let main_v0 : IVec S32x4x2048 32 := broadcastInDim S32x4x2048 ![] bcast_S_S32x4x2048 main_c
  let main_v1 : IVec S32x4x2048 1 := cmpi .sge main_arg0 main_v0
  let main_c_0 : IVec S_ 32 := constantI S_ 32 32#32
  let main_v2 : IVec S32x4x2048 32 := broadcastInDim S32x4x2048 ![] bcast_S_S32x4x2048 main_c_0
  let main_v3 : IVec S32x4x2048 1 := cmpi .slt main_arg0 main_v2
  let main_v4 : IVec S32x4x2048 1 := andi main_v1 main_v3
  let main_c_1 : IVec S_ 1 := constantI S_ 1 1#1
  let main_v5 : IVec S_ 1 := (fun x v => Host.reduce IntOp.andi x v reducesTo_S32x4x2048_S_d0_1_2 h_S_) main_v4 main_c_1
  main_v5
-- ==== Pre_tokens_apart.lean ====
abbrev S262144x128 : Shape := ⟨2, ![262144, 128]⟩
abbrev S262144 : Shape := ⟨1, ![262144]⟩
abbrev S262144x64 : Shape := ⟨2, ![262144, 64]⟩
abbrev S32x128x64 : Shape := ⟨3, ![32, 128, 64]⟩
abbrev S32x1x64 : Shape := ⟨3, ![32, 1, 64]⟩
abbrev S32x127x64 : Shape := ⟨3, ![32, 127, 64]⟩
abbrev S32x128x64x64 : Shape := ⟨4, ![32, 128, 64, 64]⟩
abbrev S32x128x64x1 : Shape := ⟨4, ![32, 128, 64, 1]⟩
abbrev S32x128x1x64 : Shape := ⟨4, ![32, 128, 1, 64]⟩
abbrev S_ : Shape := ⟨0, ![]⟩

class Facts : Prop where
  slices_S262144x128_S262144x64_0_0 : S262144x128.Slices ![0, 0] S262144x64
  shapeCasts_S262144_S32x128x64 : S262144.ShapeCasts S32x128x64
  slices_S32x128x64_S32x1x64_0_127_0 : S32x128x64.Slices ![0, 127, 0] S32x1x64
  slices_S32x128x64_S32x127x64_0_0_0 : S32x128x64.Slices ![0, 0, 0] S32x127x64
  concatenates_S32x1x64_S32x127x64_S32x128x64_d1 : Shape.Concatenates [S32x1x64, S32x127x64] S32x128x64 1
  bcast_S32x128x64_S32x128x64x1_0_1_2 : S32x128x64.BroadcastsInDim S32x128x64x1 (![0, 1, 2] : Fin 3 → Fin S32x128x64x1.rank)
  bcast_S32x128x64_S32x128x1x64_0_1_3 : S32x128x64.BroadcastsInDim S32x128x1x64 (![0, 1, 3] : Fin 3 → Fin S32x128x1x64.rank)
  bcast_S32x128x64x1_S32x128x64x64_0_1_2_3 : S32x128x64x1.BroadcastsInDim S32x128x64x64 (![0, 1, 2, 3] : Fin 4 → Fin S32x128x64x64.rank)
  bcast_S32x128x1x64_S32x128x64x64_0_1_2_3 : S32x128x1x64.BroadcastsInDim S32x128x64x64 (![0, 1, 2, 3] : Fin 4 → Fin S32x128x64x64.rank)
  bcast_S_S32x128x64x64 : S_.BroadcastsInDim S32x128x64x64 (![] : Fin 0 → Fin S32x128x64x64.rank)
  bcast_S_S262144x64 : S_.BroadcastsInDim S262144x64 (![] : Fin 0 → Fin S262144x64.rank)
  reducesTo_S262144x64_S_d0_1 : S262144x64.ReducesTo [0, 1] S_
  h_S_ : 0 < S_.numel
  reducesTo_S32x128x64x64_S_d0_1_2_3 : S32x128x64x64.ReducesTo [0, 1, 2, 3] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x128x64x64 32) (arg1 : IVec S_ 32) : IVec S32x128x64x64 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x128x64x64 32 := broadcastInDim S32x128x64x64 ![] bcast_S_S32x128x64x64 v2
  let v4 : IVec S32x128x64x64 32 := Host.remsi arg0 v3
  let c_1 : IVec S_ 32 := constantI S_ 32 0#32
  let v5 : IVec S32x128x64x64 32 := broadcastInDim S32x128x64x64 ![] bcast_S_S32x128x64x64 c_1
  let v6 : IVec S32x128x64x64 1 := cmpi .ne v4 v5
  let c_2 : IVec S_ 32 := constantI S_ 32 0#32
  let v7 : IVec S32x128x64x64 32 := broadcastInDim S32x128x64x64 ![] bcast_S_S32x128x64x64 c_2
  let v8 : IVec S32x128x64x64 1 := cmpi .slt v4 v7
  let c_3 : IVec S_ 32 := constantI S_ 32 0#32
  let v9 : IVec S_ 1 := cmpi .slt v2 c_3
  let v10 : IVec S32x128x64x64 1 := broadcastInDim S32x128x64x64 ![] bcast_S_S32x128x64x64 v9
  let v11 : IVec S32x128x64x64 1 := cmpi .ne v8 v10
  let v12 : IVec S32x128x64x64 1 := andi v11 v6
  let v13 : IVec S32x128x64x64 32 := broadcastInDim S32x128x64x64 ![] bcast_S_S32x128x64x64 v2
  let v14 : IVec S32x128x64x64 32 := addi v4 v13
  let v15 : IVec S32x128x64x64 32 := select v12 v14 v4
  v15

def fn_part1 {F : FTy → Type} [FloatOps F] (main_v0 : FVec F S262144x64 .f32) (main_v14 : IVec S32x128x64x64 1) (main_v19 : IVec S32x128x64x64 1) (main_v20 : IVec S32x128x64x64 32) (main_v21 : IVec S32x128x64x64 32) : IVec S_ 1 :=
  let main_v22 : IVec S32x128x64x64 1 := cmpi .eq main_v20 main_v21
  let main_v23 : IVec S32x128x64x64 1 := ori main_v19 main_v22
  let main_v24 : FVec F S262144x64 .f32 := Host.absf main_v0
  let main_cst : FVec F S_ .f32 := constant S_ .f32 0x7F800000#32
  let main_v25 : FVec F S262144x64 .f32 := broadcastInDim S262144x64 ![] bcast_S_S262144x64 main_cst
  let main_v26 : IVec S262144x64 1 := cmpf .olt main_v24 main_v25
  let main_c_1 : IVec S_ 1 := constantI S_ 1 1#1
  let main_v27 : IVec S_ 1 := (fun x v => Host.reduce IntOp.andi x v reducesTo_S262144x64_S_d0_1 h_S_) main_v26 main_c_1
  let main_v28 : IVec S32x128x64x64 1 := andi main_v14 main_v23
  let main_c_2 : IVec S_ 1 := constantI S_ 1 1#1
  let main_v29 : IVec S_ 1 := (fun x v => Host.reduce IntOp.andi x v reducesTo_S32x128x64x64_S_d0_1_2_3 h_S_) main_v28 main_c_2
  let main_v30 : IVec S_ 1 := andi main_v27 main_v29
  main_v30

def fn {F : FTy → Type} [FloatOps F] (main_arg0 : FVec F S262144x128 .f32) (main_arg1 : FVec F S262144 .f32) : IVec S_ 1 :=
  let main_v0 : FVec F S262144x64 .f32 := (extractStridedSlice S262144x64 ![0, 0] · slices_S262144x128_S262144x64_0_0) main_arg0
  let main_v1 : FVec F S32x128x64 .f32 := shapeCast S32x128x64 main_arg1 shapeCasts_S262144_S32x128x64
  let main_v2 : FVec F S32x1x64 .f32 := (extractStridedSlice S32x1x64 ![0, 127, 0] · slices_S32x128x64_S32x1x64_0_127_0) main_v1
  let main_v3 : FVec F S32x127x64 .f32 := (extractStridedSlice S32x127x64 ![0, 0, 0] · slices_S32x128x64_S32x127x64_0_0_0) main_v1
  let main_v4 : FVec F S32x128x64 .f32 := (fun a b => concatenate S32x128x64 1 [⟨S32x1x64, a⟩, ⟨S32x127x64, b⟩] concatenates_S32x1x64_S32x127x64_S32x128x64_d1) main_v2 main_v3
  let main_v5 : IVec S32x128x64x64 32 := iotaInDim S32x128x64x64 32 2
  let main_v6 : IVec S32x128x64x64 32 := iotaInDim S32x128x64x64 32 3
  let main_v7 : IVec S32x128x64x64 32 := iotaInDim S32x128x64x64 32 1
  let main_v8 : FVec F S32x128x64x1 .f32 := broadcastInDim S32x128x64x1 ![0, 1, 2] bcast_S32x128x64_S32x128x64x1_0_1_2 main_v1
  let main_v9 : FVec F S32x128x1x64 .f32 := broadcastInDim S32x128x1x64 ![0, 1, 3] bcast_S32x128x64_S32x128x1x64_0_1_3 main_v1
  let main_v10 : FVec F S32x128x64x64 .f32 := broadcastInDim S32x128x64x64 ![0, 1, 2, 3] bcast_S32x128x64x1_S32x128x64x64_0_1_2_3 main_v8
  let main_v11 : FVec F S32x128x64x64 .f32 := broadcastInDim S32x128x64x64 ![0, 1, 2, 3] bcast_S32x128x1x64_S32x128x64x64_0_1_2_3 main_v9
  let main_v12 : IVec S32x128x64x64 1 := cmpf .une main_v10 main_v11
  let main_v13 : IVec S32x128x64x64 1 := cmpi .eq main_v5 main_v6
  let main_v14 : IVec S32x128x64x64 1 := ori main_v12 main_v13
  let main_v15 : FVec F S32x128x64x1 .f32 := broadcastInDim S32x128x64x1 ![0, 1, 2] bcast_S32x128x64_S32x128x64x1_0_1_2 main_v1
  let main_v16 : FVec F S32x128x1x64 .f32 := broadcastInDim S32x128x1x64 ![0, 1, 3] bcast_S32x128x64_S32x128x1x64_0_1_3 main_v4
  let main_v17 : FVec F S32x128x64x64 .f32 := broadcastInDim S32x128x64x64 ![0, 1, 2, 3] bcast_S32x128x64x1_S32x128x64x64_0_1_2_3 main_v15
  let main_v18 : FVec F S32x128x64x64 .f32 := broadcastInDim S32x128x64x64 ![0, 1, 2, 3] bcast_S32x128x1x64_S32x128x64x64_0_1_2_3 main_v16
  let main_v19 : IVec S32x128x64x64 1 := cmpf .une main_v17 main_v18
  let main_c : IVec S_ 32 := constantI S_ 32 32#32
  let main_v20 : IVec S32x128x64x64 32 := fn_remainder (F := F) main_v7 main_c
  let main_c_0 : IVec S_ 32 := constantI S_ 32 0#32
  let main_v21 : IVec S32x128x64x64 32 := broadcastInDim S32x128x64x64 ![] bcast_S_S32x128x64x64 main_c_0
  fn_part1 (F := F) main_v0 main_v14 main_v19 main_v20 main_v21
-- ==== Kernel.lean ====
abbrev S32x4x2048 : Shape := ⟨3, ![32, 4, 2048]⟩
abbrev S32x2048x128 : Shape := ⟨3, ![32, 2048, 128]⟩
abbrev S32x8192x128 : Shape := ⟨3, ![32, 8192, 128]⟩
abbrev S262144 : Shape := ⟨1, ![262144]⟩
abbrev S65536x128 : Shape := ⟨2, ![65536, 128]⟩
abbrev S262144x128 : Shape := ⟨2, ![262144, 128]⟩
abbrev S2048 : Shape := ⟨1, ![2048]⟩
abbrev S32 : Shape := ⟨1, ![32]⟩
abbrev S128x128 : Shape := ⟨2, ![128, 128]⟩
abbrev S_ : Shape := ⟨0, ![]⟩
abbrev S16 : Shape := ⟨1, ![16]⟩
abbrev S128 : Shape := ⟨1, ![128]⟩
abbrev S16x128 : Shape := ⟨2, ![16, 128]⟩
abbrev S1x16 : Shape := ⟨2, ![1, 16]⟩
abbrev S1x128 : Shape := ⟨2, ![1, 128]⟩

abbrev nBuf : Table → Nat
  | .hbm => 10
  | .local .scVector .vmem => 10
  | _ => 0

abbrev bufTy : (tb : Table) → Fin (nBuf tb) → BufTy
  | .hbm, ⟨0, _⟩ => ⟨S32x4x2048, .i32⟩
  | .hbm, ⟨1, _⟩ => ⟨S32x2048x128, .f32⟩
  | .hbm, ⟨2, _⟩ => ⟨S32x8192x128, .f32⟩
  | .hbm, ⟨3, _⟩ => ⟨S262144, .i32⟩
  | .hbm, ⟨4, _⟩ => ⟨S65536x128, .f32⟩
  | .hbm, ⟨5, _⟩ => ⟨S262144, .i32⟩
  | .hbm, ⟨6, _⟩ => ⟨S262144, .f32⟩
  | .hbm, ⟨7, _⟩ => ⟨S262144x128, .f32⟩
  | .hbm, ⟨8, _⟩ => ⟨S262144x128, .f32⟩
  | .hbm, ⟨9, _⟩ => ⟨S262144x128, .f32⟩
  | .local .scVector .vmem, ⟨0, _⟩ => ⟨S2048, .i32⟩
  | .local .scVector .vmem, ⟨1, _⟩ => ⟨S2048, .i32⟩
  | .local .scVector .vmem, ⟨2, _⟩ => ⟨S2048, .f32⟩
  | .local .scVector .vmem, ⟨3, _⟩ => ⟨S2048, .i32⟩
  | .local .scVector .vmem, ⟨4, _⟩ => ⟨S32, .i32⟩
  | .local .scVector .vmem, ⟨5, _⟩ => ⟨S32, .i32⟩
  | .local .scVector .vmem, ⟨6, _⟩ => ⟨S128x128, .f32⟩
  | .local .scVector .vmem, ⟨7, _⟩ => ⟨S2048, .i32⟩
  | .local .scVector .vmem, ⟨8, _⟩ => ⟨S16x128, .i32⟩
  | .local .scVector .vmem, ⟨9, _⟩ => ⟨S128x128, .f32⟩
  | _, _ => ⟨S32x4x2048, .i32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 146 → Bool
  | ⟨i, _⟩ => dmaSemScopedAt i

abbrev sig : RefSig :=
  ofTables nBuf rfl bufTy 4 146 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 3, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v2_2_scv : Ref sig .scVector := ⟨.hbm, 7, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32_0
  let c2048_i32 : BitVec 32 := 2048#32
  let v22 : BitVec 32 := Scalar.muli v4 c2048_i32
  ![v22.toNat]
@[reducible] def k0_t1_loop : Scf.Loop 32 :=
  let c0_i32_8 : BitVec 32 := 0#32
  let c128_i32 : BitVec 32 := 128#32
  let v25 : BitVec 32 := Scalar.addi c0_i32_8 c128_i32
  let c1_i32_9 : BitVec 32 := 1#32
  ⟨c0_i32_8, v25, c1_i32_9⟩
def k0_off2 (k0_t1 : Fin k0_t1_loop.trips) : Fin 1 → Nat :=
  let c0_i32_8 : BitVec 32 := 0#32
  let c1_i32_9 : BitVec 32 := 1#32
  let arg15 : BitVec 32 := Scf.iv c0_i32_8 c1_i32_9 k0_t1
  let c16_i32 : BitVec 32 := 16#32
  let v483 : BitVec 32 := Scalar.muli arg15 c16_i32
  let v484 : Index := Scalar.indexCast v483
  ![v484.toNat]

def k0_chk1 (v485 : IVec S16 32) : Prop :=
  (∀ a x, ((![v485] : Fin 1 → IVec S16 32) a x).toNat < S32.size a)
theorem k0_idx1_inb : ∀ (v485 : IVec S16 32) (k0_hw1 : k0_chk1 v485), ∀ a x, ((![v485] : Fin 1 → IVec S16 32) a x).toNat < S32.size a := fun v485 k0_hw1 => k0_hw1
@[reducible] def k0_t2_loop : Scf.Loop 32 :=
  let c0_i32_19 : BitVec 32 := 0#32
  let c128_i32_20 : BitVec 32 := 128#32
  let v42 : BitVec 32 := Scalar.addi c0_i32_19 c128_i32_20
  let c1_i32_21 : BitVec 32 := 1#32
  ⟨c0_i32_19, v42, c1_i32_21⟩
def k0_off3 (k0_t2 : Fin k0_t2_loop.trips) : Fin 1 → Nat :=
  let c0_i32_19 : BitVec 32 := 0#32
  let c1_i32_21 : BitVec 32 := 1#32
  let arg15 : BitVec 32 := Scf.iv c0_i32_19 c1_i32_21 k0_t2
  let c16_i32 : BitVec 32 := 16#32
  let v483 : BitVec 32 := Scalar.muli arg15 c16_i32
  let v484 : Index := Scalar.indexCast v483
  ![v484.toNat]

def k0_chk3 (v490 : IVec S16 32) : Prop :=
  (∀ a x, ((![v490] : Fin 1 → IVec S16 32) a x).toNat < S2048.size a) ∧
  (∀ a x, ((![v490] : Fin 1 → IVec S16 32) a x).toNat < S2048.size a) ∧
  (∀ a x, ((![v490] : Fin 1 → IVec S16 32) a x).toNat < S2048.size a)
theorem k0_idx3_inb : ∀ (v490 : IVec S16 32) (k0_hw3 : k0_chk3 v490), ∀ a x, ((![v490] : Fin 1 → IVec S16 32) a x).toNat < S2048.size a := fun v490 k0_hw3 => k0_hw3.1
theorem k0_idx4_inb : ∀ (v490 : IVec S16 32) (k0_hw3 : k0_chk3 v490), ∀ a x, ((![v490] : Fin 1 → IVec S16 32) a x).toNat < S2048.size a := fun v490 k0_hw3 => k0_hw3.2.1
theorem k0_idx5_inb : ∀ (v490 : IVec S16 32) (k0_hw3 : k0_chk3 v490), ∀ a x, ((![v490] : Fin 1 → IVec S16 32) a x).toNat < S2048.size a := fun v490 k0_hw3 => k0_hw3.2.2

def k0_chk2 (v485 : IVec S16 32) : Prop :=
  (∀ a x, ((![v485] : Fin 1 → IVec S16 32) a x).toNat < S32.size a) ∧
  (∀ a x, ((![v485] : Fin 1 → IVec S16 32) a x).toNat < S32.size a)
theorem k0_idx2_inb : ∀ (v485 : IVec S16 32) (k0_hw2 : k0_chk2 v485), ∀ a x, ((![v485] : Fin 1 → IVec S16 32) a x).toNat < S32.size a := fun v485 k0_hw2 => k0_hw2.1
theorem k0_idx6_inb : ∀ (v485 : IVec S16 32) (k0_hw2 : k0_chk2 v485), ∀ a x, ((![v485] : Fin 1 → IVec S16 32) a x).toNat < S32.size a := fun v485 k0_hw2 => k0_hw2.2
def k0_off4 (i : grid0.Coords) (c0_i32_0 : BitVec 32) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32_0
  let c2048_i32 : BitVec 32 := 2048#32
  let v22 : BitVec 32 := Scalar.muli v4 c2048_i32
  let v47 : BitVec 32 := Scalar.addi v22 c0_i32_29
  let c0_i32_546_r3 : BitVec 32 := 0#32
  ![v47.toNat, 0]
@[reducible] def k0_t3_loop : Scf.Loop 32 :=
  let c0_i32_134 : BitVec 32 := 0#32
  let c128_i32_135 : BitVec 32 := 128#32
  let v145 : BitVec 32 := Scalar.addi c0_i32_134 c128_i32_135
  let c1_i32_136 : BitVec 32 := 1#32
  ⟨c0_i32_134, v145, c1_i32_136⟩
def k0_off5 (k0_t3 : Fin k0_t3_loop.trips) : Fin 1 → Nat :=
  let c0_i32_134 : BitVec 32 := 0#32
  let c1_i32_136 : BitVec 32 := 1#32
  let arg15 : BitVec 32 := Scf.iv c0_i32_134 c1_i32_136 k0_t3
  let c16_i32 : BitVec 32 := 16#32
  let v483 : BitVec 32 := Scalar.muli arg15 c16_i32
  let v484 : Index := Scalar.indexCast v483
  ![v484.toNat]

def k0_chk4 (v485 : IVec S16 32) : Prop :=
  (∀ a x, ((![v485] : Fin 1 → IVec S16 32) a x).toNat < S32.size a)
theorem k0_idx7_inb : ∀ (v485 : IVec S16 32) (k0_hw4 : k0_chk4 v485), ∀ a x, ((![v485] : Fin 1 → IVec S16 32) a x).toNat < S32.size a := fun v485 k0_hw4 => k0_hw4
@[reducible] def k0_t4_loop : Scf.Loop 32 :=
  let c0_i32_147 : BitVec 32 := 0#32
  let c128_i32_148 : BitVec 32 := 128#32
  let v162 : BitVec 32 := Scalar.addi c0_i32_147 c128_i32_148
  let c1_i32_149 : BitVec 32 := 1#32
  ⟨c0_i32_147, v162, c1_i32_149⟩
def k0_off6 (k0_t4 : Fin k0_t4_loop.trips) : Fin 1 → Nat :=
  let c0_i32_147 : BitVec 32 := 0#32
  let c1_i32_149 : BitVec 32 := 1#32
  let arg15 : BitVec 32 := Scf.iv c0_i32_147 c1_i32_149 k0_t4
  let c16_i32 : BitVec 32 := 16#32
  let v483 : BitVec 32 := Scalar.muli arg15 c16_i32
  let v484 : Index := Scalar.indexCast v483
  ![v484.toNat]

def k0_chk6 (v490 : IVec S16 32) : Prop :=
  (∀ a x, ((![v490] : Fin 1 → IVec S16 32) a x).toNat < S2048.size a) ∧
  (∀ a x, ((![v490] : Fin 1 → IVec S16 32) a x).toNat < S2048.size a) ∧
  (∀ a x, ((![v490] : Fin 1 → IVec S16 32) a x).toNat < S2048.size a)
theorem k0_idx9_inb : ∀ (v490 : IVec S16 32) (k0_hw6 : k0_chk6 v490), ∀ a x, ((![v490] : Fin 1 → IVec S16 32) a x).toNat < S2048.size a := fun v490 k0_hw6 => k0_hw6.1
theorem k0_idx10_inb : ∀ (v490 : IVec S16 32) (k0_hw6 : k0_chk6 v490), ∀ a x, ((![v490] : Fin 1 → IVec S16 32) a x).toNat < S2048.size a := fun v490 k0_hw6 => k0_hw6.2.1
theorem k0_idx11_inb : ∀ (v490 : IVec S16 32) (k0_hw6 : k0_chk6 v490), ∀ a x, ((![v490] : Fin 1 → IVec S16 32) a x).toNat < S2048.size a := fun v490 k0_hw6 => k0_hw6.2.2

def k0_chk5 (v485 : IVec S16 32) : Prop :=
  (∀ a x, ((![v485] : Fin 1 → IVec S16 32) a x).toNat < S32.size a) ∧
  (∀ a x, ((![v485] : Fin 1 → IVec S16 32) a x).toNat < S32.size a)
theorem k0_idx8_inb : ∀ (v485 : IVec S16 32) (k0_hw5 : k0_chk5 v485), ∀ a x, ((![v485] : Fin 1 → IVec S16 32) a x).toNat < S32.size a := fun v485 k0_hw5 => k0_hw5.1
theorem k0_idx12_inb : ∀ (v485 : IVec S16 32) (k0_hw5 : k0_chk5 v485), ∀ a x, ((![v485] : Fin 1 → IVec S16 32) a x).toNat < S32.size a := fun v485 k0_hw5 => k0_hw5.2
@[reducible] def k0_t5_loop : Scf.Loop 32 :=
  let c0_i32_276 : BitVec 32 := 0#32
  let c128_i32_277 : BitVec 32 := 128#32
  let v265 : BitVec 32 := Scalar.addi c0_i32_276 c128_i32_277
  let c1_i32_278 : BitVec 32 := 1#32
  ⟨c0_i32_276, v265, c1_i32_278⟩
def k0_off7 (k0_t5 : Fin k0_t5_loop.trips) : Fin 1 → Nat :=
  let c0_i32_276 : BitVec 32 := 0#32
  let c1_i32_278 : BitVec 32 := 1#32
  let arg15 : BitVec 32 := Scf.iv c0_i32_276 c1_i32_278 k0_t5
  let c16_i32 : BitVec 32 := 16#32
  let v483 : BitVec 32 := Scalar.muli arg15 c16_i32
  let v484 : Index := Scalar.indexCast v483
  ![v484.toNat]

def k0_chk7 (v485 : IVec S16 32) : Prop :=
  (∀ a x, ((![v485] : Fin 1 → IVec S16 32) a x).toNat < S32.size a)
theorem k0_idx13_inb : ∀ (v485 : IVec S16 32) (k0_hw7 : k0_chk7 v485), ∀ a x, ((![v485] : Fin 1 → IVec S16 32) a x).toNat < S32.size a := fun v485 k0_hw7 => k0_hw7
@[reducible] def k0_t6_loop : Scf.Loop 32 :=
  let c0_i32_289 : BitVec 32 := 0#32
  let c128_i32_290 : BitVec 32 := 128#32
  let v282 : BitVec 32 := Scalar.addi c0_i32_289 c128_i32_290
  let c1_i32_291 : BitVec 32 := 1#32
  ⟨c0_i32_289, v282, c1_i32_291⟩
def k0_off8 (k0_t6 : Fin k0_t6_loop.trips) : Fin 1 → Nat :=
  let c0_i32_289 : BitVec 32 := 0#32
  let c1_i32_291 : BitVec 32 := 1#32
  let arg15 : BitVec 32 := Scf.iv c0_i32_289 c1_i32_291 k0_t6
  let c16_i32 : BitVec 32 := 16#32
  let v483 : BitVec 32 := Scalar.muli arg15 c16_i32
  let v484 : Index := Scalar.indexCast v483
  ![v484.toNat]

def k0_chk9 (v490 : IVec S16 32) : Prop :=
  (∀ a x, ((![v490] : Fin 1 → IVec S16 32) a x).toNat < S2048.size a) ∧
  (∀ a x, ((![v490] : Fin 1 → IVec S16 32) a x).toNat < S2048.size a) ∧
  (∀ a x, ((![v490] : Fin 1 → IVec S16 32) a x).toNat < S2048.size a)
theorem k0_idx15_inb : ∀ (v490 : IVec S16 32) (k0_hw9 : k0_chk9 v490), ∀ a x, ((![v490] : Fin 1 → IVec S16 32) a x).toNat < S2048.size a := fun v490 k0_hw9 => k0_hw9.1
theorem k0_idx16_inb : ∀ (v490 : IVec S16 32) (k0_hw9 : k0_chk9 v490), ∀ a x, ((![v490] : Fin 1 → IVec S16 32) a x).toNat < S2048.size a := fun v490 k0_hw9 => k0_hw9.2.1
theorem k0_idx17_inb : ∀ (v490 : IVec S16 32) (k0_hw9 : k0_chk9 v490), ∀ a x, ((![v490] : Fin 1 → IVec S16 32) a x).toNat < S2048.size a := fun v490 k0_hw9 => k0_hw9.2.2

def k0_chk8 (v485 : IVec S16 32) : Prop :=
  (∀ a x, ((![v485] : Fin 1 → IVec S16 32) a x).toNat < S32.size a) ∧
  (∀ a x, ((![v485] : Fin 1 → IVec S16 32) a x).toNat < S32.size a)
theorem k0_idx14_inb : ∀ (v485 : IVec S16 32) (k0_hw8 : k0_chk8 v485), ∀ a x, ((![v485] : Fin 1 → IVec S16 32) a x).toNat < S32.size a := fun v485 k0_hw8 => k0_hw8.1
theorem k0_idx18_inb : ∀ (v485 : IVec S16 32) (k0_hw8 : k0_chk8 v485), ∀ a x, ((![v485] : Fin 1 → IVec S16 32) a x).toNat < S32.size a := fun v485 k0_hw8 => k0_hw8.2
@[reducible] def k0_t7_loop : Scf.Loop 32 :=
  let c0_i32_417 : BitVec 32 := 0#32
  let c128_i32_418 : BitVec 32 := 128#32
  let v385 : BitVec 32 := Scalar.addi c0_i32_417 c128_i32_418
  let c1_i32_419 : BitVec 32 := 1#32
  ⟨c0_i32_417, v385, c1_i32_419⟩
def k0_off9 (k0_t7 : Fin k0_t7_loop.trips) : Fin 1 → Nat :=
  let c0_i32_417 : BitVec 32 := 0#32
  let c1_i32_419 : BitVec 32 := 1#32
  let arg15 : BitVec 32 := Scf.iv c0_i32_417 c1_i32_419 k0_t7
  let c16_i32 : BitVec 32 := 16#32
  let v483 : BitVec 32 := Scalar.muli arg15 c16_i32
  let v484 : Index := Scalar.indexCast v483
  ![v484.toNat]

def k0_chk10 (v485 : IVec S16 32) : Prop :=
  (∀ a x, ((![v485] : Fin 1 → IVec S16 32) a x).toNat < S32.size a)
theorem k0_idx19_inb : ∀ (v485 : IVec S16 32) (k0_hw10 : k0_chk10 v485), ∀ a x, ((![v485] : Fin 1 → IVec S16 32) a x).toNat < S32.size a := fun v485 k0_hw10 => k0_hw10
@[reducible] def k0_t8_loop : Scf.Loop 32 :=
  let c0_i32_430 : BitVec 32 := 0#32
  let c128_i32_431 : BitVec 32 := 128#32
  let v402 : BitVec 32 := Scalar.addi c0_i32_430 c128_i32_431
  let c1_i32_432 : BitVec 32 := 1#32
  ⟨c0_i32_430, v402, c1_i32_432⟩
def k0_off10 (k0_t8 : Fin k0_t8_loop.trips) : Fin 1 → Nat :=
  let c0_i32_430 : BitVec 32 := 0#32
  let c1_i32_432 : BitVec 32 := 1#32
  let arg15 : BitVec 32 := Scf.iv c0_i32_430 c1_i32_432 k0_t8
  let c16_i32 : BitVec 32 := 16#32
  let v483 : BitVec 32 := Scalar.muli arg15 c16_i32
  let v484 : Index := Scalar.indexCast v483
  ![v484.toNat]

def k0_chk12 (v490 : IVec S16 32) : Prop :=
  (∀ a x, ((![v490] : Fin 1 → IVec S16 32) a x).toNat < S2048.size a) ∧
  (∀ a x, ((![v490] : Fin 1 → IVec S16 32) a x).toNat < S2048.size a) ∧
  (∀ a x, ((![v490] : Fin 1 → IVec S16 32) a x).toNat < S2048.size a)
theorem k0_idx21_inb : ∀ (v490 : IVec S16 32) (k0_hw12 : k0_chk12 v490), ∀ a x, ((![v490] : Fin 1 → IVec S16 32) a x).toNat < S2048.size a := fun v490 k0_hw12 => k0_hw12.1
theorem k0_idx22_inb : ∀ (v490 : IVec S16 32) (k0_hw12 : k0_chk12 v490), ∀ a x, ((![v490] : Fin 1 → IVec S16 32) a x).toNat < S2048.size a := fun v490 k0_hw12 => k0_hw12.2.1
theorem k0_idx23_inb : ∀ (v490 : IVec S16 32) (k0_hw12 : k0_chk12 v490), ∀ a x, ((![v490] : Fin 1 → IVec S16 32) a x).toNat < S2048.size a := fun v490 k0_hw12 => k0_hw12.2.2

def k0_chk11 (v485 : IVec S16 32) : Prop :=
  (∀ a x, ((![v485] : Fin 1 → IVec S16 32) a x).toNat < S32.size a) ∧
  (∀ a x, ((![v485] : Fin 1 → IVec S16 32) a x).toNat < S32.size a)
theorem k0_idx20_inb : ∀ (v485 : IVec S16 32) (k0_hw11 : k0_chk11 v485), ∀ a x, ((![v485] : Fin 1 → IVec S16 32) a x).toNat < S32.size a := fun v485 k0_hw11 => k0_hw11.1
theorem k0_idx24_inb : ∀ (v485 : IVec S16 32) (k0_hw11 : k0_chk11 v485), ∀ a x, ((![v485] : Fin 1 → IVec S16 32) a x).toNat < S32.size a := fun v485 k0_hw11 => k0_hw11.2
abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c2048_i32 : BitVec 32 := 2048#32
  let v4 : BitVec 32 := Scalar.muli v3 c2048_i32
  ![v4.toNat]
@[reducible] def k1_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k1_off2 (k1_t1 : Fin k1_t1_loop.trips) : Fin 1 → Nat :=
  let c0_i32_877 : BitVec 32 := 0#32
  let c0_i32_1 : BitVec 32 := 0#32
  let c1_i32 : BitVec 32 := 1#32
  let arg9 : BitVec 32 := Scf.iv c0_i32_1 c1_i32 k1_t1
  let c16_i32 : BitVec 32 := 16#32
  let v526 : BitVec 32 := Scalar.muli arg9 c16_i32
  let v527 : BitVec 32 := Scalar.addi c0_i32_877 v526
  let v528 : Index := Scalar.indexCast v527
  ![v528.toNat]
def k1_off3 (k1_t1 : Fin k1_t1_loop.trips) : Fin 2 → Nat :=
  let c0_i32_879 : BitVec 32 := 0#32
  let v533 : Index := Scalar.indexCast c0_i32_879
  let c0_i32_1 : BitVec 32 := 0#32
  let c1_i32 : BitVec 32 := 1#32
  let arg9 : BitVec 32 := Scf.iv c0_i32_1 c1_i32 k1_t1
  let c16_i32_878 : BitVec 32 := 16#32
  let v532 : BitVec 32 := Scalar.muli arg9 c16_i32_878
  let v534 : Index := Scalar.indexCast v532
  ![0, v534.toNat]
@[reducible] def k1_t2_loop : Scf.Loop 32 :=
  let c0_i32_4 : BitVec 32 := 0#32
  let c8_i32_5 : BitVec 32 := 8#32
  let v6 : BitVec 32 := Scalar.addi c0_i32_4 c8_i32_5
  let c1_i32_6 : BitVec 32 := 1#32
  ⟨c0_i32_4, v6, c1_i32_6⟩
def k1_off4 (k1_t2 : Fin k1_t2_loop.trips) : Fin 1 → Nat :=
  let c128_i32_877 : BitVec 32 := 128#32
  let c0_i32_4 : BitVec 32 := 0#32
  let c1_i32_6 : BitVec 32 := 1#32
  let arg9 : BitVec 32 := Scf.iv c0_i32_4 c1_i32_6 k1_t2
  let c16_i32 : BitVec 32 := 16#32
  let v526 : BitVec 32 := Scalar.muli arg9 c16_i32
  let v527 : BitVec 32 := Scalar.addi c128_i32_877 v526
  let v528 : Index := Scalar.indexCast v527
  ![v528.toNat]
def k1_off5 (k1_t2 : Fin k1_t2_loop.trips) : Fin 2 → Nat :=
  let c1_i32_879 : BitVec 32 := 1#32
  let v533 : Index := Scalar.indexCast c1_i32_879
  let c0_i32_4 : BitVec 32 := 0#32
  let c1_i32_6 : BitVec 32 := 1#32
  let arg9 : BitVec 32 := Scf.iv c0_i32_4 c1_i32_6 k1_t2
  let c16_i32_878 : BitVec 32 := 16#32
  let v532 : BitVec 32 := Scalar.muli arg9 c16_i32_878
  let v534 : Index := Scalar.indexCast v532
  ![1, v534.toNat]
@[reducible] def k1_t3_loop : Scf.Loop 32 :=
  let c0_i32_9 : BitVec 32 := 0#32
  let c8_i32_10 : BitVec 32 := 8#32
  let v7 : BitVec 32 := Scalar.addi c0_i32_9 c8_i32_10
  let c1_i32_11 : BitVec 32 := 1#32
  ⟨c0_i32_9, v7, c1_i32_11⟩
def k1_off6 (k1_t3 : Fin k1_t3_loop.trips) : Fin 1 → Nat :=
  let c256_i32_877 : BitVec 32 := 256#32
  let c0_i32_9 : BitVec 32 := 0#32
  let c1_i32_11 : BitVec 32 := 1#32
  let arg9 : BitVec 32 := Scf.iv c0_i32_9 c1_i32_11 k1_t3
  let c16_i32 : BitVec 32 := 16#32
  let v526 : BitVec 32 := Scalar.muli arg9 c16_i32
  let v527 : BitVec 32 := Scalar.addi c256_i32_877 v526
  let v528 : Index := Scalar.indexCast v527
  ![v528.toNat]
def k1_off7 (k1_t3 : Fin k1_t3_loop.trips) : Fin 2 → Nat :=
  let c2_i32_879 : BitVec 32 := 2#32
  let v533 : Index := Scalar.indexCast c2_i32_879
  let c0_i32_9 : BitVec 32 := 0#32
  let c1_i32_11 : BitVec 32 := 1#32
  let arg9 : BitVec 32 := Scf.iv c0_i32_9 c1_i32_11 k1_t3
  let c16_i32_878 : BitVec 32 := 16#32
  let v532 : BitVec 32 := Scalar.muli arg9 c16_i32_878
  let v534 : Index := Scalar.indexCast v532
  ![2, v534.toNat]
@[reducible] def k1_t4_loop : Scf.Loop 32 :=
  let c0_i32_14 : BitVec 32 := 0#32
  let c8_i32_15 : BitVec 32 := 8#32
  let v8 : BitVec 32 := Scalar.addi c0_i32_14 c8_i32_15
  let c1_i32_16 : BitVec 32 := 1#32
  ⟨c0_i32_14, v8, c1_i32_16⟩
def k1_off8 (k1_t4 : Fin k1_t4_loop.trips) : Fin 1 → Nat :=
  let c384_i32_877 : BitVec 32 := 384#32
  let c0_i32_14 : BitVec 32 := 0#32
  let c1_i32_16 : BitVec 32 := 1#32
  let arg9 : BitVec 32 := Scf.iv c0_i32_14 c1_i32_16 k1_t4
  let c16_i32 : BitVec 32 := 16#32
  let v526 : BitVec 32 := Scalar.muli arg9 c16_i32
  let v527 : BitVec 32 := Scalar.addi c384_i32_877 v526
  let v528 : Index := Scalar.indexCast v527
  ![v528.toNat]
def k1_off9 (k1_t4 : Fin k1_t4_loop.trips) : Fin 2 → Nat :=
  let c3_i32_879 : BitVec 32 := 3#32
  let v533 : Index := Scalar.indexCast c3_i32_879
  let c0_i32_14 : BitVec 32 := 0#32
  let c1_i32_16 : BitVec 32 := 1#32
  let arg9 : BitVec 32 := Scf.iv c0_i32_14 c1_i32_16 k1_t4
  let c16_i32_878 : BitVec 32 := 16#32
  let v532 : BitVec 32 := Scalar.muli arg9 c16_i32_878
  let v534 : Index := Scalar.indexCast v532
  ![3, v534.toNat]
@[reducible] def k1_t5_loop : Scf.Loop 32 :=
  let c0_i32_19 : BitVec 32 := 0#32
  let c8_i32_20 : BitVec 32 := 8#32
  let v9 : BitVec 32 := Scalar.addi c0_i32_19 c8_i32_20
  let c1_i32_21 : BitVec 32 := 1#32
  ⟨c0_i32_19, v9, c1_i32_21⟩
def k1_off10 (k1_t5 : Fin k1_t5_loop.trips) : Fin 1 → Nat :=
  let c512_i32_877 : BitVec 32 := 512#32
  let c0_i32_19 : BitVec 32 := 0#32
  let c1_i32_21 : BitVec 32 := 1#32
  let arg9 : BitVec 32 := Scf.iv c0_i32_19 c1_i32_21 k1_t5
  let c16_i32 : BitVec 32 := 16#32
  let v526 : BitVec 32 := Scalar.muli arg9 c16_i32
  let v527 : BitVec 32 := Scalar.addi c512_i32_877 v526
  let v528 : Index := Scalar.indexCast v527
  ![v528.toNat]
def k1_off11 (k1_t5 : Fin k1_t5_loop.trips) : Fin 2 → Nat :=
  let c4_i32_879 : BitVec 32 := 4#32
  let v533 : Index := Scalar.indexCast c4_i32_879
  let c0_i32_19 : BitVec 32 := 0#32
  let c1_i32_21 : BitVec 32 := 1#32
  let arg9 : BitVec 32 := Scf.iv c0_i32_19 c1_i32_21 k1_t5
  let c16_i32_878 : BitVec 32 := 16#32
  let v532 : BitVec 32 := Scalar.muli arg9 c16_i32_878
  let v534 : Index := Scalar.indexCast v532
  ![4, v534.toNat]
@[reducible] def k1_t6_loop : Scf.Loop 32 :=
  let c0_i32_24 : BitVec 32 := 0#32
  let c8_i32_25 : BitVec 32 := 8#32
  let v10 : BitVec 32 := Scalar.addi c0_i32_24 c8_i32_25
  let c1_i32_26 : BitVec 32 := 1#32
  ⟨c0_i32_24, v10, c1_i32_26⟩
def k1_off12 (k1_t6 : Fin k1_t6_loop.trips) : Fin 1 → Nat :=
  let c640_i32_877 : BitVec 32 := 640#32
  let c0_i32_24 : BitVec 32 := 0#32
  let c1_i32_26 : BitVec 32 := 1#32
  let arg9 : BitVec 32 := Scf.iv c0_i32_24 c1_i32_26 k1_t6
  let c16_i32 : BitVec 32 := 16#32
  let v526 : BitVec 32 := Scalar.muli arg9 c16_i32
  let v527 : BitVec 32 := Scalar.addi c640_i32_877 v526
  let v528 : Index := Scalar.indexCast v527
  ![v528.toNat]
def k1_off13 (k1_t6 : Fin k1_t6_loop.trips) : Fin 2 → Nat :=
  let c5_i32_879 : BitVec 32 := 5#32
  let v533 : Index := Scalar.indexCast c5_i32_879
  let c0_i32_24 : BitVec 32 := 0#32
  let c1_i32_26 : BitVec 32 := 1#32
  let arg9 : BitVec 32 := Scf.iv c0_i32_24 c1_i32_26 k1_t6
  let c16_i32_878 : BitVec 32 := 16#32
  let v532 : BitVec 32 := Scalar.muli arg9 c16_i32_878
  let v534 : Index := Scalar.indexCast v532
  ![5, v534.toNat]
@[reducible] def k1_t7_loop : Scf.Loop 32 :=
  let c0_i32_29 : BitVec 32 := 0#32
  let c8_i32_30 : BitVec 32 := 8#32
  let v11 : BitVec 32 := Scalar.addi c0_i32_29 c8_i32_30
  let c1_i32_31 : BitVec 32 := 1#32
  ⟨c0_i32_29, v11, c1_i32_31⟩
def k1_off14 (k1_t7 : Fin k1_t7_loop.trips) : Fin 1 → Nat :=
  let c768_i32_877 : BitVec 32 := 768#32
  let c0_i32_29 : BitVec 32 := 0#32
  let c1_i32_31 : BitVec 32 := 1#32
  let arg9 : BitVec 32 := Scf.iv c0_i32_29 c1_i32_31 k1_t7
  let c16_i32 : BitVec 32 := 16#32
  let v526 : BitVec 32 := Scalar.muli arg9 c16_i32
  let v527 : BitVec 32 := Scalar.addi c768_i32_877 v526
  let v528 : Index := Scalar.indexCast v527
  ![v528.toNat]
def k1_off15 (k1_t7 : Fin k1_t7_loop.trips) : Fin 2 → Nat :=
  let c6_i32_879 : BitVec 32 := 6#32
  let v533 : Index := Scalar.indexCast c6_i32_879
  let c0_i32_29 : BitVec 32 := 0#32
  let c1_i32_31 : BitVec 32 := 1#32
  let arg9 : BitVec 32 := Scf.iv c0_i32_29 c1_i32_31 k1_t7
  let c16_i32_878 : BitVec 32 := 16#32
  let v532 : BitVec 32 := Scalar.muli arg9 c16_i32_878
  let v534 : Index := Scalar.indexCast v532
  ![6, v534.toNat]
@[reducible] def k1_t8_loop : Scf.Loop 32 :=
  let c0_i32_34 : BitVec 32 := 0#32
  let c8_i32_35 : BitVec 32 := 8#32
  let v12 : BitVec 32 := Scalar.addi c0_i32_34 c8_i32_35
  let c1_i32_36 : BitVec 32 := 1#32
  ⟨c0_i32_34, v12, c1_i32_36⟩
def k1_off16 (k1_t8 : Fin k1_t8_loop.trips) : Fin 1 → Nat :=
  let c896_i32_877 : BitVec 32 := 896#32
  let c0_i32_34 : BitVec 32 := 0#32
  let c1_i32_36 : BitVec 32 := 1#32
  let arg9 : BitVec 32 := Scf.iv c0_i32_34 c1_i32_36 k1_t8
  let c16_i32 : BitVec 32 := 16#32
  let v526 : BitVec 32 := Scalar.muli arg9 c16_i32
  let v527 : BitVec 32 := Scalar.addi c896_i32_877 v526
  let v528 : Index := Scalar.indexCast v527
  ![v528.toNat]
def k1_off17 (k1_t8 : Fin k1_t8_loop.trips) : Fin 2 → Nat :=
  let c7_i32_879 : BitVec 32 := 7#32
  let v533 : Index := Scalar.indexCast c7_i32_879
  let c0_i32_34 : BitVec 32 := 0#32
  let c1_i32_36 : BitVec 32 := 1#32
  let arg9 : BitVec 32 := Scf.iv c0_i32_34 c1_i32_36 k1_t8
  let c16_i32_878 : BitVec 32 := 16#32
  let v532 : BitVec 32 := Scalar.muli arg9 c16_i32_878
  let v534 : Index := Scalar.indexCast v532
  ![7, v534.toNat]
@[reducible] def k1_t9_loop : Scf.Loop 32 :=
  let c0_i32_39 : BitVec 32 := 0#32
  let c8_i32_40 : BitVec 32 := 8#32
  let v13 : BitVec 32 := Scalar.addi c0_i32_39 c8_i32_40
  let c1_i32_41 : BitVec 32 := 1#32
  ⟨c0_i32_39, v13, c1_i32_41⟩
def k1_off18 (k1_t9 : Fin k1_t9_loop.trips) : Fin 1 → Nat :=
  let c1024_i32_877 : BitVec 32 := 1024#32
  let c0_i32_39 : BitVec 32 := 0#32
  let c1_i32_41 : BitVec 32 := 1#32
  let arg9 : BitVec 32 := Scf.iv c0_i32_39 c1_i32_41 k1_t9
  let c16_i32 : BitVec 32 := 16#32
  let v526 : BitVec 32 := Scalar.muli arg9 c16_i32
  let v527 : BitVec 32 := Scalar.addi c1024_i32_877 v526
  let v528 : Index := Scalar.indexCast v527
  ![v528.toNat]
def k1_off19 (k1_t9 : Fin k1_t9_loop.trips) : Fin 2 → Nat :=
  let c8_i32_879 : BitVec 32 := 8#32
  let v533 : Index := Scalar.indexCast c8_i32_879
  let c0_i32_39 : BitVec 32 := 0#32
  let c1_i32_41 : BitVec 32 := 1#32
  let arg9 : BitVec 32 := Scf.iv c0_i32_39 c1_i32_41 k1_t9
  let c16_i32_878 : BitVec 32 := 16#32
  let v532 : BitVec 32 := Scalar.muli arg9 c16_i32_878
  let v534 : Index := Scalar.indexCast v532
  ![8, v534.toNat]
@[reducible] def k1_t10_loop : Scf.Loop 32 :=
  let c0_i32_44 : BitVec 32 := 0#32
  let c8_i32_45 : BitVec 32 := 8#32
  let v14 : BitVec 32 := Scalar.addi c0_i32_44 c8_i32_45
  let c1_i32_46 : BitVec 32 := 1#32
  ⟨c0_i32_44, v14, c1_i32_46⟩
def k1_off20 (k1_t10 : Fin k1_t10_loop.trips) : Fin 1 → Nat :=
  let c1152_i32_877 : BitVec 32 := 1152#32
  let c0_i32_44 : BitVec 32 := 0#32
  let c1_i32_46 : BitVec 32 := 1#32
  let arg9 : BitVec 32 := Scf.iv c0_i32_44 c1_i32_46 k1_t10
  let c16_i32 : BitVec 32 := 16#32
  let v526 : BitVec 32 := Scalar.muli arg9 c16_i32
  let v527 : BitVec 32 := Scalar.addi c1152_i32_877 v526
  let v528 : Index := Scalar.indexCast v527
  ![v528.toNat]
def k1_off21 (k1_t10 : Fin k1_t10_loop.trips) : Fin 2 → Nat :=
  let c9_i32_879 : BitVec 32 := 9#32
  let v533 : Index := Scalar.indexCast c9_i32_879
  let c0_i32_44 : BitVec 32 := 0#32
  let c1_i32_46 : BitVec 32 := 1#32
  let arg9 : BitVec 32 := Scf.iv c0_i32_44 c1_i32_46 k1_t10
  let c16_i32_878 : BitVec 32 := 16#32
  let v532 : BitVec 32 := Scalar.muli arg9 c16_i32_878
  let v534 : Index := Scalar.indexCast v532
  ![9, v534.toNat]
@[reducible] def k1_t11_loop : Scf.Loop 32 :=
  let c0_i32_49 : BitVec 32 := 0#32
  let c8_i32_50 : BitVec 32 := 8#32
  let v15 : BitVec 32 := Scalar.addi c0_i32_49 c8_i32_50
  let c1_i32_51 : BitVec 32 := 1#32
  ⟨c0_i32_49, v15, c1_i32_51⟩
def k1_off22 (k1_t11 : Fin k1_t11_loop.trips) : Fin 1 → Nat :=
  let c1280_i32_877 : BitVec 32 := 1280#32
  let c0_i32_49 : BitVec 32 := 0#32
  let c1_i32_51 : BitVec 32 := 1#32
  let arg9 : BitVec 32 := Scf.iv c0_i32_49 c1_i32_51 k1_t11
  let c16_i32 : BitVec 32 := 16#32
  let v526 : BitVec 32 := Scalar.muli arg9 c16_i32
  let v527 : BitVec 32 := Scalar.addi c1280_i32_877 v526
  let v528 : Index := Scalar.indexCast v527
  ![v528.toNat]
def k1_off23 (k1_t11 : Fin k1_t11_loop.trips) : Fin 2 → Nat :=
  let c10_i32_879 : BitVec 32 := 10#32
  let v533 : Index := Scalar.indexCast c10_i32_879
  let c0_i32_49 : BitVec 32 := 0#32
  let c1_i32_51 : BitVec 32 := 1#32
  let arg9 : BitVec 32 := Scf.iv c0_i32_49 c1_i32_51 k1_t11
  let c16_i32_878 : BitVec 32 := 16#32
  let v532 : BitVec 32 := Scalar.muli arg9 c16_i32_878
  let v534 : Index := Scalar.indexCast v532
  ![10, v534.toNat]
@[reducible] def k1_t12_loop : Scf.Loop 32 :=
  let c0_i32_54 : BitVec 32 := 0#32
  let c8_i32_55 : BitVec 32 := 8#32
  let v16 : BitVec 32 := Scalar.addi c0_i32_54 c8_i32_55
  let c1_i32_56 : BitVec 32 := 1#32
  ⟨c0_i32_54, v16, c1_i32_56⟩
def k1_off24 (k1_t12 : Fin k1_t12_loop.trips) : Fin 1 → Nat :=
  let c1408_i32_877 : BitVec 32 := 1408#32
  let c0_i32_54 : BitVec 32 := 0#32
  let c1_i32_56 : BitVec 32 := 1#32
  let arg9 : BitVec 32 := Scf.iv c0_i32_54 c1_i32_56 k1_t12
  let c16_i32 : BitVec 32 := 16#32
  let v526 : BitVec 32 := Scalar.muli arg9 c16_i32
  let v527 : BitVec 32 := Scalar.addi c1408_i32_877 v526
  let v528 : Index := Scalar.indexCast v527
  ![v528.toNat]
def k1_off25 (k1_t12 : Fin k1_t12_loop.trips) : Fin 2 → Nat :=
  let c11_i32_879 : BitVec 32 := 11#32
  let v533 : Index := Scalar.indexCast c11_i32_879
  let c0_i32_54 : BitVec 32 := 0#32
  let c1_i32_56 : BitVec 32 := 1#32
  let arg9 : BitVec 32 := Scf.iv c0_i32_54 c1_i32_56 k1_t12
  let c16_i32_878 : BitVec 32 := 16#32
  let v532 : BitVec 32 := Scalar.muli arg9 c16_i32_878
  let v534 : Index := Scalar.indexCast v532
  ![11, v534.toNat]
@[reducible] def k1_t13_loop : Scf.Loop 32 :=
  let c0_i32_59 : BitVec 32 := 0#32
  let c8_i32_60 : BitVec 32 := 8#32
  let v17 : BitVec 32 := Scalar.addi c0_i32_59 c8_i32_60
  let c1_i32_61 : BitVec 32 := 1#32
  ⟨c0_i32_59, v17, c1_i32_61⟩
def k1_off26 (k1_t13 : Fin k1_t13_loop.trips) : Fin 1 → Nat :=
  let c1536_i32_877 : BitVec 32 := 1536#32
  let c0_i32_59 : BitVec 32 := 0#32
  let c1_i32_61 : BitVec 32 := 1#32
  let arg9 : BitVec 32 := Scf.iv c0_i32_59 c1_i32_61 k1_t13
  let c16_i32 : BitVec 32 := 16#32
  let v526 : BitVec 32 := Scalar.muli arg9 c16_i32
  let v527 : BitVec 32 := Scalar.addi c1536_i32_877 v526
  let v528 : Index := Scalar.indexCast v527
  ![v528.toNat]
def k1_off27 (k1_t13 : Fin k1_t13_loop.trips) : Fin 2 → Nat :=
  let c12_i32_879 : BitVec 32 := 12#32
  let v533 : Index := Scalar.indexCast c12_i32_879
  let c0_i32_59 : BitVec 32 := 0#32
  let c1_i32_61 : BitVec 32 := 1#32
  let arg9 : BitVec 32 := Scf.iv c0_i32_59 c1_i32_61 k1_t13
  let c16_i32_878 : BitVec 32 := 16#32
  let v532 : BitVec 32 := Scalar.muli arg9 c16_i32_878
  let v534 : Index := Scalar.indexCast v532
  ![12, v534.toNat]
@[reducible] def k1_t14_loop : Scf.Loop 32 :=
  let c0_i32_64 : BitVec 32 := 0#32
  let c8_i32_65 : BitVec 32 := 8#32
  let v18 : BitVec 32 := Scalar.addi c0_i32_64 c8_i32_65
  let c1_i32_66 : BitVec 32 := 1#32
  ⟨c0_i32_64, v18, c1_i32_66⟩
def k1_off28 (k1_t14 : Fin k1_t14_loop.trips) : Fin 1 → Nat :=
  let c1664_i32_877 : BitVec 32 := 1664#32
  let c0_i32_64 : BitVec 32 := 0#32
  let c1_i32_66 : BitVec 32 := 1#32
  let arg9 : BitVec 32 := Scf.iv c0_i32_64 c1_i32_66 k1_t14
  let c16_i32 : BitVec 32 := 16#32
  let v526 : BitVec 32 := Scalar.muli arg9 c16_i32
  let v527 : BitVec 32 := Scalar.addi c1664_i32_877 v526
  let v528 : Index := Scalar.indexCast v527
  ![v528.toNat]
def k1_off29 (k1_t14 : Fin k1_t14_loop.trips) : Fin 2 → Nat :=
  let c13_i32_879 : BitVec 32 := 13#32
  let v533 : Index := Scalar.indexCast c13_i32_879
  let c0_i32_64 : BitVec 32 := 0#32
  let c1_i32_66 : BitVec 32 := 1#32
  let arg9 : BitVec 32 := Scf.iv c0_i32_64 c1_i32_66 k1_t14
  let c16_i32_878 : BitVec 32 := 16#32
  let v532 : BitVec 32 := Scalar.muli arg9 c16_i32_878
  let v534 : Index := Scalar.indexCast v532
  ![13, v534.toNat]
@[reducible] def k1_t15_loop : Scf.Loop 32 :=
  let c0_i32_69 : BitVec 32 := 0#32
  let c8_i32_70 : BitVec 32 := 8#32
  let v19 : BitVec 32 := Scalar.addi c0_i32_69 c8_i32_70
  let c1_i32_71 : BitVec 32 := 1#32
  ⟨c0_i32_69, v19, c1_i32_71⟩
def k1_off30 (k1_t15 : Fin k1_t15_loop.trips) : Fin 1 → Nat :=
  let c1792_i32_877 : BitVec 32 := 1792#32
  let c0_i32_69 : BitVec 32 := 0#32
  let c1_i32_71 : BitVec 32 := 1#32
  let arg9 : BitVec 32 := Scf.iv c0_i32_69 c1_i32_71 k1_t15
  let c16_i32 : BitVec 32 := 16#32
  let v526 : BitVec 32 := Scalar.muli arg9 c16_i32
  let v527 : BitVec 32 := Scalar.addi c1792_i32_877 v526
  let v528 : Index := Scalar.indexCast v527
  ![v528.toNat]
def k1_off31 (k1_t15 : Fin k1_t15_loop.trips) : Fin 2 → Nat :=
  let c14_i32_879 : BitVec 32 := 14#32
  let v533 : Index := Scalar.indexCast c14_i32_879
  let c0_i32_69 : BitVec 32 := 0#32
  let c1_i32_71 : BitVec 32 := 1#32
  let arg9 : BitVec 32 := Scf.iv c0_i32_69 c1_i32_71 k1_t15
  let c16_i32_878 : BitVec 32 := 16#32
  let v532 : BitVec 32 := Scalar.muli arg9 c16_i32_878
  let v534 : Index := Scalar.indexCast v532
  ![14, v534.toNat]
@[reducible] def k1_t16_loop : Scf.Loop 32 :=
  let c0_i32_74 : BitVec 32 := 0#32
  let c8_i32_75 : BitVec 32 := 8#32
  let v20 : BitVec 32 := Scalar.addi c0_i32_74 c8_i32_75
  let c1_i32_76 : BitVec 32 := 1#32
  ⟨c0_i32_74, v20, c1_i32_76⟩
def k1_off32 (k1_t16 : Fin k1_t16_loop.trips) : Fin 1 → Nat :=
  let c1920_i32_877 : BitVec 32 := 1920#32
  let c0_i32_74 : BitVec 32 := 0#32
  let c1_i32_76 : BitVec 32 := 1#32
  let arg9 : BitVec 32 := Scf.iv c0_i32_74 c1_i32_76 k1_t16
  let c16_i32 : BitVec 32 := 16#32
  let v526 : BitVec 32 := Scalar.muli arg9 c16_i32
  let v527 : BitVec 32 := Scalar.addi c1920_i32_877 v526
  let v528 : Index := Scalar.indexCast v527
  ![v528.toNat]
def k1_off33 (k1_t16 : Fin k1_t16_loop.trips) : Fin 2 → Nat :=
  let c15_i32_879 : BitVec 32 := 15#32
  let v533 : Index := Scalar.indexCast c15_i32_879
  let c0_i32_74 : BitVec 32 := 0#32
  let c1_i32_76 : BitVec 32 := 1#32
  let arg9 : BitVec 32 := Scf.iv c0_i32_74 c1_i32_76 k1_t16
  let c16_i32_878 : BitVec 32 := 16#32
  let v532 : BitVec 32 := Scalar.muli arg9 c16_i32_878
  let v534 : Index := Scalar.indexCast v532
  ![15, v534.toNat]
def k1_off34 (i : grid1.Coords) (c0_i32 : BitVec 32) (c0_i32_78 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c2048_i32 : BitVec 32 := 2048#32
  let v4 : BitVec 32 := Scalar.muli v3 c2048_i32
  let v21 : BitVec 32 := Scalar.addi v4 c0_i32_78
  let c0_i32_877_r1 : BitVec 32 := 0#32
  ![v21.toNat, 0]
@[reducible] def k1_t17_loop : Scf.Loop 32 :=
  let c0_i32_200 : BitVec 32 := 0#32
  let c8_i32_201 : BitVec 32 := 8#32
  let v136 : BitVec 32 := Scalar.addi c0_i32_200 c8_i32_201
  let c1_i32_202 : BitVec 32 := 1#32
  ⟨c0_i32_200, v136, c1_i32_202⟩
def k1_off35 (k1_t17 : Fin k1_t17_loop.trips) : Fin 1 → Nat :=
  let c0_i32_877 : BitVec 32 := 0#32
  let c0_i32_200 : BitVec 32 := 0#32
  let c1_i32_202 : BitVec 32 := 1#32
  let arg9 : BitVec 32 := Scf.iv c0_i32_200 c1_i32_202 k1_t17
  let c16_i32 : BitVec 32 := 16#32
  let v526 : BitVec 32 := Scalar.muli arg9 c16_i32
  let v527 : BitVec 32 := Scalar.addi c0_i32_877 v526
  let v528 : Index := Scalar.indexCast v527
  ![v528.toNat]
def k1_off36 (k1_t17 : Fin k1_t17_loop.trips) : Fin 2 → Nat :=
  let c0_i32_879 : BitVec 32 := 0#32
  let v533 : Index := Scalar.indexCast c0_i32_879
  let c0_i32_200 : BitVec 32 := 0#32
  let c1_i32_202 : BitVec 32 := 1#32
  let arg9 : BitVec 32 := Scf.iv c0_i32_200 c1_i32_202 k1_t17
  let c16_i32_878 : BitVec 32 := 16#32
  let v532 : BitVec 32 := Scalar.muli arg9 c16_i32_878
  let v534 : Index := Scalar.indexCast v532
  ![0, v534.toNat]
@[reducible] def k1_t18_loop : Scf.Loop 32 :=
  let c0_i32_205 : BitVec 32 := 0#32
  let c8_i32_206 : BitVec 32 := 8#32
  let v137 : BitVec 32 := Scalar.addi c0_i32_205 c8_i32_206
  let c1_i32_207 : BitVec 32 := 1#32
  ⟨c0_i32_205, v137, c1_i32_207⟩
def k1_off37 (k1_t18 : Fin k1_t18_loop.trips) : Fin 1 → Nat :=
  let c128_i32_877 : BitVec 32 := 128#32
  let c0_i32_205 : BitVec 32 := 0#32
  let c1_i32_207 : BitVec 32 := 1#32
  let arg9 : BitVec 32 := Scf.iv c0_i32_205 c1_i32_207 k1_t18
  let c16_i32 : BitVec 32 := 16#32
  let v526 : BitVec 32 := Scalar.muli arg9 c16_i32
  let v527 : BitVec 32 := Scalar.addi c128_i32_877 v526
  let v528 : Index := Scalar.indexCast v527
  ![v528.toNat]
def k1_off38 (k1_t18 : Fin k1_t18_loop.trips) : Fin 2 → Nat :=
  let c1_i32_879 : BitVec 32 := 1#32
  let v533 : Index := Scalar.indexCast c1_i32_879
  let c0_i32_205 : BitVec 32 := 0#32
  let c1_i32_207 : BitVec 32 := 1#32
  let arg9 : BitVec 32 := Scf.iv c0_i32_205 c1_i32_207 k1_t18
  let c16_i32_878 : BitVec 32 := 16#32
  let v532 : BitVec 32 := Scalar.muli arg9 c16_i32_878
  let v534 : Index := Scalar.indexCast v532
  ![1, v534.toNat]
@[reducible] def k1_t19_loop : Scf.Loop 32 :=
  let c0_i32_210 : BitVec 32 := 0#32
  let c8_i32_211 : BitVec 32 := 8#32
  let v138 : BitVec 32 := Scalar.addi c0_i32_210 c8_i32_211
  let c1_i32_212 : BitVec 32 := 1#32
  ⟨c0_i32_210, v138, c1_i32_212⟩
def k1_off39 (k1_t19 : Fin k1_t19_loop.trips) : Fin 1 → Nat :=
  let c256_i32_877 : BitVec 32 := 256#32
  let c0_i32_210 : BitVec 32 := 0#32
  let c1_i32_212 : BitVec 32 := 1#32
  let arg9 : BitVec 32 := Scf.iv c0_i32_210 c1_i32_212 k1_t19
  let c16_i32 : BitVec 32 := 16#32
  let v526 : BitVec 32 := Scalar.muli arg9 c16_i32
  let v527 : BitVec 32 := Scalar.addi c256_i32_877 v526
  let v528 : Index := Scalar.indexCast v527
  ![v528.toNat]
def k1_off40 (k1_t19 : Fin k1_t19_loop.trips) : Fin 2 → Nat :=
  let c2_i32_879 : BitVec 32 := 2#32
  let v533 : Index := Scalar.indexCast c2_i32_879
  let c0_i32_210 : BitVec 32 := 0#32
  let c1_i32_212 : BitVec 32 := 1#32
  let arg9 : BitVec 32 := Scf.iv c0_i32_210 c1_i32_212 k1_t19
  let c16_i32_878 : BitVec 32 := 16#32
  let v532 : BitVec 32 := Scalar.muli arg9 c16_i32_878
  let v534 : Index := Scalar.indexCast v532
  ![2, v534.toNat]
@[reducible] def k1_t20_loop : Scf.Loop 32 :=
  let c0_i32_215 : BitVec 32 := 0#32
  let c8_i32_216 : BitVec 32 := 8#32
  let v139 : BitVec 32 := Scalar.addi c0_i32_215 c8_i32_216
  let c1_i32_217 : BitVec 32 := 1#32
  ⟨c0_i32_215, v139, c1_i32_217⟩
def k1_off41 (k1_t20 : Fin k1_t20_loop.trips) : Fin 1 → Nat :=
  let c384_i32_877 : BitVec 32 := 384#32
  let c0_i32_215 : BitVec 32 := 0#32
  let c1_i32_217 : BitVec 32 := 1#32
  let arg9 : BitVec 32 := Scf.iv c0_i32_215 c1_i32_217 k1_t20
  let c16_i32 : BitVec 32 := 16#32
  let v526 : BitVec 32 := Scalar.muli arg9 c16_i32
  let v527 : BitVec 32 := Scalar.addi c384_i32_877 v526
  let v528 : Index := Scalar.indexCast v527
  ![v528.toNat]
def k1_off42 (k1_t20 : Fin k1_t20_loop.trips) : Fin 2 → Nat :=
  let c3_i32_879 : BitVec 32 := 3#32
  let v533 : Index := Scalar.indexCast c3_i32_879
  let c0_i32_215 : BitVec 32 := 0#32
  let c1_i32_217 : BitVec 32 := 1#32
  let arg9 : BitVec 32 := Scf.iv c0_i32_215 c1_i32_217 k1_t20
  let c16_i32_878 : BitVec 32 := 16#32
  let v532 : BitVec 32 := Scalar.muli arg9 c16_i32_878
  let v534 : Index := Scalar.indexCast v532
  ![3, v534.toNat]
@[reducible] def k1_t21_loop : Scf.Loop 32 :=
  let c0_i32_220 : BitVec 32 := 0#32
  let c8_i32_221 : BitVec 32 := 8#32
  let v140 : BitVec 32 := Scalar.addi c0_i32_220 c8_i32_221
  let c1_i32_222 : BitVec 32 := 1#32
  ⟨c0_i32_220, v140, c1_i32_222⟩
def k1_off43 (k1_t21 : Fin k1_t21_loop.trips) : Fin 1 → Nat :=
  let c512_i32_877 : BitVec 32 := 512#32
  let c0_i32_220 : BitVec 32 := 0#32
  let c1_i32_222 : BitVec 32 := 1#32
  let arg9 : BitVec 32 := Scf.iv c0_i32_220 c1_i32_222 k1_t21
  let c16_i32 : BitVec 32 := 16#32
  let v526 : BitVec 32 := Scalar.muli arg9 c16_i32
  let v527 : BitVec 32 := Scalar.addi c512_i32_877 v526
  let v528 : Index := Scalar.indexCast v527
  ![v528.toNat]
def k1_off44 (k1_t21 : Fin k1_t21_loop.trips) : Fin 2 → Nat :=
  let c4_i32_879 : BitVec 32 := 4#32
  let v533 : Index := Scalar.indexCast c4_i32_879
  let c0_i32_220 : BitVec 32 := 0#32
  let c1_i32_222 : BitVec 32 := 1#32
  let arg9 : BitVec 32 := Scf.iv c0_i32_220 c1_i32_222 k1_t21
  let c16_i32_878 : BitVec 32 := 16#32
  let v532 : BitVec 32 := Scalar.muli arg9 c16_i32_878
  let v534 : Index := Scalar.indexCast v532
  ![4, v534.toNat]
@[reducible] def k1_t22_loop : Scf.Loop 32 :=
  let c0_i32_225 : BitVec 32 := 0#32
  let c8_i32_226 : BitVec 32 := 8#32
  let v141 : BitVec 32 := Scalar.addi c0_i32_225 c8_i32_226
  let c1_i32_227 : BitVec 32 := 1#32
  ⟨c0_i32_225, v141, c1_i32_227⟩
def k1_off45 (k1_t22 : Fin k1_t22_loop.trips) : Fin 1 → Nat :=
  let c640_i32_877 : BitVec 32 := 640#32
  let c0_i32_225 : BitVec 32 := 0#32
  let c1_i32_227 : BitVec 32 := 1#32
  let arg9 : BitVec 32 := Scf.iv c0_i32_225 c1_i32_227 k1_t22
  let c16_i32 : BitVec 32 := 16#32
  let v526 : BitVec 32 := Scalar.muli arg9 c16_i32
  let v527 : BitVec 32 := Scalar.addi c640_i32_877 v526
  let v528 : Index := Scalar.indexCast v527
  ![v528.toNat]
def k1_off46 (k1_t22 : Fin k1_t22_loop.trips) : Fin 2 → Nat :=
  let c5_i32_879 : BitVec 32 := 5#32
  let v533 : Index := Scalar.indexCast c5_i32_879
  let c0_i32_225 : BitVec 32 := 0#32
  let c1_i32_227 : BitVec 32 := 1#32
  let arg9 : BitVec 32 := Scf.iv c0_i32_225 c1_i32_227 k1_t22
  let c16_i32_878 : BitVec 32 := 16#32
  let v532 : BitVec 32 := Scalar.muli arg9 c16_i32_878
  let v534 : Index := Scalar.indexCast v532
  ![5, v534.toNat]
@[reducible] def k1_t23_loop : Scf.Loop 32 :=
  let c0_i32_230 : BitVec 32 := 0#32
  let c8_i32_231 : BitVec 32 := 8#32
  let v142 : BitVec 32 := Scalar.addi c0_i32_230 c8_i32_231
  let c1_i32_232 : BitVec 32 := 1#32
  ⟨c0_i32_230, v142, c1_i32_232⟩
def k1_off47 (k1_t23 : Fin k1_t23_loop.trips) : Fin 1 → Nat :=
  let c768_i32_877 : BitVec 32 := 768#32
  let c0_i32_230 : BitVec 32 := 0#32
  let c1_i32_232 : BitVec 32 := 1#32
  let arg9 : BitVec 32 := Scf.iv c0_i32_230 c1_i32_232 k1_t23
  let c16_i32 : BitVec 32 := 16#32
  let v526 : BitVec 32 := Scalar.muli arg9 c16_i32
  let v527 : BitVec 32 := Scalar.addi c768_i32_877 v526
  let v528 : Index := Scalar.indexCast v527
  ![v528.toNat]
def k1_off48 (k1_t23 : Fin k1_t23_loop.trips) : Fin 2 → Nat :=
  let c6_i32_879 : BitVec 32 := 6#32
  let v533 : Index := Scalar.indexCast c6_i32_879
  let c0_i32_230 : BitVec 32 := 0#32
  let c1_i32_232 : BitVec 32 := 1#32
  let arg9 : BitVec 32 := Scf.iv c0_i32_230 c1_i32_232 k1_t23
  let c16_i32_878 : BitVec 32 := 16#32
  let v532 : BitVec 32 := Scalar.muli arg9 c16_i32_878
  let v534 : Index := Scalar.indexCast v532
  ![6, v534.toNat]
@[reducible] def k1_t24_loop : Scf.Loop 32 :=
  let c0_i32_235 : BitVec 32 := 0#32
  let c8_i32_236 : BitVec 32 := 8#32
  let v143 : BitVec 32 := Scalar.addi c0_i32_235 c8_i32_236
  let c1_i32_237 : BitVec 32 := 1#32
  ⟨c0_i32_235, v143, c1_i32_237⟩
def k1_off49 (k1_t24 : Fin k1_t24_loop.trips) : Fin 1 → Nat :=
  let c896_i32_877 : BitVec 32 := 896#32
  let c0_i32_235 : BitVec 32 := 0#32
  let c1_i32_237 : BitVec 32 := 1#32
  let arg9 : BitVec 32 := Scf.iv c0_i32_235 c1_i32_237 k1_t24
  let c16_i32 : BitVec 32 := 16#32
  let v526 : BitVec 32 := Scalar.muli arg9 c16_i32
  let v527 : BitVec 32 := Scalar.addi c896_i32_877 v526
  let v528 : Index := Scalar.indexCast v527
  ![v528.toNat]
def k1_off50 (k1_t24 : Fin k1_t24_loop.trips) : Fin 2 → Nat :=
  let c7_i32_879 : BitVec 32 := 7#32
  let v533 : Index := Scalar.indexCast c7_i32_879
  let c0_i32_235 : BitVec 32 := 0#32
  let c1_i32_237 : BitVec 32 := 1#32
  let arg9 : BitVec 32 := Scf.iv c0_i32_235 c1_i32_237 k1_t24
  let c16_i32_878 : BitVec 32 := 16#32
  let v532 : BitVec 32 := Scalar.muli arg9 c16_i32_878
  let v534 : Index := Scalar.indexCast v532
  ![7, v534.toNat]
@[reducible] def k1_t25_loop : Scf.Loop 32 :=
  let c0_i32_240 : BitVec 32 := 0#32
  let c8_i32_241 : BitVec 32 := 8#32
  let v144 : BitVec 32 := Scalar.addi c0_i32_240 c8_i32_241
  let c1_i32_242 : BitVec 32 := 1#32
  ⟨c0_i32_240, v144, c1_i32_242⟩
def k1_off51 (k1_t25 : Fin k1_t25_loop.trips) : Fin 1 → Nat :=
  let c1024_i32_877 : BitVec 32 := 1024#32
  let c0_i32_240 : BitVec 32 := 0#32
  let c1_i32_242 : BitVec 32 := 1#32
  let arg9 : BitVec 32 := Scf.iv c0_i32_240 c1_i32_242 k1_t25
  let c16_i32 : BitVec 32 := 16#32
  let v526 : BitVec 32 := Scalar.muli arg9 c16_i32
  let v527 : BitVec 32 := Scalar.addi c1024_i32_877 v526
  let v528 : Index := Scalar.indexCast v527
  ![v528.toNat]
def k1_off52 (k1_t25 : Fin k1_t25_loop.trips) : Fin 2 → Nat :=
  let c8_i32_879 : BitVec 32 := 8#32
  let v533 : Index := Scalar.indexCast c8_i32_879
  let c0_i32_240 : BitVec 32 := 0#32
  let c1_i32_242 : BitVec 32 := 1#32
  let arg9 : BitVec 32 := Scf.iv c0_i32_240 c1_i32_242 k1_t25
  let c16_i32_878 : BitVec 32 := 16#32
  let v532 : BitVec 32 := Scalar.muli arg9 c16_i32_878
  let v534 : Index := Scalar.indexCast v532
  ![8, v534.toNat]
@[reducible] def k1_t26_loop : Scf.Loop 32 :=
  let c0_i32_245 : BitVec 32 := 0#32
  let c8_i32_246 : BitVec 32 := 8#32
  let v145 : BitVec 32 := Scalar.addi c0_i32_245 c8_i32_246
  let c1_i32_247 : BitVec 32 := 1#32
  ⟨c0_i32_245, v145, c1_i32_247⟩
def k1_off53 (k1_t26 : Fin k1_t26_loop.trips) : Fin 1 → Nat :=
  let c1152_i32_877 : BitVec 32 := 1152#32
  let c0_i32_245 : BitVec 32 := 0#32
  let c1_i32_247 : BitVec 32 := 1#32
  let arg9 : BitVec 32 := Scf.iv c0_i32_245 c1_i32_247 k1_t26
  let c16_i32 : BitVec 32 := 16#32
  let v526 : BitVec 32 := Scalar.muli arg9 c16_i32
  let v527 : BitVec 32 := Scalar.addi c1152_i32_877 v526
  let v528 : Index := Scalar.indexCast v527
  ![v528.toNat]
def k1_off54 (k1_t26 : Fin k1_t26_loop.trips) : Fin 2 → Nat :=
  let c9_i32_879 : BitVec 32 := 9#32
  let v533 : Index := Scalar.indexCast c9_i32_879
  let c0_i32_245 : BitVec 32 := 0#32
  let c1_i32_247 : BitVec 32 := 1#32
  let arg9 : BitVec 32 := Scf.iv c0_i32_245 c1_i32_247 k1_t26
  let c16_i32_878 : BitVec 32 := 16#32
  let v532 : BitVec 32 := Scalar.muli arg9 c16_i32_878
  let v534 : Index := Scalar.indexCast v532
  ![9, v534.toNat]
@[reducible] def k1_t27_loop : Scf.Loop 32 :=
  let c0_i32_250 : BitVec 32 := 0#32
  let c8_i32_251 : BitVec 32 := 8#32
  let v146 : BitVec 32 := Scalar.addi c0_i32_250 c8_i32_251
  let c1_i32_252 : BitVec 32 := 1#32
  ⟨c0_i32_250, v146, c1_i32_252⟩
def k1_off55 (k1_t27 : Fin k1_t27_loop.trips) : Fin 1 → Nat :=
  let c1280_i32_877 : BitVec 32 := 1280#32
  let c0_i32_250 : BitVec 32 := 0#32
  let c1_i32_252 : BitVec 32 := 1#32
  let arg9 : BitVec 32 := Scf.iv c0_i32_250 c1_i32_252 k1_t27
  let c16_i32 : BitVec 32 := 16#32
  let v526 : BitVec 32 := Scalar.muli arg9 c16_i32
  let v527 : BitVec 32 := Scalar.addi c1280_i32_877 v526
  let v528 : Index := Scalar.indexCast v527
  ![v528.toNat]
def k1_off56 (k1_t27 : Fin k1_t27_loop.trips) : Fin 2 → Nat :=
  let c10_i32_879 : BitVec 32 := 10#32
  let v533 : Index := Scalar.indexCast c10_i32_879
  let c0_i32_250 : BitVec 32 := 0#32
  let c1_i32_252 : BitVec 32 := 1#32
  let arg9 : BitVec 32 := Scf.iv c0_i32_250 c1_i32_252 k1_t27
  let c16_i32_878 : BitVec 32 := 16#32
  let v532 : BitVec 32 := Scalar.muli arg9 c16_i32_878
  let v534 : Index := Scalar.indexCast v532
  ![10, v534.toNat]
@[reducible] def k1_t28_loop : Scf.Loop 32 :=
  let c0_i32_255 : BitVec 32 := 0#32
  let c8_i32_256 : BitVec 32 := 8#32
  let v147 : BitVec 32 := Scalar.addi c0_i32_255 c8_i32_256
  let c1_i32_257 : BitVec 32 := 1#32
  ⟨c0_i32_255, v147, c1_i32_257⟩
def k1_off57 (k1_t28 : Fin k1_t28_loop.trips) : Fin 1 → Nat :=
  let c1408_i32_877 : BitVec 32 := 1408#32
  let c0_i32_255 : BitVec 32 := 0#32
  let c1_i32_257 : BitVec 32 := 1#32
  let arg9 : BitVec 32 := Scf.iv c0_i32_255 c1_i32_257 k1_t28
  let c16_i32 : BitVec 32 := 16#32
  let v526 : BitVec 32 := Scalar.muli arg9 c16_i32
  let v527 : BitVec 32 := Scalar.addi c1408_i32_877 v526
  let v528 : Index := Scalar.indexCast v527
  ![v528.toNat]
def k1_off58 (k1_t28 : Fin k1_t28_loop.trips) : Fin 2 → Nat :=
  let c11_i32_879 : BitVec 32 := 11#32
  let v533 : Index := Scalar.indexCast c11_i32_879
  let c0_i32_255 : BitVec 32 := 0#32
  let c1_i32_257 : BitVec 32 := 1#32
  let arg9 : BitVec 32 := Scf.iv c0_i32_255 c1_i32_257 k1_t28
  let c16_i32_878 : BitVec 32 := 16#32
  let v532 : BitVec 32 := Scalar.muli arg9 c16_i32_878
  let v534 : Index := Scalar.indexCast v532
  ![11, v534.toNat]
@[reducible] def k1_t29_loop : Scf.Loop 32 :=
  let c0_i32_260 : BitVec 32 := 0#32
  let c8_i32_261 : BitVec 32 := 8#32
  let v148 : BitVec 32 := Scalar.addi c0_i32_260 c8_i32_261
  let c1_i32_262 : BitVec 32 := 1#32
  ⟨c0_i32_260, v148, c1_i32_262⟩
def k1_off59 (k1_t29 : Fin k1_t29_loop.trips) : Fin 1 → Nat :=
  let c1536_i32_877 : BitVec 32 := 1536#32
  let c0_i32_260 : BitVec 32 := 0#32
  let c1_i32_262 : BitVec 32 := 1#32
  let arg9 : BitVec 32 := Scf.iv c0_i32_260 c1_i32_262 k1_t29
  let c16_i32 : BitVec 32 := 16#32
  let v526 : BitVec 32 := Scalar.muli arg9 c16_i32
  let v527 : BitVec 32 := Scalar.addi c1536_i32_877 v526
  let v528 : Index := Scalar.indexCast v527
  ![v528.toNat]
def k1_off60 (k1_t29 : Fin k1_t29_loop.trips) : Fin 2 → Nat :=
  let c12_i32_879 : BitVec 32 := 12#32
  let v533 : Index := Scalar.indexCast c12_i32_879
  let c0_i32_260 : BitVec 32 := 0#32
  let c1_i32_262 : BitVec 32 := 1#32
  let arg9 : BitVec 32 := Scf.iv c0_i32_260 c1_i32_262 k1_t29
  let c16_i32_878 : BitVec 32 := 16#32
  let v532 : BitVec 32 := Scalar.muli arg9 c16_i32_878
  let v534 : Index := Scalar.indexCast v532
  ![12, v534.toNat]
@[reducible] def k1_t30_loop : Scf.Loop 32 :=
  let c0_i32_265 : BitVec 32 := 0#32
  let c8_i32_266 : BitVec 32 := 8#32
  let v149 : BitVec 32 := Scalar.addi c0_i32_265 c8_i32_266
  let c1_i32_267 : BitVec 32 := 1#32
  ⟨c0_i32_265, v149, c1_i32_267⟩
def k1_off61 (k1_t30 : Fin k1_t30_loop.trips) : Fin 1 → Nat :=
  let c1664_i32_877 : BitVec 32 := 1664#32
  let c0_i32_265 : BitVec 32 := 0#32
  let c1_i32_267 : BitVec 32 := 1#32
  let arg9 : BitVec 32 := Scf.iv c0_i32_265 c1_i32_267 k1_t30
  let c16_i32 : BitVec 32 := 16#32
  let v526 : BitVec 32 := Scalar.muli arg9 c16_i32
  let v527 : BitVec 32 := Scalar.addi c1664_i32_877 v526
  let v528 : Index := Scalar.indexCast v527
  ![v528.toNat]
def k1_off62 (k1_t30 : Fin k1_t30_loop.trips) : Fin 2 → Nat :=
  let c13_i32_879 : BitVec 32 := 13#32
  let v533 : Index := Scalar.indexCast c13_i32_879
  let c0_i32_265 : BitVec 32 := 0#32
  let c1_i32_267 : BitVec 32 := 1#32
  let arg9 : BitVec 32 := Scf.iv c0_i32_265 c1_i32_267 k1_t30
  let c16_i32_878 : BitVec 32 := 16#32
  let v532 : BitVec 32 := Scalar.muli arg9 c16_i32_878
  let v534 : Index := Scalar.indexCast v532
  ![13, v534.toNat]
@[reducible] def k1_t31_loop : Scf.Loop 32 :=
  let c0_i32_270 : BitVec 32 := 0#32
  let c8_i32_271 : BitVec 32 := 8#32
  let v150 : BitVec 32 := Scalar.addi c0_i32_270 c8_i32_271
  let c1_i32_272 : BitVec 32 := 1#32
  ⟨c0_i32_270, v150, c1_i32_272⟩
def k1_off63 (k1_t31 : Fin k1_t31_loop.trips) : Fin 1 → Nat :=
  let c1792_i32_877 : BitVec 32 := 1792#32
  let c0_i32_270 : BitVec 32 := 0#32
  let c1_i32_272 : BitVec 32 := 1#32
  let arg9 : BitVec 32 := Scf.iv c0_i32_270 c1_i32_272 k1_t31
  let c16_i32 : BitVec 32 := 16#32
  let v526 : BitVec 32 := Scalar.muli arg9 c16_i32
  let v527 : BitVec 32 := Scalar.addi c1792_i32_877 v526
  let v528 : Index := Scalar.indexCast v527
  ![v528.toNat]
def k1_off64 (k1_t31 : Fin k1_t31_loop.trips) : Fin 2 → Nat :=
  let c14_i32_879 : BitVec 32 := 14#32
  let v533 : Index := Scalar.indexCast c14_i32_879
  let c0_i32_270 : BitVec 32 := 0#32
  let c1_i32_272 : BitVec 32 := 1#32
  let arg9 : BitVec 32 := Scf.iv c0_i32_270 c1_i32_272 k1_t31
  let c16_i32_878 : BitVec 32 := 16#32
  let v532 : BitVec 32 := Scalar.muli arg9 c16_i32_878
  let v534 : Index := Scalar.indexCast v532
  ![14, v534.toNat]
@[reducible] def k1_t32_loop : Scf.Loop 32 :=
  let c0_i32_275 : BitVec 32 := 0#32
  let c8_i32_276 : BitVec 32 := 8#32
  let v151 : BitVec 32 := Scalar.addi c0_i32_275 c8_i32_276
  let c1_i32_277 : BitVec 32 := 1#32
  ⟨c0_i32_275, v151, c1_i32_277⟩
def k1_off65 (k1_t32 : Fin k1_t32_loop.trips) : Fin 1 → Nat :=
  let c1920_i32_877 : BitVec 32 := 1920#32
  let c0_i32_275 : BitVec 32 := 0#32
  let c1_i32_277 : BitVec 32 := 1#32
  let arg9 : BitVec 32 := Scf.iv c0_i32_275 c1_i32_277 k1_t32
  let c16_i32 : BitVec 32 := 16#32
  let v526 : BitVec 32 := Scalar.muli arg9 c16_i32
  let v527 : BitVec 32 := Scalar.addi c1920_i32_877 v526
  let v528 : Index := Scalar.indexCast v527
  ![v528.toNat]
def k1_off66 (k1_t32 : Fin k1_t32_loop.trips) : Fin 2 → Nat :=
  let c15_i32_879 : BitVec 32 := 15#32
  let v533 : Index := Scalar.indexCast c15_i32_879
  let c0_i32_275 : BitVec 32 := 0#32
  let c1_i32_277 : BitVec 32 := 1#32
  let arg9 : BitVec 32 := Scf.iv c0_i32_275 c1_i32_277 k1_t32
  let c16_i32_878 : BitVec 32 := 16#32
  let v532 : BitVec 32 := Scalar.muli arg9 c16_i32_878
  let v534 : Index := Scalar.indexCast v532
  ![15, v534.toNat]
@[reducible] def k1_t33_loop : Scf.Loop 32 :=
  let c0_i32_427 : BitVec 32 := 0#32
  let c8_i32_428 : BitVec 32 := 8#32
  let v267 : BitVec 32 := Scalar.addi c0_i32_427 c8_i32_428
  let c1_i32_429 : BitVec 32 := 1#32
  ⟨c0_i32_427, v267, c1_i32_429⟩
def k1_off67 (k1_t33 : Fin k1_t33_loop.trips) : Fin 1 → Nat :=
  let c0_i32_877 : BitVec 32 := 0#32
  let c0_i32_427 : BitVec 32 := 0#32
  let c1_i32_429 : BitVec 32 := 1#32
  let arg9 : BitVec 32 := Scf.iv c0_i32_427 c1_i32_429 k1_t33
  let c16_i32 : BitVec 32 := 16#32
  let v526 : BitVec 32 := Scalar.muli arg9 c16_i32
  let v527 : BitVec 32 := Scalar.addi c0_i32_877 v526
  let v528 : Index := Scalar.indexCast v527
  ![v528.toNat]
def k1_off68 (k1_t33 : Fin k1_t33_loop.trips) : Fin 2 → Nat :=
  let c0_i32_879 : BitVec 32 := 0#32
  let v533 : Index := Scalar.indexCast c0_i32_879
  let c0_i32_427 : BitVec 32 := 0#32
  let c1_i32_429 : BitVec 32 := 1#32
  let arg9 : BitVec 32 := Scf.iv c0_i32_427 c1_i32_429 k1_t33
  let c16_i32_878 : BitVec 32 := 16#32
  let v532 : BitVec 32 := Scalar.muli arg9 c16_i32_878
  let v534 : Index := Scalar.indexCast v532
  ![0, v534.toNat]
@[reducible] def k1_t34_loop : Scf.Loop 32 :=
  let c0_i32_432 : BitVec 32 := 0#32
  let c8_i32_433 : BitVec 32 := 8#32
  let v268 : BitVec 32 := Scalar.addi c0_i32_432 c8_i32_433
  let c1_i32_434 : BitVec 32 := 1#32
  ⟨c0_i32_432, v268, c1_i32_434⟩
def k1_off69 (k1_t34 : Fin k1_t34_loop.trips) : Fin 1 → Nat :=
  let c128_i32_877 : BitVec 32 := 128#32
  let c0_i32_432 : BitVec 32 := 0#32
  let c1_i32_434 : BitVec 32 := 1#32
  let arg9 : BitVec 32 := Scf.iv c0_i32_432 c1_i32_434 k1_t34
  let c16_i32 : BitVec 32 := 16#32
  let v526 : BitVec 32 := Scalar.muli arg9 c16_i32
  let v527 : BitVec 32 := Scalar.addi c128_i32_877 v526
  let v528 : Index := Scalar.indexCast v527
  ![v528.toNat]
def k1_off70 (k1_t34 : Fin k1_t34_loop.trips) : Fin 2 → Nat :=
  let c1_i32_879 : BitVec 32 := 1#32
  let v533 : Index := Scalar.indexCast c1_i32_879
  let c0_i32_432 : BitVec 32 := 0#32
  let c1_i32_434 : BitVec 32 := 1#32
  let arg9 : BitVec 32 := Scf.iv c0_i32_432 c1_i32_434 k1_t34
  let c16_i32_878 : BitVec 32 := 16#32
  let v532 : BitVec 32 := Scalar.muli arg9 c16_i32_878
  let v534 : Index := Scalar.indexCast v532
  ![1, v534.toNat]
@[reducible] def k1_t35_loop : Scf.Loop 32 :=
  let c0_i32_437 : BitVec 32 := 0#32
  let c8_i32_438 : BitVec 32 := 8#32
  let v269 : BitVec 32 := Scalar.addi c0_i32_437 c8_i32_438
  let c1_i32_439 : BitVec 32 := 1#32
  ⟨c0_i32_437, v269, c1_i32_439⟩
def k1_off71 (k1_t35 : Fin k1_t35_loop.trips) : Fin 1 → Nat :=
  let c256_i32_877 : BitVec 32 := 256#32
  let c0_i32_437 : BitVec 32 := 0#32
  let c1_i32_439 : BitVec 32 := 1#32
  let arg9 : BitVec 32 := Scf.iv c0_i32_437 c1_i32_439 k1_t35
  let c16_i32 : BitVec 32 := 16#32
  let v526 : BitVec 32 := Scalar.muli arg9 c16_i32
  let v527 : BitVec 32 := Scalar.addi c256_i32_877 v526
  let v528 : Index := Scalar.indexCast v527
  ![v528.toNat]
def k1_off72 (k1_t35 : Fin k1_t35_loop.trips) : Fin 2 → Nat :=
  let c2_i32_879 : BitVec 32 := 2#32
  let v533 : Index := Scalar.indexCast c2_i32_879
  let c0_i32_437 : BitVec 32 := 0#32
  let c1_i32_439 : BitVec 32 := 1#32
  let arg9 : BitVec 32 := Scf.iv c0_i32_437 c1_i32_439 k1_t35
  let c16_i32_878 : BitVec 32 := 16#32
  let v532 : BitVec 32 := Scalar.muli arg9 c16_i32_878
  let v534 : Index := Scalar.indexCast v532
  ![2, v534.toNat]
@[reducible] def k1_t36_loop : Scf.Loop 32 :=
  let c0_i32_442 : BitVec 32 := 0#32
  let c8_i32_443 : BitVec 32 := 8#32
  let v270 : BitVec 32 := Scalar.addi c0_i32_442 c8_i32_443
  let c1_i32_444 : BitVec 32 := 1#32
  ⟨c0_i32_442, v270, c1_i32_444⟩
def k1_off73 (k1_t36 : Fin k1_t36_loop.trips) : Fin 1 → Nat :=
  let c384_i32_877 : BitVec 32 := 384#32
  let c0_i32_442 : BitVec 32 := 0#32
  let c1_i32_444 : BitVec 32 := 1#32
  let arg9 : BitVec 32 := Scf.iv c0_i32_442 c1_i32_444 k1_t36
  let c16_i32 : BitVec 32 := 16#32
  let v526 : BitVec 32 := Scalar.muli arg9 c16_i32
  let v527 : BitVec 32 := Scalar.addi c384_i32_877 v526
  let v528 : Index := Scalar.indexCast v527
  ![v528.toNat]
def k1_off74 (k1_t36 : Fin k1_t36_loop.trips) : Fin 2 → Nat :=
  let c3_i32_879 : BitVec 32 := 3#32
  let v533 : Index := Scalar.indexCast c3_i32_879
  let c0_i32_442 : BitVec 32 := 0#32
  let c1_i32_444 : BitVec 32 := 1#32
  let arg9 : BitVec 32 := Scf.iv c0_i32_442 c1_i32_444 k1_t36
  let c16_i32_878 : BitVec 32 := 16#32
  let v532 : BitVec 32 := Scalar.muli arg9 c16_i32_878
  let v534 : Index := Scalar.indexCast v532
  ![3, v534.toNat]
@[reducible] def k1_t37_loop : Scf.Loop 32 :=
  let c0_i32_447 : BitVec 32 := 0#32
  let c8_i32_448 : BitVec 32 := 8#32
  let v271 : BitVec 32 := Scalar.addi c0_i32_447 c8_i32_448
  let c1_i32_449 : BitVec 32 := 1#32
  ⟨c0_i32_447, v271, c1_i32_449⟩
def k1_off75 (k1_t37 : Fin k1_t37_loop.trips) : Fin 1 → Nat :=
  let c512_i32_877 : BitVec 32 := 512#32
  let c0_i32_447 : BitVec 32 := 0#32
  let c1_i32_449 : BitVec 32 := 1#32
  let arg9 : BitVec 32 := Scf.iv c0_i32_447 c1_i32_449 k1_t37
  let c16_i32 : BitVec 32 := 16#32
  let v526 : BitVec 32 := Scalar.muli arg9 c16_i32
  let v527 : BitVec 32 := Scalar.addi c512_i32_877 v526
  let v528 : Index := Scalar.indexCast v527
  ![v528.toNat]
def k1_off76 (k1_t37 : Fin k1_t37_loop.trips) : Fin 2 → Nat :=
  let c4_i32_879 : BitVec 32 := 4#32
  let v533 : Index := Scalar.indexCast c4_i32_879
  let c0_i32_447 : BitVec 32 := 0#32
  let c1_i32_449 : BitVec 32 := 1#32
  let arg9 : BitVec 32 := Scf.iv c0_i32_447 c1_i32_449 k1_t37
  let c16_i32_878 : BitVec 32 := 16#32
  let v532 : BitVec 32 := Scalar.muli arg9 c16_i32_878
  let v534 : Index := Scalar.indexCast v532
  ![4, v534.toNat]
@[reducible] def k1_t38_loop : Scf.Loop 32 :=
  let c0_i32_452 : BitVec 32 := 0#32
  let c8_i32_453 : BitVec 32 := 8#32
  let v272 : BitVec 32 := Scalar.addi c0_i32_452 c8_i32_453
  let c1_i32_454 : BitVec 32 := 1#32
  ⟨c0_i32_452, v272, c1_i32_454⟩
def k1_off77 (k1_t38 : Fin k1_t38_loop.trips) : Fin 1 → Nat :=
  let c640_i32_877 : BitVec 32 := 640#32
  let c0_i32_452 : BitVec 32 := 0#32
  let c1_i32_454 : BitVec 32 := 1#32
  let arg9 : BitVec 32 := Scf.iv c0_i32_452 c1_i32_454 k1_t38
  let c16_i32 : BitVec 32 := 16#32
  let v526 : BitVec 32 := Scalar.muli arg9 c16_i32
  let v527 : BitVec 32 := Scalar.addi c640_i32_877 v526
  let v528 : Index := Scalar.indexCast v527
  ![v528.toNat]
def k1_off78 (k1_t38 : Fin k1_t38_loop.trips) : Fin 2 → Nat :=
  let c5_i32_879 : BitVec 32 := 5#32
  let v533 : Index := Scalar.indexCast c5_i32_879
  let c0_i32_452 : BitVec 32 := 0#32
  let c1_i32_454 : BitVec 32 := 1#32
  let arg9 : BitVec 32 := Scf.iv c0_i32_452 c1_i32_454 k1_t38
  let c16_i32_878 : BitVec 32 := 16#32
  let v532 : BitVec 32 := Scalar.muli arg9 c16_i32_878
  let v534 : Index := Scalar.indexCast v532
  ![5, v534.toNat]
@[reducible] def k1_t39_loop : Scf.Loop 32 :=
  let c0_i32_457 : BitVec 32 := 0#32
  let c8_i32_458 : BitVec 32 := 8#32
  let v273 : BitVec 32 := Scalar.addi c0_i32_457 c8_i32_458
  let c1_i32_459 : BitVec 32 := 1#32
  ⟨c0_i32_457, v273, c1_i32_459⟩
def k1_off79 (k1_t39 : Fin k1_t39_loop.trips) : Fin 1 → Nat :=
  let c768_i32_877 : BitVec 32 := 768#32
  let c0_i32_457 : BitVec 32 := 0#32
  let c1_i32_459 : BitVec 32 := 1#32
  let arg9 : BitVec 32 := Scf.iv c0_i32_457 c1_i32_459 k1_t39
  let c16_i32 : BitVec 32 := 16#32
  let v526 : BitVec 32 := Scalar.muli arg9 c16_i32
  let v527 : BitVec 32 := Scalar.addi c768_i32_877 v526
  let v528 : Index := Scalar.indexCast v527
  ![v528.toNat]
def k1_off80 (k1_t39 : Fin k1_t39_loop.trips) : Fin 2 → Nat :=
  let c6_i32_879 : BitVec 32 := 6#32
  let v533 : Index := Scalar.indexCast c6_i32_879
  let c0_i32_457 : BitVec 32 := 0#32
  let c1_i32_459 : BitVec 32 := 1#32
  let arg9 : BitVec 32 := Scf.iv c0_i32_457 c1_i32_459 k1_t39
  let c16_i32_878 : BitVec 32 := 16#32
  let v532 : BitVec 32 := Scalar.muli arg9 c16_i32_878
  let v534 : Index := Scalar.indexCast v532
  ![6, v534.toNat]
@[reducible] def k1_t40_loop : Scf.Loop 32 :=
  let c0_i32_462 : BitVec 32 := 0#32
  let c8_i32_463 : BitVec 32 := 8#32
  let v274 : BitVec 32 := Scalar.addi c0_i32_462 c8_i32_463
  let c1_i32_464 : BitVec 32 := 1#32
  ⟨c0_i32_462, v274, c1_i32_464⟩
def k1_off81 (k1_t40 : Fin k1_t40_loop.trips) : Fin 1 → Nat :=
  let c896_i32_877 : BitVec 32 := 896#32
  let c0_i32_462 : BitVec 32 := 0#32
  let c1_i32_464 : BitVec 32 := 1#32
  let arg9 : BitVec 32 := Scf.iv c0_i32_462 c1_i32_464 k1_t40
  let c16_i32 : BitVec 32 := 16#32
  let v526 : BitVec 32 := Scalar.muli arg9 c16_i32
  let v527 : BitVec 32 := Scalar.addi c896_i32_877 v526
  let v528 : Index := Scalar.indexCast v527
  ![v528.toNat]
def k1_off82 (k1_t40 : Fin k1_t40_loop.trips) : Fin 2 → Nat :=
  let c7_i32_879 : BitVec 32 := 7#32
  let v533 : Index := Scalar.indexCast c7_i32_879
  let c0_i32_462 : BitVec 32 := 0#32
  let c1_i32_464 : BitVec 32 := 1#32
  let arg9 : BitVec 32 := Scf.iv c0_i32_462 c1_i32_464 k1_t40
  let c16_i32_878 : BitVec 32 := 16#32
  let v532 : BitVec 32 := Scalar.muli arg9 c16_i32_878
  let v534 : Index := Scalar.indexCast v532
  ![7, v534.toNat]
@[reducible] def k1_t41_loop : Scf.Loop 32 :=
  let c0_i32_467 : BitVec 32 := 0#32
  let c8_i32_468 : BitVec 32 := 8#32
  let v275 : BitVec 32 := Scalar.addi c0_i32_467 c8_i32_468
  let c1_i32_469 : BitVec 32 := 1#32
  ⟨c0_i32_467, v275, c1_i32_469⟩
def k1_off83 (k1_t41 : Fin k1_t41_loop.trips) : Fin 1 → Nat :=
  let c1024_i32_877 : BitVec 32 := 1024#32
  let c0_i32_467 : BitVec 32 := 0#32
  let c1_i32_469 : BitVec 32 := 1#32
  let arg9 : BitVec 32 := Scf.iv c0_i32_467 c1_i32_469 k1_t41
  let c16_i32 : BitVec 32 := 16#32
  let v526 : BitVec 32 := Scalar.muli arg9 c16_i32
  let v527 : BitVec 32 := Scalar.addi c1024_i32_877 v526
  let v528 : Index := Scalar.indexCast v527
  ![v528.toNat]
def k1_off84 (k1_t41 : Fin k1_t41_loop.trips) : Fin 2 → Nat :=
  let c8_i32_879 : BitVec 32 := 8#32
  let v533 : Index := Scalar.indexCast c8_i32_879
  let c0_i32_467 : BitVec 32 := 0#32
  let c1_i32_469 : BitVec 32 := 1#32
  let arg9 : BitVec 32 := Scf.iv c0_i32_467 c1_i32_469 k1_t41
  let c16_i32_878 : BitVec 32 := 16#32
  let v532 : BitVec 32 := Scalar.muli arg9 c16_i32_878
  let v534 : Index := Scalar.indexCast v532
  ![8, v534.toNat]
@[reducible] def k1_t42_loop : Scf.Loop 32 :=
  let c0_i32_472 : BitVec 32 := 0#32
  let c8_i32_473 : BitVec 32 := 8#32
  let v276 : BitVec 32 := Scalar.addi c0_i32_472 c8_i32_473
  let c1_i32_474 : BitVec 32 := 1#32
  ⟨c0_i32_472, v276, c1_i32_474⟩
def k1_off85 (k1_t42 : Fin k1_t42_loop.trips) : Fin 1 → Nat :=
  let c1152_i32_877 : BitVec 32 := 1152#32
  let c0_i32_472 : BitVec 32 := 0#32
  let c1_i32_474 : BitVec 32 := 1#32
  let arg9 : BitVec 32 := Scf.iv c0_i32_472 c1_i32_474 k1_t42
  let c16_i32 : BitVec 32 := 16#32
  let v526 : BitVec 32 := Scalar.muli arg9 c16_i32
  let v527 : BitVec 32 := Scalar.addi c1152_i32_877 v526
  let v528 : Index := Scalar.indexCast v527
  ![v528.toNat]
def k1_off86 (k1_t42 : Fin k1_t42_loop.trips) : Fin 2 → Nat :=
  let c9_i32_879 : BitVec 32 := 9#32
  let v533 : Index := Scalar.indexCast c9_i32_879
  let c0_i32_472 : BitVec 32 := 0#32
  let c1_i32_474 : BitVec 32 := 1#32
  let arg9 : BitVec 32 := Scf.iv c0_i32_472 c1_i32_474 k1_t42
  let c16_i32_878 : BitVec 32 := 16#32
  let v532 : BitVec 32 := Scalar.muli arg9 c16_i32_878
  let v534 : Index := Scalar.indexCast v532
  ![9, v534.toNat]
@[reducible] def k1_t43_loop : Scf.Loop 32 :=
  let c0_i32_477 : BitVec 32 := 0#32
  let c8_i32_478 : BitVec 32 := 8#32
  let v277 : BitVec 32 := Scalar.addi c0_i32_477 c8_i32_478
  let c1_i32_479 : BitVec 32 := 1#32
  ⟨c0_i32_477, v277, c1_i32_479⟩
def k1_off87 (k1_t43 : Fin k1_t43_loop.trips) : Fin 1 → Nat :=
  let c1280_i32_877 : BitVec 32 := 1280#32
  let c0_i32_477 : BitVec 32 := 0#32
  let c1_i32_479 : BitVec 32 := 1#32
  let arg9 : BitVec 32 := Scf.iv c0_i32_477 c1_i32_479 k1_t43
  let c16_i32 : BitVec 32 := 16#32
  let v526 : BitVec 32 := Scalar.muli arg9 c16_i32
  let v527 : BitVec 32 := Scalar.addi c1280_i32_877 v526
  let v528 : Index := Scalar.indexCast v527
  ![v528.toNat]
def k1_off88 (k1_t43 : Fin k1_t43_loop.trips) : Fin 2 → Nat :=
  let c10_i32_879 : BitVec 32 := 10#32
  let v533 : Index := Scalar.indexCast c10_i32_879
  let c0_i32_477 : BitVec 32 := 0#32
  let c1_i32_479 : BitVec 32 := 1#32
  let arg9 : BitVec 32 := Scf.iv c0_i32_477 c1_i32_479 k1_t43
  let c16_i32_878 : BitVec 32 := 16#32
  let v532 : BitVec 32 := Scalar.muli arg9 c16_i32_878
  let v534 : Index := Scalar.indexCast v532
  ![10, v534.toNat]
@[reducible] def k1_t44_loop : Scf.Loop 32 :=
  let c0_i32_482 : BitVec 32 := 0#32
  let c8_i32_483 : BitVec 32 := 8#32
  let v278 : BitVec 32 := Scalar.addi c0_i32_482 c8_i32_483
  let c1_i32_484 : BitVec 32 := 1#32
  ⟨c0_i32_482, v278, c1_i32_484⟩
def k1_off89 (k1_t44 : Fin k1_t44_loop.trips) : Fin 1 → Nat :=
  let c1408_i32_877 : BitVec 32 := 1408#32
  let c0_i32_482 : BitVec 32 := 0#32
  let c1_i32_484 : BitVec 32 := 1#32
  let arg9 : BitVec 32 := Scf.iv c0_i32_482 c1_i32_484 k1_t44
  let c16_i32 : BitVec 32 := 16#32
  let v526 : BitVec 32 := Scalar.muli arg9 c16_i32
  let v527 : BitVec 32 := Scalar.addi c1408_i32_877 v526
  let v528 : Index := Scalar.indexCast v527
  ![v528.toNat]
def k1_off90 (k1_t44 : Fin k1_t44_loop.trips) : Fin 2 → Nat :=
  let c11_i32_879 : BitVec 32 := 11#32
  let v533 : Index := Scalar.indexCast c11_i32_879
  let c0_i32_482 : BitVec 32 := 0#32
  let c1_i32_484 : BitVec 32 := 1#32
  let arg9 : BitVec 32 := Scf.iv c0_i32_482 c1_i32_484 k1_t44
  let c16_i32_878 : BitVec 32 := 16#32
  let v532 : BitVec 32 := Scalar.muli arg9 c16_i32_878
  let v534 : Index := Scalar.indexCast v532
  ![11, v534.toNat]
@[reducible] def k1_t45_loop : Scf.Loop 32 :=
  let c0_i32_487 : BitVec 32 := 0#32
  let c8_i32_488 : BitVec 32 := 8#32
  let v279 : BitVec 32 := Scalar.addi c0_i32_487 c8_i32_488
  let c1_i32_489 : BitVec 32 := 1#32
  ⟨c0_i32_487, v279, c1_i32_489⟩
def k1_off91 (k1_t45 : Fin k1_t45_loop.trips) : Fin 1 → Nat :=
  let c1536_i32_877 : BitVec 32 := 1536#32
  let c0_i32_487 : BitVec 32 := 0#32
  let c1_i32_489 : BitVec 32 := 1#32
  let arg9 : BitVec 32 := Scf.iv c0_i32_487 c1_i32_489 k1_t45
  let c16_i32 : BitVec 32 := 16#32
  let v526 : BitVec 32 := Scalar.muli arg9 c16_i32
  let v527 : BitVec 32 := Scalar.addi c1536_i32_877 v526
  let v528 : Index := Scalar.indexCast v527
  ![v528.toNat]
def k1_off92 (k1_t45 : Fin k1_t45_loop.trips) : Fin 2 → Nat :=
  let c12_i32_879 : BitVec 32 := 12#32
  let v533 : Index := Scalar.indexCast c12_i32_879
  let c0_i32_487 : BitVec 32 := 0#32
  let c1_i32_489 : BitVec 32 := 1#32
  let arg9 : BitVec 32 := Scf.iv c0_i32_487 c1_i32_489 k1_t45
  let c16_i32_878 : BitVec 32 := 16#32
  let v532 : BitVec 32 := Scalar.muli arg9 c16_i32_878
  let v534 : Index := Scalar.indexCast v532
  ![12, v534.toNat]
@[reducible] def k1_t46_loop : Scf.Loop 32 :=
  let c0_i32_492 : BitVec 32 := 0#32
  let c8_i32_493 : BitVec 32 := 8#32
  let v280 : BitVec 32 := Scalar.addi c0_i32_492 c8_i32_493
  let c1_i32_494 : BitVec 32 := 1#32
  ⟨c0_i32_492, v280, c1_i32_494⟩
def k1_off93 (k1_t46 : Fin k1_t46_loop.trips) : Fin 1 → Nat :=
  let c1664_i32_877 : BitVec 32 := 1664#32
  let c0_i32_492 : BitVec 32 := 0#32
  let c1_i32_494 : BitVec 32 := 1#32
  let arg9 : BitVec 32 := Scf.iv c0_i32_492 c1_i32_494 k1_t46
  let c16_i32 : BitVec 32 := 16#32
  let v526 : BitVec 32 := Scalar.muli arg9 c16_i32
  let v527 : BitVec 32 := Scalar.addi c1664_i32_877 v526
  let v528 : Index := Scalar.indexCast v527
  ![v528.toNat]
def k1_off94 (k1_t46 : Fin k1_t46_loop.trips) : Fin 2 → Nat :=
  let c13_i32_879 : BitVec 32 := 13#32
  let v533 : Index := Scalar.indexCast c13_i32_879
  let c0_i32_492 : BitVec 32 := 0#32
  let c1_i32_494 : BitVec 32 := 1#32
  let arg9 : BitVec 32 := Scf.iv c0_i32_492 c1_i32_494 k1_t46
  let c16_i32_878 : BitVec 32 := 16#32
  let v532 : BitVec 32 := Scalar.muli arg9 c16_i32_878
  let v534 : Index := Scalar.indexCast v532
  ![13, v534.toNat]
@[reducible] def k1_t47_loop : Scf.Loop 32 :=
  let c0_i32_497 : BitVec 32 := 0#32
  let c8_i32_498 : BitVec 32 := 8#32
  let v281 : BitVec 32 := Scalar.addi c0_i32_497 c8_i32_498
  let c1_i32_499 : BitVec 32 := 1#32
  ⟨c0_i32_497, v281, c1_i32_499⟩
def k1_off95 (k1_t47 : Fin k1_t47_loop.trips) : Fin 1 → Nat :=
  let c1792_i32_877 : BitVec 32 := 1792#32
  let c0_i32_497 : BitVec 32 := 0#32
  let c1_i32_499 : BitVec 32 := 1#32
  let arg9 : BitVec 32 := Scf.iv c0_i32_497 c1_i32_499 k1_t47
  let c16_i32 : BitVec 32 := 16#32
  let v526 : BitVec 32 := Scalar.muli arg9 c16_i32
  let v527 : BitVec 32 := Scalar.addi c1792_i32_877 v526
  let v528 : Index := Scalar.indexCast v527
  ![v528.toNat]
def k1_off96 (k1_t47 : Fin k1_t47_loop.trips) : Fin 2 → Nat :=
  let c14_i32_879 : BitVec 32 := 14#32
  let v533 : Index := Scalar.indexCast c14_i32_879
  let c0_i32_497 : BitVec 32 := 0#32
  let c1_i32_499 : BitVec 32 := 1#32
  let arg9 : BitVec 32 := Scf.iv c0_i32_497 c1_i32_499 k1_t47
  let c16_i32_878 : BitVec 32 := 16#32
  let v532 : BitVec 32 := Scalar.muli arg9 c16_i32_878
  let v534 : Index := Scalar.indexCast v532
  ![14, v534.toNat]
@[reducible] def k1_t48_loop : Scf.Loop 32 :=
  let c0_i32_502 : BitVec 32 := 0#32
  let c8_i32_503 : BitVec 32 := 8#32
  let v282 : BitVec 32 := Scalar.addi c0_i32_502 c8_i32_503
  let c1_i32_504 : BitVec 32 := 1#32
  ⟨c0_i32_502, v282, c1_i32_504⟩
def k1_off97 (k1_t48 : Fin k1_t48_loop.trips) : Fin 1 → Nat :=
  let c1920_i32_877 : BitVec 32 := 1920#32
  let c0_i32_502 : BitVec 32 := 0#32
  let c1_i32_504 : BitVec 32 := 1#32
  let arg9 : BitVec 32 := Scf.iv c0_i32_502 c1_i32_504 k1_t48
  let c16_i32 : BitVec 32 := 16#32
  let v526 : BitVec 32 := Scalar.muli arg9 c16_i32
  let v527 : BitVec 32 := Scalar.addi c1920_i32_877 v526
  let v528 : Index := Scalar.indexCast v527
  ![v528.toNat]
def k1_off98 (k1_t48 : Fin k1_t48_loop.trips) : Fin 2 → Nat :=
  let c15_i32_879 : BitVec 32 := 15#32
  let v533 : Index := Scalar.indexCast c15_i32_879
  let c0_i32_502 : BitVec 32 := 0#32
  let c1_i32_504 : BitVec 32 := 1#32
  let arg9 : BitVec 32 := Scf.iv c0_i32_502 c1_i32_504 k1_t48
  let c16_i32_878 : BitVec 32 := 16#32
  let v532 : BitVec 32 := Scalar.muli arg9 c16_i32_878
  let v534 : Index := Scalar.indexCast v532
  ![15, v534.toNat]
@[reducible] def k1_t49_loop : Scf.Loop 32 :=
  let c0_i32_654 : BitVec 32 := 0#32
  let c8_i32_655 : BitVec 32 := 8#32
  let v398 : BitVec 32 := Scalar.addi c0_i32_654 c8_i32_655
  let c1_i32_656 : BitVec 32 := 1#32
  ⟨c0_i32_654, v398, c1_i32_656⟩
def k1_off99 (k1_t49 : Fin k1_t49_loop.trips) : Fin 1 → Nat :=
  let c0_i32_877 : BitVec 32 := 0#32
  let c0_i32_654 : BitVec 32 := 0#32
  let c1_i32_656 : BitVec 32 := 1#32
  let arg9 : BitVec 32 := Scf.iv c0_i32_654 c1_i32_656 k1_t49
  let c16_i32 : BitVec 32 := 16#32
  let v526 : BitVec 32 := Scalar.muli arg9 c16_i32
  let v527 : BitVec 32 := Scalar.addi c0_i32_877 v526
  let v528 : Index := Scalar.indexCast v527
  ![v528.toNat]
def k1_off100 (k1_t49 : Fin k1_t49_loop.trips) : Fin 2 → Nat :=
  let c0_i32_879 : BitVec 32 := 0#32
  let v533 : Index := Scalar.indexCast c0_i32_879
  let c0_i32_654 : BitVec 32 := 0#32
  let c1_i32_656 : BitVec 32 := 1#32
  let arg9 : BitVec 32 := Scf.iv c0_i32_654 c1_i32_656 k1_t49
  let c16_i32_878 : BitVec 32 := 16#32
  let v532 : BitVec 32 := Scalar.muli arg9 c16_i32_878
  let v534 : Index := Scalar.indexCast v532
  ![0, v534.toNat]
@[reducible] def k1_t50_loop : Scf.Loop 32 :=
  let c0_i32_659 : BitVec 32 := 0#32
  let c8_i32_660 : BitVec 32 := 8#32
  let v399 : BitVec 32 := Scalar.addi c0_i32_659 c8_i32_660
  let c1_i32_661 : BitVec 32 := 1#32
  ⟨c0_i32_659, v399, c1_i32_661⟩
def k1_off101 (k1_t50 : Fin k1_t50_loop.trips) : Fin 1 → Nat :=
  let c128_i32_877 : BitVec 32 := 128#32
  let c0_i32_659 : BitVec 32 := 0#32
  let c1_i32_661 : BitVec 32 := 1#32
  let arg9 : BitVec 32 := Scf.iv c0_i32_659 c1_i32_661 k1_t50
  let c16_i32 : BitVec 32 := 16#32
  let v526 : BitVec 32 := Scalar.muli arg9 c16_i32
  let v527 : BitVec 32 := Scalar.addi c128_i32_877 v526
  let v528 : Index := Scalar.indexCast v527
  ![v528.toNat]
def k1_off102 (k1_t50 : Fin k1_t50_loop.trips) : Fin 2 → Nat :=
  let c1_i32_879 : BitVec 32 := 1#32
  let v533 : Index := Scalar.indexCast c1_i32_879
  let c0_i32_659 : BitVec 32 := 0#32
  let c1_i32_661 : BitVec 32 := 1#32
  let arg9 : BitVec 32 := Scf.iv c0_i32_659 c1_i32_661 k1_t50
  let c16_i32_878 : BitVec 32 := 16#32
  let v532 : BitVec 32 := Scalar.muli arg9 c16_i32_878
  let v534 : Index := Scalar.indexCast v532
  ![1, v534.toNat]
@[reducible] def k1_t51_loop : Scf.Loop 32 :=
  let c0_i32_664 : BitVec 32 := 0#32
  let c8_i32_665 : BitVec 32 := 8#32
  let v400 : BitVec 32 := Scalar.addi c0_i32_664 c8_i32_665
  let c1_i32_666 : BitVec 32 := 1#32
  ⟨c0_i32_664, v400, c1_i32_666⟩
def k1_off103 (k1_t51 : Fin k1_t51_loop.trips) : Fin 1 → Nat :=
  let c256_i32_877 : BitVec 32 := 256#32
  let c0_i32_664 : BitVec 32 := 0#32
  let c1_i32_666 : BitVec 32 := 1#32
  let arg9 : BitVec 32 := Scf.iv c0_i32_664 c1_i32_666 k1_t51
  let c16_i32 : BitVec 32 := 16#32
  let v526 : BitVec 32 := Scalar.muli arg9 c16_i32
  let v527 : BitVec 32 := Scalar.addi c256_i32_877 v526
  let v528 : Index := Scalar.indexCast v527
  ![v528.toNat]
def k1_off104 (k1_t51 : Fin k1_t51_loop.trips) : Fin 2 → Nat :=
  let c2_i32_879 : BitVec 32 := 2#32
  let v533 : Index := Scalar.indexCast c2_i32_879
  let c0_i32_664 : BitVec 32 := 0#32
  let c1_i32_666 : BitVec 32 := 1#32
  let arg9 : BitVec 32 := Scf.iv c0_i32_664 c1_i32_666 k1_t51
  let c16_i32_878 : BitVec 32 := 16#32
  let v532 : BitVec 32 := Scalar.muli arg9 c16_i32_878
  let v534 : Index := Scalar.indexCast v532
  ![2, v534.toNat]
@[reducible] def k1_t52_loop : Scf.Loop 32 :=
  let c0_i32_669 : BitVec 32 := 0#32
  let c8_i32_670 : BitVec 32 := 8#32
  let v401 : BitVec 32 := Scalar.addi c0_i32_669 c8_i32_670
  let c1_i32_671 : BitVec 32 := 1#32
  ⟨c0_i32_669, v401, c1_i32_671⟩
def k1_off105 (k1_t52 : Fin k1_t52_loop.trips) : Fin 1 → Nat :=
  let c384_i32_877 : BitVec 32 := 384#32
  let c0_i32_669 : BitVec 32 := 0#32
  let c1_i32_671 : BitVec 32 := 1#32
  let arg9 : BitVec 32 := Scf.iv c0_i32_669 c1_i32_671 k1_t52
  let c16_i32 : BitVec 32 := 16#32
  let v526 : BitVec 32 := Scalar.muli arg9 c16_i32
  let v527 : BitVec 32 := Scalar.addi c384_i32_877 v526
  let v528 : Index := Scalar.indexCast v527
  ![v528.toNat]
def k1_off106 (k1_t52 : Fin k1_t52_loop.trips) : Fin 2 → Nat :=
  let c3_i32_879 : BitVec 32 := 3#32
  let v533 : Index := Scalar.indexCast c3_i32_879
  let c0_i32_669 : BitVec 32 := 0#32
  let c1_i32_671 : BitVec 32 := 1#32
  let arg9 : BitVec 32 := Scf.iv c0_i32_669 c1_i32_671 k1_t52
  let c16_i32_878 : BitVec 32 := 16#32
  let v532 : BitVec 32 := Scalar.muli arg9 c16_i32_878
  let v534 : Index := Scalar.indexCast v532
  ![3, v534.toNat]
@[reducible] def k1_t53_loop : Scf.Loop 32 :=
  let c0_i32_674 : BitVec 32 := 0#32
  let c8_i32_675 : BitVec 32 := 8#32
  let v402 : BitVec 32 := Scalar.addi c0_i32_674 c8_i32_675
  let c1_i32_676 : BitVec 32 := 1#32
  ⟨c0_i32_674, v402, c1_i32_676⟩
def k1_off107 (k1_t53 : Fin k1_t53_loop.trips) : Fin 1 → Nat :=
  let c512_i32_877 : BitVec 32 := 512#32
  let c0_i32_674 : BitVec 32 := 0#32
  let c1_i32_676 : BitVec 32 := 1#32
  let arg9 : BitVec 32 := Scf.iv c0_i32_674 c1_i32_676 k1_t53
  let c16_i32 : BitVec 32 := 16#32
  let v526 : BitVec 32 := Scalar.muli arg9 c16_i32
  let v527 : BitVec 32 := Scalar.addi c512_i32_877 v526
  let v528 : Index := Scalar.indexCast v527
  ![v528.toNat]
def k1_off108 (k1_t53 : Fin k1_t53_loop.trips) : Fin 2 → Nat :=
  let c4_i32_879 : BitVec 32 := 4#32
  let v533 : Index := Scalar.indexCast c4_i32_879
  let c0_i32_674 : BitVec 32 := 0#32
  let c1_i32_676 : BitVec 32 := 1#32
  let arg9 : BitVec 32 := Scf.iv c0_i32_674 c1_i32_676 k1_t53
  let c16_i32_878 : BitVec 32 := 16#32
  let v532 : BitVec 32 := Scalar.muli arg9 c16_i32_878
  let v534 : Index := Scalar.indexCast v532
  ![4, v534.toNat]
@[reducible] def k1_t54_loop : Scf.Loop 32 :=
  let c0_i32_679 : BitVec 32 := 0#32
  let c8_i32_680 : BitVec 32 := 8#32
  let v403 : BitVec 32 := Scalar.addi c0_i32_679 c8_i32_680
  let c1_i32_681 : BitVec 32 := 1#32
  ⟨c0_i32_679, v403, c1_i32_681⟩
def k1_off109 (k1_t54 : Fin k1_t54_loop.trips) : Fin 1 → Nat :=
  let c640_i32_877 : BitVec 32 := 640#32
  let c0_i32_679 : BitVec 32 := 0#32
  let c1_i32_681 : BitVec 32 := 1#32
  let arg9 : BitVec 32 := Scf.iv c0_i32_679 c1_i32_681 k1_t54
  let c16_i32 : BitVec 32 := 16#32
  let v526 : BitVec 32 := Scalar.muli arg9 c16_i32
  let v527 : BitVec 32 := Scalar.addi c640_i32_877 v526
  let v528 : Index := Scalar.indexCast v527
  ![v528.toNat]
def k1_off110 (k1_t54 : Fin k1_t54_loop.trips) : Fin 2 → Nat :=
  let c5_i32_879 : BitVec 32 := 5#32
  let v533 : Index := Scalar.indexCast c5_i32_879
  let c0_i32_679 : BitVec 32 := 0#32
  let c1_i32_681 : BitVec 32 := 1#32
  let arg9 : BitVec 32 := Scf.iv c0_i32_679 c1_i32_681 k1_t54
  let c16_i32_878 : BitVec 32 := 16#32
  let v532 : BitVec 32 := Scalar.muli arg9 c16_i32_878
  let v534 : Index := Scalar.indexCast v532
  ![5, v534.toNat]
@[reducible] def k1_t55_loop : Scf.Loop 32 :=
  let c0_i32_684 : BitVec 32 := 0#32
  let c8_i32_685 : BitVec 32 := 8#32
  let v404 : BitVec 32 := Scalar.addi c0_i32_684 c8_i32_685
  let c1_i32_686 : BitVec 32 := 1#32
  ⟨c0_i32_684, v404, c1_i32_686⟩
def k1_off111 (k1_t55 : Fin k1_t55_loop.trips) : Fin 1 → Nat :=
  let c768_i32_877 : BitVec 32 := 768#32
  let c0_i32_684 : BitVec 32 := 0#32
  let c1_i32_686 : BitVec 32 := 1#32
  let arg9 : BitVec 32 := Scf.iv c0_i32_684 c1_i32_686 k1_t55
  let c16_i32 : BitVec 32 := 16#32
  let v526 : BitVec 32 := Scalar.muli arg9 c16_i32
  let v527 : BitVec 32 := Scalar.addi c768_i32_877 v526
  let v528 : Index := Scalar.indexCast v527
  ![v528.toNat]
def k1_off112 (k1_t55 : Fin k1_t55_loop.trips) : Fin 2 → Nat :=
  let c6_i32_879 : BitVec 32 := 6#32
  let v533 : Index := Scalar.indexCast c6_i32_879
  let c0_i32_684 : BitVec 32 := 0#32
  let c1_i32_686 : BitVec 32 := 1#32
  let arg9 : BitVec 32 := Scf.iv c0_i32_684 c1_i32_686 k1_t55
  let c16_i32_878 : BitVec 32 := 16#32
  let v532 : BitVec 32 := Scalar.muli arg9 c16_i32_878
  let v534 : Index := Scalar.indexCast v532
  ![6, v534.toNat]
@[reducible] def k1_t56_loop : Scf.Loop 32 :=
  let c0_i32_689 : BitVec 32 := 0#32
  let c8_i32_690 : BitVec 32 := 8#32
  let v405 : BitVec 32 := Scalar.addi c0_i32_689 c8_i32_690
  let c1_i32_691 : BitVec 32 := 1#32
  ⟨c0_i32_689, v405, c1_i32_691⟩
def k1_off113 (k1_t56 : Fin k1_t56_loop.trips) : Fin 1 → Nat :=
  let c896_i32_877 : BitVec 32 := 896#32
  let c0_i32_689 : BitVec 32 := 0#32
  let c1_i32_691 : BitVec 32 := 1#32
  let arg9 : BitVec 32 := Scf.iv c0_i32_689 c1_i32_691 k1_t56
  let c16_i32 : BitVec 32 := 16#32
  let v526 : BitVec 32 := Scalar.muli arg9 c16_i32
  let v527 : BitVec 32 := Scalar.addi c896_i32_877 v526
  let v528 : Index := Scalar.indexCast v527
  ![v528.toNat]
def k1_off114 (k1_t56 : Fin k1_t56_loop.trips) : Fin 2 → Nat :=
  let c7_i32_879 : BitVec 32 := 7#32
  let v533 : Index := Scalar.indexCast c7_i32_879
  let c0_i32_689 : BitVec 32 := 0#32
  let c1_i32_691 : BitVec 32 := 1#32
  let arg9 : BitVec 32 := Scf.iv c0_i32_689 c1_i32_691 k1_t56
  let c16_i32_878 : BitVec 32 := 16#32
  let v532 : BitVec 32 := Scalar.muli arg9 c16_i32_878
  let v534 : Index := Scalar.indexCast v532
  ![7, v534.toNat]
@[reducible] def k1_t57_loop : Scf.Loop 32 :=
  let c0_i32_694 : BitVec 32 := 0#32
  let c8_i32_695 : BitVec 32 := 8#32
  let v406 : BitVec 32 := Scalar.addi c0_i32_694 c8_i32_695
  let c1_i32_696 : BitVec 32 := 1#32
  ⟨c0_i32_694, v406, c1_i32_696⟩
def k1_off115 (k1_t57 : Fin k1_t57_loop.trips) : Fin 1 → Nat :=
  let c1024_i32_877 : BitVec 32 := 1024#32
  let c0_i32_694 : BitVec 32 := 0#32
  let c1_i32_696 : BitVec 32 := 1#32
  let arg9 : BitVec 32 := Scf.iv c0_i32_694 c1_i32_696 k1_t57
  let c16_i32 : BitVec 32 := 16#32
  let v526 : BitVec 32 := Scalar.muli arg9 c16_i32
  let v527 : BitVec 32 := Scalar.addi c1024_i32_877 v526
  let v528 : Index := Scalar.indexCast v527
  ![v528.toNat]
def k1_off116 (k1_t57 : Fin k1_t57_loop.trips) : Fin 2 → Nat :=
  let c8_i32_879 : BitVec 32 := 8#32
  let v533 : Index := Scalar.indexCast c8_i32_879
  let c0_i32_694 : BitVec 32 := 0#32
  let c1_i32_696 : BitVec 32 := 1#32
  let arg9 : BitVec 32 := Scf.iv c0_i32_694 c1_i32_696 k1_t57
  let c16_i32_878 : BitVec 32 := 16#32
  let v532 : BitVec 32 := Scalar.muli arg9 c16_i32_878
  let v534 : Index := Scalar.indexCast v532
  ![8, v534.toNat]
@[reducible] def k1_t58_loop : Scf.Loop 32 :=
  let c0_i32_699 : BitVec 32 := 0#32
  let c8_i32_700 : BitVec 32 := 8#32
  let v407 : BitVec 32 := Scalar.addi c0_i32_699 c8_i32_700
  let c1_i32_701 : BitVec 32 := 1#32
  ⟨c0_i32_699, v407, c1_i32_701⟩
def k1_off117 (k1_t58 : Fin k1_t58_loop.trips) : Fin 1 → Nat :=
  let c1152_i32_877 : BitVec 32 := 1152#32
  let c0_i32_699 : BitVec 32 := 0#32
  let c1_i32_701 : BitVec 32 := 1#32
  let arg9 : BitVec 32 := Scf.iv c0_i32_699 c1_i32_701 k1_t58
  let c16_i32 : BitVec 32 := 16#32
  let v526 : BitVec 32 := Scalar.muli arg9 c16_i32
  let v527 : BitVec 32 := Scalar.addi c1152_i32_877 v526
  let v528 : Index := Scalar.indexCast v527
  ![v528.toNat]
def k1_off118 (k1_t58 : Fin k1_t58_loop.trips) : Fin 2 → Nat :=
  let c9_i32_879 : BitVec 32 := 9#32
  let v533 : Index := Scalar.indexCast c9_i32_879
  let c0_i32_699 : BitVec 32 := 0#32
  let c1_i32_701 : BitVec 32 := 1#32
  let arg9 : BitVec 32 := Scf.iv c0_i32_699 c1_i32_701 k1_t58
  let c16_i32_878 : BitVec 32 := 16#32
  let v532 : BitVec 32 := Scalar.muli arg9 c16_i32_878
  let v534 : Index := Scalar.indexCast v532
  ![9, v534.toNat]
@[reducible] def k1_t59_loop : Scf.Loop 32 :=
  let c0_i32_704 : BitVec 32 := 0#32
  let c8_i32_705 : BitVec 32 := 8#32
  let v408 : BitVec 32 := Scalar.addi c0_i32_704 c8_i32_705
  let c1_i32_706 : BitVec 32 := 1#32
  ⟨c0_i32_704, v408, c1_i32_706⟩
def k1_off119 (k1_t59 : Fin k1_t59_loop.trips) : Fin 1 → Nat :=
  let c1280_i32_877 : BitVec 32 := 1280#32
  let c0_i32_704 : BitVec 32 := 0#32
  let c1_i32_706 : BitVec 32 := 1#32
  let arg9 : BitVec 32 := Scf.iv c0_i32_704 c1_i32_706 k1_t59
  let c16_i32 : BitVec 32 := 16#32
  let v526 : BitVec 32 := Scalar.muli arg9 c16_i32
  let v527 : BitVec 32 := Scalar.addi c1280_i32_877 v526
  let v528 : Index := Scalar.indexCast v527
  ![v528.toNat]
def k1_off120 (k1_t59 : Fin k1_t59_loop.trips) : Fin 2 → Nat :=
  let c10_i32_879 : BitVec 32 := 10#32
  let v533 : Index := Scalar.indexCast c10_i32_879
  let c0_i32_704 : BitVec 32 := 0#32
  let c1_i32_706 : BitVec 32 := 1#32
  let arg9 : BitVec 32 := Scf.iv c0_i32_704 c1_i32_706 k1_t59
  let c16_i32_878 : BitVec 32 := 16#32
  let v532 : BitVec 32 := Scalar.muli arg9 c16_i32_878
  let v534 : Index := Scalar.indexCast v532
  ![10, v534.toNat]
@[reducible] def k1_t60_loop : Scf.Loop 32 :=
  let c0_i32_709 : BitVec 32 := 0#32
  let c8_i32_710 : BitVec 32 := 8#32
  let v409 : BitVec 32 := Scalar.addi c0_i32_709 c8_i32_710
  let c1_i32_711 : BitVec 32 := 1#32
  ⟨c0_i32_709, v409, c1_i32_711⟩
def k1_off121 (k1_t60 : Fin k1_t60_loop.trips) : Fin 1 → Nat :=
  let c1408_i32_877 : BitVec 32 := 1408#32
  let c0_i32_709 : BitVec 32 := 0#32
  let c1_i32_711 : BitVec 32 := 1#32
  let arg9 : BitVec 32 := Scf.iv c0_i32_709 c1_i32_711 k1_t60
  let c16_i32 : BitVec 32 := 16#32
  let v526 : BitVec 32 := Scalar.muli arg9 c16_i32
  let v527 : BitVec 32 := Scalar.addi c1408_i32_877 v526
  let v528 : Index := Scalar.indexCast v527
  ![v528.toNat]
def k1_off122 (k1_t60 : Fin k1_t60_loop.trips) : Fin 2 → Nat :=
  let c11_i32_879 : BitVec 32 := 11#32
  let v533 : Index := Scalar.indexCast c11_i32_879
  let c0_i32_709 : BitVec 32 := 0#32
  let c1_i32_711 : BitVec 32 := 1#32
  let arg9 : BitVec 32 := Scf.iv c0_i32_709 c1_i32_711 k1_t60
  let c16_i32_878 : BitVec 32 := 16#32
  let v532 : BitVec 32 := Scalar.muli arg9 c16_i32_878
  let v534 : Index := Scalar.indexCast v532
  ![11, v534.toNat]
@[reducible] def k1_t61_loop : Scf.Loop 32 :=
  let c0_i32_714 : BitVec 32 := 0#32
  let c8_i32_715 : BitVec 32 := 8#32
  let v410 : BitVec 32 := Scalar.addi c0_i32_714 c8_i32_715
  let c1_i32_716 : BitVec 32 := 1#32
  ⟨c0_i32_714, v410, c1_i32_716⟩
def k1_off123 (k1_t61 : Fin k1_t61_loop.trips) : Fin 1 → Nat :=
  let c1536_i32_877 : BitVec 32 := 1536#32
  let c0_i32_714 : BitVec 32 := 0#32
  let c1_i32_716 : BitVec 32 := 1#32
  let arg9 : BitVec 32 := Scf.iv c0_i32_714 c1_i32_716 k1_t61
  let c16_i32 : BitVec 32 := 16#32
  let v526 : BitVec 32 := Scalar.muli arg9 c16_i32
  let v527 : BitVec 32 := Scalar.addi c1536_i32_877 v526
  let v528 : Index := Scalar.indexCast v527
  ![v528.toNat]
def k1_off124 (k1_t61 : Fin k1_t61_loop.trips) : Fin 2 → Nat :=
  let c12_i32_879 : BitVec 32 := 12#32
  let v533 : Index := Scalar.indexCast c12_i32_879
  let c0_i32_714 : BitVec 32 := 0#32
  let c1_i32_716 : BitVec 32 := 1#32
  let arg9 : BitVec 32 := Scf.iv c0_i32_714 c1_i32_716 k1_t61
  let c16_i32_878 : BitVec 32 := 16#32
  let v532 : BitVec 32 := Scalar.muli arg9 c16_i32_878
  let v534 : Index := Scalar.indexCast v532
  ![12, v534.toNat]
@[reducible] def k1_t62_loop : Scf.Loop 32 :=
  let c0_i32_719 : BitVec 32 := 0#32
  let c8_i32_720 : BitVec 32 := 8#32
  let v411 : BitVec 32 := Scalar.addi c0_i32_719 c8_i32_720
  let c1_i32_721 : BitVec 32 := 1#32
  ⟨c0_i32_719, v411, c1_i32_721⟩
def k1_off125 (k1_t62 : Fin k1_t62_loop.trips) : Fin 1 → Nat :=
  let c1664_i32_877 : BitVec 32 := 1664#32
  let c0_i32_719 : BitVec 32 := 0#32
  let c1_i32_721 : BitVec 32 := 1#32
  let arg9 : BitVec 32 := Scf.iv c0_i32_719 c1_i32_721 k1_t62
  let c16_i32 : BitVec 32 := 16#32
  let v526 : BitVec 32 := Scalar.muli arg9 c16_i32
  let v527 : BitVec 32 := Scalar.addi c1664_i32_877 v526
  let v528 : Index := Scalar.indexCast v527
  ![v528.toNat]
def k1_off126 (k1_t62 : Fin k1_t62_loop.trips) : Fin 2 → Nat :=
  let c13_i32_879 : BitVec 32 := 13#32
  let v533 : Index := Scalar.indexCast c13_i32_879
  let c0_i32_719 : BitVec 32 := 0#32
  let c1_i32_721 : BitVec 32 := 1#32
  let arg9 : BitVec 32 := Scf.iv c0_i32_719 c1_i32_721 k1_t62
  let c16_i32_878 : BitVec 32 := 16#32
  let v532 : BitVec 32 := Scalar.muli arg9 c16_i32_878
  let v534 : Index := Scalar.indexCast v532
  ![13, v534.toNat]
@[reducible] def k1_t63_loop : Scf.Loop 32 :=
  let c0_i32_724 : BitVec 32 := 0#32
  let c8_i32_725 : BitVec 32 := 8#32
  let v412 : BitVec 32 := Scalar.addi c0_i32_724 c8_i32_725
  let c1_i32_726 : BitVec 32 := 1#32
  ⟨c0_i32_724, v412, c1_i32_726⟩
def k1_off127 (k1_t63 : Fin k1_t63_loop.trips) : Fin 1 → Nat :=
  let c1792_i32_877 : BitVec 32 := 1792#32
  let c0_i32_724 : BitVec 32 := 0#32
  let c1_i32_726 : BitVec 32 := 1#32
  let arg9 : BitVec 32 := Scf.iv c0_i32_724 c1_i32_726 k1_t63
  let c16_i32 : BitVec 32 := 16#32
  let v526 : BitVec 32 := Scalar.muli arg9 c16_i32
  let v527 : BitVec 32 := Scalar.addi c1792_i32_877 v526
  let v528 : Index := Scalar.indexCast v527
  ![v528.toNat]
def k1_off128 (k1_t63 : Fin k1_t63_loop.trips) : Fin 2 → Nat :=
  let c14_i32_879 : BitVec 32 := 14#32
  let v533 : Index := Scalar.indexCast c14_i32_879
  let c0_i32_724 : BitVec 32 := 0#32
  let c1_i32_726 : BitVec 32 := 1#32
  let arg9 : BitVec 32 := Scf.iv c0_i32_724 c1_i32_726 k1_t63
  let c16_i32_878 : BitVec 32 := 16#32
  let v532 : BitVec 32 := Scalar.muli arg9 c16_i32_878
  let v534 : Index := Scalar.indexCast v532
  ![14, v534.toNat]
@[reducible] def k1_t64_loop : Scf.Loop 32 :=
  let c0_i32_729 : BitVec 32 := 0#32
  let c8_i32_730 : BitVec 32 := 8#32
  let v413 : BitVec 32 := Scalar.addi c0_i32_729 c8_i32_730
  let c1_i32_731 : BitVec 32 := 1#32
  ⟨c0_i32_729, v413, c1_i32_731⟩
def k1_off129 (k1_t64 : Fin k1_t64_loop.trips) : Fin 1 → Nat :=
  let c1920_i32_877 : BitVec 32 := 1920#32
  let c0_i32_729 : BitVec 32 := 0#32
  let c1_i32_731 : BitVec 32 := 1#32
  let arg9 : BitVec 32 := Scf.iv c0_i32_729 c1_i32_731 k1_t64
  let c16_i32 : BitVec 32 := 16#32
  let v526 : BitVec 32 := Scalar.muli arg9 c16_i32
  let v527 : BitVec 32 := Scalar.addi c1920_i32_877 v526
  let v528 : Index := Scalar.indexCast v527
  ![v528.toNat]
def k1_off130 (k1_t64 : Fin k1_t64_loop.trips) : Fin 2 → Nat :=
  let c15_i32_879 : BitVec 32 := 15#32
  let v533 : Index := Scalar.indexCast c15_i32_879
  let c0_i32_729 : BitVec 32 := 0#32
  let c1_i32_731 : BitVec 32 := 1#32
  let arg9 : BitVec 32 := Scf.iv c0_i32_729 c1_i32_731 k1_t64
  let c16_i32_878 : BitVec 32 := 16#32
  let v532 : BitVec 32 := Scalar.muli arg9 c16_i32_878
  let v534 : Index := Scalar.indexCast v532
  ![15, v534.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S32x4x2048 : Shape := ⟨3, ![32, 4, 2048]⟩
abbrev S32x2048x128 : Shape := ⟨3, ![32, 2048, 128]⟩
abbrev S32x8192x128 : Shape := ⟨3, ![32, 8192, 128]⟩
abbrev S4 : Shape := ⟨1, ![4]⟩
abbrev S_ : Shape := ⟨0, ![]⟩
abbrev S1x4x1 : Shape := ⟨3, ![1, 4, 1]⟩
abbrev S32x8192 : Shape := ⟨2, ![32, 8192]⟩
abbrev S8192 : Shape := ⟨1, ![8192]⟩
abbrev S1x8192 : Shape := ⟨2, ![1, 8192]⟩
abbrev S32x8192x1 : Shape := ⟨3, ![32, 8192, 1]⟩
abbrev S1 : Shape := ⟨1, ![1]⟩
abbrev S1x1x1 : Shape := ⟨3, ![1, 1, 1]⟩
abbrev S262144 : Shape := ⟨1, ![262144]⟩
abbrev S262144x128 : Shape := ⟨2, ![262144, 128]⟩

abbrev nBuf : Space → Nat
  | .hbm => 119
  | .vmem => 0
  | .smem => 0
  | _ => 0

abbrev bufTy : (tb : Table) → Fin (tcTables nBuf tb) → BufTy
  | .hbm, ⟨0, _⟩ => ⟨S32x4x2048, .i32⟩
  | .hbm, ⟨1, _⟩ => ⟨S32x2048x128, .f32⟩
  | .hbm, ⟨2, _⟩ => ⟨S32x8192x128, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4x1, .i32⟩
  | .hbm, ⟨8, _⟩ => ⟨S32x4x2048, .i32⟩
  | .hbm, ⟨9, _⟩ => ⟨S32x4x2048, .i32⟩
  | .hbm, ⟨10, _⟩ => ⟨S32x8192, .i32⟩
  | .hbm, ⟨11, _⟩ => ⟨S8192, .i32⟩
  | .hbm, ⟨12, _⟩ => ⟨S1x8192, .i32⟩
  | .hbm, ⟨13, _⟩ => ⟨S32x8192, .i32⟩
  | .hbm, ⟨14, _⟩ => ⟨S_, .i32⟩
  | .hbm, ⟨15, _⟩ => ⟨S32x8192, .i32⟩
  | .hbm, ⟨16, _⟩ => ⟨S32x8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S32x8192, .i32⟩
  | .hbm, ⟨24, _⟩ => ⟨S32x8192, .i32⟩
  | .hbm, ⟨25, _⟩ => ⟨S_, .i32⟩
  | .hbm, ⟨26, _⟩ => ⟨S32x8192, .i32⟩
  | .hbm, ⟨27, _⟩ => ⟨S32x8192, .i1⟩
  | .hbm, ⟨28, _⟩ => ⟨S_, .i32⟩
  | .hbm, ⟨29, _⟩ => ⟨S32x8192, .i32⟩
  | .hbm, ⟨30, _⟩ => ⟨S32x8192, .i1⟩
  | .hbm, ⟨31, _⟩ => ⟨S_, .i32⟩
  | .hbm, ⟨32, _⟩ => ⟨S_, .i1⟩
  | .hbm, ⟨33, _⟩ => ⟨S32x8192, .i1⟩
  | .hbm, ⟨34, _⟩ => ⟨S32x8192, .i1⟩
  | .hbm, ⟨35, _⟩ => ⟨S32x8192, .i1⟩
  | .hbm, ⟨36, _⟩ => ⟨S32x8192, .i32⟩
  | .hbm, ⟨37, _⟩ => ⟨S32x8192, .i32⟩
  | .hbm, ⟨38, _⟩ => ⟨S32x8192, .i32⟩
  | .hbm, ⟨39, _⟩ => ⟨S32x8192, .i32⟩
  | .hbm, ⟨40, _⟩ => ⟨S32x8192, .i32⟩
  | .hbm, ⟨41, _⟩ => ⟨S32x8192, .i32⟩
  | .hbm, ⟨42, _⟩ => ⟨S32x8192, .i32⟩
  | .hbm, ⟨43, _⟩ => ⟨S32x8192, .i32⟩
  | .hbm, ⟨44, _⟩ => ⟨S32x8192, .i32⟩
  | .hbm, ⟨45, _⟩ => ⟨S32x8192, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S32x8192, .i32⟩
  | .hbm, ⟨53, _⟩ => ⟨S32x8192, .i32⟩
  | .hbm, ⟨54, _⟩ => ⟨S_, .i32⟩
  | .hbm, ⟨55, _⟩ => ⟨S32x8192, .i32⟩
  | .hbm, ⟨56, _⟩ => ⟨S32x8192, .i1⟩
  | .hbm, ⟨57, _⟩ => ⟨S_, .i32⟩
  | .hbm, ⟨58, _⟩ => ⟨S32x8192, .i32⟩
  | .hbm, ⟨59, _⟩ => ⟨S32x8192, .i1⟩
  | .hbm, ⟨60, _⟩ => ⟨S_, .i32⟩
  | .hbm, ⟨61, _⟩ => ⟨S_, .i1⟩
  | .hbm, ⟨62, _⟩ => ⟨S32x8192, .i1⟩
  | .hbm, ⟨63, _⟩ => ⟨S32x8192, .i1⟩
  | .hbm, ⟨64, _⟩ => ⟨S32x8192, .i1⟩
  | .hbm, ⟨65, _⟩ => ⟨S32x8192, .i32⟩
  | .hbm, ⟨66, _⟩ => ⟨S32x8192, .i32⟩
  | .hbm, ⟨67, _⟩ => ⟨S32x8192, .i32⟩
  | .hbm, ⟨68, _⟩ => ⟨S32x8192x1, .i32⟩
  | .hbm, ⟨69, _⟩ => ⟨S_, .i32⟩
  | .hbm, ⟨70, _⟩ => ⟨S32x8192x1, .i32⟩
  | .hbm, ⟨71, _⟩ => ⟨S32x8192x1, .i1⟩
  | .hbm, ⟨72, _⟩ => ⟨S_, .i32⟩
  | .hbm, ⟨73, _⟩ => ⟨S32x8192x1, .i32⟩
  | .hbm, ⟨74, _⟩ => ⟨S32x8192x1, .i32⟩
  | .hbm, ⟨75, _⟩ => ⟨S32x8192x1, .i32⟩
  | .hbm, ⟨76, _⟩ => ⟨S1, .i32⟩
  | .hbm, ⟨77, _⟩ => ⟨S_, .i32⟩
  | .hbm, ⟨78, _⟩ => ⟨S32x8192x1, .i32⟩
  | .hbm, ⟨79, _⟩ => ⟨S32x8192x1, .i1⟩
  | .hbm, ⟨80, _⟩ => ⟨S1x1x1, .i32⟩
  | .hbm, ⟨81, _⟩ => ⟨S32x8192x1, .i32⟩
  | .hbm, ⟨82, _⟩ => ⟨S32x8192x1, .i1⟩
  | .hbm, ⟨83, _⟩ => ⟨S32x8192x1, .i1⟩
  | .hbm, ⟨84, _⟩ => ⟨S_, .i1⟩
  | .hbm, ⟨85, _⟩ => ⟨S32x8192, .i1⟩
  | .hbm, ⟨86, _⟩ => ⟨S32x8192x128, .f32⟩
  | .hbm, ⟨87, _⟩ => ⟨S32x8192x128, .i1⟩
  | .hbm, ⟨88, _⟩ => ⟨S_, .f32⟩
  | .hbm, ⟨89, _⟩ => ⟨S32x8192x128, .f32⟩
  | .hbm, ⟨90, _⟩ => ⟨S32x8192x128, .f32⟩
  | .hbm, ⟨91, _⟩ => ⟨S32x8192x1, .i32⟩
  | .hbm, ⟨92, _⟩ => ⟨S_, .i32⟩
  | .hbm, ⟨93, _⟩ => ⟨S32x8192x1, .i32⟩
  | .hbm, ⟨94, _⟩ => ⟨S32x8192x1, .i1⟩
  | .hbm, ⟨95, _⟩ => ⟨S_, .i32⟩
  | .hbm, ⟨96, _⟩ => ⟨S32x8192x1, .i32⟩
  | .hbm, ⟨97, _⟩ => ⟨S32x8192x1, .i32⟩
  | .hbm, ⟨98, _⟩ => ⟨S32x8192x1, .i32⟩
  | .hbm, ⟨99, _⟩ => ⟨S1, .i32⟩
  | .hbm, ⟨100, _⟩ => ⟨S_, .i32⟩
  | .hbm, ⟨101, _⟩ => ⟨S32x8192x1, .i32⟩
  | .hbm, ⟨102, _⟩ => ⟨S32x8192x1, .i1⟩
  | .hbm, ⟨103, _⟩ => ⟨S1x1x1, .i32⟩
  | .hbm, ⟨104, _⟩ => ⟨S32x8192x1, .i32⟩
  | .hbm, ⟨105, _⟩ => ⟨S32x8192x1, .i1⟩
  | .hbm, ⟨106, _⟩ => ⟨S32x8192x1, .i1⟩
  | .hbm, ⟨107, _⟩ => ⟨S_, .i1⟩
  | .hbm, ⟨108, _⟩ => ⟨S32x8192, .i1⟩
  | .hbm, ⟨109, _⟩ => ⟨S32x8192x128, .f32⟩
  | .hbm, ⟨110, _⟩ => ⟨S32x8192x128, .i1⟩
  | .hbm, ⟨111, _⟩ => ⟨S_, .f32⟩
  | .hbm, ⟨112, _⟩ => ⟨S32x8192x128, .f32⟩
  | .hbm, ⟨113, _⟩ => ⟨S32x8192x128, .f32⟩
  | .hbm, ⟨114, _⟩ => ⟨S262144, .i32⟩
  | .hbm, ⟨115, _⟩ => ⟨S32x8192, .f32⟩
  | .hbm, ⟨116, _⟩ => ⟨S262144, .f32⟩
  | .hbm, ⟨117, _⟩ => ⟨S262144x128, .f32⟩
  | .hbm, ⟨118, _⟩ => ⟨S262144x128, .f32⟩
  | _, _ => ⟨S32x4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_call1_v0 : Ref sig .tc := ⟨.hbm, 40, rfl⟩
abbrev main_call1_v1_0 : Ref sig .tc := ⟨.hbm, 41, rfl⟩
abbrev main_v14 : Ref sig .tc := ⟨.hbm, 42, rfl⟩
abbrev main_call2_v0 : Ref sig .tc := ⟨.hbm, 43, rfl⟩
abbrev main_call2_v1_0 : Ref sig .tc := ⟨.hbm, 44, rfl⟩
abbrev main_v15 : Ref sig .tc := ⟨.hbm, 45, rfl⟩
abbrev main_c_2 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_1 : Ref sig .tc := ⟨.hbm, 54, rfl⟩
abbrev main_call3_v5 : Ref sig .tc := ⟨.hbm, 55, rfl⟩
abbrev main_call3_v6 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_c_3 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_v16 : Ref sig .tc := ⟨.hbm, 67, rfl⟩
abbrev main_v17 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_c_1 : Ref sig .tc := ⟨.hbm, 76, rfl⟩
abbrev main_call4_c_2 : Ref sig .tc := ⟨.hbm, 77, rfl⟩
abbrev main_call4_v5 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_c_3 : Ref sig .tc := ⟨.hbm, 84, rfl⟩
abbrev main_call4_v11 : Ref sig .tc := ⟨.hbm, 85, rfl⟩
abbrev main_call4_v12 : Ref sig .tc := ⟨.hbm, 86, rfl⟩
abbrev main_call4_v13 : Ref sig .tc := ⟨.hbm, 87, rfl⟩
abbrev main_call4_cst : Ref sig .tc := ⟨.hbm, 88, rfl⟩
abbrev main_call4_v14 : Ref sig .tc := ⟨.hbm, 89, rfl⟩
abbrev main_v18 : Ref sig .tc := ⟨.hbm, 90, rfl⟩
abbrev main_v19 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_c_1 : Ref sig .tc := ⟨.hbm, 99, rfl⟩
abbrev main_call5_c_2 : Ref sig .tc := ⟨.hbm, 100, rfl⟩
abbrev main_call5_v5 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_c_3 : Ref sig .tc := ⟨.hbm, 107, rfl⟩
abbrev main_call5_v11 : Ref sig .tc := ⟨.hbm, 108, rfl⟩
abbrev main_call5_v12 : Ref sig .tc := ⟨.hbm, 109, rfl⟩
abbrev main_call5_v13 : Ref sig .tc := ⟨.hbm, 110, rfl⟩
abbrev main_call5_cst : Ref sig .tc := ⟨.hbm, 111, rfl⟩
abbrev main_call5_v14 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩

abbrev nD : Nat := 1
abbrev τ : Topo := Topo.v7x

variable {F : FTy → Type} [FloatOps F]
-- ==== Project.lean ====
abbrev S2x2048x1024 : Shape := ⟨3, ![2, 2048, 1024]⟩
abbrev S1024x1024 : Shape := ⟨2, ![1024, 1024]⟩
abbrev S64x4x16 : Shape := ⟨3, ![64, 4, 16]⟩
abbrev S64x4x32 : Shape := ⟨3, ![64, 4, 32]⟩
abbrev S64x32x4 : Shape := ⟨3, ![64, 32, 4]⟩
abbrev S64x128 : Shape := ⟨2, ![64, 128]⟩
abbrev S32x2048x128 : Shape := ⟨3, ![32, 2048, 128]⟩
abbrev S32x4x2048 : Shape := ⟨3, ![32, 4, 2048]⟩
abbrev S1x256x1024 : Shape := ⟨3, ![1, 256, 1024]⟩
abbrev S16x256x128 : Shape := ⟨3, ![16, 256, 128]⟩
abbrev S16x4x256 : Shape := ⟨3, ![16, 4, 256]⟩
abbrev S256x1024 : Shape := ⟨2, ![256, 1024]⟩
abbrev S128x4 : Shape := ⟨2, ![128, 4]⟩
abbrev S256x64 : Shape := ⟨2, ![256, 64]⟩
abbrev S256x128 : Shape := ⟨2, ![256, 128]⟩
abbrev S1x256x128 : Shape := ⟨3, ![1, 256, 128]⟩
abbrev S256x32 : Shape := ⟨2, ![256, 32]⟩
abbrev S256x16 : Shape := ⟨2, ![256, 16]⟩
abbrev S256x8 : Shape := ⟨2, ![256, 8]⟩
abbrev S256x4 : Shape := ⟨2, ![256, 4]⟩
abbrev S4x256 : Shape := ⟨2, ![4, 256]⟩
abbrev S1x4x256 : Shape := ⟨3, ![1, 4, 256]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S64x4x16, .f32⟩
  | .hbm, ⟨4, _⟩ => ⟨S64x4x16, .f32⟩
  | .hbm, ⟨5, _⟩ => ⟨S64x4x32, .f32⟩
  | .hbm, ⟨6, _⟩ => ⟨S64x32x4, .f32⟩
  | .hbm, ⟨7, _⟩ => ⟨S64x128, .f32⟩
  | .hbm, ⟨8, _⟩ => ⟨S32x2048x128, .f32⟩
  | .hbm, ⟨9, _⟩ => ⟨S32x4x2048, .i32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S64x128, .f32⟩
  | .local _ .vmem, ⟨5, _⟩ => ⟨S16x256x128, .f32⟩
  | .local _ .vmem, ⟨6, _⟩ => ⟨S16x256x128, .f32⟩
  | .local _ .vmem, ⟨7, _⟩ => ⟨S16x4x256, .i32⟩
  | .local _ .vmem, ⟨8, _⟩ => ⟨S16x4x256, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectReferenceIdeal.lean ====
abbrev S2x2048x1024 : Shape := ⟨3, ![2, 2048, 1024]⟩
abbrev S1024x1024 : Shape := ⟨2, ![1024, 1024]⟩
abbrev S64x4x16 : Shape := ⟨3, ![64, 4, 16]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S4x16x32x2048 : Shape := ⟨4, ![4, 16, 32, 2048]⟩
abbrev S32x4x2048x16 : Shape := ⟨4, ![32, 4, 2048, 16]⟩
abbrev S32x4x2048x32 : Shape := ⟨4, ![32, 4, 2048, 32]⟩
abbrev S_ : Shape := ⟨0, ![]⟩
abbrev S32x4x2048 : Shape := ⟨3, ![32, 4, 2048]⟩
abbrev S32x2048x128 : Shape := ⟨3, ![32, 2048, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S64x4x16, .f32⟩
  | .hbm, ⟨4, _⟩ => ⟨S2x2048x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S32x2048x64, .f32⟩
  | .hbm, ⟨9, _⟩ => ⟨S2x2048x16x64, .f32⟩
  | .hbm, ⟨10, _⟩ => ⟨S2x16x2048x64, .f32⟩
  | .hbm, ⟨11, _⟩ => ⟨S32x2048x64, .f32⟩
  | .hbm, ⟨12, _⟩ => ⟨S4x16x32x2048, .f32⟩
  | .hbm, ⟨13, _⟩ => ⟨S32x4x2048x16, .f32⟩
  | .hbm, ⟨14, _⟩ => ⟨S32x4x2048x16, .f32⟩
  | .hbm, ⟨15, _⟩ => ⟨S32x4x2048x32, .f32⟩
  | .hbm, ⟨16, _⟩ => ⟨S32x4x2048x32, .i32⟩
  | .hbm, ⟨17, _⟩ => ⟨S_, .f32⟩
  | .hbm, ⟨18, _⟩ => ⟨S_, .i32⟩
  | .hbm, ⟨19, _⟩ => ⟨S32x4x2048, .f32⟩
  | .hbm, ⟨20, _⟩ => ⟨S32x4x2048, .i32⟩
  | .hbm, ⟨21, _⟩ => ⟨S32x2048x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Attend.lean ====
abbrev S262144x128 : Shape := ⟨2, ![262144, 128]⟩
abbrev S262144 : Shape := ⟨1, ![262144]⟩
abbrev S32x8192x128 : Shape := ⟨3, ![32, 8192, 128]⟩
abbrev S32x128x64 : Shape := ⟨3, ![32, 128, 64]⟩
abbrev S1x8192x128 : Shape := ⟨3, ![1, 8192, 128]⟩
abbrev S1x128x64 : Shape := ⟨3, ![1, 128, 64]⟩
abbrev S256x320 : Shape := ⟨2, ![256, 320]⟩
abbrev S1x256x128 : Shape := ⟨3, ![1, 256, 128]⟩
abbrev S256x128 : Shape := ⟨2, ![256, 128]⟩
abbrev S256x64 : Shape := ⟨2, ![256, 64]⟩
abbrev S1x64x128 : Shape := ⟨3, ![1, 64, 128]⟩
abbrev S64x128 : Shape := ⟨2, ![64, 128]⟩
abbrev S64x64 : Shape := ⟨2, ![64, 64]⟩
abbrev S320x64 : Shape := ⟨2, ![320, 64]⟩
abbrev S320 : Shape := ⟨1, ![320]⟩
abbrev S320x1 : Shape := ⟨2, ![320, 1]⟩
abbrev S1x1x64 : Shape := ⟨3, ![1, 1, 64]⟩
abbrev S1x64 : Shape := ⟨2, ![1, 64]⟩
abbrev S64x1 : Shape := ⟨2, ![64, 1]⟩
abbrev S64x256 : Shape := ⟨2, ![64, 256]⟩
abbrev S64x320 : Shape := ⟨2, ![64, 320]⟩
abbrev S192x320 : Shape := ⟨2, ![192, 320]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S262144, .f32⟩
  | .hbm, ⟨2, _⟩ => ⟨S32x8192x128, .f32⟩
  | .hbm, ⟨3, _⟩ => ⟨S32x128x64, .f32⟩
  | .hbm, ⟨4, _⟩ => ⟨S32x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x64, .f32⟩
  | .local _ .vmem, ⟨3, _⟩ => ⟨S1x128x64, .f32⟩
  | .local _ .vmem, ⟨4, _⟩ => ⟨S1x8192x128, .f32⟩
  | .local _ .vmem, ⟨5, _⟩ => ⟨S1x8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttendIdeal.lean ====
variable {F : FTy → Type} [FloatOps F] [Named F]
def κ : String → Option EReal := fun
  | "mask" => some ⊥
  | _ => none
-- ==== AttendReferenceIdeal.lean ====
abbrev S262144x128 : Shape := ⟨2, ![262144, 128]⟩
abbrev S262144 : Shape := ⟨1, ![262144]⟩
abbrev S32x128x64x128 : Shape := ⟨4, ![32, 128, 64, 128]⟩
abbrev S32x128x64x64 : Shape := ⟨4, ![32, 128, 64, 64]⟩
abbrev S32x128x64 : Shape := ⟨3, ![32, 128, 64]⟩
abbrev S_ : Shape := ⟨0, ![]⟩
abbrev S32x128x64x1 : Shape := ⟨4, ![32, 128, 64, 1]⟩
abbrev S32x1x64x64 : Shape := ⟨4, ![32, 1, 64, 64]⟩
abbrev S32x127x64x64 : Shape := ⟨4, ![32, 127, 64, 64]⟩
abbrev S32x128x128x64 : Shape := ⟨4, ![32, 128, 128, 64]⟩
abbrev S32x1x64 : Shape := ⟨3, ![32, 1, 64]⟩
abbrev S32x127x64 : Shape := ⟨3, ![32, 127, 64]⟩
abbrev S32x128x128 : Shape := ⟨3, ![32, 128, 128]⟩
abbrev S32x128x1x128 : Shape := ⟨4, ![32, 128, 1, 128]⟩
abbrev S32x8192x64 : Shape := ⟨3, ![32, 8192, 64]⟩
abbrev S32x8192x1 : Shape := ⟨3, ![32, 8192, 1]⟩
abbrev S32x8192x128 : Shape := ⟨3, ![32, 8192, 128]⟩

abbrev nBuf : Space → Nat
  | .hbm => 61
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .f32⟩
  | .hbm, ⟨2, _⟩ => ⟨S32x128x64x128, .f32⟩
  | .hbm, ⟨3, _⟩ => ⟨S32x128x64x64, .f32⟩
  | .hbm, ⟨4, _⟩ => ⟨S32x128x64x64, .f32⟩
  | .hbm, ⟨5, _⟩ => ⟨S32x128x64, .f32⟩
  | .hbm, ⟨6, _⟩ => ⟨S32x128x64x64, .f32⟩
  | .hbm, ⟨7, _⟩ => ⟨S_, .f32⟩
  | .hbm, ⟨8, _⟩ => ⟨S32x128x64, .f32⟩
  | .hbm, ⟨9, _⟩ => ⟨S32x128x64x1, .f32⟩
  | .hbm, ⟨10, _⟩ => ⟨S32x128x64x1, .f32⟩
  | .hbm, ⟨11, _⟩ => ⟨S_, .f32⟩
  | .hbm, ⟨12, _⟩ => ⟨S_, .f32⟩
  | .hbm, ⟨13, _⟩ => ⟨S32x128x64x1, .f32⟩
  | .hbm, ⟨14, _⟩ => ⟨S32x128x64x1, .f32⟩
  | .hbm, ⟨15, _⟩ => ⟨S32x128x64x64, .f32⟩
  | .hbm, ⟨16, _⟩ => ⟨S32x128x64x64, .f32⟩
  | .hbm, ⟨17, _⟩ => ⟨S32x1x64x64, .f32⟩
  | .hbm, ⟨18, _⟩ => ⟨S32x127x64x64, .f32⟩
  | .hbm, ⟨19, _⟩ => ⟨S32x128x64x64, .f32⟩
  | .hbm, ⟨20, _⟩ => ⟨S32x128x128x64, .f32⟩
  | .hbm, ⟨21, _⟩ => ⟨S32x1x64x64, .f32⟩
  | .hbm, ⟨22, _⟩ => ⟨S32x127x64x64, .f32⟩
  | .hbm, ⟨23, _⟩ => ⟨S32x128x64x64, .f32⟩
  | .hbm, ⟨24, _⟩ => ⟨S32x128x128x64, .f32⟩
  | .hbm, ⟨25, _⟩ => ⟨S32x1x64, .f32⟩
  | .hbm, ⟨26, _⟩ => ⟨S32x127x64, .f32⟩
  | .hbm, ⟨27, _⟩ => ⟨S32x128x64, .f32⟩
  | .hbm, ⟨28, _⟩ => ⟨S32x128x128, .f32⟩
  | .hbm, ⟨29, _⟩ => ⟨S32x128x64x128, .f32⟩
  | .hbm, ⟨30, _⟩ => ⟨S_, .f32⟩
  | .hbm, ⟨31, _⟩ => ⟨S32x128x64x128, .f32⟩
  | .hbm, ⟨32, _⟩ => ⟨S32x128x64x128, .f32⟩
  | .hbm, ⟨33, _⟩ => ⟨S32x128x64x1, .f32⟩
  | .hbm, ⟨34, _⟩ => ⟨S32x128x1x128, .f32⟩
  | .hbm, ⟨35, _⟩ => ⟨S32x128x64x128, .f32⟩
  | .hbm, ⟨36, _⟩ => ⟨S32x128x64x128, .f32⟩
  | .hbm, ⟨37, _⟩ => ⟨S32x128x64x128, .i1⟩
  | .hbm, ⟨38, _⟩ => ⟨S_, .f32⟩
  | .hbm, ⟨39, _⟩ => ⟨S_, .f32⟩
  | .hbm, ⟨40, _⟩ => ⟨S32x128x64x128, .f32⟩
  | .hbm, ⟨41, _⟩ => ⟨S32x128x64x128, .f32⟩
  | .hbm, ⟨42, _⟩ => ⟨S_, .f32⟩
  | .hbm, ⟨43, _⟩ => ⟨S32x128x64, .f32⟩
  | .hbm, ⟨44, _⟩ => ⟨S32x128x64x1, .f32⟩
  | .hbm, ⟨45, _⟩ => ⟨S32x128x64x128, .f32⟩
  | .hbm, ⟨46, _⟩ => ⟨S32x128x64x128, .f32⟩
  | .hbm, ⟨47, _⟩ => ⟨S32x128x64x128, .f32⟩
  | .hbm, ⟨48, _⟩ => ⟨S_, .f32⟩
  | .hbm, ⟨49, _⟩ => ⟨S32x128x64, .f32⟩
  | .hbm, ⟨50, _⟩ => ⟨S32x128x64x1, .f32⟩
  | .hbm, ⟨51, _⟩ => ⟨S32x128x64x1, .f32⟩
  | .hbm, ⟨52, _⟩ => ⟨S32x128x64x1, .f32⟩
  | .hbm, ⟨53, _⟩ => ⟨S32x128x64x128, .f32⟩
  | .hbm, ⟨54, _⟩ => ⟨S32x128x64x128, .f32⟩
  | .hbm, ⟨55, _⟩ => ⟨S32x128x64x128, .f32⟩
  | .hbm, ⟨56, _⟩ => ⟨S32x128x64x64, .f32⟩
  | .hbm, ⟨57, _⟩ => ⟨S32x8192x64, .f32⟩
  | .hbm, ⟨58, _⟩ => ⟨S32x8192x1, .f32⟩
  | .hbm, ⟨59, _⟩ => ⟨S32x8192x64, .f32⟩
  | .hbm, ⟨60, _⟩ => ⟨S32x8192x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Combine.lean ====
abbrev S262144x128 : Shape := ⟨2, ![262144, 128]⟩
abbrev S1024x1024 : Shape := ⟨2, ![1024, 1024]⟩
abbrev S1024 : Shape := ⟨1, ![1024]⟩
abbrev S32x4x2048x128 : Shape := ⟨4, ![32, 4, 2048, 128]⟩
abbrev S1x1024 : Shape := ⟨2, ![1, 1024]⟩
abbrev S2x2048x1024 : Shape := ⟨3, ![2, 2048, 1024]⟩
abbrev S16x4x256x128 : Shape := ⟨4, ![16, 4, 256, 128]⟩
abbrev S1x256x1024 : Shape := ⟨3, ![1, 256, 1024]⟩
abbrev S16x4x256x1 : Shape := ⟨4, ![16, 4, 256, 1]⟩
abbrev S16x256x1 : Shape := ⟨3, ![16, 256, 1]⟩
abbrev S16x1x256x1 : Shape := ⟨4, ![16, 1, 256, 1]⟩
abbrev S16x256x64 : Shape := ⟨3, ![16, 256, 64]⟩
abbrev S16x1x256x64 : Shape := ⟨4, ![16, 1, 256, 64]⟩
abbrev S1x256x64 : Shape := ⟨3, ![1, 256, 64]⟩
abbrev S256x64 : Shape := ⟨2, ![256, 64]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S1024x1024, .f32⟩
  | .hbm, ⟨2, _⟩ => ⟨S1024, .f32⟩
  | .hbm, ⟨3, _⟩ => ⟨S32x4x2048x128, .f32⟩
  | .hbm, ⟨4, _⟩ => ⟨S1x1024, .f32⟩
  | .hbm, ⟨5, _⟩ => ⟨S2x2048x1024, .f32⟩
  | .local _ .vmem, ⟨0, _⟩ => ⟨S16x4x256x128, .f32⟩
  | .local _ .vmem, ⟨1, _⟩ => ⟨S16x4x256x128, .f32⟩
  | .local _ .vmem, ⟨2, _⟩ => ⟨S1024x1024, .f32⟩
  | .local _ .vmem, ⟨3, _⟩ => ⟨S1x1024, .f32⟩
  | .local _ .vmem, ⟨4, _⟩ => ⟨S1x256x1024, .f32⟩
  | .local _ .vmem, ⟨5, _⟩ => ⟨S1x256x1024, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S16x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S262144x128 : Shape := ⟨2, ![262144, 128]⟩
abbrev S1024x1024 : Shape := ⟨2, ![1024, 1024]⟩
abbrev S1024 : Shape := ⟨1, ![1024]⟩
abbrev S32x4x2048x128 : Shape := ⟨4, ![32, 4, 2048, 128]⟩
abbrev S32x4x2048x64 : Shape := ⟨4, ![32, 4, 2048, 64]⟩
abbrev S32x4x2048x1 : Shape := ⟨4, ![32, 4, 2048, 1]⟩
abbrev S_ : Shape := ⟨0, ![]⟩
abbrev S32x2048x1 : Shape := ⟨3, ![32, 2048, 1]⟩
abbrev S32x1x2048x1 : Shape := ⟨4, ![32, 1, 2048, 1]⟩
abbrev S32x2048x64 : Shape := ⟨3, ![32, 2048, 64]⟩
abbrev S2x16x2048x64 : Shape := ⟨4, ![2, 16, 2048, 64]⟩
abbrev S2x2048x16x64 : Shape := ⟨4, ![2, 2048, 16, 64]⟩
abbrev S2x2048x1024 : Shape := ⟨3, ![2, 2048, 1024]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S1024x1024, .f32⟩
  | .hbm, ⟨2, _⟩ => ⟨S1024, .f32⟩
  | .hbm, ⟨3, _⟩ => ⟨S32x4x2048x128, .f32⟩
  | .hbm, ⟨4, _⟩ => ⟨S32x4x2048x64, .f32⟩
  | .hbm, ⟨5, _⟩ => ⟨S32x4x2048x1, .f32⟩
  | .hbm, ⟨6, _⟩ => ⟨S_, .f32⟩
  | .hbm, ⟨7, _⟩ => ⟨S32x2048x1, .f32⟩
  | .hbm, ⟨8, _⟩ => ⟨S32x1x2048x1, .f32⟩
  | .hbm, ⟨9, _⟩ => ⟨S32x4x2048x1, .f32⟩
  | .hbm, ⟨10, _⟩ => ⟨S32x4x2048x1, .f32⟩
  | .hbm, ⟨11, _⟩ => ⟨S32x4x2048x1, .f32⟩
  | .hbm, ⟨12, _⟩ => ⟨S_, .f32⟩
  | .hbm, ⟨13, _⟩ => ⟨S32x2048x1, .f32⟩
  | .hbm, ⟨14, _⟩ => ⟨S32x1x2048x1, .f32⟩
  | .hbm, ⟨15, _⟩ => ⟨S32x1x2048x1, .f32⟩
  | .hbm, ⟨16, _⟩ => ⟨S32x1x2048x1, .f32⟩
  | .hbm, ⟨17, _⟩ => ⟨S32x4x2048x1, .f32⟩
  | .hbm, ⟨18, _⟩ => ⟨S32x4x2048x1, .f32⟩
  | .hbm, ⟨19, _⟩ => ⟨S32x4x2048x1, .f32⟩
  | .hbm, ⟨20, _⟩ => ⟨S32x4x2048x64, .f32⟩
  | .hbm, ⟨21, _⟩ => ⟨S32x4x2048x64, .f32⟩
  | .hbm, ⟨22, _⟩ => ⟨S_, .f32⟩
  | .hbm, ⟨23, _⟩ => ⟨S32x2048x64, .f32⟩
  | .hbm, ⟨24, _⟩ => ⟨S2x16x2048x64, .f32⟩
  | .hbm, ⟨25, _⟩ => ⟨S2x2048x16x64, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Base.lean ====
/-
  The launch's set-up for the two vector-subcore kernels — the program as the launch theorem sees it, the ghost state,
  the buffers — and the steps of a tile's program that both kernels are made of: a local copy with its wait, a load, a
  store, a scatter and a gather of a scratch, each over any frame.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by fin_cases q <;> rfl⟩

/-! ## The resource algebra -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The steps of a tile's program -/

section Steps

variable [FloatOps F] (d : Dev nD) (c : Fin τ.nSC) (j : Fin τ.nSub) (O : CellTallies nD τ sig (HIx 2)) (W : Waits sig (HIx 2))

/-- What every wait of a task uses and leaves: the handshakes' levels, the subcore's own semaphores at zero, and what the
    thread owes, its record of waits grown only by waits of no call. -/
def Ctx : sProp 𝕄 :=
  iprop(levAts (K (F := F)).L (K (F := F)).lev ∗ ownSems0 (V d c j)
    ∗ ∃ W', ⌜∀ p ∈ W', p ∈ W ∨ p.2 = none⌝ ∗ owes (V d c j) O W')

/-- The program's `wp` on vector subcore `(c, j)` of device `d`. -/
abbrev WP {α : Type} (p : Prog (TpuEff nD τ sig (Elt F) Λ₀ (.scVector c j)) α) (Q : α → sProp 𝕄) : sProp 𝕄 :=
  wp frame (wpE (defs₀ (F := F)) 𝒱₀ (V d c j) none) Set.univ p Q

variable {d c j O W} {α : Type}

/-- A copy and its wait, on a semaphore of the subcore's own: the destination is written with the source's words. -/
theorem step_copy {sp sp' : Space} {s : Shape} {e : EltTy} {src : Memref sig .scVector sp s e} {dst : Memref sig .scVector sp' s e}
    {sem : DmaSem sig} {hsrc : src.view.WordExact} {hdst : dst.view.WordExact} {hsem} {hsrc' : src.view.WordExact} {hdst' : dst.view.WordExact}
    {k : PUnit → Prog (TpuEff nD τ sig (Elt F) Λ₀ (.scVector c j)) α} {q : PosShare TreeShare}
    {fs : Buf (Elt F) (src.view.loc (V d c j))} {Sd : Finset (Idx (dst.view.loc (V d c j)))} {fd : Buf (Elt F) (dst.view.loc (V d c j))}
    {S R : sProp 𝕄} {Q : α → sProp 𝕄} (hO : ∀ g, O g none = 0) (hsc : (SemLoc.dma sem : SemLoc sig).isScoped .scVector = true) (hN : 0 < dst.view.dmaCredit)
    (hSd : dst.view.set ⊆ Sd)
    (hS : S ⊢ iprop((src.view.loc (V d c j) ↦[src.view.set]{q} fs) ∗ (dst.view.loc (V d c j) ↦[Sd]{fullShare} fd) ∗ Ctx d c j O W ∗ R))
    (h : iprop((src.view.loc (V d c j) ↦[src.view.set]{q} fs)
        ∗ (dst.view.loc (V d c j) ↦[Sd]{fullShare} (dst.view.write (Elt F) fd (src.view.read (Elt F) fs) Finset.univ)) ∗ Ctx d c j O W ∗ R) ⊢ WP d c j (k ⟨⟩) Q) :
    S ⊢ WP d c j (.op (.enqueueDma src (.here dst) (.dma sem) hsrc hdst hsem) fun _ => .op (.waitDma2 sem src dst hsrc' hdst') k) Q := by
  have hmem : ((V d c j, SemLoc.dma sem) : GSem nD τ sig) ∈ ownCells (V d c j) := mem_ownCells.mpr ⟨rfl, hsc⟩
  refine hS.trans ?_
  unfold Ctx at h ⊢
  unfold SparseCore.Cfg.ownSems0 at h ⊢
  rw [SparseCore.bigSep_erase' hmem] at h ⊢
  iintro ⟨Hs, Hd, ⟨#Hlv, ⟨Hsem, Hsems⟩, %W', %hW', HO⟩, HR⟩
  ihave Hmw := ((K (F := F)).mayWaits_none (thr := V d c j) hO) $$ Hlv
  iapply (Transfers.wp_dmaLocal countersEmb 𝒱₀ (V d c j) none (default : HIx 2) dst.view.dmaCredit rfl hN hSd) $$ [Hs Hd Hsem]
  · isplitl [Hs]; · iexact Hs
    isplitl [Hd]; · iexact Hd
    iexact Hsem
  iintro Hfl
  iapply (Transfers.wp_waitLocalO countersEmb 𝒱₀ (V d c j) none (default : HIx 2) rfl) $$ [Hfl HO]
  · isplitl [Hfl]; · iexact Hfl
    isplitl [HO]; · iexact HO
    iapply (Transfers.MayWaits.elim (SemLoc.dma sem)) $$ Hmw
  iintro ⟨⟨Hd, Hs⟩, Hsem, HO⟩
  iapply h
  isplitl [Hs]; · iexact Hs
  isplitl [Hd]; · iexact Hd
  isplitl [Hsem Hsems HO]
  · isplitr; · iexact Hlv
    isplitl [Hsem Hsems]
    · isplitl [Hsem] <;> iassumption
    iexists _; isplitr
    swap; · iexact HO
    ipureintro; intro p hp
    rcases Finset.mem_insert.mp hp with hp | hp
    · exact .inr (hp ▸ rfl)
    · exact hW' p hp
  iexact HR

/-- An indirect gather and its wait, on a semaphore of the subcore's own: the destination is written with the rows that
    the list names. -/
theorem step_gather {sp : Space} {s₀ s si : Shape} {e : EltTy} {a : ℕ} {src src' : Memref sig .scVector sp s₀ e} {dst : Memref sig .scVector .vmem s e}
    {hg : s₀.Gathers a s} {offs : Memref sig .scVector .vmem si .i32} {hn : si.numel = s.size hg.axis'} {sem : DmaSem sig}
    {hp} {hsrc : src.view.WordExact} {he : e.bits = 32} {hsp : sp = .hbm ∨ sp = .shared} {hr : s₀.StreamRows a}
    {hsrc' : src'.view.WordExact} {hdst' : dst.view.WordExact}
    {k : PUnit → Prog (TpuEff nD τ sig (Elt F) Λ₀ (.scVector c j)) α} {q qo : PosShare TreeShare}
    {fs : Buf (Elt F) (src.view.loc (V d c j))} {fd : Buf (Elt F) (dst.view.loc (V d c j))} {fo : Buf (Elt F) (offs.view.loc (V d c j))}
    {S R : sProp 𝕄} {Q : α → sProp 𝕄} (hO : ∀ g, O g none = 0) (hsc : (SemLoc.dma sem : SemLoc sig).isScoped .scVector = true)
    (hN : ∑ i, (dst.slice (s.rowRect hg.axis' i) (s.stride_rowRect hg.axis' i)).view.dmaCredit = dst.view.dmaCredit)
    (hs : 0 < s.numel) (hin : ∀ x, (offs.view.read (Elt F) fo x).toNat < s₀.size hg.axis)
    (hS : S ⊢ iprop((src.view.loc (V d c j) ↦[src.view.set]{q} fs) ∗ (dst.view.loc (V d c j) ↦[dst.view.set]{fullShare} fd)
        ∗ (offs.view.loc (V d c j) ↦[offs.view.set]{qo} fo) ∗ Ctx d c j O W ∗ R))
    (h : iprop((src.view.loc (V d c j) ↦[src.view.set]{q} fs) ∗ (dst.view.loc (V d c j) ↦[dst.view.set]{fullShare}
          (dst.view.write (Elt F) fd (SparseCore.gatherPayload hg (src.view.read (Elt F) fs) (SparseCore.rows (offs.view.read (Elt F) fo) hn hin)) Finset.univ))
        ∗ (offs.view.loc (V d c j) ↦[offs.view.set]{qo} fo) ∗ Ctx d c j O W ∗ R) ⊢ WP d c j (k ⟨⟩) Q) :
    S ⊢ WP d c j (SparseCore.enqueueIndirectGather (p := Proc.scVector c j) hp src dst hg offs hn sem hsrc he hsp hr >>= fun _ => .op (.waitDma2 sem src' dst hsrc' hdst') k) Q := by
  have hmem : ((V d c j, SemLoc.dma sem) : GSem nD τ sig) ∈ ownCells (V d c j) := mem_ownCells.mpr ⟨rfl, hsc⟩
  refine hS.trans ?_
  unfold Ctx at h ⊢
  unfold SparseCore.Cfg.ownSems0 at h ⊢
  rw [SparseCore.bigSep_erase' hmem] at h ⊢
  iintro ⟨Hs, Hd, Ho, ⟨#Hlv, ⟨Hsem, Hsems⟩, %W', %hW', HO⟩, HR⟩
  ihave Hmw := ((K (F := F)).mayWaits_none (thr := V d c j) hO) $$ Hlv
  iapply (SparseCore.wp_indirectGatherLocal countersEmb 𝒱₀ (V d c j) none (hg := hg) (default : HIx 2) dst.view.dmaCredit hN hs hin) $$ [Hs Hd Ho Hsem]
  · isplitl [Hs]; · iexact Hs
    isplitl [Hd]; · iexact Hd
    isplitl [Ho]; · iexact Ho
    iexact Hsem
  iintro Hfl
  iapply (Transfers.wp_waitLocalO countersEmb 𝒱₀ (V d c j) none (default : HIx 2) rfl) $$ [Hfl HO]
  · isplitl [Hfl]; · iexact Hfl
    isplitl [HO]; · iexact HO
    iapply (Transfers.MayWaits.elim (SemLoc.dma sem)) $$ Hmw
  iintro ⟨⟨Hd, Hs, Ho⟩, Hsem, HO⟩
  iapply h
  isplitl [Hs]; · iexact Hs
  isplitl [Hd]; · iexact Hd
  isplitl [Ho]; · iexact Ho
  isplitl [Hsem Hsems HO]
  · isplitr; · iexact Hlv
    isplitl [Hsem Hsems]
    · isplitl [Hsem] <;> iassumption
    iexists _; isplitr
    swap; · iexact HO
    ipureintro; intro p hp
    rcases Finset.mem_insert.mp hp with hp | hp
    · exact .inr (hp ▸ rfl)
    · exact hW' p hp
  iexact HR

/-- `step_copy` with the source held on more than the view. -/
theorem step_copy_sub {sp sp' : Space} {s : Shape} {e : EltTy} {src : Memref sig .scVector sp s e} {dst : Memref sig .scVector sp' s e}
    {sem : DmaSem sig} {hsrc : src.view.WordExact} {hdst : dst.view.WordExact} {hsem} {hsrc' : src.view.WordExact} {hdst' : dst.view.WordExact}
    {k : PUnit → Prog (TpuEff nD τ sig (Elt F) Λ₀ (.scVector c j)) α} {q : PosShare TreeShare} {Ss : Finset (Idx (src.view.loc (V d c j)))}
    {fs : Buf (Elt F) (src.view.loc (V d c j))} {Sd : Finset (Idx (dst.view.loc (V d c j)))} {fd : Buf (Elt F) (dst.view.loc (V d c j))}
    {S R : sProp 𝕄} {Q : α → sProp 𝕄} (hO : ∀ g, O g none = 0) (hsc : (SemLoc.dma sem : SemLoc sig).isScoped .scVector = true) (hN : 0 < dst.view.dmaCredit)
    (hSs : src.view.set ⊆ Ss) (hSd : dst.view.set ⊆ Sd)
    (hS : S ⊢ iprop((src.view.loc (V d c j) ↦[Ss]{q} fs) ∗ (dst.view.loc (V d c j) ↦[Sd]{fullShare} fd) ∗ Ctx d c j O W ∗ R))
    (h : iprop((src.view.loc (V d c j) ↦[Ss]{q} fs)
        ∗ (dst.view.loc (V d c j) ↦[Sd]{fullShare} (dst.view.write (Elt F) fd (src.view.read (Elt F) fs) Finset.univ)) ∗ Ctx d c j O W ∗ R) ⊢ WP d c j (k ⟨⟩) Q) :
    S ⊢ WP d c j (.op (.enqueueDma src (.here dst) (.dma sem) hsrc hdst hsem) fun _ => .op (.waitDma2 sem src dst hsrc' hdst') k) Q := by
  refine step_copy (W := W) (q := q) (fs := fs) (Sd := Sd) (fd := fd) (R := iprop((src.view.loc (V d c j) ↦[Ss \ src.view.set]{q} fs) ∗ R)) hO hsc hN hSd ?_ ?_
  · refine hS.trans ?_
    iintro ⟨Hs, Hd, HC, HR⟩
    ihave Hs := (pointsTo_split_subset hSs).1 $$ Hs
    icases Hs with ⟨Hs, Hs'⟩
    isplitl [Hs]; · iexact Hs
    isplitl [Hd]; · iexact Hd
    isplitl [HC]; · iexact HC
    isplitl [Hs'] <;> iassumption
  · iintro ⟨Hs, Hd, HC, Hs', HR⟩
    iapply h
    isplitl [Hs Hs']
    · iapply (pointsTo_split_subset hSs).2
      isplitl [Hs] <;> iassumption
    isplitl [Hd]; · iexact Hd
    isplitl [HC] <;> iassumption

/-- `step_gather` with the table and the list held on more than their views. -/
theorem step_gather_sub {sp : Space} {s₀ s si : Shape} {e : EltTy} {a : ℕ} {src src' : Memref sig .scVector sp s₀ e} {dst : Memref sig .scVector .vmem s e}
    {hg : s₀.Gathers a s} {offs : Memref sig .scVector .vmem si .i32} {hn : si.numel = s.size hg.axis'} {sem : DmaSem sig}
    {hp} {hsrc : src.view.WordExact} {he : e.bits = 32} {hsp : sp = .hbm ∨ sp = .shared} {hr : s₀.StreamRows a}
    {hsrc' : src'.view.WordExact} {hdst' : dst.view.WordExact}
    {k : PUnit → Prog (TpuEff nD τ sig (Elt F) Λ₀ (.scVector c j)) α} {q qo : PosShare TreeShare} {Ss : Finset (Idx (src.view.loc (V d c j)))}
    {So : Finset (Idx (offs.view.loc (V d c j)))} {Sd : Finset (Idx (dst.view.loc (V d c j)))}
    {fs : Buf (Elt F) (src.view.loc (V d c j))} {fd : Buf (Elt F) (dst.view.loc (V d c j))} {fo : Buf (Elt F) (offs.view.loc (V d c j))}
    {S R : sProp 𝕄} {Q : α → sProp 𝕄} (hO : ∀ g, O g none = 0) (hsc : (SemLoc.dma sem : SemLoc sig).isScoped .scVector = true)
    (hN : ∑ i, (dst.slice (s.rowRect hg.axis' i) (s.stride_rowRect hg.axis' i)).view.dmaCredit = dst.view.dmaCredit)
    (hs : 0 < s.numel) (hin : ∀ x, (offs.view.read (Elt F) fo x).toNat < s₀.size hg.axis)
    (hSs : src.view.set ⊆ Ss) (hSo : offs.view.set ⊆ So) (hSd : dst.view.set = Sd)
    (hS : S ⊢ iprop((src.view.loc (V d c j) ↦[Ss]{q} fs) ∗ (dst.view.loc (V d c j) ↦[Sd]{fullShare} fd)
        ∗ (offs.view.loc (V d c j) ↦[So]{qo} fo) ∗ Ctx d c j O W ∗ R))
    (h : iprop((src.view.loc (V d c j) ↦[Ss]{q} fs) ∗ (dst.view.loc (V d c j) ↦[Sd]{fullShare}
          (dst.view.write (Elt F) fd (SparseCore.gatherPayload hg (src.view.read (Elt F) fs) (SparseCore.rows (offs.view.read (Elt F) fo) hn hin)) Finset.univ))
        ∗ (offs.view.loc (V d c j) ↦[So]{qo} fo) ∗ Ctx d c j O W ∗ R) ⊢ WP d c j (k ⟨⟩) Q) :
    S ⊢ WP d c j (SparseCore.enqueueIndirectGather (p := Proc.scVector c j) hp src dst hg offs hn sem hsrc he hsp hr >>= fun _ => .op (.waitDma2 sem src' dst hsrc' hdst') k) Q := by
  subst hSd
  refine step_gather (W := W) (q := q) (qo := qo) (fs := fs) (fd := fd) (fo := fo)
    (R := iprop((src.view.loc (V d c j) ↦[Ss \ src.view.set]{q} fs) ∗ (offs.view.loc (V d c j) ↦[So \ offs.view.set]{qo} fo) ∗ R)) hO hsc hN hs hin ?_ ?_
  · refine hS.trans ?_
    iintro ⟨Hs, Hd, Ho, HC, HR⟩
    ihave Hs := (pointsTo_split_subset hSs).1 $$ Hs
    icases Hs with ⟨Hs, Hs'⟩
    ihave Ho := (pointsTo_split_subset hSo).1 $$ Ho
    icases Ho with ⟨Ho, Ho'⟩
    isplitl [Hs]; · iexact Hs
    isplitl [Hd]; · iexact Hd
    isplitl [Ho]; · iexact Ho
    isplitl [HC]; · iexact HC
    isplitl [Hs']; · iexact Hs'
    isplitl [Ho'] <;> iassumption
  · iintro ⟨Hs, Hd, Ho, HC, Hs', Ho', HR⟩
    iapply h
    isplitl [Hs Hs']
    · iapply (pointsTo_split_subset hSs).2
      isplitl [Hs] <;> iassumption
    isplitl [Hd]; · iexact Hd
    isplitl [Ho Ho']
    · iapply (pointsTo_split_subset hSo).2
      isplitl [Ho] <;> iassumption
    isplitl [HC] <;> iassumption

/-- A load through a rectangle. -/
theorem step_load {cs : CoreSpace} {s : Shape} {e : EltTy} {m : Memref sig .scVector cs s e} {r : Rect s} {hl : m.view.LoadsAt r.toLoadRect}
    {k : (r.toLoadRect.shape.Idx → Elt F e) → Prog (TpuEff nD τ sig (Elt F) Λ₀ (.scVector c j)) α} {q : PosShare TreeShare}
    {f : Buf (Elt F) (m.view.loc (V d c j))} {S R : sProp 𝕄} {Q : α → sProp 𝕄}
    (hS : S ⊢ iprop((m.view.loc (V d c j) ↦{q} f) ∗ R))
    (h : iprop((m.view.loc (V d c j) ↦{q} f) ∗ R) ⊢ WP d c j (k ((m.access r).read (Elt F) f)) Q) :
    S ⊢ WP d c j (.op (.load m r.toLoadRect hl) k) Q := by
  refine hS.trans ?_
  iintro ⟨H, HR⟩
  iapply (wp_load_rect 𝒱₀ (V d c j) none Set.univ (m := m) (r := r) (S := Finset.univ) (Finset.subset_univ _)) $$ H
  iintro H
  iapply h
  isplitl [H] <;> iassumption

/-- A store through a rectangle. -/
theorem step_store {cs : CoreSpace} {s : Shape} {e : EltTy} {m : Memref sig .scVector cs s e} {r : Rect s} {w : r.shape.Idx → Elt F e} {hx hm}
    {k : PUnit → Prog (TpuEff nD τ sig (Elt F) Λ₀ (.scVector c j)) α}
    {f : Buf (Elt F) (m.view.loc (V d c j))} {S R : sProp 𝕄} {Q : α → sProp 𝕄}
    (hS : S ⊢ iprop((m.view.loc (V d c j) ↦{fullShare} f) ∗ R))
    (h : iprop((m.view.loc (V d c j) ↦{fullShare} (m.access r).write (Elt F) f w Finset.univ) ∗ R) ⊢ WP d c j (k ⟨⟩) Q) :
    S ⊢ WP d c j (.op (.store m r w Finset.univ hx hm) k) Q := by
  refine hS.trans ?_
  iintro ⟨H, HR⟩
  iapply (wp_store 𝒱₀ (V d c j) none Set.univ (m := m) (r := r) (Mk := Finset.univ) (S := Finset.univ) (Finset.subset_univ _)) $$ H
  iintro H
  iapply h
  isplitl [H] <;> iassumption

end Steps

end Cert.Proof

end
-- ==== Proof.Spec.lean ====
/-
  What the kernel is to compute, written on its own: the counting sort of one row of keys, and the arrays that the two
  launches leave, as functions of their inputs.
-/
module

public import proofs.«01_k».proof.Proof.Base

@[expose] public section

noncomputable section

namespace Cert.Proof

open Cert.KernelIdeal Cert.KernelIdeal.Gen
open Idealize.ShloMosaic

/-! ## The counting sort of 2048 keys -/

/-- How many keys of the row lie below `v`. -/
def below (κ : ℕ → ℕ) (v : ℕ) : ℕ := ((Finset.range 2048).filter fun u => κ u < v).card

/-- How many of the first `m` keys are `v`. -/
def cnt (κ : ℕ → ℕ) (m v : ℕ) : ℕ := ((Finset.range m).filter fun u => κ u = v).card

/-- The place of token `t` in the row's stable order. -/
def dest (κ : ℕ → ℕ) (t : ℕ) : ℕ := below κ (κ t) + cnt κ t (κ t)

open Classical in
/-- The token at place `p` of the row's stable order. -/
def srt (κ : ℕ → ℕ) (p : ℕ) : ℕ := if h : ∃ t, t < 2048 ∧ dest κ t = p then h.choose else 0

/-! ## Indices by numbers -/

def ix1 {d : Fin 1 → ℕ} (n : ℕ) (h : ∀ a, n < d a) : (⟨1, d⟩ : Shape).Idx := fun a => ⟨n, h a⟩

/-- Slot `n` of the 262144. -/
def slot (n : ℕ) : S262144.Idx := fun a => ⟨n % 262144, by fin_cases a; exact Nat.mod_lt _ (by decide)⟩

theorem size_S262144 (a : Fin 1) : S262144.size a = 262144 := by fin_cases a; rfl
theorem size_S2048 (a : Fin 1) : S2048.size a = 2048 := by fin_cases a; rfl
theorem size_S32 (a : Fin 1) : S32.size a = 32 := by fin_cases a; rfl
theorem size_S16 (a : Fin 1) : S16.size a = 16 := by fin_cases a; rfl
theorem size_S128 (a : Fin 1) : S128.size a = 128 := by fin_cases a; rfl

theorem lt_S262144 (i : S262144.Idx) : (i 0).val < 262144 := (i 0).isLt
theorem lt_S2048 (i : S2048.Idx) : (i 0).val < 2048 := (i 0).isLt
theorem lt_S32 (i : S32.Idx) : (i 0).val < 32 := (i 0).isLt
theorem lt_S16 (i : S16.Idx) : (i 0).val < 16 := (i 0).isLt

theorem slot_self (i : S262144.Idx) : slot (i 0).val = i := by
  funext a; fin_cases a; exact Fin.ext (Nat.mod_eq_of_lt (lt_S262144 i))

theorem slot_val {n : ℕ} (h : n < 262144) : (slot n 0).val = n := Nat.mod_eq_of_lt h

/-- Row `n`, column `c` of the gathered table. -/
def cellX (n : ℕ) (c : Fin 128) : S65536x128.Idx := fun
  | 0 => ⟨n % 65536, Nat.mod_lt _ (by decide)⟩
  | 1 => c
  | ⟨_ + 2, h⟩ => absurd h (Nat.not_lt.2 (Nat.le_add_left _ _))

/-- Row `n`, column `c` of the long arrays. -/
def cellO (n : ℕ) (c : Fin 128) : S262144x128.Idx := fun
  | 0 => ⟨n % 262144, Nat.mod_lt _ (by decide)⟩
  | 1 => c
  | ⟨_ + 2, h⟩ => absurd h (Nat.not_lt.2 (Nat.le_add_left _ _))

variable {F : FTy → Type} [FloatOps F]

/-! ## The arrays the launches leave -/

/-- Row `R`'s keys: the buckets of its 2048 tokens. -/
def rowKey (B : S262144.Idx → Elt F .i32) (R t : ℕ) : ℕ := (B (slot (2048 * R + t)) : BitVec 32).toNat

/-- The sorted tokens. -/
def G4 (B : S262144.Idx → Elt F .i32) (n : S262144.Idx) : Elt F .i32 :=
  (BitVec.ofNat 32 (srt (rowKey B ((n 0).val / 2048)) ((n 0).val % 2048)) : BitVec 32)

/-- The sorted tokens as floats. -/
def G5 (B : S262144.Idx → Elt F .i32) (n : S262144.Idx) : Elt F .f32 :=
  FloatOps.sitofp .f32 (BitVec.ofNat 32 (srt (rowKey B ((n 0).val / 2048)) ((n 0).val % 2048)))

/-- The gathered rows. -/
def G6 (B : S262144.Idx → Elt F .i32) (X : S65536x128.Idx → Elt F .f32) (n : S262144x128.Idx) : Elt F .f32 :=
  X (cellX (2048 * ((n 0).val / 8192) + srt (rowKey B ((n 0).val / 2048)) ((n 0).val % 2048)) (n 1))

/-- The rows back in token order: row `2048 R + t` is the row that stands at token `t`'s place. -/
def GU (B : S262144.Idx → Elt F .i32) (W : S262144x128.Idx → Elt F .f32) (n : S262144x128.Idx) : Elt F .f32 :=
  W (cellO (2048 * ((n 0).val / 2048) + dest (rowKey B ((n 0).val / 2048)) ((n 0).val % 2048)) (n 1))

end Cert.Proof

end
-- ==== Proof.Tile.lean ====
/-
  The sorting tile's state, and the step lemmas its program is chained from.
-/
module

public import proofs.«01_k».proof.Proof.Spec

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- A tile's SparseCore and its place there. -/
abbrev cV (L : grid0.Coords) : Fin τ.nSC := (L 0).castLE hcore0
abbrev jV (L : grid0.Coords) : Fin τ.nSub := (L 1).castLE hsub0

/-- The tile's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The slots of the tile, and its rows of the long arrays. -/
def T1 (w : ℕ) : Finset S262144.Idx := Finset.univ.filter fun n => (n 0).val / 8192 = w
def T2 (w : ℕ) : Finset S262144x128.Idx := Finset.univ.filter fun n => (n 0).val / 8192 = w

abbrev bV : Memref sig .scVector .hbm S262144 .i32 := Memref.whole main_v0_scv
abbrev xV : Memref sig .scVector .hbm S65536x128 .f32 := Memref.whole main_v1_scv
abbrev o4V : Memref sig .scVector .hbm S262144 .i32 := Memref.whole main_v2_0_scv
abbrev o5V : Memref sig .scVector .hbm S262144 .f32 := Memref.whole main_v2_1_scv
abbrev o6V : Memref sig .scVector .hbm S262144x128 .f32 := Memref.whole main_v2_2_scv
abbrev s0V : Memref sig .scVector .vmem S2048 .i32 := Memref.whole cc0_scratch0
abbrev s1V : Memref sig .scVector .vmem S2048 .i32 := Memref.whole cc0_scratch1
abbrev s2V : Memref sig .scVector .vmem S2048 .f32 := Memref.whole cc0_scratch2
abbrev s3V : Memref sig .scVector .vmem S2048 .i32 := Memref.whole cc0_scratch3
abbrev s4V : Memref sig .scVector .vmem S32 .i32 := Memref.whole cc0_scratch4
abbrev s5V : Memref sig .scVector .vmem S32 .i32 := Memref.whole cc0_scratch5
abbrev s6V : Memref sig .scVector .vmem S128x128 .f32 := Memref.whole cc0_scratch6

/-- What the tile's buffers hold. -/
structure St (F : FTy → Type) where
  a7 : S2048.Idx → Elt F .i32
  a8 : S2048.Idx → Elt F .i32
  a9 : S2048.Idx → Elt F .f32
  a10 : S2048.Idx → Elt F .i32
  a11 : S32.Idx → Elt F .i32
  a12 : S32.Idx → Elt F .i32
  a13 : S128x128.Idx → Elt F .f32
  o4 : S262144.Idx → Elt F .i32
  o5 : S262144.Idx → Elt F .f32
  o6 : S262144x128.Idx → Elt F .f32

/-- The kernel's tile: where it runs, what it reads, and what the thread owes. -/
structure Env (F : FTy → Type) where
  d : Dev nD
  L : grid0.Coords
  O : CellTallies nD τ sig (HIx 2)
  W : Waits sig (HIx 2)
  hO : ∀ g, O g none = 0
  q : PosShare TreeShare
  B : S262144.Idx → Elt F .i32
  X : S65536x128.Idx → Elt F .f32
  hB : ∀ n, (B n : BitVec 32).toNat < 32
  R : sProp (MT nD τ sig (HIx 2) (Elt F) ℕ UU ℕ)

variable (e : Env F)

/-- Everything the tile holds. -/
def Tile (x : St F) : sProp 𝕄 :=
  iprop((bV.view.loc (V e.d (cV e.L) (jV e.L)) ↦{e.q} e.B) ∗ (xV.view.loc (V e.d (cV e.L) (jV e.L)) ↦{e.q} e.X)
    ∗ (s0V.view.loc (V e.d (cV e.L) (jV e.L)) ↦{fullShare} x.a7) ∗ (s1V.view.loc (V e.d (cV e.L) (jV e.L)) ↦{fullShare} x.a8)
    ∗ (s2V.view.loc (V e.d (cV e.L) (jV e.L)) ↦{fullShare} x.a9) ∗ (s3V.view.loc (V e.d (cV e.L) (jV e.L)) ↦{fullShare} x.a10)
    ∗ (s4V.view.loc (V e.d (cV e.L) (jV e.L)) ↦{fullShare} x.a11) ∗ (s5V.view.loc (V e.d (cV e.L) (jV e.L)) ↦{fullShare} x.a12)
    ∗ (s6V.view.loc (V e.d (cV e.L) (jV e.L)) ↦{fullShare} x.a13)
    ∗ (o4V.view.loc (V e.d (cV e.L) (jV e.L)) ↦[T1 (wid e.L)]{fullShare} x.o4)
    ∗ (o5V.view.loc (V e.d (cV e.L) (jV e.L)) ↦[T1 (wid e.L)]{fullShare} x.o5)
    ∗ (o6V.view.loc (V e.d (cV e.L) (jV e.L)) ↦[T2 (wid e.L)]{fullShare} x.o6)
    ∗ Ctx e.d (cV e.L) (jV e.L) e.O e.W ∗ e.R)

/-- The tile holds some state with `φ`. -/
def TileP (φ : St F → Prop) : sProp 𝕄 := iprop(∃ x, ⌜φ x⌝ ∗ Tile e x)

abbrev TProg (α : Type) := Prog (TpuEff nD τ sig (Elt F) Λ₀ (.scVector (cV e.L) (jV e.L))) α

/-- The program's `wp` on the tile. -/
abbrev TW {α : Type} (p : TProg e α) (Q : α → sProp 𝕄) : sProp 𝕄 := WP e.d (cV e.L) (jV e.L) p Q

theorem TileP.elim {φ : St F → Prop} {P : sProp 𝕄} (h : ∀ x, φ x → Tile e x ⊢ P) : TileP e φ ⊢ P := by
  unfold TileP
  iintro ⟨%x, %hx, H⟩
  iapply (h x hx); iexact H

theorem TileP.intro {φ : St F → Prop} {x : St F} (h : φ x) : Tile e x ⊢ TileP e φ := by
  unfold TileP
  iintro H
  iexists x; isplitr
  · ipureintro; exact h
  · iexact H

theorem TileP.mono {φ ψ : St F → Prop} (h : ∀ x, φ x → ψ x) : TileP e φ ⊢ TileP e ψ := TileP.elim e fun _ hx => TileP.intro e (h _ hx)

/-! ## Taking buffers out of the tile -/

theorem open_fetch (x : St F) : Tile e x ⊢ iprop((bV.view.loc (V e.d (cV e.L) (jV e.L)) ↦{e.q} e.B) ∗ (s0V.view.loc (V e.d (cV e.L) (jV e.L)) ↦{fullShare} x.a7) ∗ Ctx e.d (cV e.L) (jV e.L) e.O e.W ∗ (∀ f, ((bV.view.loc (V e.d (cV e.L) (jV e.L)) ↦{e.q} e.B) ∗ (s0V.view.loc (V e.d (cV e.L) (jV e.L)) ↦{fullShare} f) ∗ Ctx e.d (cV e.L) (jV e.L) e.O e.W) -∗ Tile e { x with a7 := f })) := by
  unfold Tile
  iintro ⟨HB, HX, H7, H8, H9, H10, H11, H12, H13, HO4, HO5, HO6, HC, HR⟩
  isplitl [HB]; · iexact HB
  isplitl [H7]; · iexact H7
  isplitl [HC]; · iexact HC
  iintro %f
  iintro ⟨HB, H7, HC⟩
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open7 (x : St F) : Tile e x ⊢ iprop((s0V.view.loc (V e.d (cV e.L) (jV e.L)) ↦{fullShare} x.a7) ∗ (((s0V.view.loc (V e.d (cV e.L) (jV e.L)) ↦{fullShare} x.a7)) -∗ Tile e x)) := by
  unfold Tile
  iintro ⟨HB, HX, H7, H8, H9, H10, H11, H12, H13, HO4, HO5, HO6, HC, HR⟩
  isplitl [H7]; · iexact H7
  iintro H7
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open8 (x : St F) : Tile e x ⊢ iprop((s1V.view.loc (V e.d (cV e.L) (jV e.L)) ↦{fullShare} x.a8) ∗ (∀ f, ((s1V.view.loc (V e.d (cV e.L) (jV e.L)) ↦{fullShare} f)) -∗ Tile e { x with a8 := f })) := by
  unfold Tile
  iintro ⟨HB, HX, H7, H8, H9, H10, H11, H12, H13, HO4, HO5, HO6, HC, HR⟩
  isplitl [H8]; · iexact H8
  iintro %f
  iintro H8
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open9 (x : St F) : Tile e x ⊢ iprop((s2V.view.loc (V e.d (cV e.L) (jV e.L)) ↦{fullShare} x.a9) ∗ (∀ f, ((s2V.view.loc (V e.d (cV e.L) (jV e.L)) ↦{fullShare} f)) -∗ Tile e { x with a9 := f })) := by
  unfold Tile
  iintro ⟨HB, HX, H7, H8, H9, H10, H11, H12, H13, HO4, HO5, HO6, HC, HR⟩
  isplitl [H9]; · iexact H9
  iintro %f
  iintro H9
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open10 (x : St F) : Tile e x ⊢ iprop((s3V.view.loc (V e.d (cV e.L) (jV e.L)) ↦{fullShare} x.a10) ∗ (∀ f, ((s3V.view.loc (V e.d (cV e.L) (jV e.L)) ↦{fullShare} f)) -∗ Tile e { x with a10 := f })) := by
  unfold Tile
  iintro ⟨HB, HX, H7, H8, H9, H10, H11, H12, H13, HO4, HO5, HO6, HC, HR⟩
  isplitl [H10]; · iexact H10
  iintro %f
  iintro H10
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open11 (x : St F) : Tile e x ⊢ iprop((s4V.view.loc (V e.d (cV e.L) (jV e.L)) ↦{fullShare} x.a11) ∗ (∀ f, ((s4V.view.loc (V e.d (cV e.L) (jV e.L)) ↦{fullShare} f)) -∗ Tile e { x with a11 := f })) := by
  unfold Tile
  iintro ⟨HB, HX, H7, H8, H9, H10, H11, H12, H13, HO4, HO5, HO6, HC, HR⟩
  isplitl [H11]; · iexact H11
  iintro %f
  iintro H11
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open12 (x : St F) : Tile e x ⊢ iprop((s5V.view.loc (V e.d (cV e.L) (jV e.L)) ↦{fullShare} x.a12) ∗ (∀ f, ((s5V.view.loc (V e.d (cV e.L) (jV e.L)) ↦{fullShare} f)) -∗ Tile e { x with a12 := f })) := by
  unfold Tile
  iintro ⟨HB, HX, H7, H8, H9, H10, H11, H12, H13, HO4, HO5, HO6, HC, HR⟩
  isplitl [H12]; · iexact H12
  iintro %f
  iintro H12
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open_out4 (x : St F) : Tile e x ⊢ iprop((s1V.view.loc (V e.d (cV e.L) (jV e.L)) ↦{fullShare} x.a8) ∗ (o4V.view.loc (V e.d (cV e.L) (jV e.L)) ↦[T1 (wid e.L)]{fullShare} x.o4) ∗ Ctx e.d (cV e.L) (jV e.L) e.O e.W ∗ (∀ f, ((s1V.view.loc (V e.d (cV e.L) (jV e.L)) ↦{fullShare} x.a8) ∗ (o4V.view.loc (V e.d (cV e.L) (jV e.L)) ↦[T1 (wid e.L)]{fullShare} f) ∗ Ctx e.d (cV e.L) (jV e.L) e.O e.W) -∗ Tile e { x with o4 := f })) := by
  unfold Tile
  iintro ⟨HB, HX, H7, H8, H9, H10, H11, H12, H13, HO4, HO5, HO6, HC, HR⟩
  isplitl [H8]; · iexact H8
  isplitl [HO4]; · iexact HO4
  isplitl [HC]; · iexact HC
  iintro %f
  iintro ⟨H8, HO4, HC⟩
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open_out5 (x : St F) : Tile e x ⊢ iprop((s2V.view.loc (V e.d (cV e.L) (jV e.L)) ↦{fullShare} x.a9) ∗ (o5V.view.loc (V e.d (cV e.L) (jV e.L)) ↦[T1 (wid e.L)]{fullShare} x.o5) ∗ Ctx e.d (cV e.L) (jV e.L) e.O e.W ∗ (∀ f, ((s2V.view.loc (V e.d (cV e.L) (jV e.L)) ↦{fullShare} x.a9) ∗ (o5V.view.loc (V e.d (cV e.L) (jV e.L)) ↦[T1 (wid e.L)]{fullShare} f) ∗ Ctx e.d (cV e.L) (jV e.L) e.O e.W) -∗ Tile e { x with o5 := f })) := by
  unfold Tile
  iintro ⟨HB, HX, H7, H8, H9, H10, H11, H12, H13, HO4, HO5, HO6, HC, HR⟩
  isplitl [H9]; · iexact H9
  isplitl [HO5]; · iexact HO5
  isplitl [HC]; · iexact HC
  iintro %f
  iintro ⟨H9, HO5, HC⟩
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open_gather (x : St F) : Tile e x ⊢ iprop((xV.view.loc (V e.d (cV e.L) (jV e.L)) ↦{e.q} e.X) ∗ (s6V.view.loc (V e.d (cV e.L) (jV e.L)) ↦{fullShare} x.a13) ∗ (s3V.view.loc (V e.d (cV e.L) (jV e.L)) ↦{fullShare} x.a10) ∗ Ctx e.d (cV e.L) (jV e.L) e.O e.W ∗ (∀ f, ((xV.view.loc (V e.d (cV e.L) (jV e.L)) ↦{e.q} e.X) ∗ (s6V.view.loc (V e.d (cV e.L) (jV e.L)) ↦{fullShare} f) ∗ (s3V.view.loc (V e.d (cV e.L) (jV e.L)) ↦{fullShare} x.a10) ∗ Ctx e.d (cV e.L) (jV e.L) e.O e.W) -∗ Tile e { x with a13 := f })) := by
  unfold Tile
  iintro ⟨HB, HX, H7, H8, H9, H10, H11, H12, H13, HO4, HO5, HO6, HC, HR⟩
  isplitl [HX]; · iexact HX
  isplitl [H13]; · iexact H13
  isplitl [H10]; · iexact H10
  isplitl [HC]; · iexact HC
  iintro %f
  iintro ⟨HX, H13, H10, HC⟩
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

theorem open_out6 (x : St F) : Tile e x ⊢ iprop((s6V.view.loc (V e.d (cV e.L) (jV e.L)) ↦{fullShare} x.a13) ∗ (o6V.view.loc (V e.d (cV e.L) (jV e.L)) ↦[T2 (wid e.L)]{fullShare} x.o6) ∗ Ctx e.d (cV e.L) (jV e.L) e.O e.W ∗ (∀ f, ((s6V.view.loc (V e.d (cV e.L) (jV e.L)) ↦{fullShare} x.a13) ∗ (o6V.view.loc (V e.d (cV e.L) (jV e.L)) ↦[T2 (wid e.L)]{fullShare} f) ∗ Ctx e.d (cV e.L) (jV e.L) e.O e.W) -∗ Tile e { x with o6 := f })) := by
  unfold Tile
  iintro ⟨HB, HX, H7, H8, H9, H10, H11, H12, H13, HO4, HO5, HO6, HC, HR⟩
  isplitl [H13]; · iexact H13
  isplitl [HO6]; · iexact HO6
  isplitl [HC]; · iexact HC
  iintro %f
  iintro ⟨H13, HO6, HC⟩
  isplitl [HB]; · iexact HB
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HO4]; · iexact HO4
  isplitl [HO5]; · iexact HO5
  isplitl [HO6]; · iexact HO6
  isplitl [HC]; · iexact HC
  iexact HR

/-! ## A buffer's rectangle -/

theorem read_rect {b : Ref sig .scVector} (r : Rect b.ty.shape) (f : (View.whole b).ty.Contents (Elt F)) (x : r.shape.Idx) :
    ((View.whole b).slice r).read (Elt F) f x = f (r.emb x) := rfl

theorem write_rect_on {b : Ref sig .scVector} (r : Rect b.ty.shape) (f : (View.whole b).ty.Contents (Elt F)) (w : r.shape.Idx → Elt F b.ty.elt) (x : r.shape.Idx) :
    ((View.whole b).slice r).write (Elt F) f w Finset.univ (r.emb x) = w x :=
  (View.write_emb_of_mem (v := (View.whole b).slice r) f w (Finset.mem_univ x)).trans (cast_eq _ _)

theorem write_rect_off {b : Ref sig .scVector} (r : Rect b.ty.shape) (f : (View.whole b).ty.Contents (Elt F)) (w : r.shape.Idx → Elt F b.ty.elt) {i : b.ty.shape.Idx}
    (h : i ∉ r.set) : ((View.whole b).slice r).write (Elt F) f w Finset.univ i = f i := by
  refine View.write_of_not_mem (v := (View.whole b).slice r) f w _ ?_
  rw [View.setOn_univ, View.set_slice_whole]; exact h

/-! ## What the state is between the steps -/

/-- The row that the tile does `rr`-th. -/
def row (rr : ℕ) : ℕ := 4 * wid e.L + rr

/-- The results are in place up to the slots `m4`, `m5`, `m6`. -/
def Done (m4 m5 m6 : ℕ) (x : St F) : Prop :=
  (∀ n ∈ T1 (wid e.L), (n 0).val < m4 → x.o4 n = G4 e.B n) ∧ (∀ n ∈ T1 (wid e.L), (n 0).val < m5 → x.o5 n = G5 e.B n)
    ∧ ∀ n ∈ T2 (wid e.L), (n 0).val < m6 → x.o6 n = G6 e.B e.X n

def φ0 (rr : ℕ) (x : St F) : Prop := Done e (2048 * row e rr) (2048 * row e rr) (2048 * row e rr) x

/-- The row's keys are in the tile's memory. -/
def φ1 (rr : ℕ) (x : St F) : Prop := φ0 e rr x ∧ ∀ p, x.a7 p = e.B (slot (2048 * row e rr + (p 0).val))

/-- The counters hold how often each bucket stands among the row's first `m` keys. -/
def φ2 (rr m : ℕ) (x : St F) : Prop := φ1 e rr x ∧ ∀ v, x.a11 v = (BitVec.ofNat 32 (cnt (rowKey e.B (row e rr)) m (v 0).val) : BitVec 32)

/-- The cursors stand where the next token of each bucket goes, and the first `m` tokens are placed. -/
def φ3 (rr m : ℕ) (x : St F) : Prop := φ1 e rr x
  ∧ (∀ v, x.a12 v = (BitVec.ofNat 32 (below (rowKey e.B (row e rr)) (v 0).val + cnt (rowKey e.B (row e rr)) m (v 0).val) : BitVec 32))
  ∧ ∀ t, t < m → ∀ p : S2048.Idx, (p 0).val = dest (rowKey e.B (row e rr)) t →
      x.a8 p = (BitVec.ofNat 32 t : BitVec 32) ∧ x.a9 p = FloatOps.sitofp .f32 (BitVec.ofNat 32 t) ∧ x.a10 p = (BitVec.ofNat 32 (2048 * wid e.L + t) : BitVec 32)

/-- The row is sorted. -/
def Sorted (rr : ℕ) (x : St F) : Prop := ∀ p : S2048.Idx,
  x.a8 p = (BitVec.ofNat 32 (srt (rowKey e.B (row e rr)) (p 0).val) : BitVec 32)
  ∧ x.a9 p = FloatOps.sitofp .f32 (BitVec.ofNat 32 (srt (rowKey e.B (row e rr)) (p 0).val))
  ∧ x.a10 p = (BitVec.ofNat 32 (2048 * wid e.L + srt (rowKey e.B (row e rr)) (p 0).val) : BitVec 32)

def φ4 (rr : ℕ) (x : St F) : Prop := φ0 e rr x ∧ Sorted e rr x
def φ5 (rr : ℕ) (x : St F) : Prop := Done e (2048 * row e (rr + 1)) (2048 * row e rr) (2048 * row e rr) x ∧ Sorted e rr x
def φ6 (rr k : ℕ) (x : St F) : Prop := Done e (2048 * row e (rr + 1)) (2048 * row e (rr + 1)) (2048 * row e rr + 128 * k) x ∧ Sorted e rr x

theorem φ6_last (rr : ℕ) : TileP e (φ6 e rr 16) ⊢ TileP e (φ0 e (rr + 1)) :=
  TileP.mono e fun x hx => by
    have : 2048 * row e rr + 128 * 16 = 2048 * row e (rr + 1) := by unfold row; omega
    have h := hx.1
    rw [this] at h; exact h

end Cert.Proof

end
-- ==== Proof.Lanes.lean ====
/-
  The vector unit's indexed store, its running counts and its prefix sums, element by element.
-/
module

public import proofs.«01_k».proof.Proof.Spec

@[expose] public section

noncomputable section

namespace Cert.Proof

open Cert.KernelIdeal Cert.KernelIdeal.Gen
open Idealize.ShloMosaic

variable {F : FTy → Type} [FloatOps F]

/-! ## The indexed store -/

section Store

variable {s : Shape} {e : EltTy} {d : Fin 1 → ℕ} {f : Vec F s e} {idxs : Fin s.rank → IVec ⟨1, d⟩ 32} {v : Vec F ⟨1, d⟩ e} {mask : IVec ⟨1, d⟩ 1}
  {add : Bool} {h : ∀ a x, (idxs a x).toNat < s.size a} {i : s.Idx}

/-- One lane's write. -/
def laneWrite (idxs : Fin s.rank → IVec ⟨1, d⟩ 32) (v : Vec F ⟨1, d⟩ e) (mask : IVec ⟨1, d⟩ 1) (add : Bool) (h : ∀ a x, (idxs a x).toNat < s.size a)
    (g : Vec F s e) (k : Fin (d 0)) : Vec F s e :=
  let x := Shape.ofLane k
  if mask x = 1 then
    let i := idxAt idxs h x
    let y := if add then Elt.idxAdd e (g i) (v x) else v x
    fun j => if (∀ a, (j a).val = (i a).val) then y else g j
  else g

theorem laneWrite_off {g : Vec F s e} {k : Fin (d 0)} (hn : mask (Shape.ofLane k) = 1 → ¬∀ a, (i a).val = (idxs a (Shape.ofLane k)).toNat) :
    laneWrite idxs v mask add h g k i = g i := by
  unfold laneWrite
  by_cases hm : mask (Shape.ofLane k) = 1
  · simp only [hm, if_true]; exact if_neg (hn hm)
  · simp only [hm, if_false]

theorem laneWrite_on {g : Vec F s e} {k : Fin (d 0)} (hm : mask (Shape.ofLane k) = 1) (hi : ∀ a, (i a).val = (idxs a (Shape.ofLane k)).toNat) :
    laneWrite idxs v mask add h g k i = if add then Elt.idxAdd e (g i) (v (Shape.ofLane k)) else v (Shape.ofLane k) := by
  have he : idxAt idxs h (Shape.ofLane k) = i := funext fun a => Fin.ext (hi a).symm
  unfold laneWrite
  simp only [hm, if_true, he, implies_true]

theorem foldl_off : ∀ (l : List (Fin (d 0))) (g : Vec F s e),
    (∀ k ∈ l, mask (Shape.ofLane k) = 1 → ¬∀ a, (i a).val = (idxs a (Shape.ofLane k)).toNat) →
    l.foldl (laneWrite idxs v mask add h) g i = g i
  | [], _, _ => rfl
  | k :: l, g, hn => by
    rw [List.foldl_cons, foldl_off l _ fun k' hk' => hn k' (List.mem_cons_of_mem _ hk'), laneWrite_off (hn k List.mem_cons_self)]

theorem foldl_on (k0 : Fin (d 0)) (hm : mask (Shape.ofLane k0) = 1) (hi : ∀ a, (i a).val = (idxs a (Shape.ofLane k0)).toNat)
    (hu : ∀ k, k ≠ k0 → mask (Shape.ofLane k) = 1 → ¬∀ a, (i a).val = (idxs a (Shape.ofLane k)).toNat) : ∀ (l : List (Fin (d 0))) (g : Vec F s e),
    l.Nodup → k0 ∈ l →
    l.foldl (laneWrite idxs v mask add h) g i = if add then Elt.idxAdd e (g i) (v (Shape.ofLane k0)) else v (Shape.ofLane k0)
  | [], _, _, hk => absurd hk List.not_mem_nil
  | k :: l, g, hl, hk => by
    rw [List.foldl_cons]
    by_cases hk0 : k = k0
    · subst hk0
      rw [foldl_off l _ fun k' hk' => hu k' fun e => (List.nodup_cons.mp hl).1 (e ▸ hk'), laneWrite_on hm hi]
    · rw [foldl_on k0 hm hi hu l _ (List.nodup_cons.mp hl).2 ((List.mem_cons.mp hk).resolve_left fun e => hk0 e.symm), laneWrite_off (hu k hk0)]

theorem storeIdx_eq : storeIdx f idxs v mask add h = (List.finRange (d 0)).foldl (laneWrite idxs v mask add h) f := by
  unfold storeIdx laneWrite; congr! 2 with g k; dsimp only; congr!

theorem storeIdx_off (hn : ∀ k : Fin (d 0), mask (Shape.ofLane k) = 1 → ¬∀ a, (i a).val = (idxs a (Shape.ofLane k)).toNat) :
    storeIdx f idxs v mask add h i = f i :=
  (congrFun storeIdx_eq i).trans (foldl_off _ f fun k _ => hn k)

theorem storeIdx_on (k0 : Fin (d 0)) (hm : mask (Shape.ofLane k0) = 1) (hi : ∀ a, (i a).val = (idxs a (Shape.ofLane k0)).toNat)
    (hu : ∀ k, k ≠ k0 → mask (Shape.ofLane k) = 1 → ¬∀ a, (i a).val = (idxs a (Shape.ofLane k)).toNat) :
    storeIdx f idxs v mask add h i = if add then Elt.idxAdd e (f i) (v (Shape.ofLane k0)) else v (Shape.ofLane k0) :=
  (congrFun storeIdx_eq i).trans <| foldl_on k0 hm hi hu _ f (List.nodup_finRange _) (List.mem_finRange _)

end Store

/-! ## Sixteen lanes -/

/-- Lane `k`. -/
abbrev ln (k : Fin 16) : S16.Idx := Shape.ofLane (d := S16.size) k

theorem ln_val (k : Fin 16) : (ln k 0).val = k.val := rfl

theorem ln_self (x : S16.Idx) : ln (x 0) = x := by funext a; fin_cases a; rfl

theorem ones_iff (x : S16.Idx) : broadcast S16 (1#1 : BitVec 1) x = 1 := rfl

/-- How many lanes up to `k` hold `w`'s value at `k`. -/
theorem counts_eq (w : IVec S16 32) (k : Fin 16) :
    (scanCount (broadcast S16 (1#1 : BitVec 1)) w).2 (ln k) = BitVec.ofNat 32 (Finset.univ.filter fun j : Fin 16 => j ≤ k ∧ w (ln j) = w (ln k)).card := by
  unfold scanCount
  simp only [ones_iff, if_true, true_and]
  congr 1
  have hpos : ∀ x : S16.Idx, (S16.rowMajor x).val = (x 0).val := fun x => Shape.rowMajor_val_one x
  simp only [hpos]
  refine Finset.card_bij (fun x _ => x 0) ?_ ?_ ?_
  · intro x hx
    have hx := (Finset.mem_filter.mp hx).2
    refine Finset.mem_filter.mpr ⟨Finset.mem_univ _, hx.1, ?_⟩
    rw [ln_self]; exact hx.2
  · intro x _ y _ hxy
    rw [← ln_self x, ← ln_self y, show x 0 = y 0 from hxy]
  · intro j hj
    have hj := (Finset.mem_filter.mp hj).2
    exact ⟨ln j, Finset.mem_filter.mpr ⟨Finset.mem_univ _, hj.1, hj.2⟩, rfl⟩

theorem last_iff (w : IVec S16 32) (k : Fin 16) :
    (scanCount (broadcast S16 (1#1 : BitVec 1)) w).1 (ln k) = 1 ↔ ∀ j : Fin 16, k < j → w (ln j) ≠ w (ln k) := by
  unfold scanCount
  simp only [ones_iff, true_and]
  have hpos : ∀ x : S16.Idx, (S16.rowMajor x).val = (x 0).val := fun x => Shape.rowMajor_val_one x
  simp only [hpos]
  constructor
  · intro hh j hj he
    split_ifs at hh with hc
    · exact hc (ln j) hj he
    · exact absurd hh (by decide)
  · intro hh
    refine if_pos fun x hx => ?_
    have := hh (x 0) hx
    rwa [ln_self] at this

/-- The store at the last lane of each value, which alone is set: the old element where no lane names it, and the last
    lane's payload, with all the lanes that name it counted there, where one does. -/
theorem storeIdx_last {e : EltTy} (w : IVec S16 32) (f : Vec F S32 e) (u : Vec F S16 e) (add : Bool) (h : ∀ a x, ((![w] : Fin 1 → IVec S16 32) a x).toNat < S32.size a)
    (i : S32.Idx) :
    ((Finset.univ.filter fun j : Fin 16 => (w (ln j)).toNat = (i 0).val).card = 0
      ∧ storeIdx f ![w] u (scanCount (broadcast S16 (1#1 : BitVec 1)) w).1 add h i = f i)
    ∨ ∃ k : Fin 16, (w (ln k)).toNat = (i 0).val
      ∧ (scanCount (broadcast S16 (1#1 : BitVec 1)) w).2 (ln k) = BitVec.ofNat 32 (Finset.univ.filter fun j : Fin 16 => (w (ln j)).toNat = (i 0).val).card
      ∧ storeIdx f ![w] u (scanCount (broadcast S16 (1#1 : BitVec 1)) w).1 add h i = if add then Elt.idxAdd e (f i) (u (ln k)) else u (ln k) := by
  by_cases hne : (Finset.univ.filter fun j : Fin 16 => (w (ln j)).toNat = (i 0).val).Nonempty
  · right
    obtain ⟨k, hk, hmax⟩ := Finset.exists_max_image _ (fun j : Fin 16 => j) hne
    have hk := (Finset.mem_filter.mp hk).2
    have hlast : ∀ j : Fin 16, (w (ln j)).toNat = (i 0).val → j ≤ k := fun j hj => hmax j (Finset.mem_filter.mpr ⟨Finset.mem_univ _, hj⟩)
    refine ⟨k, hk, ?_, ?_⟩
    · rw [counts_eq]
      congr 2
      ext j
      simp only [Finset.mem_filter, Finset.mem_univ, true_and]
      exact ⟨fun hj => by rw [hj.2]; exact hk, fun hj => ⟨hlast j hj, BitVec.eq_of_toNat_eq (hj.trans hk.symm)⟩⟩
    · refine storeIdx_on (d := S16.size) k ((last_iff w k).mpr fun j hj he => absurd (hlast j (by rw [he]; exact hk)) (not_le.mpr hj)) (fun a => ?_) fun j hj hm hi => ?_
      · fin_cases a; exact hk.symm
      · have hj' : (w (ln j)).toNat = (i 0).val := (hi 0).symm
        have hlt : j < k := lt_of_le_of_ne (hlast j hj') hj
        exact (last_iff w j).mp hm k hlt (BitVec.eq_of_toNat_eq (hk.trans hj'.symm))
  · left
    have hz := Finset.not_nonempty_iff_eq_empty.mp hne
    refine ⟨by rw [hz]; rfl, storeIdx_off (d := S16.size) fun j _ hi => ?_⟩
    exact hne ⟨j, Finset.mem_filter.mpr ⟨Finset.mem_univ _, (hi 0).symm⟩⟩

/-- The unmasked store of lanes that name different elements. -/
theorem storeIdx_all_on {e : EltTy} (z : IVec S16 32) (f : Vec F S2048 e) (u : Vec F S16 e) (h : ∀ a x, ((![z] : Fin 1 → IVec S16 32) a x).toNat < S2048.size a)
    (i : S2048.Idx) (k : Fin 16) (hk : (z (ln k)).toNat = (i 0).val) (hinj : ∀ j, (z (ln j)).toNat = (z (ln k)).toNat → j = k) :
    storeIdx f ![z] u (fun _ => 1#1) false h i = u (ln k) := by
  refine (storeIdx_on (d := S16.size) k rfl (fun a => ?_) fun j hj _ hi => ?_).trans (if_neg (by decide))
  · fin_cases a; exact hk.symm
  · exact hj (hinj j ((hi 0).symm.trans hk.symm))

theorem storeIdx_all_off {e : EltTy} (z : IVec S16 32) (f : Vec F S2048 e) (u : Vec F S16 e) (h : ∀ a x, ((![z] : Fin 1 → IVec S16 32) a x).toNat < S2048.size a)
    (i : S2048.Idx) (hk : ∀ k : Fin 16, (z (ln k)).toNat ≠ (i 0).val) :
    storeIdx f ![z] u (fun _ => 1#1) false h i = f i :=
  storeIdx_off (d := S16.size) fun j _ hi => hk j (hi 0).symm

/-! ## The prefix sums -/

theorem foldl_add (c : ℕ → ℕ) : ∀ (l : List (Fin 16)) (r : ℕ),
    l.foldl (fun (r : BitVec 32) (k : Fin 16) => IntOp.addi r (BitVec.ofNat 32 (c k.val))) (BitVec.ofNat 32 r) = BitVec.ofNat 32 (r + (l.map fun k => c k.val).sum)
  | [], r => by simp
  | k :: l, r => by
    rw [List.foldl_cons, show IntOp.addi (BitVec.ofNat 32 r) (BitVec.ofNat 32 (c k.val)) = BitVec.ofNat 32 (r + c k.val) from (BitVec.ofNat_add _ _).symm,
      foldl_add c l, List.map_cons, List.sum_cons, Nat.add_assoc]

theorem sum_lanes (c : ℕ → ℕ) : ∀ j : Fin 16,
    c 0 + (((List.finRange 16).filter fun k : Fin 16 => decide (0 < k.val ∧ k.val ≤ j.val)).map fun k => c k.val).sum = ∑ k ∈ Finset.range (j.val + 1), c k := by
  intro j
  fin_cases j <;> simp [List.finRange, Finset.sum_range_succ, List.filter, List.ofFn, Fin.foldr, Fin.foldr.loop] <;> omega

/-- The running sums of counters. -/
theorem scan_eq (c : ℕ → ℕ) (v : IVec S16 32) (hv : ∀ x, v x = BitVec.ofNat 32 (c (x 0).val)) (x : S16.Idx) :
    scan .sum v x = BitVec.ofNat 32 (∑ k ∈ Finset.range ((x 0).val + 1), c k) := by
  have hv' : v = fun x => BitVec.ofNat 32 (c (x 0).val) := funext hv
  subst hv'
  rw [← sum_lanes c (x 0), ← foldl_add]
  rfl

end Cert.Proof

end
-- ==== Proof.Count.lean ====
/-
  The counting sort's order: every token has a place of its own, and every place its token.
-/
module

public import proofs.«01_k».proof.Proof.Spec

@[expose] public section

noncomputable section

namespace Cert.Proof

theorem cnt_le_card (κ : ℕ → ℕ) (m v : ℕ) : cnt κ m v ≤ m := by
  unfold cnt; exact (Finset.card_filter_le _ _).trans (by simp)

theorem cnt_zero (κ : ℕ → ℕ) (v : ℕ) : cnt κ 0 v = 0 := by unfold cnt; simp

theorem cnt_succ (κ : ℕ → ℕ) (m v : ℕ) : cnt κ (m + 1) v = cnt κ m v + if κ m = v then 1 else 0 := by
  unfold cnt
  rw [Finset.range_add_one, Finset.filter_insert]
  split_ifs with h
  · rw [Finset.card_insert_of_notMem (by simp)]
  · rfl

theorem cnt_mono (κ : ℕ → ℕ) {m n : ℕ} (h : m ≤ n) (v : ℕ) : cnt κ m v ≤ cnt κ n v := by
  unfold cnt
  refine Finset.card_le_card (Finset.filter_subset_filter _ fun x hx => ?_)
  exact Finset.mem_range.mpr (lt_of_lt_of_le (Finset.mem_range.mp hx) h)

/-- Counting `m + k` keys: the first `m`, and then `k` more. -/
theorem cnt_add (κ : ℕ → ℕ) (m v : ℕ) : ∀ k : ℕ, cnt κ (m + k) v = cnt κ m v + ((Finset.range k).filter fun j => κ (m + j) = v).card
  | 0 => by simp
  | k + 1 => by
    rw [← Nat.add_assoc, cnt_succ, cnt_add κ m v k, Finset.range_add_one, Finset.filter_insert]
    split_ifs with h
    · rw [Finset.card_insert_of_notMem (by simp)]; omega
    · omega

theorem below_succ (κ : ℕ → ℕ) (v : ℕ) : below κ (v + 1) = below κ v + cnt κ 2048 v := by
  unfold below cnt
  rw [← Finset.card_union_of_disjoint]
  · congr 1; ext u; simp only [Finset.mem_filter, Finset.mem_union, Finset.mem_range]; omega
  · refine Finset.disjoint_filter.mpr fun u _ h1 h2 => by omega

theorem below_zero (κ : ℕ → ℕ) : below κ 0 = 0 := by unfold below; simp

theorem below_eq_sum (κ : ℕ → ℕ) : ∀ v, below κ v = ∑ k ∈ Finset.range v, cnt κ 2048 k
  | 0 => by rw [below_zero]; simp
  | v + 1 => by rw [below_succ, Finset.sum_range_succ, below_eq_sum κ v]

theorem below_mono (κ : ℕ → ℕ) {v w : ℕ} (h : v ≤ w) : below κ v ≤ below κ w := by
  unfold below
  refine Finset.card_le_card fun u hu => ?_
  have := Finset.mem_filter.mp hu
  exact Finset.mem_filter.mpr ⟨this.1, by omega⟩

theorem below_le (κ : ℕ → ℕ) (v : ℕ) : below κ v ≤ 2048 := by
  unfold below; exact (Finset.card_filter_le _ _).trans (by simp)

theorem cnt_lt {κ : ℕ → ℕ} {t n : ℕ} (h : t < n) : cnt κ t (κ t) < cnt κ n (κ t) := by
  have h1 := cnt_mono κ (show t + 1 ≤ n from h) (κ t)
  rw [cnt_succ, if_pos rfl] at h1
  omega

theorem dest_lt_below {κ : ℕ → ℕ} {t : ℕ} (h : t < 2048) : dest κ t < below κ (κ t + 1) := by
  unfold dest; rw [below_succ]
  have := cnt_lt (κ := κ) h
  omega

theorem dest_lt {κ : ℕ → ℕ} {t : ℕ} (h : t < 2048) : dest κ t < 2048 := lt_of_lt_of_le (dest_lt_below h) (below_le _ _)

/-- The order is by key, then by token. -/
theorem dest_lt_of_key {κ : ℕ → ℕ} {t u : ℕ} (ht : t < 2048) (h : κ t < κ u) : dest κ t < dest κ u := by
  refine lt_of_lt_of_le (dest_lt_below ht) ((below_mono κ h).trans ?_)
  unfold dest; omega

theorem dest_lt_of_tok {κ : ℕ → ℕ} {t u : ℕ} (hk : κ t = κ u) (h : t < u) : dest κ t < dest κ u := by
  unfold dest
  have := cnt_lt (κ := κ) h
  rw [hk] at this ⊢; omega

theorem dest_inj {κ : ℕ → ℕ} {t u : ℕ} (ht : t < 2048) (hu : u < 2048) (h : dest κ t = dest κ u) : t = u := by
  rcases Nat.lt_trichotomy (κ t) (κ u) with hk | hk | hk
  · have := dest_lt_of_key ht hk; omega
  · rcases Nat.lt_trichotomy t u with hlt | heq | hgt
    · have := dest_lt_of_tok hk hlt; omega
    · exact heq
    · have := dest_lt_of_tok hk.symm hgt; omega
  · have := dest_lt_of_key hu hk; omega

theorem dest_surj (κ : ℕ → ℕ) {p : ℕ} (hp : p < 2048) : ∃ t, t < 2048 ∧ dest κ t = p := by
  have himg : (Finset.range 2048).image (dest κ) = Finset.range 2048 := by
    refine Finset.eq_of_subset_of_card_le (fun x hx => ?_) ?_
    · obtain ⟨t, ht, rfl⟩ := Finset.mem_image.mp hx
      exact Finset.mem_range.mpr (dest_lt (Finset.mem_range.mp ht))
    · rw [Finset.card_image_of_injOn fun t ht u hu h => dest_inj (Finset.mem_range.mp ht) (Finset.mem_range.mp hu) h]
  obtain ⟨t, ht, he⟩ := Finset.mem_image.mp (show p ∈ (Finset.range 2048).image (dest κ) by rw [himg]; exact Finset.mem_range.mpr hp)
  exact ⟨t, Finset.mem_range.mp ht, he⟩

theorem srt_lt (κ : ℕ → ℕ) (p : ℕ) : srt κ p < 2048 := by
  unfold srt
  split_ifs with h
  · exact h.choose_spec.1
  · decide

theorem dest_srt (κ : ℕ → ℕ) {p : ℕ} (hp : p < 2048) : dest κ (srt κ p) = p := by
  unfold srt
  rw [dif_pos (dest_surj κ hp)]
  exact (dest_surj κ hp).choose_spec.2

theorem srt_dest (κ : ℕ → ℕ) {t : ℕ} (ht : t < 2048) : srt κ (dest κ t) = t := dest_inj (srt_lt _ _) ht (dest_srt κ (dest_lt ht))

/-- Sixteen more keys, by lane. -/
theorem cnt_add_lanes (κ : ℕ → ℕ) (m v : ℕ) : cnt κ (m + 16) v = cnt κ m v + (Finset.univ.filter fun j : Fin 16 => κ (m + j.val) = v).card := by
  rw [cnt_add]
  congr 1
  refine (Finset.card_bij (fun (j : Fin 16) _ => j.val) (fun j hj => ?_) (fun _ _ _ _ h => Fin.ext h) fun j hj => ?_).symm
  · exact Finset.mem_filter.mpr ⟨Finset.mem_range.mpr j.isLt, (Finset.mem_filter.mp hj).2⟩
  · have := Finset.mem_filter.mp hj
    exact ⟨⟨j, Finset.mem_range.mp this.1⟩, Finset.mem_filter.mpr ⟨Finset.mem_univ _, this.2⟩, rfl⟩

/-- A token's place, from the count before its sixteen and the lanes up to its own. -/
theorem dest_lane (κ : ℕ → ℕ) (m : ℕ) (k : Fin 16) :
    below κ (κ (m + k.val)) + cnt κ m (κ (m + k.val)) + (Finset.univ.filter fun j : Fin 16 => j ≤ k ∧ κ (m + j.val) = κ (m + k.val)).card = dest κ (m + k.val) + 1 := by
  unfold dest
  rw [cnt_add]
  have : (Finset.univ.filter fun j : Fin 16 => j ≤ k ∧ κ (m + j.val) = κ (m + k.val)).card = ((Finset.range k.val).filter fun j => κ (m + j) = κ (m + k.val)).card + 1 := by
    have h2 : ((Finset.range (k.val + 1)).filter fun j => κ (m + j) = κ (m + k.val)).card = ((Finset.range k.val).filter fun j => κ (m + j) = κ (m + k.val)).card + 1 := by
      rw [Finset.range_add_one, Finset.filter_insert, if_pos rfl, Finset.card_insert_of_notMem (by simp)]
    rw [← h2]
    refine Finset.card_bij (fun (j : Fin 16) _ => j.val) (fun j hj => ?_) (fun _ _ _ _ h => Fin.ext h) fun j hj => ?_
    · have := (Finset.mem_filter.mp hj).2
      exact Finset.mem_filter.mpr ⟨Finset.mem_range.mpr (Nat.lt_succ_of_le this.1), this.2⟩
    · have := Finset.mem_filter.mp hj
      have hlt := Finset.mem_range.mp this.1
      exact ⟨⟨j, by omega⟩, Finset.mem_filter.mpr ⟨Finset.mem_univ _, show j ≤ k.val by omega, this.2⟩, rfl⟩
  omega

end Cert.Proof

end
-- ==== Proof.Steps0.lean ====
/-
  The sorting tile's steps.
-/
module

public import proofs.«01_k».proof.Proof.Tile
public import proofs.«01_k».proof.Proof.Lanes
public import proofs.«01_k».proof.Proof.Count

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-- A bind of a bind, reassociated. -/
theorem bind_out {α β γ : Type} {p : TProg e α} {f : α → TProg e β} {g : β → TProg e γ} {Q : γ → sProp 𝕄} {S : sProp 𝕄}
    (h : S ⊢ TW e (Prog.bind p fun x => Prog.bind (f x) g) Q) : S ⊢ TW e (Prog.bind (Prog.bind p f) g) Q := by
  have e : Prog.bind (Prog.bind p f) g = Prog.bind p fun x => Prog.bind (f x) g := Prog.bind_assoc p f g
  rw [e]; exact h

theorem off1_row (rr : Fin 4) : k0_off1 e.L (BitVec.ofNat 32 rr.val) 0 = 2048 * row e rr.val := by
  rw [k0_off1_eq]; unfold row wid
  show 16384 * (e.L 1).val + 8192 * (e.L 0).val + 2048 * rr.val = _
  omega

theorem row_lt (rr : Fin 4) : row e rr.val < 128 := by
  have := wid_lt e.L
  have := rr.isLt
  unfold row; omega

/-- Element `p` of the row's rectangle is the row's slot `p`. -/
theorem emb_row (rr : Fin 4) (inb) (p : S2048.Idx) :
    (Rect.unit (s := S262144) (k0_off1 e.L (BitVec.ofNat 32 rr.val)) S2048.size inb).emb p = slot (2048 * row e rr.val + (p 0).val) := by
  funext a; fin_cases a
  refine Fin.ext ?_
  have h1 := row_lt e rr
  have h2 := lt_S2048 p
  show k0_off1 e.L (BitVec.ofNat 32 rr.val) 0 + 1 * (p 0).val = (2048 * row e rr.val + (p 0).val) % 262144
  rw [off1_row, Nat.mod_eq_of_lt (by omega)]; omega

theorem row_sub_T1 (rr : Fin 4) (inb) : (Rect.unit (s := S262144) (k0_off1 e.L (BitVec.ofNat 32 rr.val)) S2048.size inb).set ⊆ T1 (wid e.L) := by
  intro n hn
  have hn := Rect.mem_set_unit.mp hn 0
  have h0 := off1_row e rr
  have h3 := rr.isLt
  refine Finset.mem_filter.mpr ⟨Finset.mem_univ _, ?_⟩
  have h1 : 2048 * row e rr.val ≤ (n 0).val := h0 ▸ hn.1
  have h2 : (n 0).val < 2048 * row e rr.val + 2048 := h0 ▸ hn.2
  unfold row at h1 h2
  omega

/-- A slot of the row, by its place in the row's rectangle. -/
theorem slot_in_row (rr : Fin 4) (n : S262144.Idx) (h1 : 2048 * row e rr.val ≤ (n 0).val) (h2 : (n 0).val < 2048 * (row e rr.val + 1)) (inb) :
    ∃ p : S2048.Idx, (Rect.unit (s := S262144) (k0_off1 e.L (BitVec.ofNat 32 rr.val)) S2048.size inb).emb p = slot (2048 * row e rr.val + (p 0).val)
      ∧ (Rect.unit (s := S262144) (k0_off1 e.L (BitVec.ofNat 32 rr.val)) S2048.size inb).emb p = n := by
  refine ⟨fun a => ⟨(n 0).val - 2048 * row e rr.val, by rw [size_S2048]; omega⟩, emb_row e rr inb _, (emb_row e rr inb _).trans ?_⟩
  refine Eq.trans (congrArg slot ?_) (slot_self n)
  show 2048 * row e rr.val + ((n 0).val - 2048 * row e rr.val) = _
  omega

theorem slot_div (rr : Fin 4) (p : S2048.Idx) : (slot (2048 * row e rr.val + (p 0).val) 0).val / 2048 = row e rr.val := by
  have h1 := row_lt e rr
  have h2 := lt_S2048 p
  rw [slot_val (by omega)]; omega

theorem slot_mod (rr : Fin 4) (p : S2048.Idx) : (slot (2048 * row e rr.val + (p 0).val) 0).val % 2048 = (p 0).val := by
  have h1 := row_lt e rr
  have h2 := lt_S2048 p
  rw [slot_val (by omega)]; omega

/-- The end of a step that changed one of three pieces. -/
theorem fin3 {ι : Type} {A C P : sProp 𝕄} {Bf : ι → sProp 𝕄} {g : ι → St F} {φ : St F → Prop} (f₀ : ι) (hφ : φ (g f₀)) (h : TileP e φ ⊢ P) :
    iprop(A ∗ Bf f₀ ∗ C ∗ (∀ f, (A ∗ Bf f ∗ C) -∗ Tile e (g f))) ⊢ P := by
  iintro ⟨HA, HB, HC, HR⟩
  iapply h
  iapply (TileP.intro e hφ)
  iapply HR
  isplitl [HA]; · iexact HA
  isplitl [HB] <;> iassumption

theorem put4 {m4 m5 m6 m4' rr : ℕ} {x : St F} (h : Done e m4 m5 m6 x) (hs : Sorted e rr x) (f : S262144.Idx → Elt F .i32)
    (hf : ∀ n ∈ T1 (wid e.L), (n 0).val < m4' → f n = G4 e.B n) : Done e m4' m5 m6 { x with o4 := f } ∧ Sorted e rr { x with o4 := f } :=
  ⟨⟨hf, h.2.1, h.2.2⟩, hs⟩

theorem put5 {m4 m5 m6 m5' rr : ℕ} {x : St F} (h : Done e m4 m5 m6 x) (hs : Sorted e rr x) (f : S262144.Idx → Elt F .f32)
    (hf : ∀ n ∈ T1 (wid e.L), (n 0).val < m5' → f n = G5 e.B n) : Done e m4 m5' m6 { x with o5 := f } ∧ Sorted e rr { x with o5 := f } :=
  ⟨⟨h.1, hf, h.2.2⟩, hs⟩

theorem put6 {m4 m5 m6 m6' rr : ℕ} {x : St F} (h : Done e m4 m5 m6 x) (hs : Sorted e rr x) (f : S262144x128.Idx → Elt F .f32)
    (hf : ∀ n ∈ T2 (wid e.L), (n 0).val < m6' → f n = G6 e.B e.X n) : Done e m4 m5 m6' { x with o6 := f } ∧ Sorted e rr { x with o6 := f } :=
  ⟨⟨h.1, h.2.1, hf⟩, hs⟩

theorem t_fetch (rr : Fin 4) {sem : DmaSem sig} {hst hsrc hdst hsem hst' hsrc' hdst'} {α : Type} {k : PUnit → TProg e α} {Q : α → sProp 𝕄}
    (hsc : (SemLoc.dma sem : SemLoc sig).isScoped .scVector = true)
    (h : TileP e (φ1 e rr.val) ⊢ TW e (k ⟨⟩) Q) :
    TileP e (φ0 e rr.val) ⊢ TW e (.op (.enqueueDma (bV.slice (Rect.unit (s := S262144) (k0_off1 e.L (BitVec.ofNat 32 rr.val)) S2048.size (k0_off1_inb e.L rr)) hst) (.here s0V) (.dma sem) hsrc hdst hsem)
      fun _ => .op (.waitDma2 sem (bV.slice (Rect.unit (s := S262144) (k0_off1 e.L (BitVec.ofNat 32 rr.val)) S2048.size (k0_off1_inb e.L rr)) hst') s0V hsrc' hdst') k) Q := by
  refine TileP.elim e fun x hx => ?_
  have hφ : φ1 e rr.val { x with a7 := s0V.view.write (Elt F) x.a7 ((bV.slice (Rect.unit (s := S262144) (k0_off1 e.L (BitVec.ofNat 32 rr.val)) S2048.size (k0_off1_inb e.L rr)) hst).view.read (Elt F) e.B) Finset.univ } := by
    refine ⟨hx, fun p => ?_⟩
    refine (congrFun (View.write_whole_univ (b := cc0_scratch0) _ _) p).trans ?_
    exact congrArg e.B (emb_row e rr (k0_off1_inb e.L rr) p)
  refine step_copy_sub (W := e.W) (q := e.q) e.hO hsc (View.dmaCredit_pos _ (show 0 < S2048.numel by decide +kernel)) (by exact Finset.subset_univ _) (by exact Finset.subset_univ _) (open_fetch e x) ?_
  exact fin3 e (Bf := fun f => (s0V.view.loc (V e.d (cV e.L) (jV e.L)) ↦{fullShare} f)) (g := fun f => { x with a7 := f }) _ hφ h

theorem t_out4 (rr : Fin 4) {sem : DmaSem sig} {hst hsrc hdst hsem hst' hsrc' hdst'} {α : Type} {k : PUnit → TProg e α} {Q : α → sProp 𝕄}
    (hsc : (SemLoc.dma sem : SemLoc sig).isScoped .scVector = true)
    (h : TileP e (φ5 e rr.val) ⊢ TW e (k ⟨⟩) Q) :
    TileP e (φ4 e rr.val) ⊢ TW e (.op (.enqueueDma s1V (.here (o4V.slice (Rect.unit (s := S262144) (k0_off1 e.L (BitVec.ofNat 32 rr.val)) S2048.size (k0_off1_inb e.L rr)) hst)) (.dma sem) hsrc hdst hsem)
      fun _ => .op (.waitDma2 sem s1V (o4V.slice (Rect.unit (s := S262144) (k0_off1 e.L (BitVec.ofNat 32 rr.val)) S2048.size (k0_off1_inb e.L rr)) hst') hsrc' hdst') k) Q := by
  refine TileP.elim e fun x hx => ?_
  have hφ : φ5 e rr.val { x with o4 := (o4V.slice (Rect.unit (s := S262144) (k0_off1 e.L (BitVec.ofNat 32 rr.val)) S2048.size (k0_off1_inb e.L rr)) hst).view.write (Elt F) x.o4 (s1V.view.read (Elt F) x.a8) Finset.univ } := by
    refine put4 e hx.1 hx.2 _ fun n hn hlt => ?_
    show ((View.whole main_v2_0_scv).slice (Rect.unit (s := S262144) (k0_off1 e.L (BitVec.ofNat 32 rr.val)) S2048.size (k0_off1_inb e.L rr))).write (Elt F) x.o4 x.a8 Finset.univ n = _
    by_cases hlt' : (n 0).val < 2048 * row e rr.val
    · refine Eq.trans (write_rect_off (b := main_v2_0_scv) (Rect.unit (s := S262144) (k0_off1 e.L (BitVec.ofNat 32 rr.val)) S2048.size (k0_off1_inb e.L rr)) _ _ fun hm => ?_) (hx.1.1 n hn hlt')
      have := (Rect.mem_set_unit.mp hm 0).1
      rw [off1_row] at this
      omega
    · have hlt : (n 0).val < 2048 * (row e rr.val + 1) := hlt
      obtain ⟨p, hp, hn'⟩ := slot_in_row e rr n (by omega) hlt (k0_off1_inb e.L rr)
      rw [← hn']
      refine (write_rect_on (b := main_v2_0_scv) (Rect.unit (s := S262144) (k0_off1 e.L (BitVec.ofNat 32 rr.val)) S2048.size (k0_off1_inb e.L rr)) _ _ p).trans ?_
      refine ((hx.2 p).1).trans ?_
      unfold G4
      rw [hp, slot_div e rr p, slot_mod e rr p]
  refine step_copy_sub (W := e.W) (q := fullShare) e.hO hsc (View.dmaCredit_pos _ (show 0 < S2048.numel by decide +kernel)) (by exact Finset.subset_univ _)
    (by exact (View.set_slice_whole main_v2_0_scv _).trans_subset (row_sub_T1 e rr _)) (open_out4 e x) ?_
  exact fin3 e (Bf := fun f => (o4V.view.loc (V e.d (cV e.L) (jV e.L)) ↦[T1 (wid e.L)]{fullShare} f)) (g := fun f => { x with o4 := f }) _ hφ h

theorem t_out5 (rr : Fin 4) {sem : DmaSem sig} {hst hsrc hdst hsem hst' hsrc' hdst'} {α : Type} {k : PUnit → TProg e α} {Q : α → sProp 𝕄}
    (hsc : (SemLoc.dma sem : SemLoc sig).isScoped .scVector = true)
    (h : TileP e (φ6 e rr.val 0) ⊢ TW e (k ⟨⟩) Q) :
    TileP e (φ5 e rr.val) ⊢ TW e (.op (.enqueueDma s2V (.here (o5V.slice (Rect.unit (s := S262144) (k0_off1 e.L (BitVec.ofNat 32 rr.val)) S2048.size (k0_off1_inb e.L rr)) hst)) (.dma sem) hsrc hdst hsem)
      fun _ => .op (.waitDma2 sem s2V (o5V.slice (Rect.unit (s := S262144) (k0_off1 e.L (BitVec.ofNat 32 rr.val)) S2048.size (k0_off1_inb e.L rr)) hst') hsrc' hdst') k) Q := by
  refine TileP.elim e fun x hx => ?_
  have hφ : φ6 e rr.val 0 { x with o5 := (o5V.slice (Rect.unit (s := S262144) (k0_off1 e.L (BitVec.ofNat 32 rr.val)) S2048.size (k0_off1_inb e.L rr)) hst).view.write (Elt F) x.o5 (s2V.view.read (Elt F) x.a9) Finset.univ } := by
    refine put5 e hx.1 hx.2 _ fun n hn hlt => ?_
    show ((View.whole main_v2_1_scv).slice (Rect.unit (s := S262144) (k0_off1 e.L (BitVec.ofNat 32 rr.val)) S2048.size (k0_off1_inb e.L rr))).write (Elt F) x.o5 x.a9 Finset.univ n = _
    by_cases hlt' : (n 0).val < 2048 * row e rr.val
    · refine Eq.trans (write_rect_off (b := main_v2_1_scv) (Rect.unit (s := S262144) (k0_off1 e.L (BitVec.ofNat 32 rr.val)) S2048.size (k0_off1_inb e.L rr)) _ _ fun hm => ?_) (hx.1.2.1 n hn hlt')
      have := (Rect.mem_set_unit.mp hm 0).1
      rw [off1_row] at this
      omega
    · have hlt : (n 0).val < 2048 * (row e rr.val + 1) := hlt
      obtain ⟨p, hp, hn'⟩ := slot_in_row e rr n (by omega) hlt (k0_off1_inb e.L rr)
      rw [← hn']
      refine (write_rect_on (b := main_v2_1_scv) (Rect.unit (s := S262144) (k0_off1 e.L (BitVec.ofNat 32 rr.val)) S2048.size (k0_off1_inb e.L rr)) _ _ p).trans ?_
      refine ((hx.2 p).2.1).trans ?_
      unfold G5
      rw [hp, slot_div e rr p, slot_mod e rr p]
  refine step_copy_sub (W := e.W) (q := fullShare) e.hO hsc (View.dmaCredit_pos _ (show 0 < S2048.numel by decide +kernel)) (by exact Finset.subset_univ _)
    (by exact (View.set_slice_whole main_v2_1_scv _).trans_subset (row_sub_T1 e rr _)) (open_out5 e x) ?_
  exact fin3 e (Bf := fun f => (o5V.view.loc (V e.d (cV e.L) (jV e.L)) ↦[T1 (wid e.L)]{fullShare} f)) (g := fun f => { x with o5 := f }) _ hφ h

end Cert.Proof

end
-- ==== Proof.Loops0.lean ====
/-
  The counting loop, the prefix sums and the placing loop.
-/
module

public import proofs.«01_k».proof.Proof.Steps0

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-! ## Loads and stores at the head of the tile's program -/

theorem load7 (x : St F) {r : Rect S2048} {hl} {α : Type} {k : _ → TProg e α} {Q : α → sProp 𝕄} (h : Tile e x ⊢ TW e (k fun i => x.a7 (r.emb i)) Q) :
    Tile e x ⊢ TW e (.op (.load s0V r.toLoadRect hl) k) Q := by
  refine step_load (m := s0V) (r := r) (q := fullShare) (f := x.a7) (open7 e x) ?_
  iintro ⟨H, HR⟩
  iapply h
  iapply HR
  iexact H

theorem store8 (x : St F) {r : Rect S2048} {w : r.shape.Idx → Elt F .i32} {hx hm} {α : Type} {k : PUnit → TProg e α} {Q : α → sProp 𝕄}
    (h : Tile e { x with a8 := ((View.whole cc0_scratch1).slice r).write (Elt F) x.a8 w Finset.univ } ⊢ TW e (k ⟨⟩) Q) :
    Tile e x ⊢ TW e (.op (.store s1V r w Finset.univ hx hm) k) Q := by
  refine step_store (m := s1V) (r := r) (f := x.a8) (open8 e x) ?_
  iintro ⟨H, HR⟩
  iapply h
  iapply HR
  iexact H

theorem put8x (x : St F) {idxs : Fin 1 → IVec S16 32} {v : Vec F S16 .i32} {mask : IVec S16 1} {add : Bool} {hh hs} {α : Type} {k : PUnit → TProg e α} {Q : α → sProp 𝕄}
    (h : Tile e { x with a8 := storeIdx (s := S2048) x.a8 idxs v mask add hh } ⊢ TW e (k ⟨⟩) Q) :
    Tile e x ⊢ TW e (Prog.bind (SparseCore.vectorStoreIdx s1V idxs v mask add hh hs) k) Q := by
  have hset : (s1V.access (Rect.whole S2048)).set = Finset.univ := Memref.set_access_whole cc0_scratch1
  have hw : ∀ w, View.write (Elt F) (s1V.access (Rect.whole S2048)) x.a8 w Finset.univ = w := fun w => Memref.write_access_whole_univ (Elt F) cc0_scratch1 x.a8 w
  have hr : View.read (Elt F) (s1V.access (Rect.whole S2048)) x.a8 = x.a8 := Memref.read_access_whole (Elt F) cc0_scratch1 x.a8
  have key := SparseCore.wp_vectorStoreIdx (defs := defs₀ (F := F)) 𝒱₀ (V e.d (cV e.L) (jV e.L)) none Set.univ (base := s1V) (idxs := idxs) (v := v) (mask := mask) (add := add) (h := hh)
    (hs := hs) (k := k) (f := x.a8) (Q := Q)
  rw [hw, hr, hset] at key
  refine (open8 e x).trans ?_
  iintro ⟨H, HR⟩
  iapply key $$ H
  iintro H
  iapply h
  iapply HR
  iexact H

theorem store9 (x : St F) {r : Rect S2048} {w : r.shape.Idx → Elt F .f32} {hx hm} {α : Type} {k : PUnit → TProg e α} {Q : α → sProp 𝕄}
    (h : Tile e { x with a9 := ((View.whole cc0_scratch2).slice r).write (Elt F) x.a9 w Finset.univ } ⊢ TW e (k ⟨⟩) Q) :
    Tile e x ⊢ TW e (.op (.store s2V r w Finset.univ hx hm) k) Q := by
  refine step_store (m := s2V) (r := r) (f := x.a9) (open9 e x) ?_
  iintro ⟨H, HR⟩
  iapply h
  iapply HR
  iexact H

theorem put9x (x : St F) {idxs : Fin 1 → IVec S16 32} {v : Vec F S16 .f32} {mask : IVec S16 1} {add : Bool} {hh hs} {α : Type} {k : PUnit → TProg e α} {Q : α → sProp 𝕄}
    (h : Tile e { x with a9 := storeIdx (s := S2048) x.a9 idxs v mask add hh } ⊢ TW e (k ⟨⟩) Q) :
    Tile e x ⊢ TW e (Prog.bind (SparseCore.vectorStoreIdx s2V idxs v mask add hh hs) k) Q := by
  have hset : (s2V.access (Rect.whole S2048)).set = Finset.univ := Memref.set_access_whole cc0_scratch2
  have hw : ∀ w, View.write (Elt F) (s2V.access (Rect.whole S2048)) x.a9 w Finset.univ = w := fun w => Memref.write_access_whole_univ (Elt F) cc0_scratch2 x.a9 w
  have hr : View.read (Elt F) (s2V.access (Rect.whole S2048)) x.a9 = x.a9 := Memref.read_access_whole (Elt F) cc0_scratch2 x.a9
  have key := SparseCore.wp_vectorStoreIdx (defs := defs₀ (F := F)) 𝒱₀ (V e.d (cV e.L) (jV e.L)) none Set.univ (base := s2V) (idxs := idxs) (v := v) (mask := mask) (add := add) (h := hh)
    (hs := hs) (k := k) (f := x.a9) (Q := Q)
  rw [hw, hr, hset] at key
  refine (open9 e x).trans ?_
  iintro ⟨H, HR⟩
  iapply key $$ H
  iintro H
  iapply h
  iapply HR
  iexact H

theorem store10 (x : St F) {r : Rect S2048} {w : r.shape.Idx → Elt F .i32} {hx hm} {α : Type} {k : PUnit → TProg e α} {Q : α → sProp 𝕄}
    (h : Tile e { x with a10 := ((View.whole cc0_scratch3).slice r).write (Elt F) x.a10 w Finset.univ } ⊢ TW e (k ⟨⟩) Q) :
    Tile e x ⊢ TW e (.op (.store s3V r w Finset.univ hx hm) k) Q := by
  refine step_store (m := s3V) (r := r) (f := x.a10) (open10 e x) ?_
  iintro ⟨H, HR⟩
  iapply h
  iapply HR
  iexact H

theorem put10x (x : St F) {idxs : Fin 1 → IVec S16 32} {v : Vec F S16 .i32} {mask : IVec S16 1} {add : Bool} {hh hs} {α : Type} {k : PUnit → TProg e α} {Q : α → sProp 𝕄}
    (h : Tile e { x with a10 := storeIdx (s := S2048) x.a10 idxs v mask add hh } ⊢ TW e (k ⟨⟩) Q) :
    Tile e x ⊢ TW e (Prog.bind (SparseCore.vectorStoreIdx s3V idxs v mask add hh hs) k) Q := by
  have hset : (s3V.access (Rect.whole S2048)).set = Finset.univ := Memref.set_access_whole cc0_scratch3
  have hw : ∀ w, View.write (Elt F) (s3V.access (Rect.whole S2048)) x.a10 w Finset.univ = w := fun w => Memref.write_access_whole_univ (Elt F) cc0_scratch3 x.a10 w
  have hr : View.read (Elt F) (s3V.access (Rect.whole S2048)) x.a10 = x.a10 := Memref.read_access_whole (Elt F) cc0_scratch3 x.a10
  have key := SparseCore.wp_vectorStoreIdx (defs := defs₀ (F := F)) 𝒱₀ (V e.d (cV e.L) (jV e.L)) none Set.univ (base := s3V) (idxs := idxs) (v := v) (mask := mask) (add := add) (h := hh)
    (hs := hs) (k := k) (f := x.a10) (Q := Q)
  rw [hw, hr, hset] at key
  refine (open10 e x).trans ?_
  iintro ⟨H, HR⟩
  iapply key $$ H
  iintro H
  iapply h
  iapply HR
  iexact H

theorem load11 (x : St F) {r : Rect S32} {hl} {α : Type} {k : _ → TProg e α} {Q : α → sProp 𝕄} (h : Tile e x ⊢ TW e (k fun i => x.a11 (r.emb i)) Q) :
    Tile e x ⊢ TW e (.op (.load s4V r.toLoadRect hl) k) Q := by
  refine step_load (m := s4V) (r := r) (q := fullShare) (f := x.a11) (open11 e x) ?_
  iintro ⟨H, HR⟩
  iapply h
  iapply HR
  iexact H

theorem store11 (x : St F) {r : Rect S32} {w : r.shape.Idx → Elt F .i32} {hx hm} {α : Type} {k : PUnit → TProg e α} {Q : α → sProp 𝕄}
    (h : Tile e { x with a11 := ((View.whole cc0_scratch4).slice r).write (Elt F) x.a11 w Finset.univ } ⊢ TW e (k ⟨⟩) Q) :
    Tile e x ⊢ TW e (.op (.store s4V r w Finset.univ hx hm) k) Q := by
  refine step_store (m := s4V) (r := r) (f := x.a11) (open11 e x) ?_
  iintro ⟨H, HR⟩
  iapply h
  iapply HR
  iexact H

theorem put11x (x : St F) {idxs : Fin 1 → IVec S16 32} {v : Vec F S16 .i32} {mask : IVec S16 1} {add : Bool} {hh hs} {α : Type} {k : PUnit → TProg e α} {Q : α → sProp 𝕄}
    (h : Tile e { x with a11 := storeIdx (s := S32) x.a11 idxs v mask add hh } ⊢ TW e (k ⟨⟩) Q) :
    Tile e x ⊢ TW e (Prog.bind (SparseCore.vectorStoreIdx s4V idxs v mask add hh hs) k) Q := by
  have hset : (s4V.access (Rect.whole S32)).set = Finset.univ := Memref.set_access_whole cc0_scratch4
  have hw : ∀ w, View.write (Elt F) (s4V.access (Rect.whole S32)) x.a11 w Finset.univ = w := fun w => Memref.write_access_whole_univ (Elt F) cc0_scratch4 x.a11 w
  have hr : View.read (Elt F) (s4V.access (Rect.whole S32)) x.a11 = x.a11 := Memref.read_access_whole (Elt F) cc0_scratch4 x.a11
  have key := SparseCore.wp_vectorStoreIdx (defs := defs₀ (F := F)) 𝒱₀ (V e.d (cV e.L) (jV e.L)) none Set.univ (base := s4V) (idxs := idxs) (v := v) (mask := mask) (add := add) (h := hh)
    (hs := hs) (k := k) (f := x.a11) (Q := Q)
  rw [hw, hr, hset] at key
  refine (open11 e x).trans ?_
  iintro ⟨H, HR⟩
  iapply key $$ H
  iintro H
  iapply h
  iapply HR
  iexact H

theorem halves11 (f : S32.Idx → Elt F .i32) (w0 w1 : S16.Idx → Elt F .i32) (v : S32.Idx) :
    ((View.whole cc0_scratch4).slice (Rect.unit (s := S32) ![16] S16.size inb_S32_S16_16)).write (Elt F)
      (((View.whole cc0_scratch4).slice (Rect.unit (s := S32) ![0] S16.size inb_S32_S16_0)).write (Elt F) f w0 Finset.univ) w1 Finset.univ v
      = if h : (v 0).val < 16 then w0 (ln ⟨(v 0).val, h⟩) else w1 (ln ⟨(v 0).val - 16, by have := lt_S32 v; omega⟩) := by
  have hv := lt_S32 v
  split_ifs with h
  · refine (write_rect_off (b := cc0_scratch4) (Rect.unit (s := S32) ![16] S16.size inb_S32_S16_16) _ _ fun hm => ?_).trans ?_
    · have h16 : 16 ≤ (v 0).val := (Rect.mem_set_unit.mp hm 0).1
      omega
    have he : (Rect.unit (s := S32) ![0] S16.size inb_S32_S16_0).emb (ln ⟨(v 0).val, h⟩) = v := by
      funext a; fin_cases a
      exact Fin.ext (show 0 + 1 * (v 0).val = (v 0).val by omega)
    have := write_rect_on (F := F) (b := cc0_scratch4) (Rect.unit (s := S32) ![0] S16.size inb_S32_S16_0) f w0 (ln ⟨(v 0).val, h⟩)
    rw [he] at this
    exact this
  · have he : (Rect.unit (s := S32) ![16] S16.size inb_S32_S16_16).emb (ln ⟨(v 0).val - 16, by omega⟩) = v := by
      funext a; fin_cases a
      exact Fin.ext (show 16 + 1 * ((v 0).val - 16) = (v 0).val by omega)
    have := write_rect_on (F := F) (b := cc0_scratch4) (Rect.unit (s := S32) ![16] S16.size inb_S32_S16_16)
      (((View.whole cc0_scratch4).slice (Rect.unit (s := S32) ![0] S16.size inb_S32_S16_0)).write (Elt F) f w0 Finset.univ) w1 (ln ⟨(v 0).val - 16, by omega⟩)
    rw [he] at this
    exact this

theorem load12 (x : St F) {r : Rect S32} {hl} {α : Type} {k : _ → TProg e α} {Q : α → sProp 𝕄} (h : Tile e x ⊢ TW e (k fun i => x.a12 (r.emb i)) Q) :
    Tile e x ⊢ TW e (.op (.load s5V r.toLoadRect hl) k) Q := by
  refine step_load (m := s5V) (r := r) (q := fullShare) (f := x.a12) (open12 e x) ?_
  iintro ⟨H, HR⟩
  iapply h
  iapply HR
  iexact H

theorem store12 (x : St F) {r : Rect S32} {w : r.shape.Idx → Elt F .i32} {hx hm} {α : Type} {k : PUnit → TProg e α} {Q : α → sProp 𝕄}
    (h : Tile e { x with a12 := ((View.whole cc0_scratch5).slice r).write (Elt F) x.a12 w Finset.univ } ⊢ TW e (k ⟨⟩) Q) :
    Tile e x ⊢ TW e (.op (.store s5V r w Finset.univ hx hm) k) Q := by
  refine step_store (m := s5V) (r := r) (f := x.a12) (open12 e x) ?_
  iintro ⟨H, HR⟩
  iapply h
  iapply HR
  iexact H

theorem put12x (x : St F) {idxs : Fin 1 → IVec S16 32} {v : Vec F S16 .i32} {mask : IVec S16 1} {add : Bool} {hh hs} {α : Type} {k : PUnit → TProg e α} {Q : α → sProp 𝕄}
    (h : Tile e { x with a12 := storeIdx (s := S32) x.a12 idxs v mask add hh } ⊢ TW e (k ⟨⟩) Q) :
    Tile e x ⊢ TW e (Prog.bind (SparseCore.vectorStoreIdx s5V idxs v mask add hh hs) k) Q := by
  have hset : (s5V.access (Rect.whole S32)).set = Finset.univ := Memref.set_access_whole cc0_scratch5
  have hw : ∀ w, View.write (Elt F) (s5V.access (Rect.whole S32)) x.a12 w Finset.univ = w := fun w => Memref.write_access_whole_univ (Elt F) cc0_scratch5 x.a12 w
  have hr : View.read (Elt F) (s5V.access (Rect.whole S32)) x.a12 = x.a12 := Memref.read_access_whole (Elt F) cc0_scratch5 x.a12
  have key := SparseCore.wp_vectorStoreIdx (defs := defs₀ (F := F)) 𝒱₀ (V e.d (cV e.L) (jV e.L)) none Set.univ (base := s5V) (idxs := idxs) (v := v) (mask := mask) (add := add) (h := hh)
    (hs := hs) (k := k) (f := x.a12) (Q := Q)
  rw [hw, hr, hset] at key
  refine (open12 e x).trans ?_
  iintro ⟨H, HR⟩
  iapply key $$ H
  iintro H
  iapply h
  iapply HR
  iexact H

theorem halves12 (f : S32.Idx → Elt F .i32) (w0 w1 : S16.Idx → Elt F .i32) (v : S32.Idx) :
    ((View.whole cc0_scratch5).slice (Rect.unit (s := S32) ![16] S16.size inb_S32_S16_16)).write (Elt F)
      (((View.whole cc0_scratch5).slice (Rect.unit (s := S32) ![0] S16.size inb_S32_S16_0)).write (Elt F) f w0 Finset.univ) w1 Finset.univ v
      = if h : (v 0).val < 16 then w0 (ln ⟨(v 0).val, h⟩) else w1 (ln ⟨(v 0).val - 16, by have := lt_S32 v; omega⟩) := by
  have hv := lt_S32 v
  split_ifs with h
  · refine (write_rect_off (b := cc0_scratch5) (Rect.unit (s := S32) ![16] S16.size inb_S32_S16_16) _ _ fun hm => ?_).trans ?_
    · have h16 : 16 ≤ (v 0).val := (Rect.mem_set_unit.mp hm 0).1
      omega
    have he : (Rect.unit (s := S32) ![0] S16.size inb_S32_S16_0).emb (ln ⟨(v 0).val, h⟩) = v := by
      funext a; fin_cases a
      exact Fin.ext (show 0 + 1 * (v 0).val = (v 0).val by omega)
    have := write_rect_on (F := F) (b := cc0_scratch5) (Rect.unit (s := S32) ![0] S16.size inb_S32_S16_0) f w0 (ln ⟨(v 0).val, h⟩)
    rw [he] at this
    exact this
  · have he : (Rect.unit (s := S32) ![16] S16.size inb_S32_S16_16).emb (ln ⟨(v 0).val - 16, by omega⟩) = v := by
      funext a; fin_cases a
      exact Fin.ext (show 16 + 1 * ((v 0).val - 16) = (v 0).val by omega)
    have := write_rect_on (F := F) (b := cc0_scratch5) (Rect.unit (s := S32) ![16] S16.size inb_S32_S16_16)
      (((View.whole cc0_scratch5).slice (Rect.unit (s := S32) ![0] S16.size inb_S32_S16_0)).write (Elt F) f w0 Finset.univ) w1 (ln ⟨(v 0).val - 16, by omega⟩)
    rw [he] at this
    exact this

theorem get12 (x : St F) {idxs : Fin 1 → IVec S16 32} {hh hl} {α : Type} {k : _ → TProg e α} {Q : α → sProp 𝕄}
    (h : Tile e x ⊢ TW e (k (loadIdx (s := S32) x.a12 idxs hh)) Q) :
    Tile e x ⊢ TW e (Prog.bind (SparseCore.vectorLoadIdx s5V idxs hh hl) k) Q := by
  refine (open12 e x).trans ?_
  iintro ⟨H, HR⟩
  iapply (SparseCore.wp_vectorLoadIdx 𝒱₀ (V e.d (cV e.L) (jV e.L)) none Set.univ (base := s5V) (Finset.subset_univ _)) $$ H
  iintro H
  rw [show View.read (Elt F) (s5V.access (Rect.whole S32)) x.a12 = x.a12 from Memref.read_access_whole (Elt F) cc0_scratch5 x.a12]
  iapply h
  iapply HR
  iexact H

theorem fin0 {x : St F} {φ : St F → Prop} {P : sProp 𝕄} (hφ : φ x) (h : TileP e φ ⊢ P) : Tile e x ⊢ P := (TileP.intro e hφ).trans h

theorem assume_step {P : Prop} {d : Decidable P} {S : sProp 𝕄} {α : Type} {k : _ → TProg e α} {Q : α → sProp 𝕄} (hP : P) (h : S ⊢ TW e (k ⟨hP⟩) Q) :
    S ⊢ TW e (.op (.assume P d) k) Q := by
  change S ⊢ wp frame (wpE (defs₀ (F := F)) 𝒱₀ (V e.d (cV e.L) (jV e.L)) none) Set.univ _ Q
  rw [wp_assume_of 𝒱₀ (V e.d (cV e.L) (jV e.L)) none Set.univ hP]; exact h

theorem upd2 {rr m : ℕ} {x : St F} (hx : φ1 e rr x) (f : S32.Idx → Elt F .i32)
    (hf : ∀ v, f v = (BitVec.ofNat 32 (cnt (rowKey e.B (row e rr)) m (v 0).val) : BitVec 32)) : φ2 e rr m { x with a11 := f } := ⟨hx, hf⟩

theorem upd3 {rr : ℕ} {x : St F} (hx : φ1 e rr x) (f : S32.Idx → Elt F .i32)
    (hf : ∀ v, f v = (BitVec.ofNat 32 (below (rowKey e.B (row e rr)) (v 0).val) : BitVec 32)) : φ3 e rr 0 { x with a12 := f } :=
  ⟨hx, fun v => by rw [cnt_zero, Nat.add_zero]; exact hf v, fun t ht => absurd ht (Nat.not_lt_zero t)⟩

theorem upd3' {rr m : ℕ} {x : St F} (hx : φ1 e rr x) (f8 f10 : S2048.Idx → Elt F .i32) (f9 : S2048.Idx → Elt F .f32) (f : S32.Idx → Elt F .i32)
    (hf : ∀ v, f v = (BitVec.ofNat 32 (below (rowKey e.B (row e rr)) (v 0).val + cnt (rowKey e.B (row e rr)) m (v 0).val) : BitVec 32))
    (h8 : ∀ t, t < m → ∀ p : S2048.Idx, (p 0).val = dest (rowKey e.B (row e rr)) t → f8 p = (BitVec.ofNat 32 t : BitVec 32))
    (h9 : ∀ t, t < m → ∀ p : S2048.Idx, (p 0).val = dest (rowKey e.B (row e rr)) t → f9 p = FloatOps.sitofp .f32 (BitVec.ofNat 32 t))
    (h10 : ∀ t, t < m → ∀ p : S2048.Idx, (p 0).val = dest (rowKey e.B (row e rr)) t → f10 p = (BitVec.ofNat 32 (2048 * wid e.L + t) : BitVec 32)) :
    φ3 e rr m { x with a8 := f8, a9 := f9, a10 := f10, a12 := f } :=
  ⟨hx, hf, fun t ht p hp => ⟨h8 t ht p hp, h9 t ht p hp, h10 t ht p hp⟩⟩

theorem rowKey_lt (R t : ℕ) : rowKey e.B R t < 32 := e.hB _

/-- The keys of sixteen tokens. -/
theorem lane_key {rr m : ℕ} {x : St F} (hx : φ1 e rr x) {off : Fin 1 → ℕ} (ho : off = ![m]) (inb) (k : Fin 16) :
    (x.a7 ((Rect.unit (s := S2048) off S16.size inb).emb (ln k)) : BitVec 32).toNat = rowKey e.B (row e rr) (m + k.val) := by
  subst ho
  rw [hx.2]
  unfold rowKey
  congr 4
  show m + 1 * k.val = _
  omega

/-- Sixteen tokens placed. -/
theorem placed {el : EltTy} (κ : ℕ → ℕ) {m : ℕ} (hm : m + 16 ≤ 2048) {z : IVec S16 32} (hz : ∀ k, (z (ln k)).toNat = dest κ (m + k.val)) {f : Vec F S2048 el}
    {u : Vec F S16 el} {val : ℕ → Elt F el} (hu : ∀ k, u (ln k) = val (m + k.val)) (hf : ∀ t, t < m → ∀ p : S2048.Idx, (p 0).val = dest κ t → f p = val t) (hh)
    (t : ℕ) (ht : t < m + 16) (p : S2048.Idx) (hp : (p 0).val = dest κ t) : storeIdx f ![z] u (fun _ => 1#1) false hh p = val t := by
  by_cases h : t < m
  · refine (storeIdx_all_off z f u hh p fun k hk => ?_).trans (hf t h p hp)
    rw [hz, hp] at hk
    have := dest_inj (by have := k.isLt; omega) (by omega) hk
    omega
  · have hk : t = m + (⟨t - m, by omega⟩ : Fin 16).val := by show t = m + (t - m); omega
    refine (storeIdx_all_on z f u hh p ⟨t - m, by omega⟩ ?_ fun j hj => ?_).trans ?_
    · rw [hz, hp, ← hk]
    · rw [hz, hz] at hj
      have := dest_inj (by have := j.isLt; omega) (by show m + (t - m) < 2048; omega) hj
      exact Fin.ext (by omega)
    · rw [hu, ← hk]

theorem t_zero (rr : ℕ) {α : Type} {hl hx hm hl' hx' hm'} {k : _ → _ → PUnit → TProg e α} {Q : α → sProp 𝕄}
    (h : ∀ u v, TileP e (φ2 e rr 0) ⊢ TW e (k u v ⟨⟩) Q) :
    TileP e (φ1 e rr) ⊢ TW e (.op (.load s4V (Rect.unit (s := S32) ![0] S16.size inb_S32_S16_0).toLoadRect hl)
      fun u => .op (.store s4V (Rect.unit (s := S32) ![0] S16.size inb_S32_S16_0) (broadcast S16 (0#32 : BitVec 32)) Finset.univ hx hm)
      fun _ => .op (.load s4V (Rect.unit (s := S32) ![16] S16.size inb_S32_S16_16).toLoadRect hl')
      fun v => .op (.store s4V (Rect.unit (s := S32) ![16] S16.size inb_S32_S16_16) (broadcast S16 (0#32 : BitVec 32)) Finset.univ hx' hm') (k u v)) Q := by
  refine TileP.elim e fun x hx => ?_
  refine load11 e x (store11 e x (load11 e _ (store11 e _ ?_)))
  refine fin0 e (upd2 e (rr := rr) (m := 0) hx _ fun v => ?_) (h _ _)
  refine (halves11 x.a11 _ _ v).trans ?_
  rw [cnt_zero]
  split_ifs <;> rfl

/-- One trip of the counting loop. -/
abbrev trip1 (t : Fin k0_t1_loop.trips) : TProg e PUnit := do
  let v485 : Vec F S16 .i32 ← Prog.lift (.load s0V (Rect.unit (s := S2048) (k0_off2 t) S16.size (k0_off2_inb t)).toLoadRect (View.loadsAt_vmem h_S16))
  have k0_hw1 : k0_chk1 v485 := (← Prog.lift (TpuEff.assume (k0_chk1 v485) (k0_chk1.dec v485))).down
  SparseCore.vectorStoreIdx s4V ![v485] (scanCount (broadcast S16 (1#1 : BitVec 1)) v485).2 (scanCount (broadcast S16 (1#1 : BitVec 1)) v485).1 true (k0_idx1_inb v485 k0_hw1) (View.stores_vmem_bits_univ h_S32 rfl)
  pure ⟨⟩

theorem trips1 : k0_t1_loop.trips = 128 := by decide +kernel

theorem trip1_ok (rr : ℕ) (t : Fin k0_t1_loop.trips) : TileP e (φ2 e rr (16 * t.val)) ⊢ TW e (trip1 e t) fun _ => TileP e (φ2 e rr (16 * (t.val + 1))) := by
  refine TileP.elim e fun x hx => ?_
  have hk := lane_key e hx.1 (k0_off2_eq t) (k0_off2_inb t)
  refine load7 e x (r := Rect.unit (s := S2048) (k0_off2 t) S16.size (k0_off2_inb t)) ?_
  have hh : ∀ a y, ((![fun i => x.a7 ((Rect.unit (s := S2048) (k0_off2 t) S16.size (k0_off2_inb t)).emb i)] : Fin 1 → IVec S16 32) a y).toNat < S32.size a := fun a y => by
    fin_cases a
    rw [← ln_self y]
    exact Nat.lt_of_le_of_lt (Nat.le_of_eq (hk (y 0))) (rowKey_lt e _ _)
  refine assume_step e hh ?_
  refine put11x e x ?_
  refine BIBase.Entails.trans ?_ (le_wp_ret frame (wpE (defs₀ (F := F)) 𝒱₀ (V e.d (cV e.L) (jV e.L)) none) Set.univ PUnit.unit fun _ => TileP e (φ2 e rr (16 * (t.val + 1))))
  refine fin0 e (upd2 e hx.1 _ fun v => ?_) .rfl
  rw [show 16 * (t.val + 1) = 16 * t.val + 16 by omega, cnt_add_lanes]
  have hc : (Finset.univ.filter fun j : Fin 16 => rowKey e.B (row e rr) (16 * t.val + j.val) = (v 0).val)
      = Finset.univ.filter fun j : Fin 16 => (x.a7 ((Rect.unit (s := S2048) (k0_off2 t) S16.size (k0_off2_inb t)).emb (ln j)) : BitVec 32).toNat = (v 0).val := by
    refine Finset.filter_congr fun j _ => ?_
    rw [hk]
  rw [hc]
  rcases storeIdx_last (fun i => x.a7 ((Rect.unit (s := S2048) (k0_off2 t) S16.size (k0_off2_inb t)).emb i)) x.a11
    (scanCount (broadcast S16 (1#1 : BitVec 1)) fun i => x.a7 ((Rect.unit (s := S2048) (k0_off2 t) S16.size (k0_off2_inb t)).emb i)).2 true hh v with ⟨h0, h1⟩ | ⟨k, h0, h1, h2⟩
  · refine h1.trans ?_
    rw [h0, Nat.add_zero]; exact hx.2 v
  · refine h2.trans ?_
    rw [if_pos rfl, h1, hx.2 v]
    exact (BitVec.ofNat_add _ _).symm

theorem t_loop1 (rr : ℕ) {α : Type} {K : PUnit → TProg e α} {Q : α → sProp 𝕄}
    (h : TileP e (φ2 e rr 2048) ⊢ TW e (K ⟨⟩) Q) :
    TileP e (φ2 e rr 0) ⊢ TW e (Prog.bind (Scf.Loop.for k0_t1_loop k0_t1_ok ⟨⟩ fun t _ => trip1 e t) K) Q := by
  have h' : TileP e (φ2 e rr (16 * k0_t1_loop.trips)) ⊢ TW e (K ⟨⟩) Q := by rw [trips1]; exact h
  have key : TileP e (φ2 e rr (16 * 0)) ⊢ iprop((∀ acc : PUnit, TileP e (φ2 e rr (16 * k0_t1_loop.trips)) -∗ TW e (K acc) Q)
      -∗ TW e (Prog.bind (Scf.Loop.for k0_t1_loop k0_t1_ok ⟨⟩ fun t _ => trip1 e t) K) Q) :=
    Scf.wp_for_bind frame (wpE (defs₀ (F := F)) 𝒱₀ (V e.d (cV e.L) (jV e.L)) none) Set.univ k0_t1_loop.lb k0_t1_loop.ub k0_t1_loop.st k0_t1_ok PUnit.unit (fun t _ => trip1 e t)
      (fun t _ => TileP e (φ2 e rr (16 * t))) (fun t _ => trip1_ok e rr t)
  iintro H
  iapply key $$ H
  iintro %acc H
  iapply h'
  iexact H

theorem pre_lo (κ : ℕ → ℕ) (u : IVec S16 32) (hu : ∀ y : S16.Idx, u y = BitVec.ofNat 32 (cnt κ 2048 (y 0).val)) (y : S16.Idx) :
    subi (scan .sum u) u y = BitVec.ofNat 32 (below κ (y 0).val) := by
  show IntOp.subi (scan .sum u y) (u y) = _
  rw [scan_eq (fun k => cnt κ 2048 k) u hu, hu, Finset.sum_range_succ, below_eq_sum]
  show BitVec.ofNat 32 (_ + _) - BitVec.ofNat 32 _ = _
  rw [BitVec.ofNat_add, BitVec.add_sub_cancel]

theorem pre_hi (κ : ℕ → ℕ) (u v : IVec S16 32) (hu : ∀ y : S16.Idx, u y = BitVec.ofNat 32 (cnt κ 2048 (y 0).val))
    (hv : ∀ y : S16.Idx, v y = BitVec.ofNat 32 (cnt κ 2048 (16 + (y 0).val))) (y : S16.Idx) :
    addi (subi (scan .sum v) v) (broadcast S16 (extractAt ![15] (scan .sum u) inpos_S16_p15)) y = BitVec.ofNat 32 (below κ (16 + (y 0).val)) := by
  have hsu := scan_eq (fun k => cnt κ 2048 k) u hu
  have hsv := scan_eq (fun k => cnt κ 2048 (16 + k)) v hv
  generalize scan .sum u = su at hsu ⊢
  generalize scan .sum v = sv at hsv ⊢
  have he : extractAt ![15] su inpos_S16_p15 = su (ln 15) := congrArg su (funext fun a => by fin_cases a; rfl)
  rw [he]
  show sv y - v y + su (ln 15) = _
  have h15 : su (ln 15) = BitVec.ofNat 32 (∑ k ∈ Finset.range 16, cnt κ 2048 k) := hsu (ln 15)
  rw [h15, hsv, hv, Finset.sum_range_succ _ (y 0).val, BitVec.ofNat_add, BitVec.add_sub_cancel, ← BitVec.ofNat_add, Nat.add_comm, below_eq_sum,
    Finset.sum_range_add _ 16 (y 0).val]

theorem t_prefix (rr : ℕ) {α : Type} {hl1 hl2 hl3 hl4 hx3 hm3 hx4 hm4} {k : _ → _ → _ → _ → PUnit → TProg e α} {Q : α → sProp 𝕄}
    (h : ∀ u v w z, TileP e (φ3 e rr 0) ⊢ TW e (k u v w z ⟨⟩) Q) :
    TileP e (φ2 e rr 2048) ⊢ TW e (.op (.load s4V (Rect.unit (s := S32) ![0] S16.size inb_S32_S16_0).toLoadRect hl1)
      fun (u : Vec F S16 .i32) => .op (.load s4V (Rect.unit (s := S32) ![16] S16.size inb_S32_S16_16).toLoadRect hl2)
      fun (v : Vec F S16 .i32) => .op (.load s5V (Rect.unit (s := S32) ![0] S16.size inb_S32_S16_0).toLoadRect hl3)
      fun w => .op (.store s5V (Rect.unit (s := S32) ![0] S16.size inb_S32_S16_0) (subi (scan .sum u) u) Finset.univ hx3 hm3)
      fun _ => .op (.load s5V (Rect.unit (s := S32) ![16] S16.size inb_S32_S16_16).toLoadRect hl4)
      fun z => .op (.store s5V (Rect.unit (s := S32) ![16] S16.size inb_S32_S16_16)
        (addi (subi (scan .sum v) v) (broadcast S16 (extractAt ![15] (scan .sum u) inpos_S16_p15))) Finset.univ hx4 hm4) (k u v w z)) Q := by
  refine TileP.elim e fun x hx => ?_
  refine load11 e x (load11 e x (load12 e x (store12 e x (load12 e _ (store12 e _ ?_)))))
  refine fin0 e (upd3 e hx.1 _ fun v => ?_) (h _ _ _ _)
  have hlo : ∀ y : S16.Idx, x.a11 ((Rect.unit (s := S32) ![0] S16.size inb_S32_S16_0).emb y) = (BitVec.ofNat 32 (cnt (rowKey e.B (row e rr)) 2048 (y 0).val) : BitVec 32) := fun y => by
    rw [hx.2]
    congr 2
    show 0 + 1 * (y 0).val = (y 0).val
    omega
  have hhi : ∀ y : S16.Idx, x.a11 ((Rect.unit (s := S32) ![16] S16.size inb_S32_S16_16).emb y) = (BitVec.ofNat 32 (cnt (rowKey e.B (row e rr)) 2048 (16 + (y 0).val)) : BitVec 32) := fun y => by
    rw [hx.2]
    congr 2
    show 16 + 1 * (y 0).val = 16 + (y 0).val
    omega
  refine (halves12 x.a12 _ _ v).trans ?_
  split_ifs with hv
  · exact pre_lo (rowKey e.B (row e rr)) (fun y => x.a11 ((Rect.unit (s := S32) ![0] S16.size inb_S32_S16_0).emb y)) hlo _
  · refine (pre_hi (rowKey e.B (row e rr)) (fun y => x.a11 ((Rect.unit (s := S32) ![0] S16.size inb_S32_S16_0).emb y))
      (fun y => x.a11 ((Rect.unit (s := S32) ![16] S16.size inb_S32_S16_16).emb y)) hlo hhi _).trans ?_
    rw [ln_val]
    congr 2
    show 16 + ((v 0).val - 16) = (v 0).val
    omega

/-- One trip of the placing loop. -/
abbrev trip2 (v41 : BitVec 32) (t : Fin k0_t2_loop.trips) : TProg e PUnit := do
  let arg15 : BitVec 32 := Scf.iv (0#32 : BitVec 32) (1#32 : BitVec 32) t
  let v485 : Vec F S16 .i32 ← Prog.lift (.load s0V (Rect.unit (s := S2048) (k0_off3 t) S16.size (k0_off3_inb t)).toLoadRect (View.loadsAt_vmem h_S16))
  have k0_hw2 : k0_chk2 v485 := (← Prog.lift (TpuEff.assume (k0_chk2 v485) (k0_chk2.dec v485))).down
  have out_mask : IVec S16 1 := (scanCount (broadcast S16 (1#1 : BitVec 1)) v485).1
  have counts : IVec S16 32 := (scanCount (broadcast S16 (1#1 : BitVec 1)) v485).2
  let v487 : Vec F S16 .i32 ← SparseCore.vectorLoadIdx s5V ![v485] (k0_idx2_inb v485 k0_hw2) (View.loads_vmem h_S32)
  have v490 : IVec S16 32 := subi (addi v487 counts) (broadcast S16 (1#32 : BitVec 32))
  have k0_hw3 : k0_chk3 v490 := (← Prog.lift (TpuEff.assume (k0_chk3 v490) (k0_chk3.dec v490))).down
  have v494 : IVec S16 32 := addi (broadcast S16 (Scalar.muli arg15 (16#32 : BitVec 32))) (iota .scVector S16 32 [0] iota_S16_d0_w32_scVector)
  SparseCore.vectorStoreIdx s1V ![v490] v494 (fun _ => 1#1) false (k0_idx3_inb v490 k0_hw3) (View.stores_vmem_bits_univ h_S2048 rfl)
  SparseCore.vectorStoreIdx s2V ![v490] (sitofp .f32 v494) (fun _ => 1#1) false (k0_idx4_inb v490 k0_hw3) (View.stores_vmem_bits_univ h_S2048 rfl)
  SparseCore.vectorStoreIdx s3V ![v490] (addi v494 (broadcast S16 v41)) (fun _ => 1#1) false (k0_idx5_inb v490 k0_hw3) (View.stores_vmem_bits_univ h_S2048 rfl)
  SparseCore.vectorStoreIdx s5V ![v485] (addi v487 counts) out_mask false (k0_idx6_inb v485 k0_hw2) (View.stores_vmem_bits_univ h_S32 rfl)
  pure ⟨⟩

theorem trips2 : k0_t2_loop.trips = 128 := by decide +kernel

theorem upd4 {rr : ℕ} {x : St F} (hx : φ3 e rr 2048 x) : φ4 e rr x := by
  refine ⟨hx.1.1, fun p => ?_⟩
  exact hx.2.2 _ (srt_lt _ _) p (dest_srt _ (lt_S2048 p)).symm

theorem trip2_ok (rr : ℕ) {v41 : BitVec 32} (hv : v41 = BitVec.ofNat 32 (2048 * wid e.L)) (t : Fin k0_t2_loop.trips) :
    TileP e (φ3 e rr (16 * t.val)) ⊢ TW e (trip2 e v41 t) fun _ => TileP e (φ3 e rr (16 * (t.val + 1))) := by
  refine TileP.elim e fun x hx => ?_
  have hk := lane_key e hx.1 (k0_off3_eq t) (k0_off3_inb t)
  have ht : t.val < 128 := Nat.lt_of_lt_of_le t.isLt (Nat.le_of_eq trips2)
  refine load7 e x (r := Rect.unit (s := S2048) (k0_off3 t) S16.size (k0_off3_inb t)) ?_
  generalize hw : (fun i => x.a7 ((Rect.unit (s := S2048) (k0_off3 t) S16.size (k0_off3_inb t)).emb i)) = w
  have hk : ∀ k : Fin 16, (w (ln k) : BitVec 32).toNat = rowKey e.B (row e rr) (16 * t.val + k.val) := fun k => by rw [← hw]; exact hk k
  clear hw
  have hc2 : k0_chk2 w := by
    have h1 : ∀ a y, ((![w] : Fin 1 → IVec S16 32) a y).toNat < S32.size a := fun a y => by
      fin_cases a
      rw [← ln_self y]
      exact Nat.lt_of_le_of_lt (Nat.le_of_eq (hk (y 0))) (rowKey_lt e _ _)
    exact ⟨h1, h1⟩
  refine assume_step e hc2 ?_
  refine get12 e x (hl := View.loads_vmem h_S32) ?_
  generalize hκ : rowKey e.B (row e rr) = κ at hk
  have h487 : ∀ k : Fin 16, loadIdx (s := S32) x.a12 ![w] (k0_idx2_inb w hc2) (ln k)
      = (BitVec.ofNat 32 (below κ (κ (16 * t.val + k.val)) + cnt κ (16 * t.val) (κ (16 * t.val + k.val))) : BitVec 32) := fun k => by
    refine (hx.2.1 _).trans ?_
    rw [hκ, ← hk k]
    rfl
  generalize loadIdx (s := S32) x.a12 ![w] (k0_idx2_inb w hc2) = u at h487
  have hz : ∀ k : Fin 16, subi (addi u (scanCount (broadcast S16 (1#1 : BitVec 1)) w).2) (broadcast S16 (1#32 : BitVec 32)) (ln k)
      = BitVec.ofNat 32 (dest κ (16 * t.val + k.val)) := fun k => by
    show IntOp.subi (IntOp.addi (u (ln k)) ((scanCount (broadcast S16 (1#1 : BitVec 1)) w).2 (ln k))) 1#32 = _
    rw [h487, counts_eq]
    show BitVec.ofNat 32 _ + BitVec.ofNat 32 _ - 1#32 = _
    rw [← BitVec.ofNat_add]
    have he : (Finset.univ.filter fun j : Fin 16 => j ≤ k ∧ w (ln j) = w (ln k)) = Finset.univ.filter fun j : Fin 16 => j ≤ k ∧ κ (16 * t.val + j.val) = κ (16 * t.val + k.val) := by
      refine Finset.filter_congr fun j _ => and_congr_right fun _ => ?_
      rw [← hk j, ← hk k]
      exact ⟨fun h => congrArg BitVec.toNat h, fun h => BitVec.eq_of_toNat_eq h⟩
    rw [he, dest_lane, BitVec.ofNat_add, BitVec.add_sub_cancel]
  have hz' : ∀ k : Fin 16, (subi (addi u (scanCount (broadcast S16 (1#1 : BitVec 1)) w).2) (broadcast S16 (1#32 : BitVec 32)) (ln k)).toNat
      = dest κ (16 * t.val + k.val) := fun k => by
    have hd : dest κ (16 * t.val + k.val) < 2048 := dest_lt (by have := k.isLt; omega)
    rw [hz, BitVec.toNat_ofNat, Nat.mod_eq_of_lt (by omega)]
  have hc3 : k0_chk3 (subi (addi u (scanCount (broadcast S16 (1#1 : BitVec 1)) w).2) (broadcast S16 (1#32 : BitVec 32))) := by
    have h1 : ∀ a y, ((![subi (addi u (scanCount (broadcast S16 (1#1 : BitVec 1)) w).2) (broadcast S16 (1#32 : BitVec 32))] : Fin 1 → IVec S16 32) a y).toNat < S2048.size a := fun a y => by
      fin_cases a
      rw [← ln_self y]
      exact Nat.lt_of_le_of_lt (Nat.le_of_eq (hz' (y 0))) (dest_lt (by have := lt_S16 y; omega))
    exact ⟨h1, h1, h1⟩
  refine assume_step e hc3 ?_
  have h494 : ∀ k : Fin 16, addi (broadcast S16 (Scalar.muli (Scf.iv (0#32 : BitVec 32) (1#32 : BitVec 32) t) (16#32 : BitVec 32))) (iota .scVector S16 32 [0] iota_S16_d0_w32_scVector) (ln k)
      = BitVec.ofNat 32 (16 * t.val + k.val) := fun k => by
    show (0#32 + BitVec.ofNat 32 t.val * 1#32) * 16#32 + BitVec.ofNat 32 (0 * 16 + k.val) = _
    rw [BitVec.zero_add, BitVec.mul_one, Nat.zero_mul, Nat.zero_add, BitVec.ofNat_add, Nat.mul_comm, BitVec.ofNat_mul]
  generalize addi (broadcast S16 (Scalar.muli (Scf.iv (0#32 : BitVec 32) (1#32 : BitVec 32) t) (16#32 : BitVec 32))) (iota .scVector S16 32 [0] iota_S16_d0_w32_scVector) = n at h494
  refine put8x e x (put9x e _ (put10x e _ (put12x e _ ?_)))
  refine BIBase.Entails.trans ?_ (le_wp_ret frame (wpE (defs₀ (F := F)) 𝒱₀ (V e.d (cV e.L) (jV e.L)) none) Set.univ PUnit.unit fun _ => TileP e (φ3 e rr (16 * (t.val + 1))))
  refine fin0 e (upd3' e hx.1 _ _ _ _ ?_ ?_ ?_ ?_) .rfl
  all_goals rw [hκ, show 16 * (t.val + 1) = 16 * t.val + 16 by omega]
  · intro v
    rw [cnt_add_lanes]
    have hc : (Finset.univ.filter fun j : Fin 16 => κ (16 * t.val + j.val) = (v 0).val) = Finset.univ.filter fun j : Fin 16 => (w (ln j) : BitVec 32).toNat = (v 0).val := by
      refine Finset.filter_congr fun j _ => ?_
      rw [hk]
    rw [hc]
    rcases storeIdx_last w x.a12 (addi u (scanCount (broadcast S16 (1#1 : BitVec 1)) w).2) false (k0_idx6_inb w hc2) v with ⟨h0, h1⟩ | ⟨k, h0, h1, h2⟩
    · refine h1.trans ?_
      rw [h0, Nat.add_zero, ← hκ]; exact hx.2.1 v
    · refine h2.trans ?_
      rw [if_neg (by decide)]
      show IntOp.addi (u (ln k)) ((scanCount (broadcast S16 (1#1 : BitVec 1)) w).2 (ln k)) = _
      rw [h1, h487, ← hk, h0, ← Nat.add_assoc]
      exact (BitVec.ofNat_add _ _).symm
  · exact placed κ (by omega) hz' (el := .i32) (f := x.a8) (val := fun t => (BitVec.ofNat 32 t : BitVec 32)) h494 (fun t ht p hp => (hx.2.2 t ht p (by rw [hκ]; exact hp)).1) _
  · exact placed κ (by omega) hz' (el := .f32) (f := x.a9) (val := fun t => FloatOps.sitofp .f32 (BitVec.ofNat 32 t)) (fun k => congrArg (FloatOps.sitofp .f32) (h494 k)) (fun t ht p hp => (hx.2.2 t ht p (by rw [hκ]; exact hp)).2.1) _
  · refine placed κ (by omega) hz' (el := .i32) (f := x.a10) (val := fun t => (BitVec.ofNat 32 (2048 * wid e.L + t) : BitVec 32)) (fun k => ?_) (fun t ht p hp => (hx.2.2 t ht p (by rw [hκ]; exact hp)).2.2) _
    show IntOp.addi (n (ln k)) v41 = _
    rw [h494, hv]
    show BitVec.ofNat 32 _ + BitVec.ofNat 32 _ = _
    rw [← BitVec.ofNat_add, Nat.add_comm]

theorem t_loop2 (rr : ℕ) {v41 : BitVec 32} {α : Type} {K : PUnit → TProg e α} {Q : α → sProp 𝕄}
    (hv : v41 = BitVec.ofNat 32 (2048 * wid e.L))
    (h : TileP e (φ4 e rr) ⊢ TW e (K ⟨⟩) Q) :
    TileP e (φ3 e rr 0) ⊢ TW e (Prog.bind (Scf.Loop.for k0_t2_loop k0_t2_ok ⟨⟩ fun t _ => trip2 e v41 t) K) Q := by
  have h' : TileP e (φ3 e rr (16 * k0_t2_loop.trips)) ⊢ TW e (K ⟨⟩) Q := by
    rw [trips2]
    exact (TileP.mono e fun x hx => upd4 e (rr := rr) (x := x) hx).trans h
  have key : TileP e (φ3 e rr (16 * 0)) ⊢ iprop((∀ acc : PUnit, TileP e (φ3 e rr (16 * k0_t2_loop.trips)) -∗ TW e (K acc) Q)
      -∗ TW e (Prog.bind (Scf.Loop.for k0_t2_loop k0_t2_ok ⟨⟩ fun t _ => trip2 e v41 t) K) Q) :=
    Scf.wp_for_bind frame (wpE (defs₀ (F := F)) 𝒱₀ (V e.d (cV e.L) (jV e.L)) none) Set.univ k0_t2_loop.lb k0_t2_loop.ub k0_t2_loop.st k0_t2_ok PUnit.unit (fun t _ => trip2 e v41 t)
      (fun t _ => TileP e (φ3 e rr (16 * t))) (fun t _ => trip2_ok e rr hv t)
  iintro H
  iapply key $$ H
  iintro %acc H
  iapply h'
  iexact H

end Cert.Proof

end
-- ==== Proof.Chunk0.lean ====
/-
  One chunk of the sorted rows.
-/
module

public import proofs.«01_k».proof.Proof.Steps0

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-- What the gather puts at an element. -/
theorem gather_at (g : S65536x128.Idx → Elt F .f32) (o : S128.Idx → Elt F .i32) (hn : S128.numel = S128x128.size gathers_S65536x128_S128x128.axis')
    (hin : ∀ x, (o x : BitVec 32).toNat < S65536x128.size gathers_S65536x128_S128x128.axis) (y : S128x128.Idx) :
    SparseCore.gatherPayload (F := F) (e := .f32) gathers_S65536x128_S128x128 g (SparseCore.rows o hn hin) y
      = g (cellX (o (fun _ => ⟨(y 0).val, by rw [size_S128]; exact (y 0).isLt⟩) : BitVec 32).toNat (y 1)) := by
  unfold SparseCore.gatherPayload
  congr 1
  funext b
  fin_cases b
  · refine Fin.ext ?_
    refine (congrArg Fin.val (Shape.Gathers.idx_axis gathers_S65536x128_S128x128 _ y)).trans ?_
    refine Eq.trans ?_ (Nat.mod_eq_of_lt (hin _)).symm
    show (o _ : BitVec 32).toNat = (o _ : BitVec 32).toNat
    congr 2
    rw [Equiv.symm_apply_eq]
    refine Fin.ext ?_
    rw [Shape.rowMajor_val_one]
    rfl
  · exact Fin.ext (Shape.Gathers.idx_of_ne gathers_S65536x128_S128x128 _ y 1 (by decide))

/-- The chunk's rows are in the tile's memory. -/
def φg (rr k : ℕ) (x : St F) : Prop := φ6 e rr k x
  ∧ ∀ y : S128x128.Idx, x.a13 y = e.X (cellX (2048 * wid e.L + srt (rowKey e.B (row e rr)) (128 * k + (y 0).val)) (y 1))

theorem off4_row (rr : Fin 4) (kk : Fin 16) : k0_off4 e.L (BitVec.ofNat 32 rr.val) (BitVec.ofNat 32 (128 * kk.val)) 0 = 2048 * row e rr.val + 128 * kk.val := by
  rw [k0_off4_eq]; unfold row wid
  show 16384 * (e.L 1).val + 8192 * (e.L 0).val + 2048 * rr.val + 128 * kk.val = _
  omega

theorem off4_col (rr : Fin 4) (kk : Fin 16) : k0_off4 e.L (BitVec.ofNat 32 rr.val) (BitVec.ofNat 32 (128 * kk.val)) 1 = 0 := by
  rw [k0_off4_eq]; rfl

theorem chunk_sub_T2 (rr : Fin 4) (kk : Fin 16) (inb) :
    (Rect.unit (s := S262144x128) (k0_off4 e.L (BitVec.ofNat 32 rr.val) (BitVec.ofNat 32 (128 * kk.val))) S128x128.size inb).set ⊆ T2 (wid e.L) := by
  intro n hn
  have hn := Rect.mem_set_unit.mp hn 0
  have h0 := off4_row e rr kk
  have h3 := rr.isLt
  have h4 := kk.isLt
  refine Finset.mem_filter.mpr ⟨Finset.mem_univ _, ?_⟩
  have h1 : 2048 * row e rr.val + 128 * kk.val ≤ (n 0).val := h0 ▸ hn.1
  have h2 : (n 0).val < 2048 * row e rr.val + 128 * kk.val + 128 := h0 ▸ hn.2
  unfold row at h1 h2
  omega

/-- An element of the chunk, by its place in the chunk's rectangle. -/
theorem cell_in_chunk (rr : Fin 4) (kk : Fin 16) (n : S262144x128.Idx) (h1 : 2048 * row e rr.val + 128 * kk.val ≤ (n 0).val)
    (h2 : (n 0).val < 2048 * row e rr.val + 128 * kk.val + 128) (inb) :
    ∃ y : S128x128.Idx, (n 0).val = 2048 * row e rr.val + 128 * kk.val + (y 0).val ∧ y 1 = n 1
      ∧ (Rect.unit (s := S262144x128) (k0_off4 e.L (BitVec.ofNat 32 rr.val) (BitVec.ofNat 32 (128 * kk.val))) S128x128.size inb).emb y = n := by
  refine ⟨fun
    | 0 => ⟨(n 0).val - (2048 * row e rr.val + 128 * kk.val), show _ < 128 by omega⟩
    | 1 => ⟨(n 1).val, (n 1).isLt⟩
    | ⟨_ + 2, h⟩ => absurd h (Nat.not_lt.2 (Nat.le_add_left _ _)), ?_, rfl, ?_⟩
  · show (n 0).val = 2048 * row e rr.val + 128 * kk.val + ((n 0).val - (2048 * row e rr.val + 128 * kk.val))
    omega
  · funext a; fin_cases a
    · refine Fin.ext ?_
      show k0_off4 e.L (BitVec.ofNat 32 rr.val) (BitVec.ofNat 32 (128 * kk.val)) 0 + 1 * ((n 0).val - (2048 * row e rr.val + 128 * kk.val)) = (n 0).val
      rw [off4_row]; omega
    · refine Fin.ext ?_
      show k0_off4 e.L (BitVec.ofNat 32 rr.val) (BitVec.ofNat 32 (128 * kk.val)) 1 + 1 * (n 1).val = (n 1).val
      rw [off4_col]; omega

/-- The rows that a chunk's list names. -/
theorem list_at {rr : ℕ} {x : St F} (hs : Sorted e rr x) (kk : Fin 16) (inb) (p : S128.Idx) :
    (x.a10 ((Rect.unit (s := S2048) ![128 * kk.val] S128.size inb).emb p) : BitVec 32).toNat = 2048 * wid e.L + srt (rowKey e.B (row e rr)) (128 * kk.val + (p 0).val) := by
  rw [(hs _).2.2]
  have h1 := wid_lt e.L
  have h2 := srt_lt (rowKey e.B (row e rr)) (128 * kk.val + (p 0).val)
  have h3 : ((Rect.unit (s := S2048) ![128 * kk.val] S128.size inb).emb p 0).val = 128 * kk.val + (p 0).val := by
    show 128 * kk.val + 1 * (p 0).val = _
    omega
  rw [h3]
  show (BitVec.ofNat 32 _).toNat = _
  rw [BitVec.toNat_ofNat, Nat.mod_eq_of_lt (by omega)]

theorem emb_whole (inb) (j : S65536x128.Idx) : (Rect.unit (s := S65536x128) ![0, 0] S65536x128.size inb).emb j = j := by
  funext a; fin_cases a
  · exact Fin.ext (show 0 + 1 * (j 0).val = (j 0).val by omega)
  · exact Fin.ext (show 0 + 1 * (j 1).val = (j 1).val by omega)

theorem t_gather (rr : Fin 4) (kk : Fin 16) {sem : DmaSem sig} {inb} {hst1 hst2 hst3 hn hp hsrc he hsrc1 hdst1} {α : Type}
    {k : PUnit → TProg e α} {Q : α → sProp 𝕄}
    (hsc : (SemLoc.dma sem : SemLoc sig).isScoped .scVector = true)
    (h : TileP e (φg e rr.val kk.val) ⊢ TW e (k ⟨⟩) Q) :
    TileP e (φ6 e rr.val kk.val) ⊢ TW e (Prog.bind (SparseCore.enqueueIndirectGather (p := Proc.scVector (cV e.L) (jV e.L)) hp (xV.slice (Rect.unit (s := S65536x128) ![0, 0] S65536x128.size inb_S65536x128_S65536x128_0_0) hst1) s6V gathers_S65536x128_S128x128
        (s3V.slice (Rect.unit (s := S2048) ![128 * kk.val] S128.size inb) hst2) hn sem hsrc he (Or.inl rfl)) fun _ =>
      .op (.waitDma2 sem (xV.slice (Rect.unit (s := S65536x128) ![0, 0] S65536x128.size inb_S65536x128_S65536x128_0_0) hst3) s6V hsrc1 hdst1) k) Q := by
  refine TileP.elim e fun x hx => ?_
  have hin : ∀ p : S128.Idx, (x.a10 ((Rect.unit (s := S2048) ![128 * kk.val] S128.size inb).emb p) : BitVec 32).toNat < S65536x128.size gathers_S65536x128_S128x128.axis := fun p => by
    rw [list_at e hx.2]
    show _ < 65536
    have h1 := wid_lt e.L
    have h2 := srt_lt (rowKey e.B (row e rr)) (128 * kk.val + (p 0).val)
    omega
  have hφ : φg e rr.val kk.val { x with a13 := s6V.view.write (Elt F) x.a13 (SparseCore.gatherPayload gathers_S65536x128_S128x128
      ((xV.slice (Rect.unit (s := S65536x128) ![0, 0] S65536x128.size inb_S65536x128_S65536x128_0_0) hst1).view.read (Elt F) e.X)
      (SparseCore.rows ((s3V.slice (Rect.unit (s := S2048) ![128 * kk.val] S128.size inb) hst2).view.read (Elt F) x.a10) hn hin)) Finset.univ } := by
    refine ⟨hx, fun y => ?_⟩
    refine (congrFun (View.write_whole_univ (b := cc0_scratch6) _ _) y).trans ?_
    refine (gather_at _ _ hn hin y).trans ?_
    show e.X ((Rect.unit (s := S65536x128) ![0, 0] S65536x128.size inb_S65536x128_S65536x128_0_0).emb _) = _
    rw [emb_whole]
    congr 2
    exact list_at e hx.2 kk inb _
  refine step_gather_sub (W := e.W) (q := e.q) (qo := fullShare) e.hO hsc (by decide +kernel) (by decide +kernel) hin (by exact Finset.subset_univ _) (by exact Finset.subset_univ _)
    (by exact View.set_whole cc0_scratch6) (open_gather e x) ?_
  iintro ⟨HA, HB, HC, HD, HR⟩
  iapply h
  iapply (TileP.intro e hφ)
  iapply HR
  isplitl [HA]; · iexact HA
  isplitl [HB]; · iexact HB
  isplitl [HC] <;> iassumption

theorem t_out6 (rr : Fin 4) (kk : Fin 16) {sem' : DmaSem sig} {hst4 hst5 hsrc2 hdst2 hsem hsrc3 hdst3} {α : Type}
    {k : PUnit → TProg e α} {Q : α → sProp 𝕄}
    (hsc' : (SemLoc.dma sem' : SemLoc sig).isScoped .scVector = true)
    (h : TileP e (φ6 e rr.val (kk.val + 1)) ⊢ TW e (k ⟨⟩) Q) :
    TileP e (φg e rr.val kk.val) ⊢ TW e (.op (.enqueueDma s6V (.here (o6V.slice (Rect.unit (s := S262144x128) (k0_off4 e.L (BitVec.ofNat 32 rr.val) (BitVec.ofNat 32 (128 * kk.val))) S128x128.size (k0_off4_inb e.L rr kk)) hst4)) (.dma sem') hsrc2 hdst2 hsem)
      fun _ => .op (.waitDma2 sem' s6V (o6V.slice (Rect.unit (s := S262144x128) (k0_off4 e.L (BitVec.ofNat 32 rr.val) (BitVec.ofNat 32 (128 * kk.val))) S128x128.size (k0_off4_inb e.L rr kk)) hst5) hsrc3 hdst3) k) Q := by
  refine TileP.elim e fun x hx => ?_
  have hφ : φ6 e rr.val (kk.val + 1) { x with o6 := (o6V.slice (Rect.unit (s := S262144x128) (k0_off4 e.L (BitVec.ofNat 32 rr.val) (BitVec.ofNat 32 (128 * kk.val))) S128x128.size (k0_off4_inb e.L rr kk)) hst4).view.write (Elt F) x.o6 (s6V.view.read (Elt F) x.a13) Finset.univ } := by
    refine put6 e hx.1.1 hx.1.2 _ fun n hn hlt => ?_
    show ((View.whole main_v2_2_scv).slice (Rect.unit (s := S262144x128) (k0_off4 e.L (BitVec.ofNat 32 rr.val) (BitVec.ofNat 32 (128 * kk.val))) S128x128.size (k0_off4_inb e.L rr kk))).write (Elt F) x.o6 x.a13 Finset.univ n = _
    by_cases hlt' : (n 0).val < 2048 * row e rr.val + 128 * kk.val
    · refine Eq.trans (write_rect_off (b := main_v2_2_scv) (Rect.unit (s := S262144x128) (k0_off4 e.L (BitVec.ofNat 32 rr.val) (BitVec.ofNat 32 (128 * kk.val))) S128x128.size (k0_off4_inb e.L rr kk)) _ _ fun hm => ?_) (hx.1.1.2.2 n hn hlt')
      have := (Rect.mem_set_unit.mp hm 0).1
      rw [off4_row] at this
      omega
    · obtain ⟨y, hy0, hy1, hn'⟩ := cell_in_chunk e rr kk n (by omega) (by omega) (k0_off4_inb e.L rr kk)
      rw [← hn']
      refine (write_rect_on (b := main_v2_2_scv) (Rect.unit (s := S262144x128) (k0_off4 e.L (BitVec.ofNat 32 rr.val) (BitVec.ofNat 32 (128 * kk.val))) S128x128.size (k0_off4_inb e.L rr kk)) _ _ y).trans ?_
      refine (hx.2 y).trans ?_
      rw [hn']
      unfold G6
      have h1 : (y 0).val < 128 := (y 0).isLt
      have h2 := kk.isLt
      have h3 : (n 0).val / 2048 = row e rr.val := by omega
      have h4 : (n 0).val % 2048 = 128 * kk.val + (y 0).val := by omega
      have h5 : (n 0).val / 8192 = wid e.L := (Finset.mem_filter.mp hn).2
      rw [h3, h4, h5, hy1]
  refine step_copy_sub (W := e.W) (q := fullShare) e.hO hsc' (View.dmaCredit_pos _ (show 0 < S128x128.numel by decide +kernel)) (by exact Finset.subset_univ _)
    (by exact (View.set_slice_whole main_v2_2_scv _).trans_subset (chunk_sub_T2 e rr kk _)) (open_out6 e x) ?_
  exact fin3 e (Bf := fun f => (o6V.view.loc (V e.d (cV e.L) (jV e.L)) ↦[T2 (wid e.L)]{fullShare} f)) (g := fun f => { x with o6 := f }) _ hφ h

/-- One chunk: the gather of 128 rows, and their copy out. -/
theorem t_chunk (rr : Fin 4) (kk : Fin 16) {sem sem' : DmaSem sig} {inb} {hst1 hst2 hst3 hst4 hst5 hn hp hsrc he hsrc1 hdst1 hsrc2 hdst2 hsem hsrc3 hdst3} {α : Type}
    {k : PUnit → TProg e α} {Q : α → sProp 𝕄}
    (hsc : (SemLoc.dma sem : SemLoc sig).isScoped .scVector = true) (hsc' : (SemLoc.dma sem' : SemLoc sig).isScoped .scVector = true)
    (h : TileP e (φ6 e rr.val (kk.val + 1)) ⊢ TW e (k ⟨⟩) Q) :
    TileP e (φ6 e rr.val kk.val) ⊢ TW e (Prog.bind (SparseCore.enqueueIndirectGather (p := Proc.scVector (cV e.L) (jV e.L)) hp (xV.slice (Rect.unit (s := S65536x128) ![0, 0] S65536x128.size inb_S65536x128_S65536x128_0_0) hst1) s6V gathers_S65536x128_S128x128
        (s3V.slice (Rect.unit (s := S2048) ![128 * kk.val] S128.size inb) hst2) hn sem hsrc he (Or.inl rfl)) fun _ =>
      .op (.waitDma2 sem (xV.slice (Rect.unit (s := S65536x128) ![0, 0] S65536x128.size inb_S65536x128_S65536x128_0_0) hst3) s6V hsrc1 hdst1)
      fun _ => .op (.enqueueDma s6V (.here (o6V.slice (Rect.unit (s := S262144x128) (k0_off4 e.L (BitVec.ofNat 32 rr.val) (BitVec.ofNat 32 (128 * kk.val))) S128x128.size (k0_off4_inb e.L rr kk)) hst4)) (.dma sem') hsrc2 hdst2 hsem)
      fun _ => .op (.waitDma2 sem' s6V (o6V.slice (Rect.unit (s := S262144x128) (k0_off4 e.L (BitVec.ofNat 32 rr.val) (BitVec.ofNat 32 (128 * kk.val))) S128x128.size (k0_off4_inb e.L rr kk)) hst5) hsrc3 hdst3) k) Q := by
  exact t_gather e rr kk hsc (t_out6 e rr kk hsc' h)

end Cert.Proof

end
-- ==== Proof.Body0.lean ====
/-
  The sorting tile's program, from its steps.
-/
module

public import proofs.«01_k».proof.Proof.Loops0
public import proofs.«01_k».proof.Proof.Chunk0

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-- The body of the sorting tile. -/
abbrev body0 : TProg e PUnit := cc0__sort_gather_body e.L bV (Memref.isWhole_whole _) xV (Memref.isWhole_whole _) o4V (Memref.isWhole_whole _)
  o5V (Memref.isWhole_whole _) o6V (Memref.isWhole_whole _) s0V (Memref.isWhole_whole _) s1V (Memref.isWhole_whole _) s2V (Memref.isWhole_whole _)
  s3V (Memref.isWhole_whole _) s4V (Memref.isWhole_whole _) s5V (Memref.isWhole_whole _) s6V (Memref.isWhole_whole _) cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75

/-- The batch-head of the tile's rows, times 2048, as the kernel computes it: a floor division by 4. -/
def bh2048 (L : grid0.Coords) (r : BitVec 32) : BitVec 32 :=
  let v4 : BitVec 32 := Scalar.addi (Scalar.muli (Scalar.addi (Scalar.muli (BitVec.ofNat 32 (L 1).val) 2#32) (BitVec.ofNat 32 (L 0).val)) 4#32) r
  let v10 : BitVec 32 := Scalar.subi (Scalar.extui (Scalar.cmpi .sgt v4 0#32)) (Scalar.extui (Scalar.cmpi .slt v4 0#32))
  let v15 : BitVec 32 := Scalar.subi (Scalar.extui (Scalar.cmpi .sgt (4#32 : BitVec 32) 0#32)) (Scalar.extui (Scalar.cmpi .slt (4#32 : BitVec 32) 0#32))
  Scalar.muli (Scalar.select (Scalar.andi (Scalar.cmpi .ne v10 v15) (Scalar.cmpi .ne (Scalar.remsi v4 4#32) 0#32))
    (Scalar.subi (Scalar.divsi v4 4#32) 1#32) (Scalar.divsi v4 4#32)) 2048#32

theorem bh2048_eq : ∀ (L : grid0.Coords) (r : Fin 4), bh2048 L (BitVec.ofNat 32 r.val) = BitVec.ofNat 32 (2048 * wid L) := by decide +kernel

set_option maxHeartbeats 4000000 in
theorem body0_ok : TileP e (φ0 e 0) ⊢ TW e (body0 e) fun _ => TileP e (φ0 e 4) := by
  refine t_fetch e 0 rfl ?_
  refine t_zero e 0 fun _ _ => ?_
  iterate 4 try refine bind_out e ?_
  refine t_loop1 e 0 ?_
  refine t_prefix e 0 fun _ _ _ _ => ?_
  iterate 4 try refine bind_out e ?_
  refine t_loop2 e 0 ?_ ?_
  · exact bh2048_eq e.L 0
  refine t_out4 e 0 rfl ?_
  refine t_out5 e 0 rfl ?_
  iterate 4 try refine bind_out e ?_
  refine t_chunk e 0 0 rfl rfl ?_
  iterate 4 try refine bind_out e ?_
  refine t_chunk e 0 1 rfl rfl ?_
  iterate 4 try refine bind_out e ?_
  refine t_chunk e 0 2 rfl rfl ?_
  iterate 4 try refine bind_out e ?_
  refine t_chunk e 0 3 rfl rfl ?_
  iterate 4 try refine bind_out e ?_
  refine t_chunk e 0 4 rfl rfl ?_
  iterate 4 try refine bind_out e ?_
  refine t_chunk e 0 5 rfl rfl ?_
  iterate 4 try refine bind_out e ?_
  refine t_chunk e 0 6 rfl rfl ?_
  iterate 4 try refine bind_out e ?_
  refine t_chunk e 0 7 rfl rfl ?_
  iterate 4 try refine bind_out e ?_
  refine t_chunk e 0 8 rfl rfl ?_
  iterate 4 try refine bind_out e ?_
  refine t_chunk e 0 9 rfl rfl ?_
  iterate 4 try refine bind_out e ?_
  refine t_chunk e 0 10 rfl rfl ?_
  iterate 4 try refine bind_out e ?_
  refine t_chunk e 0 11 rfl rfl ?_
  iterate 4 try refine bind_out e ?_
  refine t_chunk e 0 12 rfl rfl ?_
  iterate 4 try refine bind_out e ?_
  refine t_chunk e 0 13 rfl rfl ?_
  iterate 4 try refine bind_out e ?_
  refine t_chunk e 0 14 rfl rfl ?_
  iterate 4 try refine bind_out e ?_
  refine t_chunk e 0 15 rfl rfl ?_
  refine (φ6_last e 0).trans ?_
  refine t_fetch e 1 rfl ?_
  refine t_zero e 1 fun _ _ => ?_
  iterate 4 try refine bind_out e ?_
  refine t_loop1 e 1 ?_
  refine t_prefix e 1 fun _ _ _ _ => ?_
  iterate 4 try refine bind_out e ?_
  refine t_loop2 e 1 ?_ ?_
  · exact bh2048_eq e.L 1
  refine t_out4 e 1 rfl ?_
  refine t_out5 e 1 rfl ?_
  iterate 4 try refine bind_out e ?_
  refine t_chunk e 1 0 rfl rfl ?_
  iterate 4 try refine bind_out e ?_
  refine t_chunk e 1 1 rfl rfl ?_
  iterate 4 try refine bind_out e ?_
  refine t_chunk e 1 2 rfl rfl ?_
  iterate 4 try refine bind_out e ?_
  refine t_chunk e 1 3 rfl rfl ?_
  iterate 4 try refine bind_out e ?_
  refine t_chunk e 1 4 rfl rfl ?_
  iterate 4 try refine bind_out e ?_
  refine t_chunk e 1 5 rfl rfl ?_
  iterate 4 try refine bind_out e ?_
  refine t_chunk e 1 6 rfl rfl ?_
  iterate 4 try refine bind_out e ?_
  refine t_chunk e 1 7 rfl rfl ?_
  iterate 4 try refine bind_out e ?_
  refine t_chunk e 1 8 rfl rfl ?_
  iterate 4 try refine bind_out e ?_
  refine t_chunk e 1 9 rfl rfl ?_
  iterate 4 try refine bind_out e ?_
  refine t_chunk e 1 10 rfl rfl ?_
  iterate 4 try refine bind_out e ?_
  refine t_chunk e 1 11 rfl rfl ?_
  iterate 4 try refine bind_out e ?_
  refine t_chunk e 1 12 rfl rfl ?_
  iterate 4 try refine bind_out e ?_
  refine t_chunk e 1 13 rfl rfl ?_
  iterate 4 try refine bind_out e ?_
  refine t_chunk e 1 14 rfl rfl ?_
  iterate 4 try refine bind_out e ?_
  refine t_chunk e 1 15 rfl rfl ?_
  refine (φ6_last e 1).trans ?_
  refine t_fetch e 2 rfl ?_
  refine t_zero e 2 fun _ _ => ?_
  iterate 4 try refine bind_out e ?_
  refine t_loop1 e 2 ?_
  refine t_prefix e 2 fun _ _ _ _ => ?_
  iterate 4 try refine bind_out e ?_
  refine t_loop2 e 2 ?_ ?_
  · exact bh2048_eq e.L 2
  refine t_out4 e 2 rfl ?_
  refine t_out5 e 2 rfl ?_
  iterate 4 try refine bind_out e ?_
  refine t_chunk e 2 0 rfl rfl ?_
  iterate 4 try refine bind_out e ?_
  refine t_chunk e 2 1 rfl rfl ?_
  iterate 4 try refine bind_out e ?_
  refine t_chunk e 2 2 rfl rfl ?_
  iterate 4 try refine bind_out e ?_
  refine t_chunk e 2 3 rfl rfl ?_
  iterate 4 try refine bind_out e ?_
  refine t_chunk e 2 4 rfl rfl ?_
  iterate 4 try refine bind_out e ?_
  refine t_chunk e 2 5 rfl rfl ?_
  iterate 4 try refine bind_out e ?_
  refine t_chunk e 2 6 rfl rfl ?_
  iterate 4 try refine bind_out e ?_
  refine t_chunk e 2 7 rfl rfl ?_
  iterate 4 try refine bind_out e ?_
  refine t_chunk e 2 8 rfl rfl ?_
  iterate 4 try refine bind_out e ?_
  refine t_chunk e 2 9 rfl rfl ?_
  iterate 4 try refine bind_out e ?_
  refine t_chunk e 2 10 rfl rfl ?_
  iterate 4 try refine bind_out e ?_
  refine t_chunk e 2 11 rfl rfl ?_
  iterate 4 try refine bind_out e ?_
  refine t_chunk e 2 12 rfl rfl ?_
  iterate 4 try refine bind_out e ?_
  refine t_chunk e 2 13 rfl rfl ?_
  iterate 4 try refine bind_out e ?_
  refine t_chunk e 2 14 rfl rfl ?_
  iterate 4 try refine bind_out e ?_
  refine t_chunk e 2 15 rfl rfl ?_
  refine (φ6_last e 2).trans ?_
  refine t_fetch e 3 rfl ?_
  refine t_zero e 3 fun _ _ => ?_
  iterate 4 try refine bind_out e ?_
  refine t_loop1 e 3 ?_
  refine t_prefix e 3 fun _ _ _ _ => ?_
  iterate 4 try refine bind_out e ?_
  refine t_loop2 e 3 ?_ ?_
  · exact bh2048_eq e.L 3
  refine t_out4 e 3 rfl ?_
  refine t_out5 e 3 rfl ?_
  iterate 4 try refine bind_out e ?_
  refine t_chunk e 3 0 rfl rfl ?_
  iterate 4 try refine bind_out e ?_
  refine t_chunk e 3 1 rfl rfl ?_
  iterate 4 try refine bind_out e ?_
  refine t_chunk e 3 2 rfl rfl ?_
  iterate 4 try refine bind_out e ?_
  refine t_chunk e 3 3 rfl rfl ?_
  iterate 4 try refine bind_out e ?_
  refine t_chunk e 3 4 rfl rfl ?_
  iterate 4 try refine bind_out e ?_
  refine t_chunk e 3 5 rfl rfl ?_
  iterate 4 try refine bind_out e ?_
  refine t_chunk e 3 6 rfl rfl ?_
  iterate 4 try refine bind_out e ?_
  refine t_chunk e 3 7 rfl rfl ?_
  iterate 4 try refine bind_out e ?_
  refine t_chunk e 3 8 rfl rfl ?_
  iterate 4 try refine bind_out e ?_
  refine t_chunk e 3 9 rfl rfl ?_
  iterate 4 try refine bind_out e ?_
  refine t_chunk e 3 10 rfl rfl ?_
  iterate 4 try refine bind_out e ?_
  refine t_chunk e 3 11 rfl rfl ?_
  iterate 4 try refine bind_out e ?_
  refine t_chunk e 3 12 rfl rfl ?_
  iterate 4 try refine bind_out e ?_
  refine t_chunk e 3 13 rfl rfl ?_
  iterate 4 try refine bind_out e ?_
  refine t_chunk e 3 14 rfl rfl ?_
  iterate 4 try refine bind_out e ?_
  refine t_chunk e 3 15 rfl rfl ?_
  refine (φ6_last e 3).trans ?_
  exact le_wp_ret frame (wpE (defs₀ (F := F)) 𝒱₀ (V e.d (cV e.L) (jV e.L)) none) Set.univ PUnit.unit fun _ => TileP e (φ0 e 4)

end Cert.Proof

end
-- ==== Proof.Tile1.lean ====
/-
  The unsorting tile's state, and the scatter step.
-/
module

public import proofs.«01_k».proof.Proof.Tile
public import proofs.«01_k».proof.Proof.Count

@[expose] public section

noncomputable section

namespace Cert.Proof.U

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- An indirect scatter and its wait, on a semaphore of the subcore's own: the named rows are written with the source's
    rows, the rest stays. -/
theorem step_scatter {d : Dev nD} {c : Fin τ.nSC} {j : Fin τ.nSub} {O : CellTallies nD τ sig (HIx 2)} {W : Waits sig (HIx 2)} {α : Type}
    {sp : Space} {s₀ s si : Shape} {e : EltTy} {a : ℕ} {src : Memref sig .scVector .vmem s e} {dst dst' : Memref sig .scVector sp s₀ e}
    {hg : s₀.Gathers a s} {offs : Memref sig .scVector .vmem si .i32} {hn : si.numel = s.size hg.axis'} {sem : DmaSem sig}
    {hp} {he : e.bits = 32} {hsp : sp = .hbm ∨ sp = .shared} {hr : s₀.StreamRows a}
    {hsrc' : src.view.WordExact} {hdst' : dst'.view.WordExact}
    {k : PUnit → Prog (TpuEff nD τ sig (Elt F) Λ₀ (.scVector c j)) α}
    {Ss : Finset (Idx (src.view.loc (V d c j)))} {So : Finset (Idx (offs.view.loc (V d c j)))} {Sd : Finset (Idx (dst.view.loc (V d c j)))}
    {q qo : PosShare TreeShare}
    {fs : Buf (Elt F) (src.view.loc (V d c j))} {fd : Buf (Elt F) (dst.view.loc (V d c j))} {fo : Buf (Elt F) (offs.view.loc (V d c j))}
    {S R : sProp 𝕄} {Q : α → sProp 𝕄} (hO : ∀ g, O g none = 0) (hsc : (SemLoc.dma sem : SemLoc sig).isScoped .scVector = true)
    (hs : 0 < s.numel) (hin : ∀ x, (offs.view.read (Elt F) fo x).toNat < s₀.size hg.axis)
    (hinj : Function.Injective (SparseCore.rows (offs.view.read (Elt F) fo) hn hin))
    (hN : ∑ i, (dst.slice (s₀.rowRect hg.axis (SparseCore.rows (offs.view.read (Elt F) fo) hn hin i)) (s₀.stride_rowRect hg.axis _)).view.dmaCredit = src.view.dmaCredit)
    (hSs : src.view.set ⊆ Ss) (hSo : offs.view.set ⊆ So)
    (hSd : SparseCore.namedRows (V d c j) dst.view hg.axis (SparseCore.rows (offs.view.read (Elt F) fo) hn hin) ⊆ Sd)
    (hS : S ⊢ iprop((src.view.loc (V d c j) ↦[Ss]{q} fs) ∗ (dst.view.loc (V d c j) ↦[Sd]{fullShare} fd)
        ∗ (offs.view.loc (V d c j) ↦[So]{qo} fo) ∗ Ctx d c j O W ∗ R))
    (h : iprop((src.view.loc (V d c j) ↦[Ss]{q} fs) ∗ (dst.view.loc (V d c j) ↦[Sd]{fullShare}
          (SparseCore.scatterBuf (V d c j) dst.view hg.axis (SparseCore.rows (offs.view.read (Elt F) fo) hn hin) (SparseCore.scatterRowPayload (V d c j) src hg fs) fd))
        ∗ (offs.view.loc (V d c j) ↦[So]{qo} fo) ∗ Ctx d c j O W ∗ R) ⊢ WP d c j (k ⟨⟩) Q) :
    S ⊢ WP d c j (SparseCore.enqueueIndirectScatter (p := Proc.scVector c j) hp src dst hg offs hn sem he hsp hr >>= fun _ => .op (.waitDma2 sem dst' src hdst' hsrc') k) Q := by
  have hmem : ((V d c j, SemLoc.dma sem) : GSem nD τ sig) ∈ ownCells (V d c j) := mem_ownCells.mpr ⟨rfl, hsc⟩
  refine hS.trans ?_
  unfold Ctx at h ⊢
  unfold SparseCore.Cfg.ownSems0 at h ⊢
  rw [SparseCore.bigSep_erase' hmem] at h ⊢
  iintro ⟨Hs, Hd, Ho, ⟨#Hlv, ⟨Hsem, Hsems⟩, %W', %hW', HO⟩, HR⟩
  ihave Hmw := ((K (F := F)).mayWaits_none (thr := V d c j) hO) $$ Hlv
  ihave Hs := (pointsTo_split_subset hSs).1 $$ Hs
  icases Hs with ⟨Hs, Hs'⟩
  ihave Ho := (pointsTo_split_subset hSo).1 $$ Ho
  icases Ho with ⟨Ho, Ho'⟩
  ihave Hd := (pointsTo_split_subset hSd).1 $$ Hd
  icases Hd with ⟨Hd, Hd'⟩
  iapply (SparseCore.wp_indirectScatterLocal countersEmb 𝒱₀ (V d c j) none (hg := hg) (default : HIx 2) src.view.dmaCredit hs hin hinj hN) $$ [Hs Hd Ho Hsem]
  · isplitl [Hs]; · iexact Hs
    isplitl [Hd]; · iexact Hd
    isplitl [Ho]; · iexact Ho
    iexact Hsem
  iintro Hfl
  iapply (Transfers.wp_waitLocalO countersEmb 𝒱₀ (V d c j) none (default : HIx 2) rfl) $$ [Hfl HO]
  · isplitl [Hfl]; · iexact Hfl
    isplitl [HO]; · iexact HO
    iapply (Transfers.MayWaits.elim (SemLoc.dma sem)) $$ Hmw
  iintro ⟨⟨Hd, Hs, Ho⟩, Hsem, HO⟩
  ihave Hd' := (Entails.of_eq (SparseCore.pointsTo_rest_scatterBuf (V d c j) dst.view hg.axis (SparseCore.rows (offs.view.read (Elt F) fo) hn hin)
    (SparseCore.scatterRowPayload (V d c j) src hg fs) fd Sd)) $$ Hd'
  iapply h
  isplitl [Hs Hs']
  · iapply (pointsTo_split_subset hSs).2
    isplitl [Hs] <;> iassumption
  isplitl [Hd Hd']
  · iapply (pointsTo_split_subset hSd).2
    isplitl [Hd] <;> iassumption
  isplitl [Ho Ho']
  · iapply (pointsTo_split_subset hSo).2
    isplitl [Ho] <;> iassumption
  isplitl [Hsem Hsems HO]
  · isplitr; · iexact Hlv
    isplitl [Hsem Hsems]
    · isplitl [Hsem] <;> iassumption
    iexists _; isplitr
    swap; · iexact HO
    ipureintro; intro p hp
    rcases Finset.mem_insert.mp hp with hp | hp
    · exact .inr (hp ▸ rfl)
    · exact hW' p hp
  iexact HR

abbrev kV : Memref sig .scVector .hbm S262144 .i32 := Memref.whole main_v2_0_scv
abbrev wV : Memref sig .scVector .hbm S262144x128 .f32 := Memref.whole main_v3_scv
abbrev oV : Memref sig .scVector .hbm S262144x128 .f32 := Memref.whole main_v4_scv
abbrev s5 : Memref sig .scVector .vmem S2048 .i32 := Memref.whole cc1_scratch0
abbrev s6 : Memref sig .scVector .vmem S16x128 .i32 := Memref.whole cc1_scratch1
abbrev s7 : Memref sig .scVector .vmem S128x128 .f32 := Memref.whole cc1_scratch2

/-- What the tile's buffers hold. -/
structure St (F : FTy → Type) where
  a5 : S2048.Idx → Elt F .i32
  a6 : S16x128.Idx → Elt F .i32
  a7 : S128x128.Idx → Elt F .f32
  o : S262144x128.Idx → Elt F .f32

/-- The kernel's tile: where it runs, what it reads, and what the thread owes. -/
structure Env (F : FTy → Type) where
  d : Dev nD
  L : grid1.Coords
  O : CellTallies nD τ sig (HIx 2)
  W : Waits sig (HIx 2)
  hO : ∀ g, O g none = 0
  q : PosShare TreeShare
  B : S262144.Idx → Elt F .i32
  X : S262144x128.Idx → Elt F .f32
  R : sProp (MT nD τ sig (HIx 2) (Elt F) ℕ UU ℕ)

variable (e : Env F)

/-- Everything the tile holds. -/
def Tile (x : St F) : sProp 𝕄 :=
  iprop((kV.view.loc (V e.d (cV e.L) (jV e.L)) ↦{e.q} (G4 (F := F) e.B)) ∗ (wV.view.loc (V e.d (cV e.L) (jV e.L)) ↦{e.q} e.X)
    ∗ (s5.view.loc (V e.d (cV e.L) (jV e.L)) ↦{fullShare} x.a5) ∗ (s6.view.loc (V e.d (cV e.L) (jV e.L)) ↦{fullShare} x.a6)
    ∗ (s7.view.loc (V e.d (cV e.L) (jV e.L)) ↦{fullShare} x.a7)
    ∗ (oV.view.loc (V e.d (cV e.L) (jV e.L)) ↦[T2 (wid e.L)]{fullShare} x.o)
    ∗ Ctx e.d (cV e.L) (jV e.L) e.O e.W ∗ e.R)

/-- The tile holds some state with `φ`. -/
def TileP (φ : St F → Prop) : sProp 𝕄 := iprop(∃ x, ⌜φ x⌝ ∗ Tile e x)

abbrev TProg (α : Type) := Prog (TpuEff nD τ sig (Elt F) Λ₀ (.scVector (cV e.L) (jV e.L))) α

/-- The program's `wp` on the tile. -/
abbrev TW {α : Type} (p : TProg e α) (Q : α → sProp 𝕄) : sProp 𝕄 := WP e.d (cV e.L) (jV e.L) p Q

theorem TileP.elim {φ : St F → Prop} {P : sProp 𝕄} (h : ∀ x, φ x → Tile e x ⊢ P) : TileP e φ ⊢ P := by
  unfold TileP
  iintro ⟨%x, %hx, H⟩
  iapply (h x hx); iexact H

theorem TileP.intro {φ : St F → Prop} {x : St F} (h : φ x) : Tile e x ⊢ TileP e φ := by
  unfold TileP
  iintro H
  iexists x; isplitr
  · ipureintro; exact h
  · iexact H

theorem TileP.mono {φ ψ : St F → Prop} (h : ∀ x, φ x → ψ x) : TileP e φ ⊢ TileP e ψ := TileP.elim e fun _ hx => TileP.intro e (h _ hx)

/-! ## Taking buffers out of the tile -/

theorem open_fetch (x : St F) : Tile e x ⊢ iprop((kV.view.loc (V e.d (cV e.L) (jV e.L)) ↦{e.q} (G4 (F := F) e.B)) ∗ (s5.view.loc (V e.d (cV e.L) (jV e.L)) ↦{fullShare} x.a5) ∗ Ctx e.d (cV e.L) (jV e.L) e.O e.W ∗ (∀ f, ((kV.view.loc (V e.d (cV e.L) (jV e.L)) ↦{e.q} (G4 (F := F) e.B)) ∗ (s5.view.loc (V e.d (cV e.L) (jV e.L)) ↦{fullShare} f) ∗ Ctx e.d (cV e.L) (jV e.L) e.O e.W) -∗ Tile e { x with a5 := f })) := by
  unfold Tile
  iintro ⟨HK, HW, H5, H6, H7, HO, HC, HR⟩
  isplitl [HK]; · iexact HK
  isplitl [H5]; · iexact H5
  isplitl [HC]; · iexact HC
  iintro %f
  iintro ⟨HK, H5, HC⟩
  isplitl [HK]; · iexact HK
  isplitl [HW]; · iexact HW
  isplitl [H5]; · iexact H5
  isplitl [H6]; · iexact H6
  isplitl [H7]; · iexact H7
  isplitl [HO]; · iexact HO
  isplitl [HC]; · iexact HC
  iexact HR

theorem open5 (x : St F) : Tile e x ⊢ iprop((s5.view.loc (V e.d (cV e.L) (jV e.L)) ↦{fullShare} x.a5) ∗ (((s5.view.loc (V e.d (cV e.L) (jV e.L)) ↦{fullShare} x.a5)) -∗ Tile e x)) := by
  unfold Tile
  iintro ⟨HK, HW, H5, H6, H7, HO, HC, HR⟩
  isplitl [H5]; · iexact H5
  iintro H5
  isplitl [HK]; · iexact HK
  isplitl [HW]; · iexact HW
  isplitl [H5]; · iexact H5
  isplitl [H6]; · iexact H6
  isplitl [H7]; · iexact H7
  isplitl [HO]; · iexact HO
  isplitl [HC]; · iexact HC
  iexact HR

theorem open6 (x : St F) : Tile e x ⊢ iprop((s6.view.loc (V e.d (cV e.L) (jV e.L)) ↦{fullShare} x.a6) ∗ (∀ f, ((s6.view.loc (V e.d (cV e.L) (jV e.L)) ↦{fullShare} f)) -∗ Tile e { x with a6 := f })) := by
  unfold Tile
  iintro ⟨HK, HW, H5, H6, H7, HO, HC, HR⟩
  isplitl [H6]; · iexact H6
  iintro %f
  iintro H6
  isplitl [HK]; · iexact HK
  isplitl [HW]; · iexact HW
  isplitl [H5]; · iexact H5
  isplitl [H6]; · iexact H6
  isplitl [H7]; · iexact H7
  isplitl [HO]; · iexact HO
  isplitl [HC]; · iexact HC
  iexact HR

theorem open_in (x : St F) : Tile e x ⊢ iprop((wV.view.loc (V e.d (cV e.L) (jV e.L)) ↦{e.q} e.X) ∗ (s7.view.loc (V e.d (cV e.L) (jV e.L)) ↦{fullShare} x.a7) ∗ Ctx e.d (cV e.L) (jV e.L) e.O e.W ∗ (∀ f, ((wV.view.loc (V e.d (cV e.L) (jV e.L)) ↦{e.q} e.X) ∗ (s7.view.loc (V e.d (cV e.L) (jV e.L)) ↦{fullShare} f) ∗ Ctx e.d (cV e.L) (jV e.L) e.O e.W) -∗ Tile e { x with a7 := f })) := by
  unfold Tile
  iintro ⟨HK, HW, H5, H6, H7, HO, HC, HR⟩
  isplitl [HW]; · iexact HW
  isplitl [H7]; · iexact H7
  isplitl [HC]; · iexact HC
  iintro %f
  iintro ⟨HW, H7, HC⟩
  isplitl [HK]; · iexact HK
  isplitl [HW]; · iexact HW
  isplitl [H5]; · iexact H5
  isplitl [H6]; · iexact H6
  isplitl [H7]; · iexact H7
  isplitl [HO]; · iexact HO
  isplitl [HC]; · iexact HC
  iexact HR

theorem open_scatter (x : St F) : Tile e x ⊢ iprop((s7.view.loc (V e.d (cV e.L) (jV e.L)) ↦{fullShare} x.a7) ∗ (oV.view.loc (V e.d (cV e.L) (jV e.L)) ↦[T2 (wid e.L)]{fullShare} x.o) ∗ (s6.view.loc (V e.d (cV e.L) (jV e.L)) ↦{fullShare} x.a6) ∗ Ctx e.d (cV e.L) (jV e.L) e.O e.W ∗ (∀ f, ((s7.view.loc (V e.d (cV e.L) (jV e.L)) ↦{fullShare} x.a7) ∗ (oV.view.loc (V e.d (cV e.L) (jV e.L)) ↦[T2 (wid e.L)]{fullShare} f) ∗ (s6.view.loc (V e.d (cV e.L) (jV e.L)) ↦{fullShare} x.a6) ∗ Ctx e.d (cV e.L) (jV e.L) e.O e.W) -∗ Tile e { x with o := f })) := by
  unfold Tile
  iintro ⟨HK, HW, H5, H6, H7, HO, HC, HR⟩
  isplitl [H7]; · iexact H7
  isplitl [HO]; · iexact HO
  isplitl [H6]; · iexact H6
  isplitl [HC]; · iexact HC
  iintro %f
  iintro ⟨H7, HO, H6, HC⟩
  isplitl [HK]; · iexact HK
  isplitl [HW]; · iexact HW
  isplitl [H5]; · iexact H5
  isplitl [H6]; · iexact H6
  isplitl [H7]; · iexact H7
  isplitl [HO]; · iexact HO
  isplitl [HC]; · iexact HC
  iexact HR

/-! ## What the state is between the steps -/

/-- The row that the tile does `rr`-th. -/
def row (rr : ℕ) : ℕ := 4 * wid e.L + rr

/-- The row's keys. -/
abbrev κ (rr : ℕ) : ℕ → ℕ := rowKey e.B (row e rr)

/-- The rows before the tile's `rr`-th are in place. -/
def ψ0 (rr : ℕ) (x : St F) : Prop := ∀ n ∈ T2 (wid e.L), (n 0).val < 2048 * row e rr → x.o n = GU e.B e.X n

/-- The row's sorted tokens are in the tile's memory. -/
def ψ1 (rr : ℕ) (x : St F) : Prop := ψ0 e rr x ∧ ∀ p, x.a5 p = (BitVec.ofNat 32 (srt (κ e rr) (p 0).val) : BitVec 32)

/-- The first `m` places' rows are listed. -/
def Listed (rr m : ℕ) (x : St F) : Prop :=
  ∀ y : S16x128.Idx, 128 * (y 0).val + (y 1).val < m → x.a6 y = (BitVec.ofNat 32 (2048 * row e rr + srt (κ e rr) (128 * (y 0).val + (y 1).val)) : BitVec 32)

def ψ2 (rr m : ℕ) (x : St F) : Prop := ψ1 e rr x ∧ Listed e rr m x

/-- The first `m` places' rows are scattered. -/
def Moved (rr m : ℕ) (x : St F) : Prop :=
  ∀ p, p < m → ∀ c, x.o (cellO (2048 * row e rr + srt (κ e rr) p) c) = e.X (cellO (2048 * row e rr + p) c)

def ψ3 (rr k : ℕ) (x : St F) : Prop := ψ0 e rr x ∧ Listed e rr 2048 x ∧ Moved e rr (128 * k) x

/-- The chunk's rows are in the tile's memory. -/
def ψg (rr k : ℕ) (x : St F) : Prop := ψ3 e rr k x
  ∧ ∀ y : S128x128.Idx, x.a7 y = e.X (cellO (2048 * row e rr + (128 * k + (y 0).val)) (y 1))

theorem row_lt (rr : Fin 4) : row e rr.val < 128 := by
  have := wid_lt e.L
  have := rr.isLt
  unfold row; omega

theorem ψ3_first (rr : ℕ) : TileP e (ψ2 e rr 2048) ⊢ TileP e (ψ3 e rr 0) :=
  TileP.mono e fun x hx => ⟨hx.1.1, hx.2, fun p hp => absurd hp (by omega)⟩

theorem ψ2_first (rr : ℕ) : TileP e (ψ1 e rr) ⊢ TileP e (ψ2 e rr 0) :=
  TileP.mono e fun x hx => ⟨hx, fun y hy => absurd hy (by omega)⟩

theorem ψ3_last (rr : Fin 4) : TileP e (ψ3 e rr.val 16) ⊢ TileP e (ψ0 e (rr.val + 1)) :=
  TileP.mono e fun x hx n hn hlt => by
    by_cases h : (n 0).val < 2048 * row e rr.val
    · exact hx.1 n hn h
    · have h1 : (n 0).val < 2048 * (row e rr.val + 1) := hlt
      have h2 := row_lt e rr
      have hd : (n 0).val / 2048 = row e rr.val := by omega
      have ht : (n 0).val % 2048 < 2048 := Nat.mod_lt _ (by decide)
      have hm := hx.2.2 (dest (κ e rr.val) ((n 0).val % 2048)) (dest_lt ht) (n 1)
      rw [srt_dest _ ht] at hm
      unfold GU
      rw [hd, ← hm]
      congr 1
      funext a; fin_cases a
      · refine Fin.ext ?_
        show (n 0).val = (2048 * row e rr.val + (n 0).val % 2048) % 262144
        omega
      · rfl

end Cert.Proof.U

end
-- ==== Proof.Steps1.lean ====
/-
  The unsorting tile's steps: the fetch of a row's sorted tokens, the loops that list the places' rows, and a chunk's
  copy in and scatter.
-/
module

public import proofs.«01_k».proof.Proof.Tile1

@[expose] public section

noncomputable section

namespace Cert.Proof.U

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-- A bind of a bind, reassociated. -/
theorem bind_out {α β γ : Type} {p : TProg e α} {f : α → TProg e β} {g : β → TProg e γ} {Q : γ → sProp 𝕄} {S : sProp 𝕄}
    (h : S ⊢ TW e (Prog.bind p fun x => Prog.bind (f x) g) Q) : S ⊢ TW e (Prog.bind (Prog.bind p f) g) Q := by
  have e : Prog.bind (Prog.bind p f) g = Prog.bind p fun x => Prog.bind (f x) g := Prog.bind_assoc p f g
  rw [e]; exact h

theorem off1_row (rr : Fin 4) : k1_off1 e.L (BitVec.ofNat 32 rr.val) 0 = 2048 * row e rr.val := by
  rw [k1_off1_eq]; unfold row wid
  show 16384 * (e.L 1).val + 8192 * (e.L 0).val + 2048 * rr.val = _
  omega

/-- Element `p` of the row's rectangle is the row's slot `p`. -/
theorem emb_row (rr : Fin 4) (inb) (p : S2048.Idx) :
    (Rect.unit (s := S262144) (k1_off1 e.L (BitVec.ofNat 32 rr.val)) S2048.size inb).emb p = slot (2048 * row e rr.val + (p 0).val) := by
  funext a; fin_cases a
  refine Fin.ext ?_
  have h1 := row_lt e rr
  have h2 := lt_S2048 p
  show k1_off1 e.L (BitVec.ofNat 32 rr.val) 0 + 1 * (p 0).val = (2048 * row e rr.val + (p 0).val) % 262144
  rw [off1_row, Nat.mod_eq_of_lt (by omega)]; omega

/-- The end of a step that changed one of three pieces. -/
theorem fin3 {ι : Type} {A C P : sProp 𝕄} {Bf : ι → sProp 𝕄} {g : ι → St F} {φ : St F → Prop} (f₀ : ι) (hφ : φ (g f₀)) (h : TileP e φ ⊢ P) :
    iprop(A ∗ Bf f₀ ∗ C ∗ (∀ f, (A ∗ Bf f ∗ C) -∗ Tile e (g f))) ⊢ P := by
  iintro ⟨HA, HB, HC, HR⟩
  iapply h
  iapply (TileP.intro e hφ)
  iapply HR
  isplitl [HA]; · iexact HA
  isplitl [HB] <;> iassumption

theorem fin0 {x : St F} {φ : St F → Prop} {P : sProp 𝕄} (hφ : φ x) (h : TileP e φ ⊢ P) : Tile e x ⊢ P := (TileP.intro e hφ).trans h

theorem G4_at (rr : Fin 4) (p : S2048.Idx) :
    G4 (F := F) e.B (slot (2048 * row e rr.val + (p 0).val)) = (BitVec.ofNat 32 (srt (κ e rr.val) (p 0).val) : BitVec 32) := by
  have h1 := row_lt e rr
  have h2 := lt_S2048 p
  unfold G4
  rw [slot_val (by omega), show (2048 * row e rr.val + (p 0).val) / 2048 = row e rr.val by omega,
    show (2048 * row e rr.val + (p 0).val) % 2048 = (p 0).val by omega]

theorem t_fetch (rr : Fin 4) {sem : DmaSem sig} {hst hsrc hdst hsem hst' hsrc' hdst'} {α : Type} {k : PUnit → TProg e α} {Q : α → sProp 𝕄}
    (hsc : (SemLoc.dma sem : SemLoc sig).isScoped .scVector = true)
    (h : TileP e (ψ2 e rr.val 0) ⊢ TW e (k ⟨⟩) Q) :
    TileP e (ψ0 e rr.val) ⊢ TW e (.op (.enqueueDma (kV.slice (Rect.unit (s := S262144) (k1_off1 e.L (BitVec.ofNat 32 rr.val)) S2048.size (k1_off1_inb e.L rr)) hst) (.here s5) (.dma sem) hsrc hdst hsem)
      fun _ => .op (.waitDma2 sem (kV.slice (Rect.unit (s := S262144) (k1_off1 e.L (BitVec.ofNat 32 rr.val)) S2048.size (k1_off1_inb e.L rr)) hst') s5 hsrc' hdst') k) Q := by
  refine TileP.elim e fun x hx => ?_
  have hφ : ψ1 e rr.val { x with a5 := s5.view.write (Elt F) x.a5 ((kV.slice (Rect.unit (s := S262144) (k1_off1 e.L (BitVec.ofNat 32 rr.val)) S2048.size (k1_off1_inb e.L rr)) hst).view.read (Elt F) (G4 (F := F) e.B)) Finset.univ } := by
    refine ⟨hx, fun p => ?_⟩
    refine (congrFun (View.write_whole_univ (b := cc1_scratch0) _ _) p).trans ?_
    exact (congrArg (G4 (F := F) e.B) (emb_row e rr (k1_off1_inb e.L rr) p)).trans (G4_at e rr p)
  refine step_copy_sub (W := e.W) (q := e.q) e.hO hsc (View.dmaCredit_pos _ (show 0 < S2048.numel by decide +kernel)) (by exact Finset.subset_univ _) (by exact Finset.subset_univ _) (open_fetch e x) ?_
  exact fin3 e (Bf := fun f => (s5.view.loc (V e.d (cV e.L) (jV e.L)) ↦{fullShare} f)) (g := fun f => { x with a5 := f }) _ hφ ((ψ2_first e rr.val).trans h)

/-! ## The listing loops -/

theorem load5 (x : St F) {r : Rect S2048} {hl} {α : Type} {k : _ → TProg e α} {Q : α → sProp 𝕄} (h : Tile e x ⊢ TW e (k fun i => x.a5 (r.emb i)) Q) :
    Tile e x ⊢ TW e (.op (.load s5 r.toLoadRect hl) k) Q := by
  refine step_load (m := s5) (r := r) (q := fullShare) (f := x.a5) (open5 e x) ?_
  iintro ⟨H, HR⟩
  iapply h
  iapply HR
  iexact H

theorem load6 (x : St F) {r : Rect S16x128} {hl} {α : Type} {k : _ → TProg e α} {Q : α → sProp 𝕄} (h : Tile e x ⊢ TW e (k fun i => x.a6 (r.emb i)) Q) :
    Tile e x ⊢ TW e (.op (.load s6 r.toLoadRect hl) k) Q := by
  refine step_load (m := s6) (r := r) (q := fullShare) (f := x.a6) (open6 e x) ?_
  iintro ⟨H, HR⟩
  iapply h
  iapply HR
  iexact H

theorem store6 (x : St F) {r : Rect S16x128} {w : r.shape.Idx → Elt F .i32} {hx hm} {α : Type} {k : PUnit → TProg e α} {Q : α → sProp 𝕄}
    (h : Tile e { x with a6 := ((View.whole cc1_scratch1).slice r).write (Elt F) x.a6 w Finset.univ } ⊢ TW e (k ⟨⟩) Q) :
    Tile e x ⊢ TW e (.op (.store s6 r w Finset.univ hx hm) k) Q := by
  refine step_store (m := s6) (r := r) (f := x.a6) (open6 e x) ?_
  iintro ⟨H, HR⟩
  iapply h
  iapply HR
  iexact H

/-- Sixteen lanes behind the one coordinate. -/
theorem lanes_at {α : Type} (w : S16.Idx → α) (z : S1x16.Idx) : shapeCast S1x16 w shapeCasts_S16_S1x16 z = w (fun _ => ⟨(z 1).val, by rw [size_S16]; exact (z 1).isLt⟩) := by
  have h0 : (z 0).val = 0 := by have : (z 0).val < 1 := (z 0).isLt; omega
  refine congrArg w (Shape.reshapeEquiv_eq_of_rowMajor _ ?_)
  rw [Shape.rowMajor_val_one, Shape.rowMajor_val_two]
  show (z 1).val = (z 0).val * 16 + (z 1).val
  omega

theorem updL {rr m : ℕ} {x : St F} (h : ψ1 e rr x) (f : S16x128.Idx → Elt F .i32) (hf : ∀ y : S16x128.Idx, 128 * (y 0).val + (y 1).val < m →
    f y = (BitVec.ofNat 32 (2048 * row e rr + srt (κ e rr) (128 * (y 0).val + (y 1).val)) : BitVec 32)) : ψ2 e rr m { x with a6 := f } := ⟨h, hf⟩

section Loop

variable (k : ℕ) (lp : Scf.Loop 32) (offA : Fin lp.trips → Fin 1 → ℕ) (offB : Fin lp.trips → Fin 2 → ℕ)
  (inbA : ∀ t, ∀ a, offA t a + S16.size a ≤ S2048.size a) (inbB : ∀ t, ∀ a, offB t a + S1x16.size a ≤ S16x128.size a) (v : BitVec 32)

/-- One trip of a listing loop. -/
abbrev trip (t : Fin lp.trips) : TProg e PUnit := do
  let v529 : Vec F S16 .i32 ← Prog.lift (.load s5 (Rect.unit (s := S2048) (offA t) S16.size (inbA t)).toLoadRect (View.loadsAt_vmem h_S16))
  let _w : Vec F S1x16 .i32 ← Prog.lift (.load s6 (Rect.unit (s := S16x128) (offB t) S1x16.size (inbB t)).toLoadRect (View.loadsAt_vmem h_S1x16))
  Prog.lift (.store s6 (Rect.unit (s := S16x128) (offB t) S1x16.size (inbB t)) (shapeCast S1x16 (addi v529 (broadcast S16 v)) shapeCasts_S16_S1x16) Finset.univ (View.stores_vmem_bits_univ h_S1x16 rfl) (.inl rfl))
  pure ⟨⟩

theorem trip_ok (rr : ℕ) (t : Fin lp.trips) (ht : t.val < 8) (hA : offA t 0 = 16 * t.val + 128 * k) (hB0 : offB t 0 = k) (hB1 : offB t 1 = 16 * t.val)
    (hv : v = BitVec.ofNat 32 (2048 * row e rr)) :
    TileP e (ψ2 e rr (128 * k + 16 * t.val)) ⊢ TW e (trip e lp offA offB inbA inbB v t) fun _ => TileP e (ψ2 e rr (128 * k + 16 * (t.val + 1))) := by
  refine TileP.elim e fun x hx => ?_
  refine load5 e x (load6 e x (store6 e x ?_))
  refine BIBase.Entails.trans ?_ (le_wp_ret frame (wpE (defs₀ (F := F)) 𝒱₀ (V e.d (cV e.L) (jV e.L)) none) Set.univ PUnit.unit fun _ => TileP e (ψ2 e rr (128 * k + 16 * (t.val + 1))))
  refine fin0 e (updL e hx.1 _ fun y hy => ?_) .rfl
  have hy1 : (y 1).val < 128 := (y 1).isLt
  have hy0 : (y 0).val < 16 := (y 0).isLt
  by_cases hlt : 128 * (y 0).val + (y 1).val < 128 * k + 16 * t.val
  · refine Eq.trans (write_rect_off (b := cc1_scratch1) (Rect.unit (s := S16x128) (offB t) S1x16.size (inbB t)) _ _ fun hm => ?_) (hx.2 y hlt)
    have h0 := (Rect.mem_set_unit.mp hm 0).1
    have h1 := (Rect.mem_set_unit.mp hm 1).1
    rw [hB0] at h0
    rw [hB1] at h1
    omega
  · have hk : (y 0).val = k := by omega
    have hy2 : 16 * t.val ≤ (y 1).val := by omega
    have hy3 : (y 1).val - 16 * t.val < 16 := by omega
    let z : S1x16.Idx := fun
      | 0 => ⟨0, by decide⟩
      | 1 => ⟨(y 1).val - 16 * t.val, hy3⟩
      | ⟨_ + 2, h⟩ => absurd h (Nat.not_lt.2 (Nat.le_add_left _ _))
    have hz : (Rect.unit (s := S16x128) (offB t) S1x16.size (inbB t)).emb z = y := by
      funext a; fin_cases a
      · refine Fin.ext ?_
        show offB t 0 + 1 * 0 = (y 0).val
        omega
      · refine Fin.ext ?_
        show offB t 1 + 1 * ((y 1).val - 16 * t.val) = (y 1).val
        omega
    have hw := write_rect_on (b := cc1_scratch1) (Rect.unit (s := S16x128) (offB t) S1x16.size (inbB t)) x.a6
      (shapeCast S1x16 (addi (fun i => x.a5 ((Rect.unit (s := S2048) (offA t) S16.size (inbA t)).emb i)) (broadcast S16 v)) shapeCasts_S16_S1x16) z
    rw [hz] at hw
    refine hw.trans ?_
    refine (lanes_at _ z).trans ?_
    show x.a5 _ + v = _
    rw [hx.1.2, hv]
    have hp : ∀ q : S16.Idx, (q 0).val = (y 1).val - 16 * t.val → ((Rect.unit (s := S2048) (offA t) S16.size (inbA t)).emb q 0).val = 128 * (y 0).val + (y 1).val := by
      intro q hq
      show offA t 0 + 1 * (q 0).val = _
      omega
    rw [hp _ rfl, Nat.add_comm (2048 * _)]
    exact (BitVec.ofNat_add _ _).symm

theorem t_loop (rr : ℕ) {ok : lp.OK} {α : Type} {K : PUnit → TProg e α} {Q : α → sProp 𝕄} (h8 : lp.trips = 8)
    (hA : ∀ t, offA t 0 = 16 * t.val + 128 * k) (hB0 : ∀ t, offB t 0 = k) (hB1 : ∀ t, offB t 1 = 16 * t.val)
    (hv : v = BitVec.ofNat 32 (2048 * row e rr))
    (h : TileP e (ψ2 e rr (128 * (k + 1))) ⊢ TW e (K ⟨⟩) Q) :
    TileP e (ψ2 e rr (128 * k)) ⊢ TW e (Prog.bind (Scf.Loop.for lp ok ⟨⟩ fun t _ => trip e lp offA offB inbA inbB v t) K) Q := by
  have h' : TileP e (ψ2 e rr (128 * k + 16 * lp.trips)) ⊢ TW e (K ⟨⟩) Q := by rw [h8]; exact h
  have key : TileP e (ψ2 e rr (128 * k + 16 * 0)) ⊢ iprop((∀ acc : PUnit, TileP e (ψ2 e rr (128 * k + 16 * lp.trips)) -∗ TW e (K acc) Q)
      -∗ TW e (Prog.bind (Scf.Loop.for lp ok ⟨⟩ fun t _ => trip e lp offA offB inbA inbB v t) K) Q) :=
    Scf.wp_for_bind frame (wpE (defs₀ (F := F)) 𝒱₀ (V e.d (cV e.L) (jV e.L)) none) Set.univ lp.lb lp.ub lp.st ok PUnit.unit (fun t _ => trip e lp offA offB inbA inbB v t)
      (fun t _ => TileP e (ψ2 e rr (128 * k + 16 * t))) (fun t _ => trip_ok e k lp offA offB inbA inbB v rr t (h8 ▸ t.isLt) (hA t) (hB0 t) (hB1 t) hv)
  iintro H
  iapply key $$ H
  iintro %acc H
  iapply h'
  iexact H

end Loop

end Cert.Proof.U

end
-- ==== Proof.Chunk1.lean ====
/-
  The unsorting tile's chunks: 128 rows copied in, and scattered to their tokens' places.
-/
module

public import proofs.«01_k».proof.Proof.Steps1

@[expose] public section

noncomputable section

namespace Cert.Proof.U

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-! ## The copy in -/

theorem off34_row (rr : Fin 4) (kk : Fin 16) : k1_off34 e.L (BitVec.ofNat 32 rr.val) (BitVec.ofNat 32 (128 * kk.val)) 0 = 2048 * row e rr.val + 128 * kk.val := by
  rw [k1_off34_eq]; unfold row wid
  show 16384 * (e.L 1).val + 8192 * (e.L 0).val + 2048 * rr.val + 128 * kk.val = _
  omega

theorem off34_col (rr : Fin 4) (kk : Fin 16) : k1_off34 e.L (BitVec.ofNat 32 rr.val) (BitVec.ofNat 32 (128 * kk.val)) 1 = 0 := by
  rw [k1_off34_eq]; rfl

theorem emb_chunk (rr : Fin 4) (kk : Fin 16) (inb) (y : S128x128.Idx) :
    (Rect.unit (s := S262144x128) (k1_off34 e.L (BitVec.ofNat 32 rr.val) (BitVec.ofNat 32 (128 * kk.val))) S128x128.size inb).emb y
      = cellO (2048 * row e rr.val + (128 * kk.val + (y 0).val)) (y 1) := by
  have h1 := row_lt e rr
  have h2 : (y 0).val < 128 := (y 0).isLt
  have h3 := kk.isLt
  funext a; fin_cases a
  · refine Fin.ext ?_
    show k1_off34 e.L (BitVec.ofNat 32 rr.val) (BitVec.ofNat 32 (128 * kk.val)) 0 + 1 * (y 0).val = (2048 * row e rr.val + (128 * kk.val + (y 0).val)) % 262144
    rw [off34_row, Nat.mod_eq_of_lt (by omega)]; omega
  · refine Fin.ext ?_
    show k1_off34 e.L (BitVec.ofNat 32 rr.val) (BitVec.ofNat 32 (128 * kk.val)) 1 + 1 * (y 1).val = (y 1).val
    rw [off34_col]; omega

theorem t_in (rr : Fin 4) (kk : Fin 16) {sem : DmaSem sig} {hst hsrc hdst hsem hst' hsrc' hdst'} {α : Type} {k : PUnit → TProg e α} {Q : α → sProp 𝕄}
    (hsc : (SemLoc.dma sem : SemLoc sig).isScoped .scVector = true)
    (h : TileP e (ψg e rr.val kk.val) ⊢ TW e (k ⟨⟩) Q) :
    TileP e (ψ3 e rr.val kk.val) ⊢ TW e (.op (.enqueueDma (wV.slice (Rect.unit (s := S262144x128) (k1_off34 e.L (BitVec.ofNat 32 rr.val) (BitVec.ofNat 32 (128 * kk.val))) S128x128.size (k1_off34_inb e.L rr kk)) hst) (.here s7) (.dma sem) hsrc hdst hsem)
      fun _ => .op (.waitDma2 sem (wV.slice (Rect.unit (s := S262144x128) (k1_off34 e.L (BitVec.ofNat 32 rr.val) (BitVec.ofNat 32 (128 * kk.val))) S128x128.size (k1_off34_inb e.L rr kk)) hst') s7 hsrc' hdst') k) Q := by
  refine TileP.elim e fun x hx => ?_
  have hφ : ψg e rr.val kk.val { x with a7 := s7.view.write (Elt F) x.a7 ((wV.slice (Rect.unit (s := S262144x128) (k1_off34 e.L (BitVec.ofNat 32 rr.val) (BitVec.ofNat 32 (128 * kk.val))) S128x128.size (k1_off34_inb e.L rr kk)) hst).view.read (Elt F) e.X) Finset.univ } := by
    refine ⟨hx, fun y => ?_⟩
    refine (congrFun (View.write_whole_univ (b := cc1_scratch2) _ _) y).trans ?_
    exact congrArg e.X (emb_chunk e rr kk (k1_off34_inb e.L rr kk) y)
  refine step_copy_sub (W := e.W) (q := e.q) e.hO hsc (View.dmaCredit_pos _ (show 0 < S128x128.numel by decide +kernel)) (by exact Finset.subset_univ _) (by exact Finset.subset_univ _) (open_in e x) ?_
  exact fin3 e (Bf := fun f => (s7.view.loc (V e.d (cV e.L) (jV e.L)) ↦{fullShare} f)) (g := fun f => { x with a7 := f }) _ hφ h

/-! ## The scatter -/

/-- The target, as the scatter names it. -/
abbrev dV (hst : ∀ a, (Rect.unit (s := S262144x128) ![0, 0] S262144x128.size inb_S262144x128_S262144x128_0_0).stride a = 1) : Memref sig .scVector .hbm S262144x128 .f32 := oV.slice (Rect.unit (s := S262144x128) ![0, 0] S262144x128.size inb_S262144x128_S262144x128_0_0) hst

/-- A place in a row. -/
def inRow (c : Fin 128) : (S262144x128.rowShape gathers_S262144x128_S128x128.axis).Idx :=
  show (b : Fin 2) → Fin (if b = 0 then 1 else S262144x128.size b) from fun
  | 0 => ⟨0, Nat.one_pos⟩
  | 1 => ⟨c.val, c.isLt⟩
  | ⟨_ + 2, h⟩ => absurd h (Nat.not_lt.2 (Nat.le_add_left _ _))

theorem emb_inRow (hst) (k : Fin (S262144x128.size gathers_S262144x128_S128x128.axis)) (c : Fin 128) :
    ((dV hst).view.slice (S262144x128.rowRect gathers_S262144x128_S128x128.axis k)).emb (inRow c) = cellO k.val c := by
  have hk : k.val < 262144 := k.isLt
  funext a; fin_cases a
  · refine Fin.ext ?_
    show 0 + 1 * (k.val + 1 * 0) = k.val % 262144
    rw [Nat.mod_eq_of_lt hk]; omega
  · refine Fin.ext ?_
    show 0 + 1 * (0 + 1 * c.val) = c.val
    omega

theorem mem_row (hst) (k : Fin (S262144x128.size gathers_S262144x128_S128x128.axis)) {n : S262144x128.Idx} (h : n ∈ ((dV hst).view.slice (S262144x128.rowRect gathers_S262144x128_S128x128.axis k)).set) : (n 0).val = k.val := by
  obtain ⟨z, -, rfl⟩ := Finset.mem_map.mp h
  have hz : (z 0).val < 1 := (z 0).isLt
  show 0 + 1 * (k.val + 1 * (z 0).val) = k.val
  omega

theorem cell_mem_row (hst) (k : Fin (S262144x128.size gathers_S262144x128_S128x128.axis)) (c : Fin 128) : cellO k.val c ∈ ((dV hst).view.slice (S262144x128.rowRect gathers_S262144x128_S128x128.axis k)).set := by
  rw [← emb_inRow hst k c]; exact View.emb_mem_set _ _

def at7 (p c : Fin 128) : S128x128.Idx := fun
  | 0 => p
  | 1 => c
  | ⟨_ + 2, h⟩ => absurd h (Nat.not_lt.2 (Nat.le_add_left _ _))

theorem payload_at (f : S128x128.Idx → Elt F .f32) (p : Fin (S128x128.size gathers_S262144x128_S128x128.axis')) (c : Fin 128) :
    SparseCore.scatterRowPayload (F := F) (V e.d (cV e.L) (jV e.L)) s7 gathers_S262144x128_S128x128 f p (inRow c) = f (at7 p c) := by
  have hv := Shape.idxEquiv_symm_apply_val gathers_S262144x128_S128x128.rowShape_eq (inRow c)
  show f ((S128x128.rowRect gathers_S262144x128_S128x128.axis' p).emb ((Shape.idxEquiv gathers_S262144x128_S128x128.rowShape_eq).symm (inRow c))) = f _
  generalize (Shape.idxEquiv gathers_S262144x128_S128x128.rowShape_eq).symm (inRow c) = z at hv ⊢
  congr 1
  have h0 : (z (0 : Fin 2)).val = 0 := hv (0 : Fin 2)
  have h1 : (z (1 : Fin 2)).val = c.val := hv (1 : Fin 2)
  funext a; fin_cases a
  · refine Fin.ext ?_
    show p.val + 1 * (z (0 : Fin 2)).val = p.val
    omega
  · refine Fin.ext ?_
    show 0 + 1 * (z (1 : Fin 2)).val = c.val
    omega

theorem scat_on (hst) (r : Fin (S128x128.size gathers_S262144x128_S128x128.axis') → Fin (S262144x128.size gathers_S262144x128_S128x128.axis)) (hinj : Function.Injective r) (f : S128x128.Idx → Elt F .f32) (g : S262144x128.Idx → Elt F .f32)
    (p : Fin 128) (c : Fin 128) :
    SparseCore.scatterBuf (F := F) (V e.d (cV e.L) (jV e.L)) (dV hst).view gathers_S262144x128_S128x128.axis r (SparseCore.scatterRowPayload (V e.d (cV e.L) (jV e.L)) s7 gathers_S262144x128_S128x128 f) g (cellO (r p).val c) = f (at7 p c) := by
  refine (SparseCore.scatterBuf_of_mem (V e.d (cV e.L) (jV e.L)) (dV hst).view gathers_S262144x128_S128x128.axis r hinj (SparseCore.scatterRowPayload (V e.d (cV e.L) (jV e.L)) s7 gathers_S262144x128_S128x128 f) g (k := p) (cell_mem_row hst (r p) c)).trans ?_
  rw [← emb_inRow hst (r p) c]
  refine (View.write_emb_of_mem (v := (dV hst).view.slice (S262144x128.rowRect gathers_S262144x128_S128x128.axis (r p))) g _ (Finset.mem_univ (inRow c))).trans ?_
  exact (cast_eq _ _).trans (payload_at e f p c)

theorem scat_off (hst) (r : Fin (S128x128.size gathers_S262144x128_S128x128.axis') → Fin (S262144x128.size gathers_S262144x128_S128x128.axis)) (w) (g : S262144x128.Idx → Elt F .f32)
    (n : S262144x128.Idx) (hn : ∀ p, (n 0).val ≠ (r p).val) :
    SparseCore.scatterBuf (F := F) (V e.d (cV e.L) (jV e.L)) (dV hst).view gathers_S262144x128_S128x128.axis r w g n = g n := by
  refine SparseCore.scatterBuf_of_not_mem (V e.d (cV e.L) (jV e.L)) (dV hst).view gathers_S262144x128_S128x128.axis r w g fun hm => ?_
  obtain ⟨p, -, hp⟩ := Finset.mem_biUnion.mp hm
  exact hn p (mem_row hst (r p) hp)

theorem srt_inj {κ : ℕ → ℕ} {p q : ℕ} (hp : p < 2048) (hq : q < 2048) (h : srt κ p = srt κ q) : p = q := by
  rw [← dest_srt κ hp, ← dest_srt κ hq, h]

set_option maxHeartbeats 2000000 in
/-- The scatter's effect on the state. -/
theorem scat_ok (rr : Fin 4) (kk : Fin 16) {x : St F} (hx : ψg e rr.val kk.val x) (hst) (r : Fin (S128x128.size gathers_S262144x128_S128x128.axis') → Fin (S262144x128.size gathers_S262144x128_S128x128.axis)) (hinj : Function.Injective r)
    (hr : ∀ p, (r p).val = 2048 * row e rr.val + srt (κ e rr.val) (128 * kk.val + p.val)) :
    ψ3 e rr.val (kk.val + 1) { x with o := SparseCore.scatterBuf (F := F) (V e.d (cV e.L) (jV e.L)) (dV hst).view gathers_S262144x128_S128x128.axis r (SparseCore.scatterRowPayload (V e.d (cV e.L) (jV e.L)) s7 gathers_S262144x128_S128x128 x.a7) x.o } := by
  have h1 := row_lt e rr
  have h3 := kk.isLt
  refine ⟨fun n hn hlt => ?_, hx.1.2.1, fun p hp c => ?_⟩
  · refine (scat_off e hst r _ x.o n fun p => ?_).trans (hx.1.1 n hn hlt)
    rw [hr]; omega
  · by_cases hp' : p < 128 * kk.val
    · refine (scat_off e hst r _ x.o _ fun q => ?_).trans (hx.1.2.2 p hp' c)
      have hs := srt_lt (κ e rr.val) p
      have hq : q.val < 128 := q.isLt
      show (2048 * row e rr.val + srt (κ e rr.val) p) % 262144 ≠ _
      rw [hr, Nat.mod_eq_of_lt (by omega)]
      intro hh
      have := srt_inj (by omega) (by omega) (Nat.add_left_cancel hh)
      omega
    · have hj : p - 128 * kk.val < 128 := by omega
      obtain ⟨j, hjv⟩ : ∃ j : Fin 128, j.val = p - 128 * kk.val := ⟨⟨_, hj⟩, rfl⟩
      have hpe : 128 * kk.val + j.val = p := by omega
      have hs' : (r j).val = 2048 * row e rr.val + srt (κ e rr.val) p := (hr j).trans (congrArg (fun t => 2048 * row e rr.val + srt (κ e rr.val) t) hpe)
      have hon := scat_on e hst r hinj x.a7 x.o j c
      rw [hs'] at hon
      have h7 : x.a7 (at7 j c) = e.X (cellO (2048 * row e rr.val + p) c) := by
        have e0 : (at7 j c 0).val = j.val := rfl
        have e1 : at7 j c 1 = c := rfl
        rw [hx.2 (at7 j c), e0, e1, hpe]
      rw [h7] at hon
      exact hon

/-- The list, as the scatter names it. -/
abbrev lV (kk : Fin 16) (inb : ∀ a, (![kk.val, 0] : Fin 2 → ℕ) a + S1x128.size a ≤ S16x128.size a)
    (hst : ∀ a, (Rect.unit (s := S16x128) ![kk.val, 0] S1x128.size inb).stride a = 1) : Memref sig .scVector .vmem S128 .i32 :=
  (s6.slice (Rect.unit (s := S16x128) ![kk.val, 0] S1x128.size inb) hst).squeeze S128 squeezes_S1x128_S128

theorem list_at {rr : Fin 4} {x : St F} (hs : Listed e rr.val 2048 x) (kk : Fin 16) (inb hst) (p : S128.Idx) :
    ((lV kk inb hst).view.read (Elt F) x.a6 p : BitVec 32).toNat = 2048 * row e rr.val + srt (κ e rr.val) (128 * kk.val + (p 0).val) := by
  have h1 := row_lt e rr
  have h2 := srt_lt (κ e rr.val) (128 * kk.val + (p 0).val)
  have hp : (p 0).val < 128 := (p 0).isLt
  have h3 := kk.isLt
  have hread : ∀ z : S1x128.Idx, (z 0).val = 0 → (z 1).val = (p 0).val → (x.a6 ((Rect.unit (s := S16x128) ![kk.val, 0] S1x128.size inb).emb z) : BitVec 32).toNat
      = 2048 * row e rr.val + srt (κ e rr.val) (128 * kk.val + (p 0).val) := by
    intro z hz0 hz1
    have hy0 : ((Rect.unit (s := S16x128) ![kk.val, 0] S1x128.size inb).emb z 0).val = kk.val := by
      show kk.val + 1 * (z 0).val = _
      omega
    have hy1 : ((Rect.unit (s := S16x128) ![kk.val, 0] S1x128.size inb).emb z 1).val = (p 0).val := by
      show 0 + 1 * (z 1).val = _
      omega
    rw [hs _ (by rw [hy0, hy1]; omega), hy0, hy1]
    show (BitVec.ofNat 32 _).toNat = _
    rw [BitVec.toNat_ofNat, Nat.mod_eq_of_lt (by omega)]
  refine hread (Shape.reshapeEquiv squeezes_S1x128_S128.numel_eq p) ?_ ?_
  · have : (Shape.reshapeEquiv squeezes_S1x128_S128.numel_eq p 0).val < 1 := (Shape.reshapeEquiv squeezes_S1x128_S128.numel_eq p 0).isLt
    omega
  · have hrm := Shape.rowMajor_reshapeEquiv squeezes_S1x128_S128.numel_eq p
    rw [Shape.rowMajor_val_one, Shape.rowMajor_val_two] at hrm
    have : (Shape.reshapeEquiv squeezes_S1x128_S128.numel_eq p 0).val < 1 := (Shape.reshapeEquiv squeezes_S1x128_S128.numel_eq p 0).isLt
    have h0 : (Shape.reshapeEquiv squeezes_S1x128_S128.numel_eq p 0).val = 0 := by omega
    rw [h0] at hrm
    omega

theorem rows_at (o : S128.Idx → Elt F .i32) (hn : S128.numel = S128x128.size gathers_S262144x128_S128x128.axis') (hin : ∀ x, (o x : BitVec 32).toNat < S262144x128.size gathers_S262144x128_S128x128.axis) (p : Fin (S128x128.size gathers_S262144x128_S128x128.axis')) :
    (SparseCore.rows o hn hin p).val = (o (fun _ => ⟨p.val, by rw [size_S128]; exact p.isLt⟩) : BitVec 32).toNat := by
  show (o _ : BitVec 32).toNat = (o _ : BitVec 32).toNat
  congr 2
  rw [Equiv.symm_apply_eq]
  refine Fin.ext ?_
  rw [Shape.rowMajor_val_one]
  rfl

theorem t_scatter (rr : Fin 4) (kk : Fin 16) {sem : DmaSem sig} {inb} {hst1 hst2 hst3 hn hp he hsrc1 hdst1} {α : Type}
    {k : PUnit → TProg e α} {Q : α → sProp 𝕄}
    (hsc : (SemLoc.dma sem : SemLoc sig).isScoped .scVector = true)
    (h : TileP e (ψ3 e rr.val (kk.val + 1)) ⊢ TW e (k ⟨⟩) Q) :
    TileP e (ψg e rr.val kk.val) ⊢ TW e (Prog.bind (SparseCore.enqueueIndirectScatter (p := Proc.scVector (cV e.L) (jV e.L)) hp s7 (dV hst1) gathers_S262144x128_S128x128 (lV kk inb hst2) hn sem he (Or.inl rfl)) fun _ =>
      .op (.waitDma2 sem (dV hst3) s7 hdst1 hsrc1) k) Q := by
  refine TileP.elim e fun x hx => ?_
  have hl := list_at e hx.1.2.1 kk inb hst2
  have h1 := row_lt e rr
  have hin : ∀ p : S128.Idx, ((lV kk inb hst2).view.read (Elt F) x.a6 p : BitVec 32).toNat < S262144x128.size gathers_S262144x128_S128x128.axis := fun p => by
    rw [hl]
    show _ < 262144
    have h2 := srt_lt (κ e rr.val) (128 * kk.val + (p 0).val)
    omega
  have hr : ∀ p, (SparseCore.rows ((lV kk inb hst2).view.read (Elt F) x.a6) hn hin p).val = 2048 * row e rr.val + srt (κ e rr.val) (128 * kk.val + p.val) := fun p => by
    rw [rows_at, hl]
  have hinj : Function.Injective (SparseCore.rows ((lV kk inb hst2).view.read (Elt F) x.a6) hn hin) := fun p q hpq => by
    have h2 := congrArg Fin.val hpq
    rw [hr, hr] at h2
    have hp' : p.val < 128 := p.isLt
    have hq' : q.val < 128 := q.isLt
    have hk := kk.isLt
    have := srt_inj (by omega) (by omega) (Nat.add_left_cancel h2)
    exact Fin.ext (by omega)
  have hφ := scat_ok e rr kk hx hst1 _ hinj hr
  have hsub : SparseCore.namedRows (V e.d (cV e.L) (jV e.L)) (dV hst1).view gathers_S262144x128_S128x128.axis (SparseCore.rows ((lV kk inb hst2).view.read (Elt F) x.a6) hn hin) ⊆ T2 (wid e.L) := by
    intro n hm
    obtain ⟨p, -, hp⟩ := Finset.mem_biUnion.mp hm
    have hv := (mem_row hst1 _ hp).trans (hr p)
    have h2 := srt_lt (κ e rr.val) (128 * kk.val + p.val)
    have h4 := rr.isLt
    refine Finset.mem_filter.mpr ⟨Finset.mem_univ _, ?_⟩
    unfold row at hv
    omega
  refine step_scatter (W := e.W) (q := fullShare) (qo := fullShare) e.hO hsc (by decide +kernel) hin hinj
    (SparseCore.sum_scatterCredit_eq_srcCredit (V e.d (cV e.L) (jV e.L)) s7 (dV hst1) gathers_S262144x128_S128x128 rfl _ (fun _ => rfl) fun _ => rfl) (by exact Finset.subset_univ _) (by exact Finset.subset_univ _) (by exact hsub) (open_scatter e x) ?_
  iintro ⟨HA, HB, HC, HD, HR⟩
  iapply h
  iapply (TileP.intro e hφ)
  iapply HR
  isplitl [HA]; · iexact HA
  isplitl [HB]; · iexact HB
  isplitl [HC] <;> iassumption

/-- One chunk: the copy in of 128 rows, and their scatter. -/
theorem t_chunk (rr : Fin 4) (kk : Fin 16) {sem sem' : DmaSem sig} {inb} {hst hsrc hdst hsem hst' hsrc' hdst' hst1 hst2 hst3 hn hp he hsrc1 hdst1} {α : Type}
    {k : PUnit → TProg e α} {Q : α → sProp 𝕄}
    (hsc : (SemLoc.dma sem : SemLoc sig).isScoped .scVector = true) (hsc' : (SemLoc.dma sem' : SemLoc sig).isScoped .scVector = true)
    (h : TileP e (ψ3 e rr.val (kk.val + 1)) ⊢ TW e (k ⟨⟩) Q) :
    TileP e (ψ3 e rr.val kk.val) ⊢ TW e (.op (.enqueueDma (wV.slice (Rect.unit (s := S262144x128) (k1_off34 e.L (BitVec.ofNat 32 rr.val) (BitVec.ofNat 32 (128 * kk.val))) S128x128.size (k1_off34_inb e.L rr kk)) hst) (.here s7) (.dma sem) hsrc hdst hsem)
      fun _ => .op (.waitDma2 sem (wV.slice (Rect.unit (s := S262144x128) (k1_off34 e.L (BitVec.ofNat 32 rr.val) (BitVec.ofNat 32 (128 * kk.val))) S128x128.size (k1_off34_inb e.L rr kk)) hst') s7 hsrc' hdst')
      fun _ => Prog.bind (SparseCore.enqueueIndirectScatter (p := Proc.scVector (cV e.L) (jV e.L)) hp s7 (dV hst1) gathers_S262144x128_S128x128 (lV kk inb hst2) hn sem' he (Or.inl rfl)) fun _ =>
      .op (.waitDma2 sem' (dV hst3) s7 hdst1 hsrc1) k) Q :=
  t_in e rr kk hsc (t_scatter e rr kk hsc' h)

end Cert.Proof.U

end
-- ==== Proof.Body1.lean ====
/-
  The unsorting tile's program, from its steps.
-/
module

public import proofs.«01_k».proof.Proof.Chunk1

@[expose] public section

noncomputable section

namespace Cert.Proof.U

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (e : Env F)

/-- The body of the unsorting tile. -/
abbrev body1 : TProg e PUnit := cc1__unsort_body e.L kV (Memref.isWhole_whole _) wV (Memref.isWhole_whole _) oV (Memref.isWhole_whole _)
  s5 (Memref.isWhole_whole _) s6 (Memref.isWhole_whole _) s7 (Memref.isWhole_whole _) cc1_scratch3
  cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67

/-- The first slot of a row, as the kernel computes it. -/
def base (L : grid1.Coords) (r : BitVec 32) : BitVec 32 :=
  Scalar.muli (Scalar.addi (Scalar.muli (Scalar.addi (Scalar.muli (BitVec.ofNat 32 (L 1).val) 2#32) (BitVec.ofNat 32 (L 0).val)) 4#32) r) 2048#32

theorem base_eq : ∀ (L : grid1.Coords) (r : Fin 4), base L (BitVec.ofNat 32 r.val) = BitVec.ofNat 32 (2048 * (4 * wid L + r.val)) := by decide +kernel

set_option maxHeartbeats 8000000 in
theorem body1_ok : TileP e (ψ0 e 0) ⊢ TW e (body1 e) fun _ => TileP e (ψ0 e 4) := by
  refine t_fetch e 0 rfl ?_
  iterate 4 try refine bind_out e ?_
  refine t_loop e 0 k1_t1_loop k1_off2 k1_off3 k1_off2_inb k1_off3_inb _ 0 rfl (fun t => congrFun (k1_off2_eq t) 0) (fun t => congrFun (k1_off3_eq t) 0) (fun t => congrFun (k1_off3_eq t) 1) ?_ ?_
  · exact base_eq e.L 0
  iterate 4 try refine bind_out e ?_
  refine t_loop e 1 k1_t2_loop k1_off4 k1_off5 k1_off4_inb k1_off5_inb _ 0 rfl (fun t => congrFun (k1_off4_eq t) 0) (fun t => congrFun (k1_off5_eq t) 0) (fun t => congrFun (k1_off5_eq t) 1) ?_ ?_
  · exact base_eq e.L 0
  iterate 4 try refine bind_out e ?_
  refine t_loop e 2 k1_t3_loop k1_off6 k1_off7 k1_off6_inb k1_off7_inb _ 0 rfl (fun t => congrFun (k1_off6_eq t) 0) (fun t => congrFun (k1_off7_eq t) 0) (fun t => congrFun (k1_off7_eq t) 1) ?_ ?_
  · exact base_eq e.L 0
  iterate 4 try refine bind_out e ?_
  refine t_loop e 3 k1_t4_loop k1_off8 k1_off9 k1_off8_inb k1_off9_inb _ 0 rfl (fun t => congrFun (k1_off8_eq t) 0) (fun t => congrFun (k1_off9_eq t) 0) (fun t => congrFun (k1_off9_eq t) 1) ?_ ?_
  · exact base_eq e.L 0
  iterate 4 try refine bind_out e ?_
  refine t_loop e 4 k1_t5_loop k1_off10 k1_off11 k1_off10_inb k1_off11_inb _ 0 rfl (fun t => congrFun (k1_off10_eq t) 0) (fun t => congrFun (k1_off11_eq t) 0) (fun t => congrFun (k1_off11_eq t) 1) ?_ ?_
  · exact base_eq e.L 0
  iterate 4 try refine bind_out e ?_
  refine t_loop e 5 k1_t6_loop k1_off12 k1_off13 k1_off12_inb k1_off13_inb _ 0 rfl (fun t => congrFun (k1_off12_eq t) 0) (fun t => congrFun (k1_off13_eq t) 0) (fun t => congrFun (k1_off13_eq t) 1) ?_ ?_
  · exact base_eq e.L 0
  iterate 4 try refine bind_out e ?_
  refine t_loop e 6 k1_t7_loop k1_off14 k1_off15 k1_off14_inb k1_off15_inb _ 0 rfl (fun t => congrFun (k1_off14_eq t) 0) (fun t => congrFun (k1_off15_eq t) 0) (fun t => congrFun (k1_off15_eq t) 1) ?_ ?_
  · exact base_eq e.L 0
  iterate 4 try refine bind_out e ?_
  refine t_loop e 7 k1_t8_loop k1_off16 k1_off17 k1_off16_inb k1_off17_inb _ 0 rfl (fun t => congrFun (k1_off16_eq t) 0) (fun t => congrFun (k1_off17_eq t) 0) (fun t => congrFun (k1_off17_eq t) 1) ?_ ?_
  · exact base_eq e.L 0
  iterate 4 try refine bind_out e ?_
  refine t_loop e 8 k1_t9_loop k1_off18 k1_off19 k1_off18_inb k1_off19_inb _ 0 rfl (fun t => congrFun (k1_off18_eq t) 0) (fun t => congrFun (k1_off19_eq t) 0) (fun t => congrFun (k1_off19_eq t) 1) ?_ ?_
  · exact base_eq e.L 0
  iterate 4 try refine bind_out e ?_
  refine t_loop e 9 k1_t10_loop k1_off20 k1_off21 k1_off20_inb k1_off21_inb _ 0 rfl (fun t => congrFun (k1_off20_eq t) 0) (fun t => congrFun (k1_off21_eq t) 0) (fun t => congrFun (k1_off21_eq t) 1) ?_ ?_
  · exact base_eq e.L 0
  iterate 4 try refine bind_out e ?_
  refine t_loop e 10 k1_t11_loop k1_off22 k1_off23 k1_off22_inb k1_off23_inb _ 0 rfl (fun t => congrFun (k1_off22_eq t) 0) (fun t => congrFun (k1_off23_eq t) 0) (fun t => congrFun (k1_off23_eq t) 1) ?_ ?_
  · exact base_eq e.L 0
  iterate 4 try refine bind_out e ?_
  refine t_loop e 11 k1_t12_loop k1_off24 k1_off25 k1_off24_inb k1_off25_inb _ 0 rfl (fun t => congrFun (k1_off24_eq t) 0) (fun t => congrFun (k1_off25_eq t) 0) (fun t => congrFun (k1_off25_eq t) 1) ?_ ?_
  · exact base_eq e.L 0
  iterate 4 try refine bind_out e ?_
  refine t_loop e 12 k1_t13_loop k1_off26 k1_off27 k1_off26_inb k1_off27_inb _ 0 rfl (fun t => congrFun (k1_off26_eq t) 0) (fun t => congrFun (k1_off27_eq t) 0) (fun t => congrFun (k1_off27_eq t) 1) ?_ ?_
  · exact base_eq e.L 0
  iterate 4 try refine bind_out e ?_
  refine t_loop e 13 k1_t14_loop k1_off28 k1_off29 k1_off28_inb k1_off29_inb _ 0 rfl (fun t => congrFun (k1_off28_eq t) 0) (fun t => congrFun (k1_off29_eq t) 0) (fun t => congrFun (k1_off29_eq t) 1) ?_ ?_
  · exact base_eq e.L 0
  iterate 4 try refine bind_out e ?_
  refine t_loop e 14 k1_t15_loop k1_off30 k1_off31 k1_off30_inb k1_off31_inb _ 0 rfl (fun t => congrFun (k1_off30_eq t) 0) (fun t => congrFun (k1_off31_eq t) 0) (fun t => congrFun (k1_off31_eq t) 1) ?_ ?_
  · exact base_eq e.L 0
  iterate 4 try refine bind_out e ?_
  refine t_loop e 15 k1_t16_loop k1_off32 k1_off33 k1_off32_inb k1_off33_inb _ 0 rfl (fun t => congrFun (k1_off32_eq t) 0) (fun t => congrFun (k1_off33_eq t) 0) (fun t => congrFun (k1_off33_eq t) 1) ?_ ?_
  · exact base_eq e.L 0
  refine (ψ3_first e 0).trans ?_
  iterate 4 try refine bind_out e ?_
  refine t_chunk e 0 0 rfl rfl ?_
  iterate 4 try refine bind_out e ?_
  refine t_chunk e 0 1 rfl rfl ?_
  iterate 4 try refine bind_out e ?_
  refine t_chunk e 0 2 rfl rfl ?_
  iterate 4 try refine bind_out e ?_
  refine t_chunk e 0 3 rfl rfl ?_
  iterate 4 try refine bind_out e ?_
  refine t_chunk e 0 4 rfl rfl ?_
  iterate 4 try refine bind_out e ?_
  refine t_chunk e 0 5 rfl rfl ?_
  iterate 4 try refine bind_out e ?_
  refine t_chunk e 0 6 rfl rfl ?_
  iterate 4 try refine bind_out e ?_
  refine t_chunk e 0 7 rfl rfl ?_
  iterate 4 try refine bind_out e ?_
  refine t_chunk e 0 8 rfl rfl ?_
  iterate 4 try refine bind_out e ?_
  refine t_chunk e 0 9 rfl rfl ?_
  iterate 4 try refine bind_out e ?_
  refine t_chunk e 0 10 rfl rfl ?_
  iterate 4 try refine bind_out e ?_
  refine t_chunk e 0 11 rfl rfl ?_
  iterate 4 try refine bind_out e ?_
  refine t_chunk e 0 12 rfl rfl ?_
  iterate 4 try refine bind_out e ?_
  refine t_chunk e 0 13 rfl rfl ?_
  iterate 4 try refine bind_out e ?_
  refine t_chunk e 0 14 rfl rfl ?_
  iterate 4 try refine bind_out e ?_
  refine t_chunk e 0 15 rfl rfl ?_
  refine (ψ3_last e 0).trans ?_
  refine t_fetch e 1 rfl ?_
  iterate 4 try refine bind_out e ?_
  refine t_loop e 0 k1_t17_loop k1_off35 k1_off36 k1_off35_inb k1_off36_inb _ 1 rfl (fun t => congrFun (k1_off35_eq t) 0) (fun t => congrFun (k1_off36_eq t) 0) (fun t => congrFun (k1_off36_eq t) 1) ?_ ?_
  · exact base_eq e.L 1
  iterate 4 try refine bind_out e ?_
  refine t_loop e 1 k1_t18_loop k1_off37 k1_off38 k1_off37_inb k1_off38_inb _ 1 rfl (fun t => congrFun (k1_off37_eq t) 0) (fun t => congrFun (k1_off38_eq t) 0) (fun t => congrFun (k1_off38_eq t) 1) ?_ ?_
  · exact base_eq e.L 1
  iterate 4 try refine bind_out e ?_
  refine t_loop e 2 k1_t19_loop k1_off39 k1_off40 k1_off39_inb k1_off40_inb _ 1 rfl (fun t => congrFun (k1_off39_eq t) 0) (fun t => congrFun (k1_off40_eq t) 0) (fun t => congrFun (k1_off40_eq t) 1) ?_ ?_
  · exact base_eq e.L 1
  iterate 4 try refine bind_out e ?_
  refine t_loop e 3 k1_t20_loop k1_off41 k1_off42 k1_off41_inb k1_off42_inb _ 1 rfl (fun t => congrFun (k1_off41_eq t) 0) (fun t => congrFun (k1_off42_eq t) 0) (fun t => congrFun (k1_off42_eq t) 1) ?_ ?_
  · exact base_eq e.L 1
  iterate 4 try refine bind_out e ?_
  refine t_loop e 4 k1_t21_loop k1_off43 k1_off44 k1_off43_inb k1_off44_inb _ 1 rfl (fun t => congrFun (k1_off43_eq t) 0) (fun t => congrFun (k1_off44_eq t) 0) (fun t => congrFun (k1_off44_eq t) 1) ?_ ?_
  · exact base_eq e.L 1
  iterate 4 try refine bind_out e ?_
  refine t_loop e 5 k1_t22_loop k1_off45 k1_off46 k1_off45_inb k1_off46_inb _ 1 rfl (fun t => congrFun (k1_off45_eq t) 0) (fun t => congrFun (k1_off46_eq t) 0) (fun t => congrFun (k1_off46_eq t) 1) ?_ ?_
  · exact base_eq e.L 1
  iterate 4 try refine bind_out e ?_
  refine t_loop e 6 k1_t23_loop k1_off47 k1_off48 k1_off47_inb k1_off48_inb _ 1 rfl (fun t => congrFun (k1_off47_eq t) 0) (fun t => congrFun (k1_off48_eq t) 0) (fun t => congrFun (k1_off48_eq t) 1) ?_ ?_
  · exact base_eq e.L 1
  iterate 4 try refine bind_out e ?_
  refine t_loop e 7 k1_t24_loop k1_off49 k1_off50 k1_off49_inb k1_off50_inb _ 1 rfl (fun t => congrFun (k1_off49_eq t) 0) (fun t => congrFun (k1_off50_eq t) 0) (fun t => congrFun (k1_off50_eq t) 1) ?_ ?_
  · exact base_eq e.L 1
  iterate 4 try refine bind_out e ?_
  refine t_loop e 8 k1_t25_loop k1_off51 k1_off52 k1_off51_inb k1_off52_inb _ 1 rfl (fun t => congrFun (k1_off51_eq t) 0) (fun t => congrFun (k1_off52_eq t) 0) (fun t => congrFun (k1_off52_eq t) 1) ?_ ?_
  · exact base_eq e.L 1
  iterate 4 try refine bind_out e ?_
  refine t_loop e 9 k1_t26_loop k1_off53 k1_off54 k1_off53_inb k1_off54_inb _ 1 rfl (fun t => congrFun (k1_off53_eq t) 0) (fun t => congrFun (k1_off54_eq t) 0) (fun t => congrFun (k1_off54_eq t) 1) ?_ ?_
  · exact base_eq e.L 1
  iterate 4 try refine bind_out e ?_
  refine t_loop e 10 k1_t27_loop k1_off55 k1_off56 k1_off55_inb k1_off56_inb _ 1 rfl (fun t => congrFun (k1_off55_eq t) 0) (fun t => congrFun (k1_off56_eq t) 0) (fun t => congrFun (k1_off56_eq t) 1) ?_ ?_
  · exact base_eq e.L 1
  iterate 4 try refine bind_out e ?_
  refine t_loop e 11 k1_t28_loop k1_off57 k1_off58 k1_off57_inb k1_off58_inb _ 1 rfl (fun t => congrFun (k1_off57_eq t) 0) (fun t => congrFun (k1_off58_eq t) 0) (fun t => congrFun (k1_off58_eq t) 1) ?_ ?_
  · exact base_eq e.L 1
  iterate 4 try refine bind_out e ?_
  refine t_loop e 12 k1_t29_loop k1_off59 k1_off60 k1_off59_inb k1_off60_inb _ 1 rfl (fun t => congrFun (k1_off59_eq t) 0) (fun t => congrFun (k1_off60_eq t) 0) (fun t => congrFun (k1_off60_eq t) 1) ?_ ?_
  · exact base_eq e.L 1
  iterate 4 try refine bind_out e ?_
  refine t_loop e 13 k1_t30_loop k1_off61 k1_off62 k1_off61_inb k1_off62_inb _ 1 rfl (fun t => congrFun (k1_off61_eq t) 0) (fun t => congrFun (k1_off62_eq t) 0) (fun t => congrFun (k1_off62_eq t) 1) ?_ ?_
  · exact base_eq e.L 1
  iterate 4 try refine bind_out e ?_
  refine t_loop e 14 k1_t31_loop k1_off63 k1_off64 k1_off63_inb k1_off64_inb _ 1 rfl (fun t => congrFun (k1_off63_eq t) 0) (fun t => congrFun (k1_off64_eq t) 0) (fun t => congrFun (k1_off64_eq t) 1) ?_ ?_
  · exact base_eq e.L 1
  iterate 4 try refine bind_out e ?_
  refine t_loop e 15 k1_t32_loop k1_off65 k1_off66 k1_off65_inb k1_off66_inb _ 1 rfl (fun t => congrFun (k1_off65_eq t) 0) (fun t => congrFun (k1_off66_eq t) 0) (fun t => congrFun (k1_off66_eq t) 1) ?_ ?_
  · exact base_eq e.L 1
  refine (ψ3_first e 1).trans ?_
  iterate 4 try refine bind_out e ?_
  refine t_chunk e 1 0 rfl rfl ?_
  iterate 4 try refine bind_out e ?_
  refine t_chunk e 1 1 rfl rfl ?_
  iterate 4 try refine bind_out e ?_
  refine t_chunk e 1 2 rfl rfl ?_
  iterate 4 try refine bind_out e ?_
  refine t_chunk e 1 3 rfl rfl ?_
  iterate 4 try refine bind_out e ?_
  refine t_chunk e 1 4 rfl rfl ?_
  iterate 4 try refine bind_out e ?_
  refine t_chunk e 1 5 rfl rfl ?_
  iterate 4 try refine bind_out e ?_
  refine t_chunk e 1 6 rfl rfl ?_
  iterate 4 try refine bind_out e ?_
  refine t_chunk e 1 7 rfl rfl ?_
  iterate 4 try refine bind_out e ?_
  refine t_chunk e 1 8 rfl rfl ?_
  iterate 4 try refine bind_out e ?_
  refine t_chunk e 1 9 rfl rfl ?_
  iterate 4 try refine bind_out e ?_
  refine t_chunk e 1 10 rfl rfl ?_
  iterate 4 try refine bind_out e ?_
  refine t_chunk e 1 11 rfl rfl ?_
  iterate 4 try refine bind_out e ?_
  refine t_chunk e 1 12 rfl rfl ?_
  iterate 4 try refine bind_out e ?_
  refine t_chunk e 1 13 rfl rfl ?_
  iterate 4 try refine bind_out e ?_
  refine t_chunk e 1 14 rfl rfl ?_
  iterate 4 try refine bind_out e ?_
  refine t_chunk e 1 15 rfl rfl ?_
  refine (ψ3_last e 1).trans ?_
  refine t_fetch e 2 rfl ?_
  iterate 4 try refine bind_out e ?_
  refine t_loop e 0 k1_t33_loop k1_off67 k1_off68 k1_off67_inb k1_off68_inb _ 2 rfl (fun t => congrFun (k1_off67_eq t) 0) (fun t => congrFun (k1_off68_eq t) 0) (fun t => congrFun (k1_off68_eq t) 1) ?_ ?_
  · exact base_eq e.L 2
  iterate 4 try refine bind_out e ?_
  refine t_loop e 1 k1_t34_loop k1_off69 k1_off70 k1_off69_inb k1_off70_inb _ 2 rfl (fun t => congrFun (k1_off69_eq t) 0) (fun t => congrFun (k1_off70_eq t) 0) (fun t => congrFun (k1_off70_eq t) 1) ?_ ?_
  · exact base_eq e.L 2
  iterate 4 try refine bind_out e ?_
  refine t_loop e 2 k1_t35_loop k1_off71 k1_off72 k1_off71_inb k1_off72_inb _ 2 rfl (fun t => congrFun (k1_off71_eq t) 0) (fun t => congrFun (k1_off72_eq t) 0) (fun t => congrFun (k1_off72_eq t) 1) ?_ ?_
  · exact base_eq e.L 2
  iterate 4 try refine bind_out e ?_
  refine t_loop e 3 k1_t36_loop k1_off73 k1_off74 k1_off73_inb k1_off74_inb _ 2 rfl (fun t => congrFun (k1_off73_eq t) 0) (fun t => congrFun (k1_off74_eq t) 0) (fun t => congrFun (k1_off74_eq t) 1) ?_ ?_
  · exact base_eq e.L 2
  iterate 4 try refine bind_out e ?_
  refine t_loop e 4 k1_t37_loop k1_off75 k1_off76 k1_off75_inb k1_off76_inb _ 2 rfl (fun t => congrFun (k1_off75_eq t) 0) (fun t => congrFun (k1_off76_eq t) 0) (fun t => congrFun (k1_off76_eq t) 1) ?_ ?_
  · exact base_eq e.L 2
  iterate 4 try refine bind_out e ?_
  refine t_loop e 5 k1_t38_loop k1_off77 k1_off78 k1_off77_inb k1_off78_inb _ 2 rfl (fun t => congrFun (k1_off77_eq t) 0) (fun t => congrFun (k1_off78_eq t) 0) (fun t => congrFun (k1_off78_eq t) 1) ?_ ?_
  · exact base_eq e.L 2
  iterate 4 try refine bind_out e ?_
  refine t_loop e 6 k1_t39_loop k1_off79 k1_off80 k1_off79_inb k1_off80_inb _ 2 rfl (fun t => congrFun (k1_off79_eq t) 0) (fun t => congrFun (k1_off80_eq t) 0) (fun t => congrFun (k1_off80_eq t) 1) ?_ ?_
  · exact base_eq e.L 2
  iterate 4 try refine bind_out e ?_
  refine t_loop e 7 k1_t40_loop k1_off81 k1_off82 k1_off81_inb k1_off82_inb _ 2 rfl (fun t => congrFun (k1_off81_eq t) 0) (fun t => congrFun (k1_off82_eq t) 0) (fun t => congrFun (k1_off82_eq t) 1) ?_ ?_
  · exact base_eq e.L 2
  iterate 4 try refine bind_out e ?_
  refine t_loop e 8 k1_t41_loop k1_off83 k1_off84 k1_off83_inb k1_off84_inb _ 2 rfl (fun t => congrFun (k1_off83_eq t) 0) (fun t => congrFun (k1_off84_eq t) 0) (fun t => congrFun (k1_off84_eq t) 1) ?_ ?_
  · exact base_eq e.L 2
  iterate 4 try refine bind_out e ?_
  refine t_loop e 9 k1_t42_loop k1_off85 k1_off86 k1_off85_inb k1_off86_inb _ 2 rfl (fun t => congrFun (k1_off85_eq t) 0) (fun t => congrFun (k1_off86_eq t) 0) (fun t => congrFun (k1_off86_eq t) 1) ?_ ?_
  · exact base_eq e.L 2
  iterate 4 try refine bind_out e ?_
  refine t_loop e 10 k1_t43_loop k1_off87 k1_off88 k1_off87_inb k1_off88_inb _ 2 rfl (fun t => congrFun (k1_off87_eq t) 0) (fun t => congrFun (k1_off88_eq t) 0) (fun t => congrFun (k1_off88_eq t) 1) ?_ ?_
  · exact base_eq e.L 2
  iterate 4 try refine bind_out e ?_
  refine t_loop e 11 k1_t44_loop k1_off89 k1_off90 k1_off89_inb k1_off90_inb _ 2 rfl (fun t => congrFun (k1_off89_eq t) 0) (fun t => congrFun (k1_off90_eq t) 0) (fun t => congrFun (k1_off90_eq t) 1) ?_ ?_
  · exact base_eq e.L 2
  iterate 4 try refine bind_out e ?_
  refine t_loop e 12 k1_t45_loop k1_off91 k1_off92 k1_off91_inb k1_off92_inb _ 2 rfl (fun t => congrFun (k1_off91_eq t) 0) (fun t => congrFun (k1_off92_eq t) 0) (fun t => congrFun (k1_off92_eq t) 1) ?_ ?_
  · exact base_eq e.L 2
  iterate 4 try refine bind_out e ?_
  refine t_loop e 13 k1_t46_loop k1_off93 k1_off94 k1_off93_inb k1_off94_inb _ 2 rfl (fun t => congrFun (k1_off93_eq t) 0) (fun t => congrFun (k1_off94_eq t) 0) (fun t => congrFun (k1_off94_eq t) 1) ?_ ?_
  · exact base_eq e.L 2
  iterate 4 try refine bind_out e ?_
  refine t_loop e 14 k1_t47_loop k1_off95 k1_off96 k1_off95_inb k1_off96_inb _ 2 rfl (fun t => congrFun (k1_off95_eq t) 0) (fun t => congrFun (k1_off96_eq t) 0) (fun t => congrFun (k1_off96_eq t) 1) ?_ ?_
  · exact base_eq e.L 2
  iterate 4 try refine bind_out e ?_
  refine t_loop e 15 k1_t48_loop k1_off97 k1_off98 k1_off97_inb k1_off98_inb _ 2 rfl (fun t => congrFun (k1_off97_eq t) 0) (fun t => congrFun (k1_off98_eq t) 0) (fun t => congrFun (k1_off98_eq t) 1) ?_ ?_
  · exact base_eq e.L 2
  refine (ψ3_first e 2).trans ?_
  iterate 4 try refine bind_out e ?_
  refine t_chunk e 2 0 rfl rfl ?_
  iterate 4 try refine bind_out e ?_
  refine t_chunk e 2 1 rfl rfl ?_
  iterate 4 try refine bind_out e ?_
  refine t_chunk e 2 2 rfl rfl ?_
  iterate 4 try refine bind_out e ?_
  refine t_chunk e 2 3 rfl rfl ?_
  iterate 4 try refine bind_out e ?_
  refine t_chunk e 2 4 rfl rfl ?_
  iterate 4 try refine bind_out e ?_
  refine t_chunk e 2 5 rfl rfl ?_
  iterate 4 try refine bind_out e ?_
  refine t_chunk e 2 6 rfl rfl ?_
  iterate 4 try refine bind_out e ?_
  refine t_chunk e 2 7 rfl rfl ?_
  iterate 4 try refine bind_out e ?_
  refine t_chunk e 2 8 rfl rfl ?_
  iterate 4 try refine bind_out e ?_
  refine t_chunk e 2 9 rfl rfl ?_
  iterate 4 try refine bind_out e ?_
  refine t_chunk e 2 10 rfl rfl ?_
  iterate 4 try refine bind_out e ?_
  refine t_chunk e 2 11 rfl rfl ?_
  iterate 4 try refine bind_out e ?_
  refine t_chunk e 2 12 rfl rfl ?_
  iterate 4 try refine bind_out e ?_
  refine t_chunk e 2 13 rfl rfl ?_
  iterate 4 try refine bind_out e ?_
  refine t_chunk e 2 14 rfl rfl ?_
  iterate 4 try refine bind_out e ?_
  refine t_chunk e 2 15 rfl rfl ?_
  refine (ψ3_last e 2).trans ?_
  refine t_fetch e 3 rfl ?_
  iterate 4 try refine bind_out e ?_
  refine t_loop e 0 k1_t49_loop k1_off99 k1_off100 k1_off99_inb k1_off100_inb _ 3 rfl (fun t => congrFun (k1_off99_eq t) 0) (fun t => congrFun (k1_off100_eq t) 0) (fun t => congrFun (k1_off100_eq t) 1) ?_ ?_
  · exact base_eq e.L 3
  iterate 4 try refine bind_out e ?_
  refine t_loop e 1 k1_t50_loop k1_off101 k1_off102 k1_off101_inb k1_off102_inb _ 3 rfl (fun t => congrFun (k1_off101_eq t) 0) (fun t => congrFun (k1_off102_eq t) 0) (fun t => congrFun (k1_off102_eq t) 1) ?_ ?_
  · exact base_eq e.L 3
  iterate 4 try refine bind_out e ?_
  refine t_loop e 2 k1_t51_loop k1_off103 k1_off104 k1_off103_inb k1_off104_inb _ 3 rfl (fun t => congrFun (k1_off103_eq t) 0) (fun t => congrFun (k1_off104_eq t) 0) (fun t => congrFun (k1_off104_eq t) 1) ?_ ?_
  · exact base_eq e.L 3
  iterate 4 try refine bind_out e ?_
  refine t_loop e 3 k1_t52_loop k1_off105 k1_off106 k1_off105_inb k1_off106_inb _ 3 rfl (fun t => congrFun (k1_off105_eq t) 0) (fun t => congrFun (k1_off106_eq t) 0) (fun t => congrFun (k1_off106_eq t) 1) ?_ ?_
  · exact base_eq e.L 3
  iterate 4 try refine bind_out e ?_
  refine t_loop e 4 k1_t53_loop k1_off107 k1_off108 k1_off107_inb k1_off108_inb _ 3 rfl (fun t => congrFun (k1_off107_eq t) 0) (fun t => congrFun (k1_off108_eq t) 0) (fun t => congrFun (k1_off108_eq t) 1) ?_ ?_
  · exact base_eq e.L 3
  iterate 4 try refine bind_out e ?_
  refine t_loop e 5 k1_t54_loop k1_off109 k1_off110 k1_off109_inb k1_off110_inb _ 3 rfl (fun t => congrFun (k1_off109_eq t) 0) (fun t => congrFun (k1_off110_eq t) 0) (fun t => congrFun (k1_off110_eq t) 1) ?_ ?_
  · exact base_eq e.L 3
  iterate 4 try refine bind_out e ?_
  refine t_loop e 6 k1_t55_loop k1_off111 k1_off112 k1_off111_inb k1_off112_inb _ 3 rfl (fun t => congrFun (k1_off111_eq t) 0) (fun t => congrFun (k1_off112_eq t) 0) (fun t => congrFun (k1_off112_eq t) 1) ?_ ?_
  · exact base_eq e.L 3
  iterate 4 try refine bind_out e ?_
  refine t_loop e 7 k1_t56_loop k1_off113 k1_off114 k1_off113_inb k1_off114_inb _ 3 rfl (fun t => congrFun (k1_off113_eq t) 0) (fun t => congrFun (k1_off114_eq t) 0) (fun t => congrFun (k1_off114_eq t) 1) ?_ ?_
  · exact base_eq e.L 3
  iterate 4 try refine bind_out e ?_
  refine t_loop e 8 k1_t57_loop k1_off115 k1_off116 k1_off115_inb k1_off116_inb _ 3 rfl (fun t => congrFun (k1_off115_eq t) 0) (fun t => congrFun (k1_off116_eq t) 0) (fun t => congrFun (k1_off116_eq t) 1) ?_ ?_
  · exact base_eq e.L 3
  iterate 4 try refine bind_out e ?_
  refine t_loop e 9 k1_t58_loop k1_off117 k1_off118 k1_off117_inb k1_off118_inb _ 3 rfl (fun t => congrFun (k1_off117_eq t) 0) (fun t => congrFun (k1_off118_eq t) 0) (fun t => congrFun (k1_off118_eq t) 1) ?_ ?_
  · exact base_eq e.L 3
  iterate 4 try refine bind_out e ?_
  refine t_loop e 10 k1_t59_loop k1_off119 k1_off120 k1_off119_inb k1_off120_inb _ 3 rfl (fun t => congrFun (k1_off119_eq t) 0) (fun t => congrFun (k1_off120_eq t) 0) (fun t => congrFun (k1_off120_eq t) 1) ?_ ?_
  · exact base_eq e.L 3
  iterate 4 try refine bind_out e ?_
  refine t_loop e 11 k1_t60_loop k1_off121 k1_off122 k1_off121_inb k1_off122_inb _ 3 rfl (fun t => congrFun (k1_off121_eq t) 0) (fun t => congrFun (k1_off122_eq t) 0) (fun t => congrFun (k1_off122_eq t) 1) ?_ ?_
  · exact base_eq e.L 3
  iterate 4 try refine bind_out e ?_
  refine t_loop e 12 k1_t61_loop k1_off123 k1_off124 k1_off123_inb k1_off124_inb _ 3 rfl (fun t => congrFun (k1_off123_eq t) 0) (fun t => congrFun (k1_off124_eq t) 0) (fun t => congrFun (k1_off124_eq t) 1) ?_ ?_
  · exact base_eq e.L 3
  iterate 4 try refine bind_out e ?_
  refine t_loop e 13 k1_t62_loop k1_off125 k1_off126 k1_off125_inb k1_off126_inb _ 3 rfl (fun t => congrFun (k1_off125_eq t) 0) (fun t => congrFun (k1_off126_eq t) 0) (fun t => congrFun (k1_off126_eq t) 1) ?_ ?_
  · exact base_eq e.L 3
  iterate 4 try refine bind_out e ?_
  refine t_loop e 14 k1_t63_loop k1_off127 k1_off128 k1_off127_inb k1_off128_inb _ 3 rfl (fun t => congrFun (k1_off127_eq t) 0) (fun t => congrFun (k1_off128_eq t) 0) (fun t => congrFun (k1_off128_eq t) 1) ?_ ?_
  · exact base_eq e.L 3
  iterate 4 try refine bind_out e ?_
  refine t_loop e 15 k1_t64_loop k1_off129 k1_off130 k1_off129_inb k1_off130_inb _ 3 rfl (fun t => congrFun (k1_off129_eq t) 0) (fun t => congrFun (k1_off130_eq t) 0) (fun t => congrFun (k1_off130_eq t) 1) ?_ ?_
  · exact base_eq e.L 3
  refine (ψ3_first e 3).trans ?_
  iterate 4 try refine bind_out e ?_
  refine t_chunk e 3 0 rfl rfl ?_
  iterate 4 try refine bind_out e ?_
  refine t_chunk e 3 1 rfl rfl ?_
  iterate 4 try refine bind_out e ?_
  refine t_chunk e 3 2 rfl rfl ?_
  iterate 4 try refine bind_out e ?_
  refine t_chunk e 3 3 rfl rfl ?_
  iterate 4 try refine bind_out e ?_
  refine t_chunk e 3 4 rfl rfl ?_
  iterate 4 try refine bind_out e ?_
  refine t_chunk e 3 5 rfl rfl ?_
  iterate 4 try refine bind_out e ?_
  refine t_chunk e 3 6 rfl rfl ?_
  iterate 4 try refine bind_out e ?_
  refine t_chunk e 3 7 rfl rfl ?_
  iterate 4 try refine bind_out e ?_
  refine t_chunk e 3 8 rfl rfl ?_
  iterate 4 try refine bind_out e ?_
  refine t_chunk e 3 9 rfl rfl ?_
  iterate 4 try refine bind_out e ?_
  refine t_chunk e 3 10 rfl rfl ?_
  iterate 4 try refine bind_out e ?_
  refine t_chunk e 3 11 rfl rfl ?_
  iterate 4 try refine bind_out e ?_
  refine t_chunk e 3 12 rfl rfl ?_
  iterate 4 try refine bind_out e ?_
  refine t_chunk e 3 13 rfl rfl ?_
  iterate 4 try refine bind_out e ?_
  refine t_chunk e 3 14 rfl rfl ?_
  iterate 4 try refine bind_out e ?_
  refine t_chunk e 3 15 rfl rfl ?_
  refine (ψ3_last e 3).trans ?_
  exact le_wp_ret frame (wpE (defs₀ (F := F)) 𝒱₀ (V e.d (cV e.L) (jV e.L)) none) Set.univ PUnit.unit fun _ => TileP e (ψ0 e 4)

end Cert.Proof.U

end
-- ==== Proof.Task.lean ====
/-
  The two kernels' tasks: what the call's handshakes hand a task and take back, and the task's program between them.
-/
module

public import proofs.«01_k».proof.Proof.Body0
public import proofs.«01_k».proof.Proof.Body1

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## The arrays between the launches -/

variable (m : (ℓ : Loc nD τ sig) → Buf (Elt F) ℓ)

abbrev bLoc (d : Dev nD) : Loc nD τ sig := (SparseCore.T d).loc main_v0
abbrev xLoc (d : Dev nD) : Loc nD τ sig := (SparseCore.T d).loc main_v1
abbrev o4Loc (d : Dev nD) : Loc nD τ sig := (SparseCore.T d).loc main_v2_0
abbrev o5Loc (d : Dev nD) : Loc nD τ sig := (SparseCore.T d).loc main_v2_1
abbrev o6Loc (d : Dev nD) : Loc nD τ sig := (SparseCore.T d).loc main_v2_2
abbrev wLoc (d : Dev nD) : Loc nD τ sig := (SparseCore.T d).loc main_v3
abbrev uLoc (d : Dev nD) : Loc nD τ sig := (SparseCore.T d).loc main_v4
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

/-- The buckets, the table and the attention's rows, flattened. -/
def Bm (d : Dev nD) : S262144.Idx → Elt F .i32 := shapeCast S262144 (show S32x4x2048.Idx → Elt F .i32 from m (a0Loc d)) shapeCasts_S32x4x2048_S262144
def Xm (d : Dev nD) : S65536x128.Idx → Elt F .f32 := shapeCast S65536x128 (show S32x2048x128.Idx → Elt F .f32 from m (a1Loc d)) shapeCasts_S32x2048x128_S65536x128
def Wm (d : Dev nD) : S262144x128.Idx → Elt F .f32 := shapeCast S262144x128 (show S32x8192x128.Idx → Elt F .f32 from m (a2Loc d)) shapeCasts_S32x8192x128_S262144x128

/-- What the proof asks of the launch memory: every bucket is below 32. -/
def PreOK : Prop := ∀ (d : Dev nD) (n : S262144.Idx), (Bm m d n : BitVec 32).toNat < 32

/-- A tile's share of an array that all read. -/
abbrev qT (w : Fin 32) : PosShare TreeShare := pieceOf fullShare 32 (by decide) w

/-- The tile's number, bounded. -/
abbrev wN (L : grid0.Coords) : Fin 32 := ⟨wid L, wid_lt L⟩

/-- What a sorting task takes: its share of the buckets and of the table, and its pieces of the results. -/
def go0 (d : Dev nD) (w : Fin 32) : sProp 𝕄 :=
  iprop((bLoc d ↦{qT w} Bm m d) ∗ (xLoc d ↦{qT w} Xm m d) ∗ (o4Loc d ↦[T1 w.val]{fullShare} m (o4Loc d))
    ∗ (o5Loc d ↦[T1 w.val]{fullShare} m (o5Loc d)) ∗ (o6Loc d ↦[T2 w.val]{fullShare} m (o6Loc d)))

/-- What it brings back: the results at their values. -/
def td0 (d : Dev nD) (w : Fin 32) : sProp 𝕄 :=
  iprop((bLoc d ↦{qT w} Bm m d) ∗ (xLoc d ↦{qT w} Xm m d) ∗ (o4Loc d ↦[T1 w.val]{fullShare} G4 (F := F) (Bm m d))
    ∗ (o5Loc d ↦[T1 w.val]{fullShare} G5 (F := F) (Bm m d)) ∗ (o6Loc d ↦[T2 w.val]{fullShare} G6 (Bm m d) (Xm m d)))

/-- What an unsorting task takes: its share of the sorted tokens and of the attention's rows, and its piece of the result. -/
def go1 (d : Dev nD) (w : Fin 32) : sProp 𝕄 :=
  iprop((o4Loc d ↦{qT w} G4 (F := F) (Bm m d)) ∗ (wLoc d ↦{qT w} Wm m d) ∗ (uLoc d ↦[T2 w.val]{fullShare} m (uLoc d)))

def td1 (d : Dev nD) (w : Fin 32) : sProp 𝕄 :=
  iprop((o4Loc d ↦{qT w} G4 (F := F) (Bm m d)) ∗ (wLoc d ↦{qT w} Wm m d) ∗ (uLoc d ↦[T2 w.val]{fullShare} GU (Bm m d) (Wm m d)))

section Own

variable (d : Dev nD) (L : grid0.Coords)

/-- The subcore's buffers that the task leaves alone. -/
abbrev rest0 : sProp 𝕄 := bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)

/-- The task's scratch buffers are among the subcore's own. -/
theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ rest0 d L) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

/-- The subcore's buffers that the task leaves alone. -/
abbrev rest1 : sProp 𝕄 := bigSep ((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)) fun b => iprop(∃ f, ((d, b) : Loc nD τ sig) ↦{fullShare} f)

/-- The task's scratch buffers are among the subcore's own. -/
theorem ownBufs_V1 :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ rest1 d L) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩)]

end Own

/-- The tile's number bounds its slots. -/
theorem T1_lt {w : ℕ} {n : S262144.Idx} (h : n ∈ T1 w) : (n 0).val / 8192 = w := (Finset.mem_filter.mp h).2
theorem T2_lt {w : ℕ} {n : S262144x128.Idx} (h : n ∈ T2 w) : (n 0).val / 8192 = w := (Finset.mem_filter.mp h).2

variable (d : Dev nD) (L : grid0.Coords)

/-- The sorting task's surroundings. -/
abbrev env0 (hpre : PreOK m) (O : CellTallies nD τ sig (HIx 2)) (W : Waits sig (HIx 2)) (hO : ∀ g, O g none = 0) : Env F :=
  { d := d, L := L, O := O, W := W, hO := hO, q := qT (wN L), B := Bm m d, X := Xm m d, hB := hpre d, R := rest0 d L }

/-- The sorting task, from what it is handed to what it hands back. -/
theorem task0 (hF : (K (F := F)).Facts) (hpre : PreOK m) (O : CellTallies nD τ sig (HIx 2)) (W : Waits sig (HIx 2)) (hO : ∀ g, O g none = 0) :
    iprop(levAts (K (F := F)).L (K (F := F)).lev ∗ emp ∗ go0 m d (wN L)
        ∗ scopedBufs (V d (cV L) (jV L)) ∗ scopedSems0 (V d (cV L) (jV L)) ∗ owes (V d (cV L) (jV L)) O W)
      ⊢ WP d (cV L) (jV L) (body0 (env0 m d L hpre O W hO))
          fun _ => iprop(td0 m d (wN L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownBufs_V0]
  refine BIBase.Entails.trans ?_ ((body0_ok (env0 m d L hpre O W hO)).trans (wp_mono frame _ _ fun _ => ?_))
  · unfold go0
    iintro ⟨#Hlv, -, ⟨HB, HX, H4, H5, H6⟩, ⟨⟨%f0, Hs0⟩, ⟨%f1, Hs1⟩, ⟨%f2, Hs2⟩, ⟨%f3, Hs3⟩, ⟨%f4, Hs4⟩, ⟨%f5, Hs5⟩, ⟨%f6, Hs6⟩, HR⟩, Hsems, HO⟩
    have h : φ0 (env0 m d L hpre O W hO) 0 (⟨f0, f1, f2, f3, f4, f5, f6, m (o4Loc d), m (o5Loc d), m (o6Loc d)⟩ : St F) := by
      refine ⟨fun n hn hlt => absurd hlt ?_, fun n hn hlt => absurd hlt ?_, fun n hn hlt => absurd hlt ?_⟩
      · have h := T1_lt hn; unfold row; omega
      · have h := T1_lt hn; unfold row; omega
      · have h := T2_lt hn; unfold row; omega
    iapply (TileP.intro (env0 m d L hpre O W hO) h)
    unfold Tile
    isplitl [HB]; · iexact HB
    isplitl [HX]; · iexact HX
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [H4]; · iexact H4
    isplitl [H5]; · iexact H5
    isplitl [H6]; · iexact H6
    isplitr [HR]
    · unfold Ctx
      isplitr; · iexact Hlv
      isplitl [Hsems]; · iexact Hsems
      iexists W
      isplitr
      · ipureintro; exact fun p hp => .inl hp
      · iexact HO
    iexact HR
  · refine TileP.elim _ fun x hx => ?_
    have h4 : ∀ n ∈ T1 (wN L).val, x.o4 n = G4 (F := F) (Bm m d) n := fun n hn => hx.1 n hn (by
      have h : (n 0).val / 8192 = wid L := T1_lt hn
      show (n 0).val < 2048 * (4 * wid L + 4); omega)
    have h5 : ∀ n ∈ T1 (wN L).val, x.o5 n = G5 (F := F) (Bm m d) n := fun n hn => hx.2.1 n hn (by
      have h : (n 0).val / 8192 = wid L := T1_lt hn
      show (n 0).val < 2048 * (4 * wid L + 4); omega)
    have h6 : ∀ n ∈ T2 (wN L).val, x.o6 n = G6 (Bm m d) (Xm m d) n := fun n hn => hx.2.2 n hn (by
      have h : (n 0).val / 8192 = wid L := T2_lt hn
      show (n 0).val < 2048 * (4 * wid L + 4); omega)
    unfold Tile td0 Ctx
    rw [← pointsTo_congr (ℓ := o4Loc d) (q := fullShare) h4, ← pointsTo_congr (ℓ := o5Loc d) (q := fullShare) h5, ← pointsTo_congr (ℓ := o6Loc d) (q := fullShare) h6]
    iintro ⟨HB, HX, Hs0, Hs1, Hs2, Hs3, Hs4, Hs5, Hs6, H4, H5, H6, ⟨-, Hsems, HW⟩, HR⟩
    isplitl [HB HX H4 H5 H6]
    · isplitl [HB]; · iexact HB
      isplitl [HX]; · iexact HX
      isplitl [H4]; · iexact H4
      isplitl [H5]; · iexact H5
      iexact H6
    isplitl [Hs0 Hs1 Hs2 Hs3 Hs4 Hs5 Hs6 HR]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      iexact HR
    isplitl [Hsems]; · iexact Hsems
    iexact HW

/-- The unsorting task's surroundings. -/
abbrev env1 (O : CellTallies nD τ sig (HIx 2)) (W : Waits sig (HIx 2)) (hO : ∀ g, O g none = 0) : U.Env F :=
  { d := d, L := L, O := O, W := W, hO := hO, q := qT (wN L), B := Bm m d, X := Wm m d, R := rest1 d L }

/-- The unsorting task, from what it is handed to what it hands back. -/
theorem task1 (hF : (K (F := F)).Facts) (O : CellTallies nD τ sig (HIx 2)) (W : Waits sig (HIx 2)) (hO : ∀ g, O g none = 0) :
    iprop(levAts (K (F := F)).L (K (F := F)).lev ∗ emp ∗ go1 m d (wN L)
        ∗ scopedBufs (V d (cV L) (jV L)) ∗ scopedSems0 (V d (cV L) (jV L)) ∗ owes (V d (cV L) (jV L)) O W)
      ⊢ WP d (cV L) (jV L) (U.body1 (env1 m d L O W hO))
          fun _ => iprop(td1 m d (wN L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownBufs_V1]
  refine BIBase.Entails.trans ?_ ((U.body1_ok (env1 m d L O W hO)).trans (wp_mono frame _ _ fun _ => ?_))
  · unfold go1
    iintro ⟨#Hlv, -, ⟨HB, HX, H4⟩, ⟨⟨%f0, Hs0⟩, ⟨%f1, Hs1⟩, ⟨%f2, Hs2⟩, HR⟩, Hsems, HO⟩
    have h : U.ψ0 (env1 m d L O W hO) 0 (⟨f0, f1, f2, m (uLoc d)⟩ : U.St F) := by
      intro n hn hlt
      refine absurd hlt ?_
      have h := T2_lt hn; unfold U.row; omega
    iapply (U.TileP.intro (env1 m d L O W hO) h)
    unfold U.Tile
    isplitl [HB]; · iexact HB
    isplitl [HX]; · iexact HX
    isplitl [Hs0]; · iexact Hs0
    isplitl [Hs1]; · iexact Hs1
    isplitl [Hs2]; · iexact Hs2
    isplitl [H4]; · iexact H4
    isplitr [HR]
    · unfold Ctx
      isplitr; · iexact Hlv
      isplitl [Hsems]; · iexact Hsems
      iexists W
      isplitr
      · ipureintro; exact fun p hp => .inl hp
      · iexact HO
    iexact HR
  · refine U.TileP.elim _ fun x hx => ?_
    have h4 : ∀ n ∈ T2 (wN L).val, x.o n = GU (Bm m d) (Wm m d) n := fun n hn => hx n hn (by
      have h : (n 0).val / 8192 = wid L := T2_lt hn
      show (n 0).val < 2048 * (4 * wid L + 4); omega)
    unfold U.Tile td1 Ctx
    rw [← pointsTo_congr (ℓ := uLoc d) (q := fullShare) h4]
    iintro ⟨HB, HX, Hs0, Hs1, Hs2, H4, ⟨-, Hsems, HW⟩, HR⟩
    isplitl [HB HX H4]
    · isplitl [HB]; · iexact HB
      isplitl [HX]; · iexact HX
      iexact H4
    isplitl [Hs0 Hs1 Hs2 HR]
    · isplitl [Hs0]; · iexists _; iexact Hs0
      isplitl [Hs1]; · iexists _; iexact Hs1
      isplitl [Hs2]; · iexists _; iexact Hs2
      iexact HR
    isplitl [Hsems]; · iexact Hsems
    iexact HW

end Cert.Proof

end
-- ==== Proof.Launch.lean ====
/-
  The launch: the two calls' payloads, the split of the arrays into the tiles' pieces and shares, @main, and the run
  with the values it leaves.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 2) (Elt F) ℕ UU ℕ

variable [FloatOps F]

variable (m : (ℓ : Loc nD τ sig) → Buf (Elt F) ℓ) (ρ : Dev nD → PrngReg)

/-! ## What the handshakes carry -/

/-- The tile on core `c`, subcore `i`. -/
def wC (c : Fin 2) (i : Fin 16) : Fin 32 := ⟨2 * i.val + c.val, by omega⟩

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

/-- A core's part of the call is its sixteen tasks' parts. -/
def P : (K (F := F)).Pay (nD := nD) (Val := Elt F) (Name := ℕ) (U := UU) where
  st := fun q d c => match q with
    | 0 => bigSep Finset.univ fun i : Fin 16 => go0 m d (wC (Fin.cast nCore_0 c) i)
    | 1 => bigSep Finset.univ fun i : Fin 16 => go1 m d (wC (Fin.cast nCore_1 c) i)
  dn := fun q d c => match q with
    | 0 => bigSep Finset.univ fun i : Fin 16 => td0 m d (wC (Fin.cast nCore_0 c) i)
    | 1 => bigSep Finset.univ fun i : Fin 16 => td1 m d (wC (Fin.cast nCore_1 c) i)
  go := fun q d c i => match q with
    | 0 => go0 m d (wC (Fin.cast nCore_0 c) (Fin.cast nSub_0 i))
    | 1 => go1 m d (wC (Fin.cast nCore_1 c) (Fin.cast nSub_1 i))
  td := fun q d c i => match q with
    | 0 => td0 m d (wC (Fin.cast nCore_0 c) (Fin.cast nSub_0 i))
    | 1 => td1 m d (wC (Fin.cast nCore_1 c) (Fin.cast nSub_1 i))
  x := fun _ _ => iprop(emp)

instance go0_storable (d : Dev nD) (w : Fin 32) : BI.Storable (upEmb : UEmb _ 𝕄) (go0 m d w) := by unfold go0; infer_instance
instance go1_storable (d : Dev nD) (w : Fin 32) : BI.Storable (upEmb : UEmb _ 𝕄) (go1 m d w) := by unfold go1; infer_instance
instance td0_storable (d : Dev nD) (w : Fin 32) : BI.Storable (upEmb : UEmb _ 𝕄) (td0 m d w) := by unfold td0; infer_instance
instance td1_storable (d : Dev nD) (w : Fin 32) : BI.Storable (upEmb : UEmb _ 𝕄) (td1 m d w) := by unfold td1; infer_instance

instance P_storable : (P (F := F) m).IsStorable where
  st q d c := match q with
    | 0 => (inferInstance : BI.Storable (upEmb : UEmb _ 𝕄) (bigSep Finset.univ fun i : Fin 16 => go0 m d (wC (Fin.cast nCore_0 c) i)))
    | 1 => (inferInstance : BI.Storable (upEmb : UEmb _ 𝕄) (bigSep Finset.univ fun i : Fin 16 => go1 m d (wC (Fin.cast nCore_1 c) i)))
  dn q d c := match q with
    | 0 => (inferInstance : BI.Storable (upEmb : UEmb _ 𝕄) (bigSep Finset.univ fun i : Fin 16 => td0 m d (wC (Fin.cast nCore_0 c) i)))
    | 1 => (inferInstance : BI.Storable (upEmb : UEmb _ 𝕄) (bigSep Finset.univ fun i : Fin 16 => td1 m d (wC (Fin.cast nCore_1 c) i)))
  go q d c i := match q with
    | 0 => go0_storable m d _
    | 1 => go1_storable m d _
  td q d c i := match q with
    | 0 => td0_storable m d _
    | 1 => td1_storable m d _

/-! ## The tasks' obligations -/

def coordsV (c : Fin (grid0.bound 0)) (s : Fin (grid0.bound 1)) : grid0.Coords :=
  fun | 0 => c | 1 => s | ⟨_ + 2, h⟩ => absurd h (Nat.not_lt.2 (Nat.le_add_left _ _))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's program, as the call names it. -/
abbrev prog0 (L : grid0.Coords) : Prog (TpuEff nD τ sig (Elt F) Λ₀ (.scVector (cV L) (jV L))) PUnit :=
  cc0__sort_gather_body L bV (Memref.isWhole_whole _) xV (Memref.isWhole_whole _) o4V (Memref.isWhole_whole _)
  o5V (Memref.isWhole_whole _) o6V (Memref.isWhole_whole _) s0V (Memref.isWhole_whole _) s1V (Memref.isWhole_whole _) s2V (Memref.isWhole_whole _)
  s3V (Memref.isWhole_whole _) s4V (Memref.isWhole_whole _) s5V (Memref.isWhole_whole _) s6V (Memref.isWhole_whole _) cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75
abbrev prog1 (L : grid1.Coords) : Prog (TpuEff nD τ sig (Elt F) Λ₀ (.scVector (cV L) (jV L))) PUnit :=
  cc1__unsort_body L U.kV (Memref.isWhole_whole _) U.wV (Memref.isWhole_whole _) U.oV (Memref.isWhole_whole _)
  U.s5 (Memref.isWhole_whole _) U.s6 (Memref.isWhole_whole _) U.s7 (Memref.isWhole_whole _) cc1_scratch3 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67

theorem defs₀_0 (c : Fin τ.nSC) (s : Fin τ.nSub) :
    defs₀ (F := F) (.scVector c s) 0 () = SparseCore.onTile hcore0 hsub0 (fun c s => prog0 (coordsV c s)) ⟨⟩ c s := rfl
theorem defs₀_1 (c : Fin τ.nSC) (s : Fin τ.nSub) :
    defs₀ (F := F) (.scVector c s) 1 () = SparseCore.onTile hcore1 hsub1 (fun c s => prog1 (coordsV c s)) ⟨⟩ c s := rfl

set_option maxRecDepth 16384 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (task0 m d (coordsV ⟨_, hci.1⟩ ⟨_, hci.2⟩) hF hpre O W hO).trans (wp_mono frame _ _ fun _ => obl_post)

set_option maxRecDepth 16384 in
theorem tileObl1 (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (task1 m d (coordsV ⟨_, hci.1⟩ ⟨_, hci.2⟩) hF O W hO).trans (wp_mono frame _ _ fun _ => obl_post)

theorem vecSplit0 : (K (F := F)).VecSplit' (P m) 0 := by
  intro d c
  show (bigSep Finset.univ fun i : Fin 16 => go0 m d (wC (Fin.cast nCore_0 c) i)) ⊢ |={Set.univ}=> iprop(
      (bigSep Finset.univ fun i : Fin 16 => go0 m d (wC (Fin.cast nCore_0 c) i))
      ∗ ((bigSep Finset.univ fun i : Fin 16 => td0 m d (wC (Fin.cast nCore_0 c) i)) -∗ (bigSep Finset.univ fun i : Fin 16 => td0 m d (wC (Fin.cast nCore_0 c) i))))
  iintro H; imodintro
  isplitl [H]; · iexact H
  iintro H; iexact H

theorem vecSplit1 : (K (F := F)).VecSplit' (P m) 1 := by
  intro d c
  show (bigSep Finset.univ fun i : Fin 16 => go1 m d (wC (Fin.cast nCore_1 c) i)) ⊢ |={Set.univ}=> iprop(
      (bigSep Finset.univ fun i : Fin 16 => go1 m d (wC (Fin.cast nCore_1 c) i))
      ∗ ((bigSep Finset.univ fun i : Fin 16 => td1 m d (wC (Fin.cast nCore_1 c) i)) -∗ (bigSep Finset.univ fun i : Fin 16 => td1 m d (wC (Fin.cast nCore_1 c) i))))
  iintro H; imodintro
  isplitl [H]; · iexact H
  iintro H; iexact H

/-! ## The arrays, split among the tiles -/

/-- Core and subcore against the tile's number. -/
def tileEquiv : Fin 2 × Fin 16 ≃ Fin 32 where
  toFun p := wC p.1 p.2
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem tiles (Φ : Fin 32 → sProp 𝕄) :
    (bigSep Finset.univ fun c : Fin 2 => bigSep Finset.univ fun i : Fin 16 => Φ (wC c i)) = bigSep Finset.univ Φ :=
  ((bigSep_univ_equiv tileEquiv Φ).trans (bigSep_univ_prod (fun p : Fin 2 × Fin 16 => Φ (tileEquiv p)))).symm

theorem T1_disj : ∀ w ∈ (Finset.univ : Finset (Fin 32)), ∀ w' ∈ (Finset.univ : Finset (Fin 32)), w ≠ w' → Disjoint (T1 w.val) (T1 w'.val) :=
  fun w _ w' _ h => Finset.disjoint_left.mpr fun n hn hn' => h (Fin.ext ((T1_lt hn).symm.trans (T1_lt hn')))
theorem T2_disj : ∀ w ∈ (Finset.univ : Finset (Fin 32)), ∀ w' ∈ (Finset.univ : Finset (Fin 32)), w ≠ w' → Disjoint (T2 w.val) (T2 w'.val) :=
  fun w _ w' _ h => Finset.disjoint_left.mpr fun n hn hn' => h (Fin.ext ((T2_lt hn).symm.trans (T2_lt hn')))
theorem T1_cover : (Finset.univ : Finset (Fin 32)).biUnion (fun w => T1 w.val) = Finset.univ := by
  refine Finset.eq_univ_of_forall fun n => Finset.mem_biUnion.mpr ?_
  have h : (n 0).val < 262144 := (n 0).isLt
  exact ⟨⟨(n 0).val / 8192, by omega⟩, Finset.mem_univ _, Finset.mem_filter.mpr ⟨Finset.mem_univ _, rfl⟩⟩
theorem T2_cover : (Finset.univ : Finset (Fin 32)).biUnion (fun w => T2 w.val) = Finset.univ := by
  refine Finset.eq_univ_of_forall fun n => Finset.mem_biUnion.mpr ?_
  have h : (n 0).val < 262144 := (n 0).isLt
  exact ⟨⟨(n 0).val / 8192, by omega⟩, Finset.mem_univ _, Finset.mem_filter.mpr ⟨Finset.mem_univ _, rfl⟩⟩

theorem cut4 (d : Dev nD) (f : Buf (Elt F) (o4Loc d)) : (o4Loc d ↦{fullShare} f : sProp 𝕄) = bigSep Finset.univ fun w : Fin 32 => o4Loc d ↦[T1 w.val]{fullShare} f := by
  rw [← pointsTo_biUnion Finset.univ (ℓ := o4Loc d) (fun w : Fin 32 => T1 w.val) T1_disj, T1_cover]
theorem cut5 (d : Dev nD) (f : Buf (Elt F) (o5Loc d)) : (o5Loc d ↦{fullShare} f : sProp 𝕄) = bigSep Finset.univ fun w : Fin 32 => o5Loc d ↦[T1 w.val]{fullShare} f := by
  rw [← pointsTo_biUnion Finset.univ (ℓ := o5Loc d) (fun w : Fin 32 => T1 w.val) T1_disj, T1_cover]
theorem cut6 (d : Dev nD) (f : Buf (Elt F) (o6Loc d)) : (o6Loc d ↦{fullShare} f : sProp 𝕄) = bigSep Finset.univ fun w : Fin 32 => o6Loc d ↦[T2 w.val]{fullShare} f := by
  rw [← pointsTo_biUnion Finset.univ (ℓ := o6Loc d) (fun w : Fin 32 => T2 w.val) T2_disj, T2_cover]
theorem cutU (d : Dev nD) (f : Buf (Elt F) (uLoc d)) : (uLoc d ↦{fullShare} f : sProp 𝕄) = bigSep Finset.univ fun w : Fin 32 => uLoc d ↦[T2 w.val]{fullShare} f := by
  rw [← pointsTo_biUnion Finset.univ (ℓ := uLoc d) (fun w : Fin 32 => T2 w.val) T2_disj, T2_cover]
theorem shares {ℓ : Loc nD τ sig} (f : Buf (Elt F) ℓ) : (ℓ ↦{fullShare} f : sProp 𝕄) = bigSep Finset.univ fun w : Fin 32 => ℓ ↦{qT w} f :=
  pointsTo_piecesOf Finset.univ f (by decide) fullShare

theorem st0_eq (d : Dev nD) : (bigSep Finset.univ fun c : Fin ((K (F := F)).nCore 0) => (P m).st 0 d c)
    = iprop((bLoc d ↦{fullShare} Bm m d) ∗ (xLoc d ↦{fullShare} Xm m d) ∗ (o4Loc d ↦{fullShare} m (o4Loc d))
      ∗ (o5Loc d ↦{fullShare} m (o5Loc d)) ∗ (o6Loc d ↦{fullShare} m (o6Loc d))) := by
  refine (tiles (F := F) (go0 m d)).trans ?_
  unfold go0
  rw [bigSep_sep', bigSep_sep', bigSep_sep', bigSep_sep', ← shares, ← shares, ← cut4, ← cut5, ← cut6]
theorem dn0_eq (d : Dev nD) : (bigSep Finset.univ fun c : Fin ((K (F := F)).nCore 0) => (P m).dn 0 d c)
    = iprop((bLoc d ↦{fullShare} Bm m d) ∗ (xLoc d ↦{fullShare} Xm m d) ∗ (o4Loc d ↦{fullShare} G4 (F := F) (Bm m d))
      ∗ (o5Loc d ↦{fullShare} G5 (F := F) (Bm m d)) ∗ (o6Loc d ↦{fullShare} G6 (Bm m d) (Xm m d))) := by
  refine (tiles (F := F) (td0 m d)).trans ?_
  unfold td0
  rw [bigSep_sep', bigSep_sep', bigSep_sep', bigSep_sep', ← shares, ← shares, ← cut4, ← cut5, ← cut6]
theorem st1_eq (d : Dev nD) : (bigSep Finset.univ fun c : Fin ((K (F := F)).nCore 1) => (P m).st 1 d c)
    = iprop((o4Loc d ↦{fullShare} G4 (F := F) (Bm m d)) ∗ (wLoc d ↦{fullShare} Wm m d) ∗ (uLoc d ↦{fullShare} m (uLoc d))) := by
  refine (tiles (F := F) (go1 m d)).trans ?_
  unfold go1
  rw [bigSep_sep', bigSep_sep', ← shares, ← shares, ← cutU]
theorem dn1_eq (d : Dev nD) : (bigSep Finset.univ fun c : Fin ((K (F := F)).nCore 1) => (P m).dn 1 d c)
    = iprop((o4Loc d ↦{fullShare} G4 (F := F) (Bm m d)) ∗ (wLoc d ↦{fullShare} Wm m d) ∗ (uLoc d ↦{fullShare} GU (Bm m d) (Wm m d))) := by
  refine (tiles (F := F) (td1 m d)).trans ?_
  unfold td1
  rw [bigSep_sep', bigSep_sep', ← shares, ← shares, ← cutU]

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => bigSep_emp' Finset.univ, bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (bLoc d ↦{fullShare} W main_v0) ∗ (xLoc d ↦{fullShare} W main_v1) ∗ (o4Loc d ↦{fullShare} W main_v2_0) ∗ (o5Loc d ↦{fullShare} W main_v2_1)
      ∗ (o6Loc d ↦{fullShare} W main_v2_2) ∗ (wLoc d ↦{fullShare} W main_v3) ∗ uLoc d ↦{fullShare} W main_v4) := by
  unfold unscopedBufs
  rw [show (Finset.univ.filter fun b : Ref sig .tc => ¬ b.isScoped) = {main_arg0, main_arg1, main_arg2, main_v0, main_v1, main_v2_0, main_v2_1, main_v2_2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

abbrev op0 : HloOp τ sig (Elt F) := StableHlo.reshape main_arg0 main_v0 (rfl : (.i32 : EltTy) = .i32) shapeCasts_S32x4x2048_S262144
abbrev set0 : Finset (DevRef τ sig) := {Proc.devRef .tc (main_arg0 : Ref sig .tc), Proc.devRef .tc (main_v0 : Ref sig .tc)}
theorem sub0 : (op0 (F := F)).bufs ⊆ set0 := Finset.Subset.refl _

theorem held0 (d : Dev nD) (W : Valuation τ sig (Elt F)) :
    (held (T d) set0 W : sProp 𝕄) = iprop((a0Loc d ↦{fullShare} W (Proc.devRef .tc (main_arg0 : Ref sig .tc))) ∗ (bLoc d ↦{fullShare} W (Proc.devRef .tc (main_v0 : Ref sig .tc)))) := by
  unfold held set0
  rw [SparseCore.bigSep_insert' (by decide), bigSep_singleton]

theorem held0_before (d : Dev nD) :
    (held (T d) set0 (fun b => m (d, b)) : sProp 𝕄) = iprop((a0Loc d ↦{fullShare} m (a0Loc d)) ∗ (bLoc d ↦{fullShare} m (bLoc d))) := held0 d _

theorem held0_after (d : Dev nD) :
    (held (T d) set0 ((op0 (F := F)).result fun b => m (d, b)) : sProp 𝕄) = iprop((a0Loc d ↦{fullShare} m (a0Loc d)) ∗ (bLoc d ↦{fullShare} Bm m d)) := by
  rw [held0, (op0 (F := F)).result_of_not_mem (fun b => m (d, b)) (show Proc.devRef .tc (main_arg0 : Ref sig .tc) ∉ ({Proc.devRef .tc (main_v0 : Ref sig .tc)} : Finset (DevRef τ sig)) by decide),
    show (op0 (F := F)).result (fun b => m (d, b)) (Proc.devRef .tc (main_v0 : Ref sig .tc)) = Bm m d from StableHlo.reshape_result _ _ _ _ _ _ _]

abbrev op1 : HloOp τ sig (Elt F) := StableHlo.reshape main_arg1 main_v1 (rfl : (.f32 : EltTy) = .f32) shapeCasts_S32x2048x128_S65536x128
abbrev set1 : Finset (DevRef τ sig) := {Proc.devRef .tc (main_arg1 : Ref sig .tc), Proc.devRef .tc (main_v1 : Ref sig .tc)}
theorem sub1 : (op1 (F := F)).bufs ⊆ set1 := Finset.Subset.refl _

theorem held1 (d : Dev nD) (W : Valuation τ sig (Elt F)) :
    (held (T d) set1 W : sProp 𝕄) = iprop((a1Loc d ↦{fullShare} W (Proc.devRef .tc (main_arg1 : Ref sig .tc))) ∗ (xLoc d ↦{fullShare} W (Proc.devRef .tc (main_v1 : Ref sig .tc)))) := by
  unfold held set1
  rw [SparseCore.bigSep_insert' (by decide), bigSep_singleton]

theorem held1_before (d : Dev nD) :
    (held (T d) set1 (fun b => m (d, b)) : sProp 𝕄) = iprop((a1Loc d ↦{fullShare} m (a1Loc d)) ∗ (xLoc d ↦{fullShare} m (xLoc d))) := held1 d _

theorem held1_after (d : Dev nD) :
    (held (T d) set1 ((op1 (F := F)).result fun b => m (d, b)) : sProp 𝕄) = iprop((a1Loc d ↦{fullShare} m (a1Loc d)) ∗ (xLoc d ↦{fullShare} Xm m d)) := by
  rw [held1, (op1 (F := F)).result_of_not_mem (fun b => m (d, b)) (show Proc.devRef .tc (main_arg1 : Ref sig .tc) ∉ ({Proc.devRef .tc (main_v1 : Ref sig .tc)} : Finset (DevRef τ sig)) by decide),
    show (op1 (F := F)).result (fun b => m (d, b)) (Proc.devRef .tc (main_v1 : Ref sig .tc)) = Xm m d from StableHlo.reshape_result _ _ _ _ _ _ _]

abbrev op2 : HloOp τ sig (Elt F) := StableHlo.reshape main_arg2 main_v3 (rfl : (.f32 : EltTy) = .f32) shapeCasts_S32x8192x128_S262144x128
abbrev set2 : Finset (DevRef τ sig) := {Proc.devRef .tc (main_arg2 : Ref sig .tc), Proc.devRef .tc (main_v3 : Ref sig .tc)}
theorem sub2 : (op2 (F := F)).bufs ⊆ set2 := Finset.Subset.refl _

theorem held2 (d : Dev nD) (W : Valuation τ sig (Elt F)) :
    (held (T d) set2 W : sProp 𝕄) = iprop((a2Loc d ↦{fullShare} W (Proc.devRef .tc (main_arg2 : Ref sig .tc))) ∗ (wLoc d ↦{fullShare} W (Proc.devRef .tc (main_v3 : Ref sig .tc)))) := by
  unfold held set2
  rw [SparseCore.bigSep_insert' (by decide), bigSep_singleton]

theorem held2_before (d : Dev nD) :
    (held (T d) set2 (fun b => m (d, b)) : sProp 𝕄) = iprop((a2Loc d ↦{fullShare} m (a2Loc d)) ∗ (wLoc d ↦{fullShare} m (wLoc d))) := held2 d _

theorem held2_after (d : Dev nD) :
    (held (T d) set2 ((op2 (F := F)).result fun b => m (d, b)) : sProp 𝕄) = iprop((a2Loc d ↦{fullShare} m (a2Loc d)) ∗ (wLoc d ↦{fullShare} Wm m d)) := by
  rw [held2, (op2 (F := F)).result_of_not_mem (fun b => m (d, b)) (show Proc.devRef .tc (main_arg2 : Ref sig .tc) ∉ ({Proc.devRef .tc (main_v3 : Ref sig .tc)} : Finset (DevRef τ sig)) by decide),
    show (op2 (F := F)).result (fun b => m (d, b)) (Proc.devRef .tc (main_v3 : Ref sig .tc)) = Wm m d from StableHlo.reshape_result _ _ _ _ _ _ _]

/-- What @main leaves: the arguments, and the results at their values. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (o4Loc d ↦{fullShare} G4 (F := F) (Bm m d)) ∗ (o5Loc d ↦{fullShare} G5 (F := F) (Bm m d)) ∗ (o6Loc d ↦{fullShare} G6 (Bm m d) (Xm m d))
    ∗ (uLoc d ↦{fullShare} GU (Bm m d) (Wm m d)))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Hv0, Hv1, H4, H5, H6, Hv3, Hu⟩, Hts, -⟩, -⟩
  iapply (wp_hlo_within 𝒱 (SparseCore.T d) none Set.univ (op := op0) (S := set0) sub0 (V := fun b => m (d, b))) $$ [Hb Ha0 Hv0]
  · isplitl [Hb]; · iexact Hb
    iapply (Entails.of_eq (held0_before m d).symm)
    isplitl [Ha0]; · iexact Ha0
    iexact Hv0
  iintro ⟨Hb, Hh⟩
  rw [wp_ret]; imodintro
  ihave Hh := (Entails.of_eq (held0_after m d)) $$ Hh
  icases Hh with ⟨Ha0, Hv0⟩
  iapply (wp_hlo_within 𝒱 (SparseCore.T d) none Set.univ (op := op1) (S := set1) sub1 (V := fun b => m (d, b))) $$ [Hb Ha1 Hv1]
  · isplitl [Hb]; · iexact Hb
    iapply (Entails.of_eq (held1_before m d).symm)
    isplitl [Ha1]; · iexact Ha1
    iexact Hv1
  iintro ⟨Hb, Hh⟩
  rw [wp_ret]; imodintro
  ihave Hh := (Entails.of_eq (held1_after m d)) $$ Hh
  icases Hh with ⟨Ha1, Hv1⟩
  iapply ((K (F := F)).wp_run (D (F := F)) 𝒱 (EH := EH) (P := P m) κ d 0) $$ [Hst Hv0 Hv1 H4 H5 H6 Hb Ha0 Ha1 Ha2 Hv3 Hu Hts]
  isplitr; · iexact Hctx
  isplitl [Hst]; · iexact Hst
  isplitl [Hv0 Hv1 H4 H5 H6]
  · iapply (Entails.of_eq (st0_eq m d).symm)
    isplitl [Hv0]; · iexact Hv0
    isplitl [Hv1]; · iexact Hv1
    isplitl [H4]; · iexact H4
    isplitl [H5]; · iexact H5
    iexact H6
  iintro ⟨Hst, Hdn⟩
  ihave Hdn := (Entails.of_eq (dn0_eq m d)) $$ Hdn
  icases Hdn with ⟨-, -, H4, H5, H6⟩
  iapply (wp_hlo_within 𝒱 (SparseCore.T d) none Set.univ (op := op2) (S := set2) sub2 (V := fun b => m (d, b))) $$ [Hb Ha2 Hv3]
  · isplitl [Hb]; · iexact Hb
    iapply (Entails.of_eq (held2_before m d).symm)
    isplitl [Ha2]; · iexact Ha2
    iexact Hv3
  iintro ⟨Hb, Hh⟩
  rw [wp_ret]; imodintro
  ihave Hh := (Entails.of_eq (held2_after m d)) $$ Hh
  icases Hh with ⟨Ha2, Hv3⟩
  iapply ((K (F := F)).wp_run (D (F := F)) 𝒱 (EH := EH) (P := P m) κ d 1) $$ [Hst H4 Hv3 Hu H5 H6 Hb Ha0 Ha1 Ha2 Hts]
  isplitr; · iexact Hctx
  isplitl [Hst]; · iexact Hst
  isplitl [H4 Hv3 Hu]
  · iapply (Entails.of_eq (st1_eq m d).symm)
    isplitl [H4]; · iexact H4
    isplitl [Hv3]; · iexact Hv3
    iexact Hu
  iintro ⟨Hst, Hdn⟩
  ihave Hdn := (Entails.of_eq (dn1_eq m d)) $$ Hdn
  icases Hdn with ⟨H4, -, Hu⟩
  imodintro
  isplitl [Hst]; · iexact Hst
  isplitr [Hb Hts]
  · isplitl [Ha0]; · iexact Ha0
    isplitl [Ha1]; · iexact Ha1
    isplitl [Ha2]; · iexact Ha2
    isplitl [H4]; · iexact H4
    isplitl [H5]; · iexact H5
    isplitl [H6]; · iexact H6
    iexact Hu
  isplitl [Hb] <;> iassumption

/-- The device's arrays at the end. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (o4Loc d) = G4 (F := F) (Bm m d) ∧ s'.mem.mem (o5Loc d) = G5 (F := F) (Bm m d) ∧ s'.mem.mem (o6Loc d) = G6 (Bm m d) (Xm m d)
    ∧ s'.mem.mem (uLoc d) = GU (Bm m d) (Wm m d)

theorem agree1 {ℓ : Loc nD τ sig} (s' : Phys nD τ sig (Elt F)) (f : Buf (Elt F) ℓ) :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H4, H5, H6, Hu⟩, HSI⟩
  ihave HS := (agree1 s' _) $$ [HSI H0]
  · isplitl [HSI] <;> iassumption
  icases HS with ⟨%h0, HSI⟩
  ihave HS := (agree1 s' _) $$ [HSI H1]
  · isplitl [HSI] <;> iassumption
  icases HS with ⟨%h1, HSI⟩
  ihave HS := (agree1 s' _) $$ [HSI H2]
  · isplitl [HSI] <;> iassumption
  icases HS with ⟨%h2, HSI⟩
  ihave HS := (agree1 s' _) $$ [HSI H4]
  · isplitl [HSI] <;> iassumption
  icases HS with ⟨%h3, HSI⟩
  ihave HS := (agree1 s' _) $$ [HSI H5]
  · isplitl [HSI] <;> iassumption
  icases HS with ⟨%h4, HSI⟩
  ihave HS := (agree1 s' _) $$ [HSI H6]
  · isplitl [HSI] <;> iassumption
  icases HS with ⟨%h5, HSI⟩
  ihave HS := (agree1 s' _) $$ [HSI Hu]
  · isplitl [HSI] <;> iassumption
  icases HS with ⟨%h6, HSI⟩
  ipureintro; exact ⟨h0, h1, h2, h3, h4, h5, h6⟩

/-! ## The program's run -/

def QC : PUnit × MemSt nD τ sig (Elt F) → Prop := fun r => (∀ d : Dev nD,
    r.2.mem (a0Loc d) = m (a0Loc d) ∧ r.2.mem (a1Loc d) = m (a1Loc d) ∧ r.2.mem (a2Loc d) = m (a2Loc d)
    ∧ r.2.mem (o4Loc d) = G4 (F := F) (Bm m d) ∧ r.2.mem (o5Loc d) = G5 (F := F) (Bm m d) ∧ r.2.mem (o6Loc d) = G6 (Bm m d) (Xm m d)
    ∧ r.2.mem (uLoc d) = GU (Bm m d) (Wm m d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The frames: both programs run, from any memory whose buckets lie in range, and leave their arguments.
-/
module

public import proofs.«01_k».proof.Defs
public import proofs.«01_k».proof.Proof.Launch
public import proofs.«01_k».proof.Proof.Gen.Kernel
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_buckets_in_range
public import Idealize.ShloMosaic.Lib.ReduceAll

@[expose] public section

noncomputable section

namespace Cert.Proof

open Cert.KernelIdeal Cert.KernelIdeal.Gen
open Idealize.ShloMosaic Idealize.SL.Sem

variable {F : FTy → Type} [FloatOps F]

/-- What the precondition says of a bucket array: every bucket is below 32. -/
theorem fn_ok (a : IVec Cert.Pre_buckets_in_range.S32x4x2048 32) (b : FVec F Cert.Pre_buckets_in_range.S32x2048x128 .f32)
    (c : FVec F Cert.Pre_buckets_in_range.S32x8192x128 .f32) (h : Cert.Pre_buckets_in_range.fn a b c = fun _ => 1#1)
    (j : Cert.Pre_buckets_in_range.S32x4x2048.Idx) : (a j).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 32#32) = 1#1 → v.toNat < 32 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  refine key _ ?_
  have e := congrFun h (fun x => x.elim0)
  simp only [Cert.Pre_buckets_in_range.fn] at e
  have : Subsingleton Cert.Pre_buckets_in_range.S_.Idx := ⟨fun x y => funext fun a => a.elim0⟩
  exact Host.reduce_andi_all _ _ _ _ _ e j

theorem ok_Kernel (m : (ℓ : Loc nD τ sig) → Buf (Elt Bits) ℓ) (h : Cert.Pre_Kernel m) : PreOK (F := Bits) m :=
  fun d _ => fn_ok _ _ _ (h d) _
theorem ok_KernelIdeal (m : (ℓ : Loc nD τ sig) → Buf (Elt Ideal) ℓ) (h : Cert.Pre_KernelIdeal m) : PreOK (F := Ideal) m :=
  fun d _ => fn_ok _ _ _ (h d) _

theorem frame_Kernel : Cert.quiescent_Kernel := fun m ρ hpre =>
  (θ_run Cert.KernelIdeal.defs _ _).mono (fun _ h => ⟨fun c => ⟨(h.1 c).1, (h.1 c).2.1, (h.1 c).2.2.1⟩, h.2⟩) (run_main (F := Bits) m ρ (ok_Kernel m hpre))

theorem frame_KernelIdeal : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (ok_KernelIdeal m hpre))

theorem frame_Reference : Cert.quiescent_Reference := fun m ρ _ =>
  (θ_run Cert.Reference.defs _ _).mono (fun r h => ⟨fun c => (h c).2.2.2.2, sem_eq_zero_of_no_sems (by decide) r.2⟩)
    (Cert.Reference.Value.run (F := Bits) m ρ)

theorem frame_ReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof

end
-- ==== Proof.RefTerm.lean ====
/-
  The reference's four results as short terms of its arguments: the keys, the two argsorts, the remainder by 2048 and
  the two `take_along_axis`.
-/
module

public import proofs.«01_k».proof.Proof.Gen.Reference.Run
public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe Idealize.SL.Sem

variable {F : FTy → Type} [FloatOps F]

/-- The divisor, as `jnp.remainder` prepares it. -/
def cN : IVec S_ 32 := select (cmpi .eq (id (constantI S_ 32 2048#32)) (constantI S_ 32 0#32)) (constantI S_ 32 1#32) (id (constantI S_ 32 2048#32))

/-- `x % 2048`, as `jnp.remainder` prints it. -/
def modT (x : IVec S32x8192 32) : IVec S32x8192 32 :=
  select (andi (cmpi .ne (cmpi .slt (Host.remsi x (broadcastInDim S32x8192 ![] bcast_S_S32x8192 cN)) (broadcastInDim S32x8192 ![] bcast_S_S32x8192 (constantI S_ 32 0#32)))
      (broadcastInDim S32x8192 ![] bcast_S_S32x8192 (cmpi .slt cN (constantI S_ 32 0#32))))
    (cmpi .ne (Host.remsi x (broadcastInDim S32x8192 ![] bcast_S_S32x8192 cN)) (broadcastInDim S32x8192 ![] bcast_S_S32x8192 (constantI S_ 32 0#32))))
    (addi (Host.remsi x (broadcastInDim S32x8192 ![] bcast_S_S32x8192 cN)) (broadcastInDim S32x8192 ![] bcast_S_S32x8192 cN))
    (Host.remsi x (broadcastInDim S32x8192 ![] bcast_S_S32x8192 cN))

/-- The sort keys: 2048 · (bucket + 32 · round) + token. -/
def keysT (b : IVec S32x4x2048 32) : IVec S32x8192 32 :=
  addi (muli (broadcastInDim S32x8192 ![] bcast_S_S32x8192 (constantI S_ 32 2048#32))
      (shapeCast S32x8192 (addi b (broadcastInDim S32x4x2048 ![0, 1, 2] bcast_S1x4x1_S32x4x2048_0_1_2 (broadcastInDim S1x4x1 ![1] bcast_S4_S1x4x1_1
        (muli (iotaInDim S4 32 0) (broadcastInDim S4 ![] bcast_S_S4 (constantI S_ 32 32#32)))))) shapeCasts_S32x4x2048_S32x8192))
    (modT (broadcastInDim S32x8192 ![0, 1] bcast_S1x8192_S32x8192_0_1 (broadcastInDim S1x8192 ![1] bcast_S8192_S1x8192_1 (iotaInDim S8192 32 0))))

/-- `jnp.argsort` along the rows. -/
def argsortT (x : IVec S32x8192 32) : IVec S32x8192 32 := (Host.sort2 S32x8192 1 comparator_i32_i32_d1 x (iotaInDim S32x8192 32 1)).2

/-- The start indices of `take_along_axis`: a negative one is moved up by the operand's length `n`. -/
def startT (n : BitVec 32) (i : IVec S32x8192 32) : IVec S32x8192x1 32 :=
  select (cmpi .slt (broadcastInDim S32x8192x1 ![0, 1] bcast_S32x8192_S32x8192x1_0_1 i) (broadcastInDim S32x8192x1 ![] bcast_S_S32x8192x1 (constantI S_ 32 0#32)))
    (addi (broadcastInDim S32x8192x1 ![0, 1] bcast_S32x8192_S32x8192x1_0_1 i) (broadcastInDim S32x8192x1 ![] bcast_S_S32x8192x1 (constantI S_ 32 n)))
    (broadcastInDim S32x8192x1 ![0, 1] bcast_S32x8192_S32x8192x1_0_1 i)

/-- Whether each start index lies in the operand, `l` its last place. -/
def insideT (l : BitVec 32) (s : IVec S32x8192x1 32) : IVec S32x8192 1 :=
  Host.reduce IntOp.andi (andi (cmpi .sge s (broadcastInDim S32x8192x1 ![] bcast_S_S32x8192x1 (constantI S_ 32 0#32)))
    (cmpi .sle s (broadcastInDim S32x8192x1 ![0, 1, 2] bcast_S1x1x1_S32x8192x1_0_1_2 (broadcastInDim S1x1x1 ![2] bcast_S1_S1x1x1_2 (constantI S1 32 l)))))
    (constantI S_ 1 1#1) reducesTo_S32x8192x1_S32x8192_d2 h_S_

/-- `take_along_axis` of the rows of `x`. -/
def takeT {sx : Shape} (D : GatherDims sx S32x8192x1 S32x8192x128) (n l : BitVec 32) (x : FVec F sx .f32) (i : IVec S32x8192 32) : FVec F S32x8192x128 .f32 :=
  select (broadcastInDim S32x8192x128 ![0, 1] bcast_S32x8192_S32x8192x128_0_1 (insideT l (startT n i))) (Host.gather D x (startT n i))
    (broadcastInDim S32x8192x128 ![] bcast_S_S32x8192x128 (constant S_ .f32 0x7FC00000#32))

/-! ## The four results -/

def out0 (b : IVec S32x4x2048 32) : IVec S262144 32 := shapeCast S262144 (modT (argsortT (keysT b))) shapeCasts_S32x8192_S262144
def out1 (b : IVec S32x4x2048 32) : FVec F S262144 .f32 := shapeCast S262144 (sitofp .f32 (modT (argsortT (keysT b)))) shapeCasts_S32x8192_S262144
def out2 (b : IVec S32x4x2048 32) (x : FVec F S32x2048x128 .f32) : FVec F S262144x128 .f32 :=
  shapeCast S262144x128 (takeT gather_S32x2048x128_S32x8192x1_S32x8192x128_2_1_0_0_1_2_11128 2048#32 2047#32 x (modT (argsortT (keysT b)))) shapeCasts_S32x8192x128_S262144x128
def out3 (b : IVec S32x4x2048 32) (w : FVec F S32x8192x128 .f32) : FVec F S262144x128 .f32 :=
  shapeCast S262144x128 (takeT gather_S32x8192x128_S32x8192x1_S32x8192x128_2_1_0_0_1_2_11128 8192#32 8191#32 w (argsortT (argsortT (keysT b)))) shapeCasts_S32x8192x128_S262144x128

section Ideal
variable (m : (ℓ : Loc nD τ sig) → Buf (Elt F) ℓ) (c : Dev nD)
theorem res0 : Cert.ReferenceIdeal.Value.res_main_v21 m c = out0 (m ((c.tc : Thread nD τ).loc main_arg0)) := rfl
theorem res1 : Cert.ReferenceIdeal.Value.res_main_v23 m c = out1 (m ((c.tc : Thread nD τ).loc main_arg0)) := rfl
theorem res2 : Cert.ReferenceIdeal.Value.res_main_v24 m c = out2 (m ((c.tc : Thread nD τ).loc main_arg0)) (m ((c.tc : Thread nD τ).loc main_arg1)) := rfl
theorem res3 : Cert.ReferenceIdeal.Value.res_main_v25 m c = out3 (m ((c.tc : Thread nD τ).loc main_arg0)) (m ((c.tc : Thread nD τ).loc main_arg2)) := rfl
end Ideal

section Bits
variable (m : (ℓ : Loc Cert.Reference.nD Cert.Reference.τ Cert.Reference.sig) → Buf (Elt F) ℓ) (c : Dev Cert.Reference.nD)
theorem bres0 : Cert.Reference.Value.res_main_v21 m c = out0 (m ((c.tc : Thread Cert.Reference.nD Cert.Reference.τ).loc Cert.Reference.main_arg0)) := rfl
theorem bres1 : Cert.Reference.Value.res_main_v23 m c = out1 (m ((c.tc : Thread Cert.Reference.nD Cert.Reference.τ).loc Cert.Reference.main_arg0)) := rfl
theorem bres2 : Cert.Reference.Value.res_main_v24 m c = out2 (m ((c.tc : Thread Cert.Reference.nD Cert.Reference.τ).loc Cert.Reference.main_arg0)) (m ((c.tc : Thread Cert.Reference.nD Cert.Reference.τ).loc Cert.Reference.main_arg1)) := rfl
theorem bres3 : Cert.Reference.Value.res_main_v25 m c = out3 (m ((c.tc : Thread Cert.Reference.nD Cert.Reference.τ).loc Cert.Reference.main_arg0)) (m ((c.tc : Thread Cert.Reference.nD Cert.Reference.τ).loc Cert.Reference.main_arg2)) := rfl
end Bits

end Cert.Proof.Ref

end
-- ==== Proof.RefVal.lean ====
/-
  The reference's four results, element by element: its two argsorts are the counting sort's order and the inverse of
  it, so its results are the arrays the kernel's two calls leave.
-/
module

public import proofs.«01_k».proof.Proof.RefTerm
public import proofs.«01_k».proof.Proof.Count
public import Idealize.ShloMosaic.Lib.SortFacts
public import Idealize.ShloMosaic.Lib.ValueIdxCore
public import Idealize.ShloMosaic.Lib.Affine
public import Idealize.ShloMosaic.Lib.ReduceAll

@[expose] public section

noncomputable section

namespace Cert.Proof.Ref

open Cert.ReferenceIdeal Cert.ReferenceIdeal.Gen
open Idealize.ShloMosaic Idealize.ShloMosaic.ValueIdx
open Cert.Proof (below cnt dest srt slot slot_self slot_val lt_S262144 cellX cellO rowKey G4 G5 G6 GU)

variable {F : FTy → Type} [FloatOps F]

/-! ## Words -/

theorem slt_zero {r : BitVec 32} (h : 2 * r.toNat < 2 ^ 32) : IntOp.cmpi .slt r 0#32 = 0#1 := by
  simp only [IntOp.cmpi, BitVec.slt_eq_decide, BitVec.toInt_eq_toNat_cond, BitVec.toNat_ofNat, Nat.reducePow, Nat.zero_mod]
  rw [decide_eq_false]
  · rfl
  · rw [if_pos (show 2 * r.toNat < 4294967296 by omega)]; simp

theorem sge_zero {r : BitVec 32} (h : 2 * r.toNat < 2 ^ 32) : IntOp.cmpi .sge r 0#32 = 1#1 := by
  simp only [IntOp.cmpi, BitVec.sle_eq_decide, BitVec.toInt_eq_toNat_cond, BitVec.toNat_ofNat, Nat.reducePow, Nat.zero_mod]
  rw [decide_eq_true]
  · rfl
  · rw [if_pos (show 2 * r.toNat < 4294967296 by omega)]; simp

theorem sle_of {r l : BitVec 32} (hl : 2 * l.toNat < 2 ^ 32) (h : r.toNat ≤ l.toNat) : IntOp.cmpi .sle r l = 1#1 := by
  simp only [IntOp.cmpi, BitVec.sle_eq_decide, BitVec.toInt_eq_toNat_cond]
  rw [decide_eq_true]
  · rfl
  · rw [if_pos (by omega), if_pos (by omega)]; exact_mod_cast h

theorem toInt_of {r : BitVec 32} (h : 2 * r.toNat < 2 ^ 32) : r.toInt = (r.toNat : ℤ) := by
  rw [BitVec.toInt_eq_toNat_cond, if_pos h]

/-! ## The remainder -/

theorem cN_apply (i : S_.Idx) : cN i = 2048#32 := rfl

theorem modT_apply (x : IVec S32x8192 32) (j : S32x8192.Idx) (h : 2 * (x j).toNat < 2 ^ 32) :
    modT x j = BitVec.ofNat 32 ((x j).toNat % 2048) := by
  have hr : (IntOp.remsi .host (x j) 2048#32).toNat = (x j).toNat % 2048 := IntOp.toNat_remsi .host h 2048 (by decide) (by decide)
  have hs : IntOp.cmpi .slt (IntOp.remsi .host (x j) 2048#32) 0#32 = 0#1 := slt_zero (by omega)
  show Scalar.select (IntOp.andi (IntOp.cmpi .ne (IntOp.cmpi .slt (IntOp.remsi .host (x j) 2048#32) 0#32) (IntOp.cmpi .slt 2048#32 0#32))
    (IntOp.cmpi .ne (IntOp.remsi .host (x j) 2048#32) 0#32)) (IntOp.addi (IntOp.remsi .host (x j) 2048#32) 2048#32) (IntOp.remsi .host (x j) 2048#32) = _
  rw [hs, show IntOp.cmpi .ne (0#1) (IntOp.cmpi .slt 2048#32 0#32) = 0#1 by decide]
  have h0 : ∀ b : BitVec 1, IntOp.andi 0#1 b = 0#1 := by decide
  rw [h0, select_zero]
  refine BitVec.eq_of_toNat_eq ?_
  rw [hr, BitVec.toNat_ofNat]
  omega

/-! ## The keys -/

/-- The buckets, flat. -/
abbrev flat (b : IVec S32x4x2048 32) : Cert.KernelIdeal.S262144.Idx → Elt F .i32 :=
  shapeCast Cert.KernelIdeal.S262144 b Cert.KernelIdeal.Gen.shapeCasts_S32x4x2048_S262144

theorem rowKey_eq (b : IVec S32x4x2048 32) (i : Fin 32) (h : Fin 4) (t : Fin 2048) :
    rowKey (F := F) (flat b) (4 * i.val + h.val) t.val = (b (ix3 i h t)).toNat := by
  unfold rowKey
  refine congrArg (fun v : BitVec 32 => v.toNat) (congrArg b (Shape.reshapeEquiv_eq_of_rowMajor _ ?_))
  rw [Shape.rowMajor_val_one, Shape.rowMajor_val_three]
  show (i.val * 4 + h.val) * 2048 + t.val = (2048 * (4 * i.val + h.val) + t.val) % 262144
  omega

/-- The key of token `q` of head-batch `i`. -/
def key (κ : ℕ → ℕ → ℕ) (q : ℕ) : ℕ := 2048 * (κ (q / 2048) (q % 2048) + 32 * (q / 2048)) + q % 2048

abbrev kap (B : Cert.KernelIdeal.S262144.Idx → Elt F .i32) (i h : ℕ) : ℕ → ℕ := rowKey B (4 * i + h)

theorem keysT_apply (b : IVec S32x4x2048 32) (hb : ∀ j, (b j).toNat < 32) (i : Fin 32) (p : Fin 8192) :
    (keysT b (ix2 i p)).toNat = key (kap (F := F) (flat b) i.val) p.val := by
  have e1 : shapeCast S32x8192 (addi b (broadcastInDim S32x4x2048 ![0, 1, 2] bcast_S1x4x1_S32x4x2048_0_1_2 (broadcastInDim S1x4x1 ![1] bcast_S4_S1x4x1_1
        (muli (iotaInDim S4 32 0) (broadcastInDim S4 ![] bcast_S_S4 (constantI S_ 32 32#32)))))) shapeCasts_S32x4x2048_S32x8192 (ix2 i p)
      = IntOp.addi (b (ix3 i (⟨p.val / 2048, by omega⟩ : Fin 4) (⟨p.val % 2048, by omega⟩ : Fin 2048))) (IntOp.muli (BitVec.ofNat 32 (p.val / 2048)) 32#32) := by
    refine congrArg (addi b _) (Shape.reshapeEquiv_eq_of_rowMajor _ (y := ix3 i (⟨p.val / 2048, by omega⟩ : Fin 4) (⟨p.val % 2048, by omega⟩ : Fin 2048)) ?_)
    rw [Shape.rowMajor_val_two, Shape.rowMajor_val_three]
    show (i.val * 4 + p.val / 2048) * 2048 + p.val % 2048 = i.val * 8192 + p.val
    omega
  have e2 : modT (broadcastInDim S32x8192 ![0, 1] bcast_S1x8192_S32x8192_0_1 (broadcastInDim S1x8192 ![1] bcast_S8192_S1x8192_1 (iotaInDim S8192 32 0))) (ix2 i p)
      = BitVec.ofNat 32 (p.val % 2048) := by
    have hv : (broadcastInDim S32x8192 ![0, 1] bcast_S1x8192_S32x8192_0_1 (broadcastInDim S1x8192 ![1] bcast_S8192_S1x8192_1 (iotaInDim S8192 32 0))) (ix2 i p) = BitVec.ofNat 32 p.val := rfl
    have hp : (BitVec.ofNat 32 p.val).toNat = p.val := by rw [BitVec.toNat_ofNat]; omega
    rw [modT_apply _ _ (by rw [hv, hp]; omega), hv, hp]
  have hk := rowKey_eq (F := F) b i (⟨p.val / 2048, by omega⟩ : Fin 4) (⟨p.val % 2048, by omega⟩ : Fin 2048)
  have hlt := hb (ix3 i (⟨p.val / 2048, by omega⟩ : Fin 4) (⟨p.val % 2048, by omega⟩ : Fin 2048))
  show (IntOp.addi (IntOp.muli 2048#32 _) _).toNat = _
  rw [e1, e2]
  unfold key
  show _ = 2048 * (rowKey (F := F) (flat b) (4 * i.val + p.val / 2048) (p.val % 2048) + _) + _
  rw [show rowKey (F := F) (flat b) (4 * i.val + p.val / 2048) (p.val % 2048) = _ from hk]
  simp only [IntOp.addi, IntOp.muli, BitVec.toNat_add, BitVec.toNat_mul, BitVec.toNat_ofNat]
  omega

/-! ## The order -/

/-- Where token `q` goes. -/
def place (κ : ℕ → ℕ → ℕ) (q : ℕ) : ℕ := 2048 * (q / 2048) + dest (κ (q / 2048)) (q % 2048)
/-- Which token stands at place `p`. -/
def tok (κ : ℕ → ℕ → ℕ) (p : ℕ) : ℕ := 2048 * (p / 2048) + srt (κ (p / 2048)) (p % 2048)

theorem place_lt (κ : ℕ → ℕ → ℕ) {q : ℕ} (h : q < 8192) : place κ q < 8192 := by
  have := dest_lt (κ := κ (q / 2048)) (t := q % 2048) (by omega)
  unfold place; omega
theorem tok_lt (κ : ℕ → ℕ → ℕ) {p : ℕ} (h : p < 8192) : tok κ p < 8192 := by
  have := srt_lt (κ (p / 2048)) (p % 2048)
  unfold tok; omega
theorem place_tok (κ : ℕ → ℕ → ℕ) (p : ℕ) : place κ (tok κ p) = p := by
  have h := srt_lt (κ (p / 2048)) (p % 2048)
  have h1 : tok κ p / 2048 = p / 2048 := by unfold tok; omega
  have h2 : tok κ p % 2048 = srt (κ (p / 2048)) (p % 2048) := by unfold tok; omega
  unfold place
  rw [h1, h2, dest_srt _ (by omega)]
  omega
theorem tok_place (κ : ℕ → ℕ → ℕ) (q : ℕ) : tok κ (place κ q) = q := by
  have h := dest_lt (κ := κ (q / 2048)) (t := q % 2048) (by omega)
  have h1 : place κ q / 2048 = q / 2048 := by unfold place; omega
  have h2 : place κ q % 2048 = dest (κ (q / 2048)) (q % 2048) := by unfold place; omega
  unfold tok
  rw [h1, h2, srt_dest _ (by omega)]
  omega

def perm (κ : ℕ → ℕ → ℕ) : Equiv.Perm (Fin 8192) where
  toFun p := ⟨tok κ p.val, tok_lt κ p.isLt⟩
  invFun q := ⟨place κ q.val, place_lt κ q.isLt⟩
  left_inv p := Fin.ext (place_tok κ p.val)
  right_inv q := Fin.ext (tok_place κ q.val)

/-- Of two tokens, the one of the earlier round, then of the smaller bucket, then the earlier, has the smaller key and the smaller place. -/
theorem lex (κ : ℕ → ℕ → ℕ) (hκ : ∀ h < 4, ∀ t < 2048, κ h t < 32) {q q' : ℕ} (hq : q < 8192) (hq' : q' < 8192)
    (h : q / 2048 < q' / 2048 ∨ (q / 2048 = q' / 2048 ∧ (κ (q / 2048) (q % 2048) < κ (q' / 2048) (q' % 2048)
      ∨ (κ (q / 2048) (q % 2048) = κ (q' / 2048) (q' % 2048) ∧ q % 2048 < q' % 2048)))) :
    key κ q < key κ q' ∧ place κ q < place κ q' := by
  have k1 := hκ (q / 2048) (by omega) (q % 2048) (by omega)
  have k2 := hκ (q' / 2048) (by omega) (q' % 2048) (by omega)
  have d1 := dest_lt (κ := κ (q / 2048)) (t := q % 2048) (by omega)
  have d2 := dest_lt (κ := κ (q' / 2048)) (t := q' % 2048) (by omega)
  unfold key place
  rcases h with h | ⟨h, hk | ⟨hk, ht⟩⟩
  · constructor <;> omega
  · have := dest_lt_of_key (κ := κ (q / 2048)) (t := q % 2048) (u := q' % 2048) (by omega) (by rw [h] at hk ⊢; exact hk)
    rw [h] at this hk ⊢
    constructor <;> omega
  · have := dest_lt_of_tok (κ := κ (q / 2048)) (t := q % 2048) (u := q' % 2048) (by rw [h] at hk ⊢; exact hk) ht
    rw [h] at this hk ⊢
    constructor <;> omega

theorem key_iff (κ : ℕ → ℕ → ℕ) (hκ : ∀ h < 4, ∀ t < 2048, κ h t < 32) {q q' : ℕ} (hq : q < 8192) (hq' : q' < 8192) (hne : q ≠ q') :
    key κ q < key κ q' ↔ place κ q < place κ q' := by
  have tot : (q / 2048 < q' / 2048 ∨ (q / 2048 = q' / 2048 ∧ (κ (q / 2048) (q % 2048) < κ (q' / 2048) (q' % 2048)
      ∨ (κ (q / 2048) (q % 2048) = κ (q' / 2048) (q' % 2048) ∧ q % 2048 < q' % 2048))))
    ∨ (q' / 2048 < q / 2048 ∨ (q' / 2048 = q / 2048 ∧ (κ (q' / 2048) (q' % 2048) < κ (q / 2048) (q % 2048)
      ∨ (κ (q' / 2048) (q' % 2048) = κ (q / 2048) (q % 2048) ∧ q' % 2048 < q % 2048)))) := by omega
  rcases tot with h | h
  · have := lex κ hκ hq hq' h
    exact ⟨fun _ => this.2, fun _ => this.1⟩
  · have := lex κ hκ hq' hq h
    exact ⟨fun _ => by omega, fun _ => by omega⟩

/-! ## The argsorts -/

theorem along_ix2 (i : Fin 32) (p k : Fin 8192) : (ix2 i p : S32x8192.Idx).along (1 : Fin 2) k = ix2 i k := by
  funext a
  match a with
  | ⟨0, h⟩ => exact Function.update_of_ne (fun e => by simpa using congrArg Fin.val e) _ _
  | ⟨1, _⟩ => exact Function.update_self _ _ _

theorem cmp_iff {a b : BitVec 32} (c d : BitVec 32) (ha : 2 * a.toNat < 2 ^ 32) (hb : 2 * b.toNat < 2 ^ 32) :
    (comparator_i32_i32_d1 (a, c) (b, d) == 1#1) = decide (a.toNat < b.toNat) := by
  show (IntOp.cmpi .slt a b == 1#1) = _
  simp only [IntOp.cmpi, BitVec.slt_eq_decide, toInt_of ha, toInt_of hb, Nat.cast_lt]
  by_cases h : a.toNat < b.toNat
  · rw [decide_eq_true h]; rfl
  · rw [decide_eq_false h]; rfl

/-- Whether the sort puts position `k` of row `i` before position `k'`. -/
def before (x : IVec S32x8192 32) (i : Fin 32) (p k k' : Fin 8192) : Bool :=
  comparator_i32_i32_d1 (x ((ix2 i p : S32x8192.Idx).along (1 : Fin 2) k), iotaInDim S32x8192 32 1 ((ix2 i p : S32x8192.Idx).along (1 : Fin 2) k))
    (x ((ix2 i p : S32x8192.Idx).along (1 : Fin 2) k'), iotaInDim S32x8192 32 1 ((ix2 i p : S32x8192.Idx).along (1 : Fin 2) k')) == 1#1

theorem before_eq (x : IVec S32x8192 32) (i : Fin 32) (hx : ∀ k : Fin 8192, 2 * (x (ix2 i k)).toNat < 2 ^ 32) (p k k' : Fin 8192) :
    before x i p k k' = decide ((x (ix2 i k)).toNat < (x (ix2 i k')).toNat) := by
  unfold before
  rw [along_ix2, along_ix2]
  exact cmp_iff _ _ (hx k) (hx k')

theorem argsort_before (x : IVec S32x8192 32) (i : Fin 32) (p : Fin 8192) :
    argsortT x (ix2 i p) = BitVec.ofNat 32 (sortedFrom (before x i p) p).val := by
  unfold argsortT Host.sort2
  rw [dif_pos (show (1 : ℕ) < S32x8192.rank by decide)]
  have e := congrArg (iotaInDim S32x8192 32 1) (along_ix2 i p (sortedFrom (before x i p) p))
  refine Eq.trans ?_ e
  rfl

theorem sorted_perm {n : ℕ} (σ : Equiv.Perm (Fin n)) (k : Fin n) : sortedFrom (fun k k' => decide (σ.symm k < σ.symm k')) k = σ k := by
  unfold sortedFrom
  rw [List.get_of_eq (sortPositions_of_perm σ)]
  simp

/-- An argsort is the order that its keys agree with. -/
theorem argsort_of (x : IVec S32x8192 32) (i : Fin 32) (hx : ∀ k : Fin 8192, 2 * (x (ix2 i k)).toNat < 2 ^ 32) (σ : Equiv.Perm (Fin 8192))
    (hσ : ∀ k k' : Fin 8192, k ≠ k' → ((x (ix2 i k)).toNat < (x (ix2 i k')).toNat ↔ σ.symm k < σ.symm k')) (p : Fin 8192) :
    argsortT x (ix2 i p) = BitVec.ofNat 32 (σ p).val := by
  have hs : sortedFrom (before x i p) = sortedFrom fun k k' => decide (σ.symm k < σ.symm k') :=
    sortedFrom_congr _ _ fun k k' hk => (before_eq x i hx p k k').trans (decide_eq_decide.mpr (hσ k k' hk))
  rw [argsort_before, hs, sorted_perm]

section
variable (b : IVec S32x4x2048 32) (hb : ∀ j, (b j).toNat < 32)
include hb

theorem kap_lt (i : Fin 32) : ∀ h < 4, ∀ t < 2048, kap (F := F) (flat b) i.val h t < 32 := fun h hh t ht => by
  have := rowKey_eq (F := F) b i ⟨h, hh⟩ ⟨t, ht⟩
  show rowKey (F := F) (flat b) (4 * i.val + h) t < 32
  rw [show rowKey (F := F) (flat b) (4 * i.val + h) t = _ from this]
  exact hb _

theorem sticker_eq (i : Fin 32) (p : Fin 8192) : argsortT (keysT b) (ix2 i p) = BitVec.ofNat 32 (tok (kap (F := F) (flat b) i.val) p.val) := by
  have hlt := kap_lt (F := F) b hb i
  refine argsort_of (keysT b) i (fun k => ?_) (perm (kap (F := F) (flat b) i.val)) (fun k k' hk => ?_) p
  · rw [keysT_apply (F := F) b hb]
    have := hlt (k.val / 2048) (by omega) (k.val % 2048) (by omega)
    unfold key; omega
  · rw [keysT_apply (F := F) b hb, keysT_apply (F := F) b hb]
    exact key_iff _ hlt k.isLt k'.isLt fun h => hk (Fin.ext h)

theorem undo_eq (i : Fin 32) (q : Fin 8192) : argsortT (argsortT (keysT b)) (ix2 i q) = BitVec.ofNat 32 (place (kap (F := F) (flat b) i.val) q.val) := by
  have hv (k : Fin 8192) : (argsortT (keysT b) (ix2 i k)).toNat = tok (kap (F := F) (flat b) i.val) k.val := by
    rw [sticker_eq (F := F) b hb, BitVec.toNat_ofNat]
    have := tok_lt (kap (F := F) (flat b) i.val) k.isLt
    omega
  refine argsort_of (argsortT (keysT b)) i (fun k => ?_) (perm (kap (F := F) (flat b) i.val)).symm (fun k k' _ => ?_) q
  · rw [hv]
    have := tok_lt (kap (F := F) (flat b) i.val) k.isLt
    omega
  · rw [hv, hv]; exact Iff.rfl

theorem st_eq (i : Fin 32) (p : Fin 8192) : modT (argsortT (keysT b)) (ix2 i p)
    = BitVec.ofNat 32 (srt (kap (F := F) (flat b) i.val (p.val / 2048)) (p.val % 2048)) := by
  have h := tok_lt (kap (F := F) (flat b) i.val) p.isLt
  have hv : (argsortT (keysT b) (ix2 i p)).toNat = tok (kap (F := F) (flat b) i.val) p.val := by
    rw [sticker_eq (F := F) b hb, BitVec.toNat_ofNat]; omega
  have hs := srt_lt (kap (F := F) (flat b) i.val (p.val / 2048)) (p.val % 2048)
  rw [modT_apply _ _ (by rw [hv]; omega), hv]
  refine congrArg (BitVec.ofNat 32) ?_
  unfold tok; omega

end

/-! ## The gathers -/

/-- The dimension numbers of `take_along_axis` down axis 1 of a batch of 32 tables of `N` rows. -/
abbrev dims (N : ℕ) (wf : GatherDims.WF ⟨3, ![32, N, 128]⟩ S32x8192x1 S32x8192x128 [2] [1] [0] [1] [0] 2 ![1, 1, 128]) :
    GatherDims ⟨3, ![32, N, 128]⟩ S32x8192x1 S32x8192x128 where
  offsetDims := [2]
  collapsedSliceDims := [1]
  operandBatchingDims := [0]
  startIndicesBatchingDims := [0]
  startIndexMap := [1]
  indexVectorDim := 2
  sliceSizes := ![1, 1, 128]
  wf := wf

theorem gather_apply {α : Type} {N : ℕ} (hN : 0 < N)
    (wf : GatherDims.WF ⟨3, ![32, N, 128]⟩ S32x8192x1 S32x8192x128 [2] [1] [0] [1] [0] 2 ![1, 1, 128])
    (x : (⟨3, ![32, N, 128]⟩ : Shape).Idx → α) (s : IVec S32x8192x1 32) (i : Fin 32) (p : Fin 8192) (c : Fin 128) :
    Host.gather (dims N wf) x s (ix3 i p c) = x (ix3 i ⟨min (s (ix3 i p 0)).toInt.toNat (N - 1), by omega⟩ c) := by
  unfold Host.gather
  congr 1
  funext a
  refine Fin.ext ?_
  show (dims N wf).start (ix3 i p c) s a + (dims N wf).batchCoord (ix3 i p c) a + (dims N wf).offCoord (ix3 i p c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims N wf).startIndexMap from List.mem_singleton.mpr rfl)]
    have hsi : (dims N wf).siIdx (ix3 i p c) ⟨List.idxOf (1 : Fin 3) (dims N wf).startIndexMap,
        List.idxOf_lt_length_iff.2 (List.mem_singleton.mpr rfl)⟩ = ix3 i p 0 := by
      funext a; refine Fin.ext ?_
      match a with
      | ⟨0, _⟩ => rfl
      | ⟨1, _⟩ => rfl
      | ⟨2, _⟩ => rfl
    rw [hsi]
    rfl
  · rw [GatherDims.batchCoord_eq_zero _ _ _ (fun h => by simp at h)]
    unfold GatherDims.start
    rw [dif_neg (show ¬ (2 : Fin 3) ∈ ([1] : List (Fin 3)) by decide)]
    unfold GatherDims.offCoord
    rw [dif_pos ((GatherDims.mem_sKept _ _).mpr ⟨(show ¬ (2 : Fin 3) ∈ ([1] : List (Fin 3)) by decide), (show ¬ (2 : Fin 3) ∈ ([0] : List (Fin 3)) by decide)⟩)]
    simp only [Nat.zero_add]
    rfl

theorem startT_apply (n : BitVec 32) (s : IVec S32x8192 32) (i : Fin 32) (p : Fin 8192) (z : Fin 1) (h : 2 * (s (ix2 i p)).toNat < 2 ^ 32) :
    startT n s (ix3 i p z) = s (ix2 i p) := by
  have e : broadcastInDim S32x8192x1 ![0, 1] bcast_S32x8192_S32x8192x1_0_1 s (ix3 i p z) = s (ix2 i p) := by
    refine congrArg s (funext fun a => ?_)
    match a with
    | ⟨0, _⟩ => rfl
    | ⟨1, _⟩ => rfl
  show Scalar.select (IntOp.cmpi .slt (broadcastInDim S32x8192x1 ![0, 1] bcast_S32x8192_S32x8192x1_0_1 s (ix3 i p z)) 0#32) _
    (broadcastInDim S32x8192x1 ![0, 1] bcast_S32x8192_S32x8192x1_0_1 s (ix3 i p z)) = _
  rw [e, slt_zero h, select_zero]

theorem takeT_apply {N : ℕ} (hN : 0 < N) (hN' : N ≤ 8192)
    (wf : GatherDims.WF ⟨3, ![32, N, 128]⟩ S32x8192x1 S32x8192x128 [2] [1] [0] [1] [0] 2 ![1, 1, 128]) (n l : BitVec 32) (hl : l.toNat = N - 1)
    (x : FVec F ⟨3, ![32, N, 128]⟩ .f32) (s : IVec S32x8192 32) (hs : ∀ i p, (s (ix2 i p)).toNat < N) (i : Fin 32) (p : Fin 8192) (c : Fin 128) :
    takeT (dims N wf) n l x s (ix3 i p c) = x (ix3 i ⟨(s (ix2 i p)).toNat, hs i p⟩ c) := by
  have hin : ∀ j, insideT l (startT n s) j = 1#1 := fun j => by
    refine Host.reduce_andi_one _ _ _ _ j rfl fun k => ?_
    have hk : startT n s k = s (ix2 (k 0) (k 1)) := by
      rw [eq_ix3 k]
      exact startT_apply n s _ _ _ (by have := hs (k 0) (k 1); omega)
    have hlt := hs (k 0) (k 1)
    show IntOp.andi (IntOp.cmpi .sge (startT n s k) 0#32) (IntOp.cmpi .sle (startT n s k) l) = 1#1
    rw [hk, sge_zero (by omega), sle_of (by omega) (by omega)]
    rfl
  have hb : broadcastInDim S32x8192x128 ![0, 1] bcast_S32x8192_S32x8192x128_0_1 (insideT l (startT n s)) (ix3 i p c) = 1#1 := hin _
  unfold takeT
  rw [select_apply, hb, select_one, gather_apply hN]
  have hlt := hs i p
  refine congrArg (fun r : Fin N => x (ix3 i r c)) (Fin.ext ?_)
  show min (startT n s (ix3 i p 0)).toInt.toNat (N - 1) = (s (ix2 i p)).toNat
  rw [startT_apply n s i p 0 (by omega), toInt_of (by omega), Int.toNat_natCast]
  omega

/-! ## The four results -/

section
variable (b : IVec S32x4x2048 32) (hb : ∀ j, (b j).toNat < 32)
include hb

theorem st_at (n : S262144.Idx) : shapeCast S262144 (modT (argsortT (keysT b))) shapeCasts_S32x8192_S262144 n
    = BitVec.ofNat 32 (srt (rowKey (F := F) (flat b) ((n 0).val / 2048)) ((n 0).val % 2048)) := by
  have hn : (n 0).val < 262144 := (n 0).isLt
  have e : shapeCast S262144 (modT (argsortT (keysT b))) shapeCasts_S32x8192_S262144 n
      = modT (argsortT (keysT b)) (ix2 (⟨(n 0).val / 8192, by omega⟩ : Fin 32) (⟨(n 0).val % 8192, by omega⟩ : Fin 8192)) := by
    refine congrArg (modT (argsortT (keysT b))) (Shape.reshapeEquiv_eq_of_rowMajor _ ?_)
    rw [Shape.rowMajor_val_one, Shape.rowMajor_val_two]
    show (n 0).val / 8192 * 8192 + (n 0).val % 8192 = (n 0).val
    omega
  rw [e, st_eq (F := F) b hb]
  show BitVec.ofNat 32 (srt (rowKey (F := F) (flat b) (4 * ((n 0).val / 8192) + (n 0).val % 8192 / 2048)) ((n 0).val % 8192 % 2048)) = _
  rw [show 4 * ((n 0).val / 8192) + (n 0).val % 8192 / 2048 = (n 0).val / 2048 by omega, show (n 0).val % 8192 % 2048 = (n 0).val % 2048 by omega]

theorem out0_eq : out0 b = G4 (F := F) (flat b) := funext fun n => st_at (F := F) b hb n

theorem out1_eq : out1 (F := F) b = G5 (F := F) (flat b) := funext fun n =>
  congrArg (fun v : BitVec 32 => (FloatOps.sitofp .f32 v : F .f32)) (st_at (F := F) b hb n)

theorem out2_eq (x : FVec F S32x2048x128 .f32) : out2 b x
    = G6 (F := F) (flat b) (shapeCast Cert.KernelIdeal.S65536x128 x Cert.KernelIdeal.Gen.shapeCasts_S32x2048x128_S65536x128) := by
  funext n
  have hn : (n 0).val < 262144 := (n 0).isLt
  have hc : (n 1).val < 128 := (n 1).isLt
  have hst : ∀ i p, (modT (argsortT (keysT b)) (ix2 i p)).toNat < 2048 := fun i p => by
    rw [st_eq (F := F) b hb, BitVec.toNat_ofNat]
    have := srt_lt (kap (F := F) (flat b) i.val (p.val / 2048)) (p.val % 2048)
    omega
  have e : out2 b x n = takeT (dims 2048 gather_S32x2048x128_S32x8192x1_S32x8192x128_2_1_0_0_1_2_11128_wf) 2048#32 2047#32 x (modT (argsortT (keysT b)))
      (ix3 (⟨(n 0).val / 8192, by omega⟩ : Fin 32) (⟨(n 0).val % 8192, by omega⟩ : Fin 8192) (⟨(n 1).val, hc⟩ : Fin 128)) := by
    unfold out2
    rw [show gather_S32x2048x128_S32x8192x1_S32x8192x128_2_1_0_0_1_2_11128 = dims 2048 gather_S32x2048x128_S32x8192x1_S32x8192x128_2_1_0_0_1_2_11128_wf from rfl]
    refine congrArg (takeT (dims 2048 gather_S32x2048x128_S32x8192x1_S32x8192x128_2_1_0_0_1_2_11128_wf) 2048#32 2047#32 x (modT (argsortT (keysT b))))
      (Shape.reshapeEquiv_eq_of_rowMajor _ ?_)
    rw [Shape.rowMajor_val_two, Shape.rowMajor_val_three]
    show ((n 0).val / 8192 * 8192 + (n 0).val % 8192) * 128 + (n 1).val = (n 0).val * 128 + (n 1).val
    omega
  rw [e, takeT_apply (by decide) (by decide) _ _ _ (by decide) x _ hst]
  unfold G6
  have hs := srt_lt (rowKey (F := F) (flat b) ((n 0).val / 2048)) ((n 0).val % 2048)
  refine (congrArg x (Shape.reshapeEquiv_eq_of_rowMajor _ ?_)).symm
  rw [Shape.rowMajor_val_two, Shape.rowMajor_val_three]
  show ((n 0).val / 8192 * 2048 + (modT (argsortT (keysT b)) (ix2 (⟨(n 0).val / 8192, by omega⟩ : Fin 32) (⟨(n 0).val % 8192, by omega⟩ : Fin 8192))).toNat) * 128 + (n 1).val
    = (2048 * ((n 0).val / 8192) + srt (rowKey (F := F) (flat b) ((n 0).val / 2048)) ((n 0).val % 2048)) % 65536 * 128 + (n 1).val
  rw [st_eq (F := F) b hb]
  show ((n 0).val / 8192 * 2048 + (BitVec.ofNat 32 (srt (rowKey (F := F) (flat b) (4 * ((n 0).val / 8192) + (n 0).val % 8192 / 2048)) ((n 0).val % 8192 % 2048))).toNat) * 128 + (n 1).val = _
  rw [show 4 * ((n 0).val / 8192) + (n 0).val % 8192 / 2048 = (n 0).val / 2048 by omega, show (n 0).val % 8192 % 2048 = (n 0).val % 2048 by omega, BitVec.toNat_ofNat]
  omega

theorem out3_eq (w : FVec F S32x8192x128 .f32) : out3 b w
    = GU (F := F) (flat b) (shapeCast Cert.KernelIdeal.S262144x128 w Cert.KernelIdeal.Gen.shapeCasts_S32x8192x128_S262144x128) := by
  funext n
  have hn : (n 0).val < 262144 := (n 0).isLt
  have hc : (n 1).val < 128 := (n 1).isLt
  have hun : ∀ i p, (argsortT (argsortT (keysT b)) (ix2 i p)).toNat < 8192 := fun i p => by
    rw [undo_eq (F := F) b hb, BitVec.toNat_ofNat]
    have := place_lt (kap (F := F) (flat b) i.val) p.isLt
    omega
  have e : out3 b w n = takeT (dims 8192 gather_S32x8192x128_S32x8192x1_S32x8192x128_2_1_0_0_1_2_11128_wf) 8192#32 8191#32 w (argsortT (argsortT (keysT b)))
      (ix3 (⟨(n 0).val / 8192, by omega⟩ : Fin 32) (⟨(n 0).val % 8192, by omega⟩ : Fin 8192) (⟨(n 1).val, hc⟩ : Fin 128)) := by
    unfold out3
    rw [show gather_S32x8192x128_S32x8192x1_S32x8192x128_2_1_0_0_1_2_11128 = dims 8192 gather_S32x8192x128_S32x8192x1_S32x8192x128_2_1_0_0_1_2_11128_wf from rfl]
    refine congrArg (takeT (dims 8192 gather_S32x8192x128_S32x8192x1_S32x8192x128_2_1_0_0_1_2_11128_wf) 8192#32 8191#32 w (argsortT (argsortT (keysT b))))
      (Shape.reshapeEquiv_eq_of_rowMajor _ ?_)
    rw [Shape.rowMajor_val_two, Shape.rowMajor_val_three]
    show ((n 0).val / 8192 * 8192 + (n 0).val % 8192) * 128 + (n 1).val = (n 0).val * 128 + (n 1).val
    omega
  rw [e, takeT_apply (by decide) (by decide) _ _ _ (by decide) w _ hun]
  unfold GU
  have hs := dest_lt (κ := rowKey (F := F) (flat b) ((n 0).val / 2048)) (t := (n 0).val % 2048) (by omega)
  refine (congrArg w (Shape.reshapeEquiv_eq_of_rowMajor _ ?_)).symm
  rw [Shape.rowMajor_val_two, Shape.rowMajor_val_three]
  show ((n 0).val / 8192 * 8192 + (argsortT (argsortT (keysT b)) (ix2 (⟨(n 0).val / 8192, by omega⟩ : Fin 32) (⟨(n 0).val % 8192, by omega⟩ : Fin 8192))).toNat) * 128 + (n 1).val
    = (2048 * ((n 0).val / 2048) + dest (rowKey (F := F) (flat b) ((n 0).val / 2048)) ((n 0).val % 2048)) % 262144 * 128 + (n 1).val
  rw [undo_eq (F := F) b hb]
  show ((n 0).val / 8192 * 8192 + (BitVec.ofNat 32 (2048 * ((n 0).val % 8192 / 2048) + dest (rowKey (F := F) (flat b) (4 * ((n 0).val / 8192) + (n 0).val % 8192 / 2048)) ((n 0).val % 8192 % 2048))).toNat) * 128 + (n 1).val = _
  rw [show 4 * ((n 0).val / 8192) + (n 0).val % 8192 / 2048 = (n 0).val / 2048 by omega, show (n 0).val % 8192 % 2048 = (n 0).val % 2048 by omega, BitVec.toNat_ofNat]
  omega

end

end Cert.Proof.Ref

end
-- ==== Proof.Values.lean ====
/-
  The values: from memories that agree on the arguments, the kernel's four results are the reference's, at the bits and at
  the ideal numbers.
-/
module

public import proofs.«01_k».proof.Proof.Frames
public import proofs.«01_k».proof.Proof.RefVal

@[expose] public section

noncomputable section

namespace Cert.Proof

open Cert.KernelIdeal Cert.KernelIdeal.Gen
open Idealize.ShloMosaic Idealize.SL.Sem

theorem bitexact : Cert.bitexact_Kernel_Reference := fun m ρ m' ρ' hpre hm =>
  ⟨fun c => G4 (F := Bits) (Bm m c), fun c => G5 (F := Bits) (Bm m c), fun c => G6 (F := Bits) (Bm m c) (Xm m c), fun c => GU (F := Bits) (Bm m c) (Wm m c),
    (θ_run Cert.KernelIdeal.defs _ _).mono (fun _ h c => ⟨(h.1 c).2.2.2.1, (h.1 c).2.2.2.2.1, (h.1 c).2.2.2.2.2.1, (h.1 c).2.2.2.2.2.2,
      (h.1 c).1, (h.1 c).2.1, (h.1 c).2.2.1⟩) (run_main (F := Bits) m ρ (ok_Kernel m hpre)),
    (θ_run Cert.Reference.defs _ _).mono (fun r h c => by
      obtain ⟨h0, h1, h2, h3, ha⟩ := h c
      obtain ⟨e0, e1, e2⟩ := hm c
      have hb := fn_ok _ _ _ (hpre c)
      refine ⟨h0.trans ?_, h1.trans ?_, h2.trans ?_, h3.trans ?_, ha⟩
      · exact ((Ref.bres0 m' c).trans (congrArg Ref.out0 e0)).trans (Ref.out0_eq (F := Bits) _ hb)
      · exact ((Ref.bres1 m' c).trans (congrArg (Ref.out1 (F := Bits)) e0)).trans (Ref.out1_eq (F := Bits) _ hb)
      · exact ((Ref.bres2 m' c).trans (congrArg₂ (Ref.out2 (F := Bits)) e0 e1)).trans (Ref.out2_eq (F := Bits) _ hb _)
      · exact ((Ref.bres3 m' c).trans (congrArg₂ (Ref.out3 (F := Bits)) e0 e2)).trans (Ref.out3_eq (F := Bits) _ hb _))
      (Cert.Reference.Value.run (F := Bits) m' ρ')⟩

theorem algebraic : Cert.algebraic_KernelIdeal_ReferenceIdeal := fun m ρ m' ρ' hpre hm =>
  ⟨fun c => G4 (F := Ideal) (Bm m c), fun c => G5 (F := Ideal) (Bm m c), fun c => G6 (F := Ideal) (Bm m c) (Xm m c), fun c => GU (F := Ideal) (Bm m c) (Wm m c),
    (θ_run Cert.KernelIdeal.defs _ _).mono (fun _ h c => ⟨(h.1 c).2.2.2.1, (h.1 c).2.2.2.2.1, (h.1 c).2.2.2.2.2.1, (h.1 c).2.2.2.2.2.2,
      (h.1 c).1, (h.1 c).2.1, (h.1 c).2.2.1⟩) (run_main (F := Ideal) m ρ (ok_KernelIdeal m hpre)),
    (θ_run Cert.ReferenceIdeal.defs _ _).mono (fun r h c => by
      obtain ⟨h0, h1, h2, h3, ha⟩ := h c
      obtain ⟨e0, e1, e2⟩ := hm c
      have hb := fn_ok _ _ _ (hpre c)
      refine ⟨h0.trans ?_, h1.trans ?_, h2.trans ?_, h3.trans ?_, ha⟩
      · exact ((Ref.res0 m' c).trans (congrArg Ref.out0 e0)).trans (Ref.out0_eq (F := Ideal) _ hb)
      · exact ((Ref.res1 m' c).trans (congrArg (Ref.out1 (F := Ideal)) e0)).trans (Ref.out1_eq (F := Ideal) _ hb)
      · exact ((Ref.res2 m' c).trans (congrArg₂ (Ref.out2 (F := Ideal)) e0 e1)).trans (Ref.out2_eq (F := Ideal) _ hb _)
      · exact ((Ref.res3 m' c).trans (congrArg₂ (Ref.out3 (F := Ideal)) e0 e2)).trans (Ref.out3_eq (F := Ideal) _ hb _))
      (Cert.ReferenceIdeal.Value.run (F := Ideal) m' ρ')⟩

end Cert.Proof

end
-- ==== Proof.AttendMath.lean ====
/-
  A softmax over the masked columns of a wide row is the softmax over the columns left, and dividing by the mass is
  subtracting its logarithm.
-/
module

public import Idealize.ShloMosaic.Lib.Pipeline.ValueKit

@[expose] public section

set_option maxRecDepth 16384

noncomputable section

namespace Cert.AttendMath

open Idealize.ShloMosaic

variable {n p : ℕ}

/-- The largest entry of a row. -/
def top (d : Fin n → EReal) : EReal := Finset.fold max (Ideal.ofBits FTy.f32 0xFF800000#32) d Finset.univ

/-- The sum of the exponentials of the distances below the largest. -/
def mass (d : Fin n → EReal) : EReal := ∑ j, Ideal.exp (d j - top d)

/-- The logarithm of the summed exponentials. -/
def lse (d : Fin n → EReal) : EReal := top d + Ideal.log (mass d)

/-- The row's weighted sum, each weight divided by the mass. -/
def divided (d v : Fin n → EReal) : EReal := ∑ j, Ideal.exp (d j - top d) * Ideal.div 1 (mass d) * v j

/-- The row's weighted sum, the logarithm subtracted in the exponent. -/
def shifted (d v : Fin n → EReal) : EReal := ∑ j, Ideal.exp (d j - lse d) * v j

theorem top_eq_sup (d : Fin n → EReal) : top d = Finset.univ.sup d := by
  unfold top
  rw [show Ideal.ofBits FTy.f32 0xFF800000#32 = ⊥ from by simp [Ideal.ofBits, Ideal.ieee]]
  rfl

section Narrow

variable (e : Fin p → Fin n) (he : Function.Injective e) (d : Fin n → EReal) (hoff : ∀ j, (∀ k, e k ≠ j) → d j = ⊥)
include hoff

theorem top_narrow : top d = top (fun k => d (e k)) := by
  rw [top_eq_sup, top_eq_sup]
  refine le_antisymm (Finset.sup_le fun j _ => ?_) (Finset.sup_le fun k _ => Finset.le_sup (f := d) (Finset.mem_univ (e k)))
  by_cases h : ∃ k, e k = j
  · obtain ⟨k, rfl⟩ := h
    exact Finset.le_sup (f := fun k => d (e k)) (Finset.mem_univ k)
  · rw [hoff j fun k hk => h ⟨k, hk⟩]
    exact bot_le

include he

theorem sum_narrow (f : EReal → Fin n → EReal) (hf : ∀ j, f ⊥ j = 0) :
    ∑ j, f (d j) j = ∑ k, f (d (e k)) (e k) := by
  symm
  refine Finset.sum_of_injOn e (he.injOn) (fun _ _ => Finset.mem_coe.2 (Finset.mem_univ _)) (fun j _ hj => ?_) fun _ _ => rfl
  rw [hoff j fun k hk => hj ⟨k, Finset.mem_coe.2 (Finset.mem_univ _), hk⟩]
  exact hf j

theorem mass_narrow : mass d = mass (fun k => d (e k)) := by
  unfold mass
  rw [top_narrow e d hoff]
  exact sum_narrow e he d hoff (fun x _ => Ideal.exp (x - _)) fun _ => by rw [EReal.bot_sub]; rfl

theorem lse_narrow : lse d = lse (fun k => d (e k)) := by
  unfold lse
  rw [top_narrow e d hoff, mass_narrow e he d hoff]

theorem divided_narrow (v : Fin n → EReal) : divided d v = divided (fun k => d (e k)) (fun k => v (e k)) := by
  unfold divided
  rw [top_narrow e d hoff, mass_narrow e he d hoff]
  exact sum_narrow e he d hoff (fun x j => Ideal.exp (x - _) * _ * v j) fun _ => by
    rw [EReal.bot_sub, Ideal.exp_bot, zero_mul, zero_mul]

end Narrow

section Reals

variable (r : Fin n → ℝ) (k₀ : Fin n)
include k₀

/-- The largest of reals is one of them. -/
theorem top_coe : ∃ M : ℝ, top (fun k => (r k : EReal)) = M := by
  rw [top_eq_sup]
  obtain ⟨k, _, hk⟩ := Finset.exists_mem_eq_sup Finset.univ ⟨k₀, Finset.mem_univ _⟩ (fun k => (r k : EReal))
  exact ⟨r k, hk⟩

theorem coe_sum (f : Fin n → ℝ) : ((∑ j, f j : ℝ) : EReal) = ∑ j, (f j : EReal) :=
  map_sum (⟨⟨Real.toEReal, EReal.coe_zero⟩, EReal.coe_add⟩ : ℝ →+ EReal) f Finset.univ

/-- The mass and the logarithm of the summed exponentials of reals. -/
theorem mass_coe : ∃ M S : ℝ, 0 < S ∧ top (fun k => (r k : EReal)) = M ∧ mass (fun k => (r k : EReal)) = S
    ∧ lse (fun k => (r k : EReal)) = ((M + Real.log S : ℝ) : EReal) := by
  obtain ⟨M, hM⟩ := top_coe r k₀
  have hm : mass (fun k => (r k : EReal)) = ((∑ j, Real.exp (r j - M) : ℝ) : EReal) := by
    unfold mass
    rw [hM, coe_sum k₀]
    exact Finset.sum_congr rfl fun j _ => by rw [← EReal.coe_sub, Ideal.exp_coe]
  have hp : 0 < ∑ j, Real.exp (r j - M) := Finset.sum_pos (fun j _ => Real.exp_pos _) ⟨k₀, Finset.mem_univ _⟩
  refine ⟨M, _, hp, hM, hm, ?_⟩
  unfold lse
  rw [hM, hm, Ideal.log_coe, if_neg (not_le.2 hp), ← EReal.coe_add]

theorem divided_coe (v : Fin n → EReal) : divided (fun k => (r k : EReal)) v = shifted (fun k => (r k : EReal)) v := by
  obtain ⟨M, S, hS, hM, hm, hl⟩ := mass_coe r k₀
  unfold divided shifted
  rw [hM, hm, hl]
  refine Finset.sum_congr rfl fun j _ => congrArg (· * v j) ?_
  rw [Ideal.div_coe hS.ne', one_mul, ← EReal.coe_sub, ← EReal.coe_sub, Ideal.exp_coe, Ideal.exp_coe, ← EReal.coe_mul]
  congr 1
  rw [← sub_sub, Real.exp_sub _ (Real.log S), Real.exp_log hS, mul_one_div]

end Reals

/-- A row of reals. -/
theorem lift (d : Fin n → EReal) (h : ∀ k, d k ≠ ⊥ ∧ d k ≠ ⊤) : ∃ r : Fin n → ℝ, d = fun k => (r k : EReal) :=
  ⟨fun k => (d k).toReal, funext fun k => (EReal.coe_toReal (h k).2 (h k).1).symm⟩

/-- A wide row whose entries off `e` are the least reads as the narrow one, whose entries are finite. -/
theorem divided_eq (e : Fin p → Fin n) (he : Function.Injective e) (d : Fin n → EReal) (hoff : ∀ j, (∀ k, e k ≠ j) → d j = ⊥)
    (v : Fin n → EReal) (k₀ : Fin p) (h : ∀ k, d (e k) ≠ ⊥ ∧ d (e k) ≠ ⊤) :
    divided d v = shifted (fun k => d (e k)) fun k => v (e k) := by
  rw [divided_narrow e he d hoff]
  obtain ⟨r, hr⟩ := lift (fun k => d (e k)) h
  rw [hr]
  exact divided_coe r k₀ _

end Cert.AttendMath

end
-- ==== Proof.AttendRows.lean ====
/-
  The attention of one head's 8192 rows, as the kernel's groups of 256 rows score it and as the reference's chunks of 64
  rows do, and that the two agree.
-/
module

public import proofs.«01_k».proof.Proof.AttendMath
public import Idealize.ShloMosaic.Lib.Pipeline.ValueKit

@[expose] public section

set_option maxRecDepth 16384

noncomputable section

namespace Cert.AttendRows

open Idealize.ShloMosaic Cert.AttendMath

/-- The length of a row, at least the smallest one divided by. -/
def length (k : Fin 64 → EReal) : EReal := max (Ideal.sqrt (∑ d, k d * k d)) (Ideal.ofBits FTy.f32 0x2B8CBCCC#32)

/-- The score of a row with itself. -/
def self : EReal := Ideal.ofBits FTy.f32 0xC7435000#32

/-- The lane of a row's query, and of its value. -/
def qlane (d : Fin 64) : Fin 128 := ⟨d.val, by omega⟩
def vlane (d : Fin 64) : Fin 128 := ⟨64 + d.val, by omega⟩

section Kernel

variable (row : Fin 8192 → Fin 128 → EReal) (tok : Fin 8192 → EReal)

/-- The row of column `j` of row `n`'s group: the chunk before the group, then the group. -/
def src (n : Fin 8192) (j : Fin 320) : Fin 8192 := ⟨(256 * (n.val / 256) + 8128 + j.val) % 8192, Nat.mod_lt _ (by omega)⟩

/-- The row of column `k` of row `n`'s chunk: the chunk, then the one before it. -/
def other (n : Fin 8192) (k : Fin 128) : Fin 8192 :=
  if k.val < 64 then ⟨(64 * (n.val / 64) + k.val) % 8192, Nat.mod_lt _ (by omega)⟩
  else ⟨(64 * (n.val / 64) + 8128 + (k.val - 64)) % 8192, Nat.mod_lt _ (by omega)⟩

/-- The kernel's product of two rows. -/
def wide (n s : Fin 8192) : EReal :=
  ∑ d, row n (qlane d) * Ideal.div (row s (qlane d)) (length (fun d => row s (qlane d)) * Ideal.ofBits FTy.f32 0x41000000#32)

/-- The reference's product of two rows. -/
def narrow (n s : Fin 8192) : EReal :=
  (∑ d, row n (qlane d) * Ideal.div (row s (qlane d)) (length (fun d => row s (qlane d)))) * Ideal.ofBits FTy.f32 0x3E000000#32

/-- The kernel's score without the comparison of tokens. -/
def band (n : Fin 8192) (j : Fin 320) : EReal :=
  if j.val = n.val % 256 + 64 then self
  else if j.val / 64 = n.val % 256 / 64 ∨ j.val / 64 = n.val % 256 / 64 + 1 then wide row n (src n j) else ⊥

open Classical in
/-- The kernel's score: tokens compared only where a round's first chunk meets the chunk before it. -/
def near (n : Fin 8192) (j : Fin 320) : EReal :=
  if n.val % 2048 < 64 ∧ j.val < 64 ∧ tok n = tok (src n j) then self else band row n j

open Classical in
/-- The reference's score. -/
def score (n : Fin 8192) (k : Fin 128) : EReal := if tok n = tok (other n k) then self else narrow row n (other n k)

/-- What the kernel stores of a row. -/
def kernelOut (n : Fin 8192) (l : Fin 128) : EReal :=
  if h : l.val < 64 then divided (near row tok n) (fun j => row (src n j) (vlane ⟨l.val, h⟩)) else lse (near row tok n)

/-- What the reference gives for a row. -/
def referenceOut (n : Fin 8192) (l : Fin 128) : EReal :=
  if h : l.val < 64 then shifted (score row tok n) (fun k => row (other n k) (vlane ⟨l.val, h⟩)) else lse (score row tok n)

end Kernel

/-- The column of the group that column `k` of the chunk is. -/
def col (n : Fin 8192) (k : Fin 128) : Fin 320 := ⟨64 * (n.val % 256 / 64) + (k.val + 64) % 128, by omega⟩

theorem col_injective (n : Fin 8192) : Function.Injective (col n) := by
  intro a b h
  have := congrArg Fin.val h
  simp only [col] at this
  exact Fin.ext (by omega)

theorem src_col (n : Fin 8192) (k : Fin 128) : src n (col n k) = other n k := by
  unfold src col other
  split <;> exact Fin.ext (by simp only; omega)

section Agree

variable (row : Fin 8192 → Fin 128 → EReal) (tok : Fin 8192 → EReal)

theorem near_off (n : Fin 8192) (j : Fin 320) (h : ∀ k, col n k ≠ j) : near row tok n j = ⊥ := by
  have hb : ¬ (j.val / 64 = n.val % 256 / 64 ∨ j.val / 64 = n.val % 256 / 64 + 1) := by
    intro hb
    refine h ⟨(j.val - 64 * (n.val % 256 / 64) + 64) % 128, by omega⟩ (Fin.ext ?_)
    simp only [col]
    omega
  unfold near band
  rw [if_neg (by rintro ⟨h1, h2, _⟩; omega), if_neg (by omega), if_neg hb]

theorem tiny_pos : ∃ ε : ℝ, 0 < ε ∧ Ideal.ofBits FTy.f32 0x2B8CBCCC#32 = ε := by
  refine ⟨_, ?_, by simp [Ideal.ofBits, Ideal.ieee]; rw [← EReal.coe_mul]⟩
  norm_num

theorem eight : Ideal.ofBits FTy.f32 0x41000000#32 = ((8 : ℝ) : EReal) := by
  simp [Ideal.ofBits, Ideal.ieee]; rw [← EReal.coe_mul]; norm_num

theorem eighth : Ideal.ofBits FTy.f32 0x3E000000#32 = ((1 / 8 : ℝ) : EReal) := by
  simp [Ideal.ofBits, Ideal.ieee]; rw [← EReal.coe_mul]; norm_num

theorem self_finite : self ≠ ⊥ ∧ self ≠ ⊤ := by
  unfold self
  have : Ideal.ofBits FTy.f32 0xC7435000#32 = ((-50000 : ℝ) : EReal) := by
    simp [Ideal.ofBits, Ideal.ieee]; rw [← EReal.coe_mul]; norm_num
  rw [this]
  exact ⟨EReal.coe_ne_bot _, EReal.coe_ne_top _⟩

/-- The length of a row of reals is a positive real. -/
theorem length_coe (k : Fin 64 → ℝ) : ∃ ν : ℝ, 0 < ν ∧ length (fun d => (k d : EReal)) = ν := by
  obtain ⟨ε, hε, he⟩ := tiny_pos
  refine ⟨max (Real.sqrt (∑ d, k d * k d)) ε, lt_max_of_lt_right hε, ?_⟩
  have hs : (∑ d, (k d : EReal) * k d) = ((∑ d, k d * k d : ℝ) : EReal) := by
    rw [coe_sum 0]
    exact Finset.sum_congr rfl fun d _ => (EReal.coe_mul _ _).symm
  unfold length
  rw [hs, he, Ideal.sqrt_coe, if_neg (not_lt.2 (Finset.sum_nonneg fun d _ => mul_self_nonneg _))]
  exact (EReal.coe_strictMono.monotone.map_max).symm

variable (hfin : ∀ n d, row n (qlane d) ≠ ⊥ ∧ row n (qlane d) ≠ ⊤)
include hfin

/-- Both products are one real. -/
theorem products (n s : Fin 8192) : ∃ r : ℝ, wide row n s = r ∧ narrow row n s = r := by
  obtain ⟨q, hq⟩ := lift (fun d => row n (qlane d)) (hfin n)
  obtain ⟨k, hk⟩ := lift (fun d => row s (qlane d)) (hfin s)
  obtain ⟨ν, hν, hl⟩ := length_coe k
  have eq (d : Fin 64) : row n (qlane d) = q d := congrFun hq d
  have ek (d : Fin 64) : row s (qlane d) = k d := congrFun hk d
  refine ⟨∑ d, q d * (k d * (1 / (ν * 8))), ?_, ?_⟩
  · unfold wide
    rw [hk, hl, eight, ← EReal.coe_mul, coe_sum 0]
    refine Finset.sum_congr rfl fun d _ => ?_
    rw [eq, ek, Ideal.div_coe (mul_pos hν (by norm_num)).ne', ← EReal.coe_mul, ← EReal.coe_mul]
  · unfold narrow
    have : (∑ d, row n (qlane d) * Ideal.div (row s (qlane d)) (length fun d => row s (qlane d))) = ((∑ d, q d * (k d * (1 / ν)) : ℝ) : EReal) := by
      rw [hk, hl, coe_sum 0]
      refine Finset.sum_congr rfl fun d _ => ?_
      rw [eq, ek, Ideal.div_coe hν.ne', ← EReal.coe_mul, ← EReal.coe_mul]
    rw [this, eighth, ← EReal.coe_mul, Finset.sum_mul]
    congr 1
    refine Finset.sum_congr rfl fun d _ => ?_
    field_simp

theorem score_finite (n : Fin 8192) (k : Fin 128) : score row tok n k ≠ ⊥ ∧ score row tok n k ≠ ⊤ := by
  unfold score
  split
  · exact self_finite
  · obtain ⟨r, _, hr⟩ := products row hfin n (other n k)
    rw [hr]
    exact ⟨EReal.coe_ne_bot _, EReal.coe_ne_top _⟩

variable (hown : ∀ n m : Fin 8192, n.val / 64 = m.val / 64 → tok n = tok m → n = m)
  (hprev : ∀ n m : Fin 8192, (n.val / 64 + 127) % 128 = m.val / 64 → tok n = tok m → n.val / 64 % 32 = 0)
include hown hprev

theorem near_col (n : Fin 8192) (k : Fin 128) : near row tok n (col n k) = score row tok n k := by
  unfold near band score
  rw [src_col]
  obtain ⟨r, hw, hn⟩ := products row hfin n (other n k)
  rw [hw, hn]
  have hc : (col n k).val = 64 * (n.val % 256 / 64) + (k.val + 64) % 128 := rfl
  have hband : (col n k).val / 64 = n.val % 256 / 64 ∨ (col n k).val / 64 = n.val % 256 / 64 + 1 := by omega
  rw [if_pos hband]
  by_cases hk : k.val < 64
  · have ho : (other n k).val = 64 * (n.val / 64) + k.val := by
      unfold other
      rw [if_pos hk]
      simp only
      omega
    rw [if_neg (by rintro ⟨_, h, _⟩; omega)]
    by_cases ht : tok n = tok (other n k)
    · have := hown n (other n k) (by omega) ht
      have := congrArg Fin.val this
      rw [if_pos ht, if_pos (by omega)]
    · rw [if_neg ht, if_neg]
      intro h
      exact ht (congrArg tok (Fin.ext (by omega)))
  · have ho : (other n k).val = (64 * (n.val / 64) + 8128 + (k.val - 64)) % 8192 := by
      unfold other
      rw [if_neg hk]
    rw [if_neg (show ¬ (col n k).val = n.val % 256 + 64 by omega)]
    by_cases ht : tok n = tok (other n k)
    · have := hprev n (other n k) (by omega) ht
      rw [if_pos ht, if_pos ⟨by omega, by omega, ht⟩]
    · rw [if_neg ht, if_neg fun h => ht h.2.2]

/-- The kernel's rows are the reference's. -/
theorem agree (n : Fin 8192) (l : Fin 128) : kernelOut row tok n l = referenceOut row tok n l := by
  have hs : (fun k => near row tok n (col n k)) = score row tok n := funext (near_col row tok hfin hown hprev n)
  unfold kernelOut referenceOut
  split
  · rw [divided_eq (col n) (col_injective n) _ (near_off row tok n) _ 0 (fun k => by
      rw [near_col row tok hfin hown hprev]; exact score_finite row tok hfin n k), hs]
    simp only [src_col]
  · rw [lse_narrow (col n) (col_injective n) _ (near_off row tok n), hs]

end Agree

end Cert.AttendRows

end
-- ==== Proof.AttendBody.lean ====
/-
  One group of the attention's body, read at an index: the scores of 256 rows against 320 columns, and what the group
  stores of them.
-/
module

public import proofs.«01_k».proof.Defs
public import proofs.«01_k».proof.Proof.AttendRows
public import proofs.«01_k».proof.Proof.Gen.AttendIdeal.Frame
public import Idealize.ShloMosaic.Lib.Pipeline.ValueKit

@[expose] public section

set_option maxRecDepth 16384

noncomputable section

namespace Cert.AttendIdeal.RefValue

open Cert.AttendIdeal Cert.AttendIdeal.Gen Idealize.ShloMosaic Cert.AttendMath Cert.AttendRows

/-- The 320 columns' rows of a group, lanes `o` to `o + 64`: the chunk before the group, then the group. -/
def keys (cur : Vec Ideal S1x256x128 .f32) (prev : Vec Ideal S1x64x128 .f32) : FVec Ideal S320x64 .f32 :=
  concatenate S320x64 0
    [⟨S64x64, extractStridedSlice S64x64 ![0, 0] (shapeCast S64x128 prev shapeCasts_S1x64x128_S64x128) slices_S64x128_o0_0_S64x64⟩,
     ⟨S256x64, extractStridedSlice S256x64 ![0, 0] (shapeCast S256x128 cur shapeCasts_S1x256x128_S256x128) slices_S256x128_o0_0_S256x64⟩]
    concatenates_S64x64_S256x64_S320x64_d0

/-- The values' half of the same rows. -/
def values (cur : Vec Ideal S1x256x128 .f32) (prev : Vec Ideal S1x64x128 .f32) : FVec Ideal S320x64 .f32 :=
  concatenate S320x64 0
    [⟨S64x64, extractStridedSlice S64x64 ![0, 64] (shapeCast S64x128 prev shapeCasts_S1x64x128_S64x128) slices_S64x128_o0_64_S64x64⟩,
     ⟨S256x64, extractStridedSlice S256x64 ![0, 64] (shapeCast S256x128 cur shapeCasts_S1x256x128_S256x128) slices_S256x128_o0_64_S256x64⟩]
    concatenates_S64x64_S256x64_S320x64_d0

/-- Column `j` of a group's rows, lane `l`. -/
def column (cur : Vec Ideal S1x256x128 .f32) (prev : Vec Ideal S1x64x128 .f32) (j : Fin 320) (l : Fin 128) : EReal :=
  if h : j.val < 64 then prev (ix3 0 ⟨j.val, h⟩ l) else cur (ix3 0 ⟨j.val - 64, by omega⟩ l)

theorem keys_apply (cur : Vec Ideal S1x256x128 .f32) (prev : Vec Ideal S1x64x128 .f32) (j : Fin 320) (d : Fin 64) :
    keys cur prev (ix2 j d) = column cur prev j ⟨d.val, by omega⟩ := by
  pointwise [keys, column]

theorem values_apply (cur : Vec Ideal S1x256x128 .f32) (prev : Vec Ideal S1x64x128 .f32) (j : Fin 320) (d : Fin 64) :
    values cur prev (ix2 j d) = column cur prev j ⟨64 + d.val, by omega⟩ := by
  pointwise [values, column]

/-- The columns' rows divided by eight times their length. -/
def unitKeys (k : FVec Ideal S320x64 .f32) : FVec Ideal S320x64 .f32 :=
  divf k (broadcastTo S320x64 (mulf (maximumf (sqrt (shapeCast S320x1 (multiReduction .add [1] S320 (mulf k k) 0x00000000#32 reduces_S320x64_S320 (.inl rfl) rfl) shapeCasts_S320_S320x1))
    (broadcast S320x1 (Scalar.ofBits .f32 0x2B8CBCCC#32))) (broadcast S320x1 (Scalar.ofBits .f32 0x41000000#32))) broadcasts_S320x1_S320x64)

theorem unitKeys_apply (k : FVec Ideal S320x64 .f32) (j : Fin 320) (d : Fin 64) :
    unitKeys k (ix2 j d) = Ideal.div (k (ix2 j d)) (length (fun d => k (ix2 j d)) * Ideal.ofBits FTy.f32 0x41000000#32) := by
  pointwise [unitKeys, length]

/-- The scores: the products of rows and columns, the columns out of the band and the row's own masked. -/
def scores (sel : IVec S256x320 1) (fill : FVec Ideal S256x320 .f32) (cur : Vec Ideal S1x256x128 .f32) (prev : Vec Ideal S1x64x128 .f32) :
    FVec Ideal S256x320 .f32 :=
  select sel fill (matmul dot_S256x64_S320x64_S256x320_1_1_0_0_n_n none
    (truncf .bf16 (extractStridedSlice S256x64 ![0, 0] (shapeCast S256x128 cur shapeCasts_S1x256x128_S256x128) slices_S256x128_o0_0_S256x64) bitsLt_bf16_f32)
    (truncf .bf16 (unitKeys (keys cur prev)) bitsLt_bf16_f32) (constant S256x320 .f32 0x00000000#32))

/-- The product of row `i` with column `j`. -/
def product (cur : Vec Ideal S1x256x128 .f32) (prev : Vec Ideal S1x64x128 .f32) (i : Fin 256) (j : Fin 320) : EReal :=
  ∑ d : Fin 64, cur (ix3 0 i ⟨d.val, by omega⟩) * Ideal.div (column cur prev j ⟨d.val, by omega⟩)
    (length (fun d => column cur prev j ⟨d.val, by omega⟩) * Ideal.ofBits FTy.f32 0x41000000#32)

theorem scores_apply (sel : IVec S256x320 1) (fill : FVec Ideal S256x320 .f32) (cur : Vec Ideal S1x256x128 .f32) (prev : Vec Ideal S1x64x128 .f32)
    (i : Fin 256) (j : Fin 320) :
    scores sel fill cur prev (ix2 i j) = if sel (ix2 i j) = 1#1 then fill (ix2 i j) else product cur prev i j := by
  pointwise [scores, product]
  simp only [unitKeys_apply, keys_apply]
  rfl

/-- What a group stores of its scores: each row's weighted sum of the values, and its logarithm of summed exponentials. -/
def stored (s : FVec Ideal S256x320 .f32) (v : FVec Ideal S320x64 .f32) : FVec Ideal S1x256x128 .f32 :=
  have m : FVec Ideal S256x1 .f32 := shapeCast S256x1 (multiReduction .maximumf [1] S256 s 0xFF800000#32 reduces_S256x320_S256 (.inl rfl) rfl) shapeCasts_S256_S256x1
  have e : FVec Ideal S256x320 .f32 := exp (subf s (broadcastTo S256x320 m broadcasts_S256x1_S256x320))
  have t : FVec Ideal S256x1 .f32 := shapeCast S256x1 (multiReduction .add [1] S256 e 0x00000000#32 reduces_S256x320_S256 (.inl rfl) rfl) shapeCasts_S256_S256x1
  shapeCast S1x256x128 (concatenate S256x128 1
    [⟨S256x64, matmul dot_S256x320_S320x64_S256x64_1_0_0_1_n_n none
      (truncf .bf16 (mulf e (broadcastTo S256x320 (divf (broadcast S256x1 (Scalar.ofBits .f32 0x3F800000#32)) t) broadcasts_S256x1_S256x320)) bitsLt_bf16_f32)
      (truncf .bf16 v bitsLt_bf16_f32) (constant S256x64 .f32 0x00000000#32)⟩,
     ⟨S256x64, broadcastTo S256x64 (shapeCast S256x1 (addf m (log t)) shapeCasts_S256x1_S256x1) broadcasts_S256x1_S256x64⟩]
    concatenates_S256x64_S256x64_S256x128_d1) shapeCasts_S256x128_S1x256x128

theorem stored_apply (s : FVec Ideal S256x320 .f32) (v : FVec Ideal S320x64 .f32) (z : Fin 1) (i : Fin 256) (l : Fin 128) :
    stored s v (ix3 z i l) = if h : l.val < 64 then divided (fun j => s (ix2 i j)) (fun j => v (ix2 j ⟨l.val, h⟩)) else lse (fun j => s (ix2 i j)) := by
  pointwise [stored, divided, lse, mass, top]

/-- The scores with the columns before the group masked where their token is the row's. -/
def apart (ta tb : FVec Ideal S1x1x64 .f32) (s : FVec Ideal S256x320 .f32) : FVec Ideal S256x320 .f32 :=
  select (cmpf .ogt (concatenate S256x320 0
      [⟨S64x320, concatenate S64x320 1
        [⟨S64x64, select (cmpf .oeq (broadcastTo S64x64 (shapeCast S64x1 (shapeCast S1x64 ta shapeCasts_S1x1x64_S1x64) shapeCasts_S1x64_S64x1) broadcasts_S64x1_S64x64)
            (broadcastTo S64x64 (shapeCast S1x64 tb shapeCasts_S1x1x64_S1x64) broadcasts_S1x64_S64x64))
          (broadcast S64x64 (Scalar.ofBits .f32 0x3F800000#32 : Ideal .f32)) (broadcast S64x64 (Scalar.ofBits .f32 0x00000000#32))⟩,
         ⟨S64x256, broadcast S64x256 (Scalar.ofBits .f32 0x00000000#32)⟩] concatenates_S64x64_S64x256_S64x320_d1⟩,
       ⟨S192x320, broadcast S192x320 (Scalar.ofBits .f32 0x00000000#32)⟩] concatenates_S64x320_S192x320_S256x320_d0)
    (broadcast S256x320 (Scalar.ofBits .f32 0x3F000000#32 : Ideal .f32))) (broadcast S256x320 (Scalar.ofBits .f32 0xC7435000#32)) s

/-- Whether column `j` is before the group, and its token is that of row `i`. -/
def meets (ta tb : FVec Ideal S1x1x64 .f32) (i : Fin 256) (j : Fin 320) : Prop :=
  ∃ (hi : i.val < 64) (hj : j.val < 64), ta (ix3 0 0 ⟨i.val, hi⟩) = tb (ix3 0 0 ⟨j.val, hj⟩)

open Classical in
theorem apart_apply (ta tb : FVec Ideal S1x1x64 .f32) (s : FVec Ideal S256x320 .f32) (i : Fin 256) (j : Fin 320) :
    apart ta tb s (ix2 i j) = if meets ta tb i j then Ideal.ofBits FTy.f32 0xC7435000#32 else s (ix2 i j) := by
  pointwise [apart]
  have half : Ideal.ofBits FTy.f32 0x3F000000#32 = ((1 / 2 : ℝ) : EReal) := by simp [Ideal.ofBits, Ideal.ieee]; rw [← EReal.coe_mul]; norm_num
  have h1 : Ideal.ofBits FTy.f32 0x3F000000#32 < 1 := by rw [half, ← EReal.coe_one]; exact EReal.coe_lt_coe_iff.2 (by norm_num)
  have h0 : ¬ Ideal.ofBits FTy.f32 0x3F000000#32 < 0 := by rw [half, ← EReal.coe_zero, EReal.coe_lt_coe_iff]; norm_num
  unfold meets
  by_cases hi : i.val < 64 <;> by_cases hj : j.val < 64 <;> simp only [hi, hj, dite_true, dite_false, h0, exists_true_left, IsEmpty.exists_iff, if_false]
  split <;> simp_all

/-- The 32-bit quotient by 64, rounded down, as the body computes it. -/
def floor64 (v : BitVec 32) : BitVec 32 :=
  Scalar.select (IntOp.andi (IntOp.cmpi .ne (IntOp.subi (BitVec.setWidth 32 (IntOp.cmpi .sgt v 0#32)) (BitVec.setWidth 32 (IntOp.cmpi .slt v 0#32)))
      (Scalar.subi (Scalar.extui (Scalar.cmpi .sgt 64#32 0#32)) (Scalar.extui (Scalar.cmpi .slt 64#32 0#32))))
    (IntOp.cmpi .ne (IntOp.remsi ArithUnit.vector v 64#32) 0#32))
    (IntOp.subi (IntOp.divsi ArithUnit.vector v 64#32) 1#32) (IntOp.divsi ArithUnit.vector v 64#32)

theorem floor64_eq : ∀ a : Fin 320, floor64 (BitVec.ofNat 32 a.val) = BitVec.ofNat 32 (a.val / 64) := by decide +kernel

theorem cmpi_eq_ofNat {a b : ℕ} (ha : a < 1024) (hb : b < 1024) :
    IntOp.cmpi .eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  simp only [IntOp.cmpi, beq_eq_decide, this]

theorem addi_ofNat (a b : ℕ) : IntOp.addi (BitVec.ofNat 32 a) (BitVec.ofNat 32 b) = BitVec.ofNat 32 (a + b) :=
  (BitVec.ofNat_add a b).symm

/-- The chunk of a row among the group's. -/
theorem chunk_apply (i : Fin 256) (j : Fin 320) : k0_pay2 (ix2 i j) = BitVec.ofNat 32 (i.val / 64) := by
  pointwise [k0_pay2]
  exact floor64_eq ⟨i.val, by omega⟩

theorem sel_apply (x0 : Vec Ideal S1x8192x128 .f32) (x1 : Vec Ideal S1x128x64 .f32) (i : Fin 256) (j : Fin 320) :
    k0_pay264 x0 x1 (ix2 i j) = BitVec.ofBool (decide (j.val = i.val + 64 ∨ ¬ (j.val / 64 = i.val / 64 ∨ j.val / 64 = i.val / 64 + 1))) := by
  pointwise [k0_pay264, k0_pay7, k0_pay6, k0_pay258, k0_pay259, k0_pay260, k0_pay261, k0_pay262, k0_pay263, k0_pay3, k0_pay4, k0_pay5]
  change IntOp.ori (IntOp.cmpi .eq (BitVec.ofNat 32 j.val) (IntOp.addi (BitVec.ofNat 32 i.val) (BitVec.ofNat 32 64)))
    (IntOp.xori (IntOp.ori (IntOp.cmpi .eq (floor64 (BitVec.ofNat 32 j.val)) (k0_pay2 (ix2 i j)))
      (IntOp.cmpi .eq (floor64 (BitVec.ofNat 32 j.val)) (IntOp.addi (k0_pay2 (ix2 i j)) (BitVec.ofNat 32 1)))) 1#1) = _
  rw [floor64_eq, chunk_apply, addi_ofNat, addi_ofNat, cmpi_eq_ofNat (by omega) (by omega), cmpi_eq_ofNat (by omega) (by omega),
    cmpi_eq_ofNat (by omega) (by omega)]
  have bits : ∀ p q r : Bool, IntOp.ori (BitVec.ofBool p) (IntOp.xori (IntOp.ori (BitVec.ofBool q) (BitVec.ofBool r)) 1#1)
    = BitVec.ofBool (p || !(q || r)) := by decide
  rw [bits]
  simp

theorem fill_apply (x0 : Vec Ideal S1x8192x128 .f32) (x1 : Vec Ideal S1x128x64 .f32) (i : Fin 256) (j : Fin 320) :
    k0_pay265 x0 x1 (ix2 i j) = if j.val = i.val + 64 then Ideal.ofBits FTy.f32 0xC7435000#32 else ⊥ := by
  pointwise [k0_pay265, k0_pay8, k0_pay6, k0_pay258, k0_pay259]
  rw [IdealRules.named_const.ideal_named_scalar κ "mask" (φ := .f32) 0xF149F2CA#32 ⊥ rfl]
  change Scalar.select (IntOp.cmpi .eq (BitVec.ofNat 32 j.val) (IntOp.addi (BitVec.ofNat 32 i.val) (BitVec.ofNat 32 64))) _ _ = _
  rw [addi_ofNat, cmpi_eq_ofNat (by omega) (by omega)]
  by_cases h : j.val = i.val + 64 <;> simp only [h] <;> rfl

end Cert.AttendIdeal.RefValue

end
-- ==== Proof.AttendVal.lean ====
/-
  The attention's grid writes, block by block, each head's rows of `kernelOut`.
-/
module

public import proofs.«01_k».proof.Defs
public import proofs.«01_k».proof.Proof.AttendBody
public import proofs.«01_k».proof.Proof.Gen.AttendIdeal.Value

@[expose] public section

set_option maxRecDepth 16384

noncomputable section

open Idealize.ShloMosaic Idealize.ShloMosaic.TcCoe Idealize.SL.Sem
open Idealize.ShloMosaic.Pipeline (Dat)
open Cert.AttendMath Cert.AttendRows

namespace Cert.AttendIdeal.RefValue

open Cert.AttendIdeal Cert.AttendIdeal.Gen

/-- The rows and the tokens of a block. -/
def rowOf (x0 : Vec Ideal S1x8192x128 .f32) (n : Fin 8192) (l : Fin 128) : EReal := x0 (ix3 0 n l)
def tokOf (x1 : Vec Ideal S1x128x64 .f32) (n : Fin 8192) : EReal := x1 (ix3 0 ⟨n.val / 64, by omega⟩ ⟨n.val % 64, by omega⟩)

section Tile

variable {x0 : Vec Ideal S1x8192x128 .f32} {x1 : Vec Ideal S1x128x64 .f32} {cur : Vec Ideal S1x256x128 .f32} {prev : Vec Ideal S1x64x128 .f32}
  {o : ℕ} {n : Fin 8192} {i : Fin 256} (hn : n.val = o + i.val) (ho : o % 256 = 0)
  (hcur : ∀ (a : Fin 256) (l : Fin 128), ∃ s : Fin 8192, s.val = o + a.val ∧ cur (ix3 0 a l) = rowOf x0 s l)
  (hprev : ∀ (a : Fin 64) (l : Fin 128), ∃ s : Fin 8192, s.val = (o + 8128) % 8192 + a.val ∧ prev (ix3 0 a l) = rowOf x0 s l)
include hn ho hcur hprev

theorem column_eq (j : Fin 320) (l : Fin 128) : column cur prev j l = rowOf x0 (src n j) l := by
  unfold column
  split
  · obtain ⟨s, hs, e⟩ := hprev ⟨j.val, by assumption⟩ l
    rw [e]
    congr 1
    exact Fin.ext (by simp only [src] at *; omega)
  · obtain ⟨s, hs, e⟩ := hcur ⟨j.val - 64, by omega⟩ l
    rw [e]
    congr 1
    exact Fin.ext (by simp only [src] at *; omega)

theorem scores_eq (j : Fin 320) :
    scores (k0_pay264 x0 x1) (k0_pay265 x0 x1) cur prev (ix2 i j) = band (rowOf x0) n j := by
  have hi : i.val = n.val % 256 := by omega
  have hq (d : Fin 64) : cur (ix3 0 i ⟨d.val, by omega⟩) = rowOf x0 n (qlane d) := by
    obtain ⟨s, hs, e⟩ := hcur i ⟨d.val, by omega⟩
    rw [e, Fin.ext (hs.trans hn.symm)]
    rfl
  have hp : product cur prev i j = wide (rowOf x0) n (src n j) := by
    unfold product wide
    refine Finset.sum_congr rfl fun d _ => ?_
    rw [hq]
    simp only [column_eq hn ho hcur hprev]
    rfl
  rw [scores_apply, sel_apply, fill_apply, hp, hi]
  unfold band
  by_cases h1 : j.val = n.val % 256 + 64
  · simp [h1, self]
  · by_cases h2 : j.val / 64 = n.val % 256 / 64 ∨ j.val / 64 = n.val % 256 / 64 + 1 <;> simp [h1, h2]

/-- A group whose first chunk is not compared with the chunk before it. -/
theorem tile (hr : o % 2048 ≠ 0) (z : Fin 1) (l : Fin 128) :
    stored (scores (k0_pay264 x0 x1) (k0_pay265 x0 x1) cur prev) (values cur prev) (ix3 z i l)
      = kernelOut (rowOf x0) (tokOf x1) n l := by
  have hs : (fun j => scores (k0_pay264 x0 x1) (k0_pay265 x0 x1) cur prev (ix2 i j)) = near (rowOf x0) (tokOf x1) n := by
    funext j
    rw [scores_eq hn ho hcur hprev]
    unfold near
    rw [if_neg (by omega)]
  rw [stored_apply, hs]
  simp only [values_apply, column_eq hn ho hcur hprev]
  rfl

open Classical in
/-- A group whose first chunk is compared with the chunk before it. -/
theorem tile_apart (hr : o % 2048 = 0) {ta tb : Vec Ideal S1x1x64 .f32}
    (hta : ∀ a : Fin 64, ∃ s : Fin 8192, s.val = o + a.val ∧ ta (ix3 0 0 a) = tokOf x1 s)
    (htb : ∀ a : Fin 64, ∃ s : Fin 8192, s.val = (o + 8128) % 8192 + a.val ∧ tb (ix3 0 0 a) = tokOf x1 s) (z : Fin 1) (l : Fin 128) :
    stored (apart ta tb (scores (k0_pay264 x0 x1) (k0_pay265 x0 x1) cur prev)) (values cur prev) (ix3 z i l)
      = kernelOut (rowOf x0) (tokOf x1) n l := by
  have hs : (fun j => apart ta tb (scores (k0_pay264 x0 x1) (k0_pay265 x0 x1) cur prev) (ix2 i j)) = near (rowOf x0) (tokOf x1) n := by
    funext j
    rw [apart_apply, scores_eq hn ho hcur hprev]
    unfold near
    refine if_congr ?_ rfl rfl
    unfold meets
    constructor
    · rintro ⟨hi, hj, e⟩
      obtain ⟨s, hs, es⟩ := hta ⟨i.val, hi⟩
      obtain ⟨s', hs', es'⟩ := htb ⟨j.val, hj⟩
      rw [es, es', Fin.ext (hs.trans hn.symm), (Fin.ext (by simp only [src]; simp only at hs'; omega) : s' = src n j)] at e
      exact ⟨by omega, hj, e⟩
    · rintro ⟨hi, hj, e⟩
      obtain ⟨s, hs, es⟩ := hta ⟨i.val, by omega⟩
      obtain ⟨s', hs', es'⟩ := htb ⟨j.val, hj⟩
      refine ⟨by omega, hj, ?_⟩
      rw [es, es', Fin.ext (hs.trans hn.symm), (Fin.ext (by simp only [src]; simp only at hs'; omega) : s' = src n j)]
      exact e
  rw [stored_apply, hs]
  simp only [values_apply, column_eq hn ho hcur hprev]
  rfl

end Tile

/-- The 256 rows of a block from row `o`, 64 rows, and a row of tokens. -/
abbrev rows256 (x0 : Vec Ideal S1x8192x128 .f32) (o : ℕ) (h : ∀ a, (![0, o, 0] : Fin 3 → ℕ) a + S1x256x128.size a ≤ S1x8192x128.size a) :
    Vec Ideal S1x256x128 .f32 := View.ld x0 (Rect.unit (s := S1x8192x128) ![0, o, 0] S1x256x128.size h)
abbrev rows64 (x0 : Vec Ideal S1x8192x128 .f32) (o : ℕ) (h : ∀ a, (![0, o, 0] : Fin 3 → ℕ) a + S1x64x128.size a ≤ S1x8192x128.size a) :
    Vec Ideal S1x64x128 .f32 := View.ld x0 (Rect.unit (s := S1x8192x128) ![0, o, 0] S1x64x128.size h)
abbrev tokens64 (x1 : Vec Ideal S1x128x64 .f32) (o : ℕ) (h : ∀ a, (![0, o, 0] : Fin 3 → ℕ) a + S1x1x64.size a ≤ S1x128x64.size a) :
    Vec Ideal S1x1x64 .f32 := View.ld x1 (Rect.unit (s := S1x128x64) ![0, o, 0] S1x1x64.size h)

section Reads

variable (x0 : Vec Ideal S1x8192x128 .f32) (x1 : Vec Ideal S1x128x64 .f32) (o : ℕ)

theorem rows256_apply (h) (a : Fin 256) (l : Fin 128) : ∃ s : Fin 8192, s.val = o + a.val ∧ rows256 x0 o h (ix3 0 a l) = rowOf x0 s l := by
  have : o + 256 ≤ 8192 := h 1
  refine ⟨⟨o + a.val, by omega⟩, rfl, ?_⟩
  exact View.ld_unit_apply_of x0 _ _ h _ _ fun b => by fin_cases b <;> simp

theorem rows64_apply (h) (a : Fin 64) (l : Fin 128) : ∃ s : Fin 8192, s.val = o + a.val ∧ rows64 x0 o h (ix3 0 a l) = rowOf x0 s l := by
  have : o + 64 ≤ 8192 := h 1
  refine ⟨⟨o + a.val, by omega⟩, rfl, ?_⟩
  exact View.ld_unit_apply_of x0 _ _ h _ _ fun b => by fin_cases b <;> simp

theorem tokens64_apply (h) (a : Fin 64) : ∃ s : Fin 8192, s.val = 64 * o + a.val ∧ tokens64 x1 o h (ix3 0 0 a) = tokOf x1 s := by
  have : o + 1 ≤ 128 := h 1
  refine ⟨⟨64 * o + a.val, by omega⟩, rfl, ?_⟩
  refine View.ld_unit_apply_of x1 _ _ h _ _ fun b => ?_
  fin_cases b <;> simp <;> omega

end Reads

section Stores

variable {x0 : Vec Ideal S1x8192x128 .f32} {x1 : Vec Ideal S1x128x64 .f32} {o : ℕ} {n : Fin 8192} {l : Fin 128} {x : S1x256x128.Idx}
  (hn : n.val = o + (x 1).val) (hl : l.val = (x 2).val) (ho : o % 256 = 0) {hc hp}
include hn hl ho

/-- What is stored of the rows from `o`. -/
theorem tile_at (hr : o % 2048 ≠ 0) : stored (scores (k0_pay264 x0 x1) (k0_pay265 x0 x1) (rows256 x0 o hc) (rows64 x0 ((o + 8128) % 8192) hp))
    (values (rows256 x0 o hc) (rows64 x0 ((o + 8128) % 8192) hp)) x = kernelOut (rowOf x0) (tokOf x1) n l := by
  obtain ⟨z, i, k, rfl⟩ : ∃ (z : Fin 1) (i : Fin 256) (k : Fin 128), x = ix3 z i k := ⟨x 0, x 1, x 2, by funext a; fin_cases a <;> rfl⟩
  rw [show l = k from Fin.ext hl]
  exact tile hn ho (rows256_apply x0 o hc) (rows64_apply x0 _ hp) hr z k

theorem tile_apart_at (hr : o % 2048 = 0) {hs ht} :
    stored (apart (tokens64 x1 (o / 64) hs) (tokens64 x1 ((o + 8128) % 8192 / 64) ht)
      (scores (k0_pay264 x0 x1) (k0_pay265 x0 x1) (rows256 x0 o hc) (rows64 x0 ((o + 8128) % 8192) hp)))
      (values (rows256 x0 o hc) (rows64 x0 ((o + 8128) % 8192) hp)) x = kernelOut (rowOf x0) (tokOf x1) n l := by
  obtain ⟨z, i, k, rfl⟩ : ∃ (z : Fin 1) (i : Fin 256) (k : Fin 128), x = ix3 z i k := ⟨x 0, x 1, x 2, by funext a; fin_cases a <;> rfl⟩
  rw [show l = k from Fin.ext hl]
  refine tile_apart hn ho (rows256_apply x0 o hc) (rows64_apply x0 _ hp) hr (fun a => ?_) (fun a => ?_) z k
  · obtain ⟨s, h, e⟩ := tokens64_apply x1 _ hs a
    exact ⟨s, by omega, e⟩
  · obtain ⟨s, h, e⟩ := tokens64_apply x1 _ ht a
    exact ⟨s, by omega, e⟩

end Stores

set_option maxHeartbeats 1600000 in
/-- What the body leaves of a block. -/
theorem out_apply (x0 : Vec Ideal S1x8192x128 .f32) (x1 : Vec Ideal S1x128x64 .f32) (y : S1x8192x128.Idx) :
    out0_2 x0 x1 y = kernelOut (rowOf x0) (tokOf x1) (y 1) (y 2) := by
  unfold out0_2
  canon_tiles x h
  case piece31 => exact tile_apart_at (o := 0) (h1.trans (Nat.zero_add _).symm) h2 (by decide) (by decide)
  case piece7 | piece15 | piece23 => exact tile_apart_at h1 h2 (by decide) (by decide)
  all_goals exact tile_at h1 h2 (by decide) (by decide)

/-- The rows and the tokens of one head. -/
def headRow (w : FVec Ideal S262144x128 .f32) (h : Fin 32) (n : Fin 8192) (l : Fin 128) : EReal := w (ix2 ⟨h.val * 8192 + n.val, by omega⟩ l)
def headTok (u : FVec Ideal S262144 .f32) (h : Fin 32) (n : Fin 8192) : EReal := u (ix1 ⟨h.val * 8192 + n.val, by omega⟩)

variable (m : (ℓ : Loc nD τ sig) → Buf (Elt Ideal) ℓ)

/-- The windows' block indices at a point: head `t`. -/
theorem idx : ∀ t : Fin cfg0.N, win0_0.index t = ![t.val, 0, 0] ∧ win0_1.index t = ![t.val, 0, 0]
    ∧ win0_2.index t = ![t.val, 0, 0] ∧ t.val < 32 :=
  (by decide +kernel : ∀ t : Fin grid0.N, _)

theorem rows_block (c : Dev nD) (t : Fin cfg0.N) (h : Fin 32) (hh : h.val = t.val) :
    rowOf (iblk m c 0 t) = headRow (m ((c : Thread nD τ).loc main_arg0)) h := by
  funext n l
  unfold rowOf headRow
  show (show FVec Ideal S1x8192x128 .f32 from iblk m c 0 t) (ix3 0 n l) = _
  blk_simp [iblk, idx t]
  entry_read
  pointwise
  blk_ext [idx t]

theorem tokens_block (c : Dev nD) (t : Fin cfg0.N) (h : Fin 32) (hh : h.val = t.val) :
    tokOf (iblk m c 1 t) = headTok (m ((c : Thread nD τ).loc main_arg1)) h := by
  funext n
  unfold tokOf headTok
  show (show FVec Ideal S1x128x64 .f32 from iblk m c 1 t) (ix3 0 _ _) = _
  blk_simp [iblk, idx t]
  entry_read
  pointwise
  blk_ext [idx t]

/-- The result: each head's rows. -/
def result (w : FVec Ideal S262144x128 .f32) (u : FVec Ideal S262144 .f32) : FVec Ideal S32x8192x128 .f32 :=
  fun i => kernelOut (headRow w (i 0)) (headTok u (i 0)) (i 1) (i 2)

theorem result_apply (w : FVec Ideal S262144x128 .f32) (u : FVec Ideal S262144 .f32) (h : Fin 32) (n : Fin 8192) (l : Fin 128) :
    result w u (ix3 h n l) = kernelOut (headRow w h) (headTok u h) n l := rfl

theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  have ht := (idx t).2.2.2
  blk_simp
  rw [after0_2]
  obtain ⟨z, n, k, rfl⟩ : ∃ (z : Fin 1) (n : Fin 8192) (k : Fin 128), y = ix3 z n k := ⟨y 0, y 1, y 2, by funext a; fin_cases a <;> rfl⟩
  refine (out_apply _ _ (ix3 z n k)).trans ?_
  rw [rows_block m c t ⟨t.val, ht⟩ rfl, tokens_block m c t ⟨t.val, ht⟩ rfl]
  refine ((congrArg _ ?_).trans (result_apply _ _ _ _ _)).symm
  blk_ext [idx t]

end Cert.AttendIdeal.RefValue

end
-- ==== Proof.AttendPre.lean ====
/-
  What the precondition of the attention's claim says: queries finite, tokens apart where only the reference compares them.
-/
module

public import proofs.«01_k».proof.Defs
public import proofs.«01_k».proof.Proof.Gen.Pre_tokens_apart
public import Idealize.ShloMosaic.Lib.Pipeline.ValueKit
public import Idealize.ShloMosaic.Lib.ReduceAll

@[expose] public section

set_option maxRecDepth 16384

noncomputable section

namespace Cert.Pre_tokens_apart.Decode

open Cert.Pre_tokens_apart Idealize.ShloMosaic Facts

/-- The tokens by chunk, and each chunk's predecessor. -/
def chunks (u : FVec Ideal S262144 .f32) : FVec Ideal S32x128x64 .f32 := shapeCast S32x128x64 u shapeCasts_S262144_S32x128x64
def back (t : FVec Ideal S32x128x64 .f32) : FVec Ideal S32x128x64 .f32 :=
  concatenate S32x128x64 1 [⟨S32x1x64, extractStridedSlice S32x1x64 ![0, 127, 0] t slices_S32x128x64_S32x1x64_0_127_0⟩,
    ⟨S32x127x64, extractStridedSlice S32x127x64 ![0, 0, 0] t slices_S32x128x64_S32x127x64_0_0_0⟩] concatenates_S32x1x64_S32x127x64_S32x128x64_d1

/-- Where two arrays of tokens differ. -/
def differ (t s : FVec Ideal S32x128x64 .f32) : IVec S32x128x64x64 1 :=
  cmpf .une (broadcastInDim S32x128x64x64 ![0, 1, 2, 3] bcast_S32x128x64x1_S32x128x64x64_0_1_2_3 (broadcastInDim S32x128x64x1 ![0, 1, 2] bcast_S32x128x64_S32x128x64x1_0_1_2 t))
    (broadcastInDim S32x128x64x64 ![0, 1, 2, 3] bcast_S32x128x1x64_S32x128x64x64_0_1_2_3 (broadcastInDim S32x128x1x64 ![0, 1, 3] bcast_S32x128x64_S32x128x1x64_0_1_3 s))

def own : IVec S32x128x64x64 1 := cmpi .eq (iotaInDim S32x128x64x64 32 2) (iotaInDim S32x128x64x64 32 3)
def first : IVec S32x128x64x64 1 :=
  cmpi .eq (fn_remainder (F := Ideal) (iotaInDim S32x128x64x64 32 1) (constantI S_ 32 32#32)) (broadcastInDim S32x128x64x64 ![] bcast_S_S32x128x64x64 (constantI S_ 32 0#32))

/-- Where the queries are finite. -/
def finite (w : FVec Ideal S262144x128 .f32) : IVec S262144x64 1 :=
  cmpf .olt (Host.absf (extractStridedSlice S262144x64 ![0, 0] w slices_S262144x128_S262144x64_0_0)) (broadcastInDim S262144x64 ![] bcast_S_S262144x64 (constant S_ .f32 0x7F800000#32))

theorem fn_eq (w : FVec Ideal S262144x128 .f32) (u : FVec Ideal S262144 .f32) : fn w u =
    andi (Host.reduce IntOp.andi (finite w) (constantI S_ 1 1#1) reducesTo_S262144x64_S_d0_1 h_S_)
      (Host.reduce IntOp.andi (andi (ori (differ (chunks u) (chunks u)) own) (ori (differ (chunks u) (back (chunks u))) first)) (constantI S_ 1 1#1)
        reducesTo_S32x128x64x64_S_d0_1_2_3 h_S_) := rfl

theorem andi_one {a b : BitVec 1} (h : IntOp.andi a b = 1#1) : a = 1#1 ∧ b = 1#1 := by revert a b; decide
theorem ori_one {a b : BitVec 1} (h : IntOp.ori a b = 1#1) : a = 1#1 ∨ b = 1#1 := by revert a b; decide

theorem differ_apply (t s : FVec Ideal S32x128x64 .f32) (h : Fin 32) (c : Fin 128) (i j : Fin 64) (e : differ t s (ix4 h c i j) = 1#1) :
    t (ix3 h c i) ≠ s (ix3 h c j) := by
  have : differ t s (ix4 h c i j) = BitVec.ofBool (decide (t (ix3 h c i) ≠ s (ix3 h c j))) := by
    pointwise [differ]
  rw [this] at e
  intro he
  rw [he] at e
  simp at e

theorem own_apply (h : Fin 32) (c : Fin 128) (i j : Fin 64) (e : own (ix4 h c i j) = 1#1) : i = j := by
  have : own (ix4 h c i j) = IntOp.cmpi .eq (BitVec.ofNat 32 i.val) (BitVec.ofNat 32 j.val) := by pointwise [own]
  rw [this] at e
  have key : ∀ i j : Fin 64, IntOp.cmpi .eq (BitVec.ofNat 32 i.val) (BitVec.ofNat 32 j.val) = 1#1 → i = j := by decide +kernel
  exact key i j e

/-- The remainder by 32 of a chunk's number, as the predicate computes it. -/
def remainder (v k : BitVec 32) : BitVec 32 :=
  Scalar.select (IntOp.andi (IntOp.cmpi .ne (IntOp.cmpi .slt (IntOp.remsi ArithUnit.host v (Scalar.select (IntOp.cmpi .eq k 0#32) 1#32 k)) 0#32)
      (IntOp.cmpi .slt (Scalar.select (IntOp.cmpi .eq k 0#32) 1#32 k) 0#32))
      (IntOp.cmpi .ne (IntOp.remsi ArithUnit.host v (Scalar.select (IntOp.cmpi .eq k 0#32) 1#32 k)) 0#32))
    (IntOp.addi (IntOp.remsi ArithUnit.host v (Scalar.select (IntOp.cmpi .eq k 0#32) 1#32 k)) (Scalar.select (IntOp.cmpi .eq k 0#32) 1#32 k))
    (IntOp.remsi ArithUnit.host v (Scalar.select (IntOp.cmpi .eq k 0#32) 1#32 k))

theorem first_apply (h : Fin 32) (c : Fin 128) (i j : Fin 64) (e : first (ix4 h c i j) = 1#1) : c.val % 32 = 0 := by
  have : first (ix4 h c i j) = IntOp.cmpi .eq (remainder (BitVec.ofNat 32 c.val) 32#32) 0#32 := by
    pointwise [first, fn_remainder, fn_where]
    rfl
  rw [this] at e
  have key : ∀ c : Fin 128, IntOp.cmpi .eq (remainder (BitVec.ofNat 32 c.val) 32#32) 0#32 = 1#1 → c.val % 32 = 0 := by decide +kernel
  exact key c e

theorem back_apply (t : FVec Ideal S32x128x64 .f32) (h : Fin 32) (c : Fin 128) (i : Fin 64) :
    back t (ix3 h c i) = t (ix3 h ⟨(c.val + 127) % 128, by omega⟩ i) := by
  pointwise [back]
  split <;> blk_ext []

theorem chunks_apply (u : FVec Ideal S262144 .f32) (h : Fin 32) (c : Fin 128) (i : Fin 64) :
    chunks u (ix3 h c i) = u (ix1 ⟨h.val * 8192 + (64 * c.val + i.val), by omega⟩) := by
  pointwise [chunks]
  blk_ext []

theorem finite_apply (w : FVec Ideal S262144x128 .f32) (r : Fin 262144) (d : Fin 64) (e : finite w (ix2 r d) = 1#1) :
    w (ix2 r ⟨d.val, by omega⟩) ≠ ⊥ ∧ w (ix2 r ⟨d.val, by omega⟩) ≠ ⊤ := by
  have : finite w (ix2 r d) = BitVec.ofBool (decide (max (w (ix2 r ⟨d.val, by omega⟩)) (-w (ix2 r ⟨d.val, by omega⟩)) < (⊤ : EReal))) := by
    have top : Ideal.ofBits FTy.f32 0x7F800000#32 = ⊤ := by simp [Ideal.ofBits, Ideal.ieee]
    pointwise [finite]
    rw [top]
    rfl
  rw [this] at e
  generalize w (ix2 r ⟨d.val, by omega⟩) = x at e ⊢
  have lt : max x (-x) < ⊤ := by
    by_contra hn
    rw [decide_eq_false hn] at e
    exact absurd e (by decide)
  constructor
  · rintro rfl
    simp at lt
  · rintro rfl
    simp at lt

/-- The precondition, decoded. -/
theorem apart (w : FVec Ideal S262144x128 .f32) (u : FVec Ideal S262144 .f32) (h : fn w u = fun _ => 1#1) :
    (∀ (r : Fin 262144) (d : Fin 64), w (ix2 r ⟨d.val, by omega⟩) ≠ ⊥ ∧ w (ix2 r ⟨d.val, by omega⟩) ≠ ⊤)
    ∧ ∀ (h : Fin 32) (c : Fin 128) (i j : Fin 64), (chunks u (ix3 h c i) = chunks u (ix3 h c j) → i = j)
      ∧ (chunks u (ix3 h c i) = chunks u (ix3 h ⟨(c.val + 127) % 128, by omega⟩ j) → c.val % 32 = 0) := by
  rw [fn_eq] at h
  have : Subsingleton S_.Idx := ⟨fun x y => funext fun a => a.elim0⟩
  obtain ⟨h1, h2⟩ := andi_one (congrFun h (fun x => x.elim0))
  refine ⟨fun r d => finite_apply w r d (Host.reduce_andi_all _ _ _ _ _ h1 (ix2 r d)), fun h c i j => ?_⟩
  obtain ⟨e1, e2⟩ := andi_one (Host.reduce_andi_all _ _ _ _ _ h2 (ix4 h c i j))
  constructor
  · intro he
    rcases ori_one e1 with e | e
    · exact absurd he (differ_apply _ _ h c i j e)
    · exact own_apply h c i j e
  · intro he
    rcases ori_one e2 with e | e
    · exact absurd (he.trans (back_apply _ h c j).symm) (differ_apply _ _ h c i j e)
    · exact first_apply h c i j e

end Cert.Pre_tokens_apart.Decode

end
-- ==== Proof.AttendRef.lean ====
/-
  The attention's reference, read at an index: `referenceOut` of each head's rows; the frames and the value claim.
-/
module

public import proofs.«01_k».proof.Defs
public import proofs.«01_k».proof.Proof.AttendVal
public import proofs.«01_k».proof.Proof.AttendPre
public import proofs.«01_k».proof.Proof.Gen.Attend.Frame
public import proofs.«01_k».proof.Proof.Gen.AttendReferenceIdeal.Run
public import Idealize.ShloMosaic.Lib.Quiescent

@[expose] public section

set_option maxRecDepth 16384

noncomputable section

namespace Cert.AttendReferenceIdeal.RefValue

open Cert.AttendReferenceIdeal Cert.AttendReferenceIdeal.Gen Idealize.ShloMosaic
open Cert.AttendMath Cert.AttendRows
open Cert.AttendIdeal.RefValue (headRow headTok)

/-- The chunks' queries, values and tokens. -/
def queries (w : FVec Ideal S262144x128 .f32) : FVec Ideal S32x128x64x64 .f32 :=
  extractStridedSlice S32x128x64x64 ![0, 0, 0, 0] (shapeCast _ w shapeCasts_S262144x128_S32x128x64x128) slices_S32x128x64x128_S32x128x64x64_0_0_0_0
def valuesOf (w : FVec Ideal S262144x128 .f32) : FVec Ideal S32x128x64x64 .f32 :=
  extractStridedSlice S32x128x64x64 ![0, 0, 0, 64] (shapeCast _ w shapeCasts_S262144x128_S32x128x64x128) slices_S32x128x64x128_S32x128x64x64_0_0_0_64
def tokens (u : FVec Ideal S262144 .f32) : FVec Ideal S32x128x64 .f32 := shapeCast _ u shapeCasts_S262144_S32x128x64

/-- The queries divided by their length. -/
def unit (q : FVec Ideal S32x128x64x64 .f32) : FVec Ideal S32x128x64x64 .f32 :=
  Host.divf q (broadcastInDim S32x128x64x64 ![0, 1, 2, 3] bcast_S32x128x64x1_S32x128x64x64_0_1_2_3 (maximumf (broadcastInDim S32x128x64x1 ![] bcast_S_S32x128x64x1 (id (constant S_ .f32 0x2B8CBCCC#32)))
    (Host.sqrt (broadcastInDim S32x128x64x1 ![0, 1, 2] bcast_S32x128x64_S32x128x64x1_0_1_2 (Host.reduceAdd (mulf q q) (constant S_ .f32 0x00000000#32) reducesTo_S32x128x64x64_S32x128x64_d3 h_S_)))))

/-- Each chunk followed by the one before it. -/
def doubled (x : FVec Ideal S32x128x64x64 .f32) : FVec Ideal S32x128x128x64 .f32 :=
  concatenate S32x128x128x64 2 [⟨S32x128x64x64, x⟩, ⟨S32x128x64x64, (concatenate S32x128x64x64 1
    [⟨S32x1x64x64, (extractStridedSlice S32x1x64x64 ![0, 127, 0, 0] x slices_S32x128x64x64_S32x1x64x64_0_127_0_0)⟩,
     ⟨S32x127x64x64, (extractStridedSlice S32x127x64x64 ![0, 0, 0, 0] x slices_S32x128x64x64_S32x127x64x64_0_0_0_0)⟩]
    concatenates_S32x1x64x64_S32x127x64x64_S32x128x64x64_d1)⟩] concatenates_S32x128x64x64_S32x128x64x64_S32x128x128x64_d2
def doubledTokens (x : FVec Ideal S32x128x64 .f32) : FVec Ideal S32x128x128 .f32 :=
  concatenate S32x128x128 2 [⟨S32x128x64, x⟩, ⟨S32x128x64, (concatenate S32x128x64 1
    [⟨S32x1x64, (extractStridedSlice S32x1x64 ![0, 127, 0] x slices_S32x128x64_S32x1x64_0_127_0)⟩,
     ⟨S32x127x64, (extractStridedSlice S32x127x64 ![0, 0, 0] x slices_S32x128x64_S32x127x64_0_0_0)⟩]
    concatenates_S32x1x64_S32x127x64_S32x128x64_d1)⟩] concatenates_S32x128x64_S32x128x64_S32x128x128_d2

/-- The scores. -/
def dots (q : FVec Ideal S32x128x64x64 .f32) (t : FVec Ideal S32x128x64 .f32) : FVec Ideal S32x128x64x128 .f32 :=
  select (cmpf .oeq (broadcastInDim S32x128x64x128 ![0, 1, 2, 3] bcast_S32x128x64x1_S32x128x64x128_0_1_2_3 (broadcastInDim S32x128x64x1 ![0, 1, 2] bcast_S32x128x64_S32x128x64x1_0_1_2 t))
      (broadcastInDim S32x128x64x128 ![0, 1, 2, 3] bcast_S32x128x1x128_S32x128x64x128_0_1_2_3 (broadcastInDim S32x128x1x128 ![0, 1, 3] bcast_S32x128x128_S32x128x1x128_0_1_3 (doubledTokens t))))
    (broadcastInDim S32x128x64x128 ![] bcast_S_S32x128x64x128 (id (constant S_ .f32 0xC7435000#32)))
    (mulf (Host.dotGeneral dot_S32x128x64x64_S32x128x128x64_S32x128x64x128_3_3_2_2_01_01 none q (doubled (unit q)))
      (broadcastInDim S32x128x64x128 ![] bcast_S_S32x128x64x128 (constant S_ .f32 0x3E000000#32)))

/-- A row's greatest score. -/
def tops (s : FVec Ideal S32x128x64x128 .f32) : FVec Ideal S32x128x64 .f32 :=
  Host.reduce FloatOps.maximumf s (constant S_ .f32 0xFF800000#32) reducesTo_S32x128x64x128_S32x128x64_d3 h_S_

/-- A row's summed exponentials. -/
def sums (s : FVec Ideal S32x128x64x128 .f32) (M : FVec Ideal S32x128x64 .f32) : FVec Ideal S32x128x64 .f32 :=
  Host.reduceAdd (Host.exp (subf s
      (broadcastInDim S32x128x64x128 ![0, 1, 2, 3] bcast_S32x128x64x1_S32x128x64x128_0_1_2_3 (broadcastInDim S32x128x64x1 ![0, 1, 2] bcast_S32x128x64_S32x128x64x1_0_1_2 M))))
      (constant S_ .f32 0x00000000#32) reducesTo_S32x128x64x128_S32x128x64_d3 h_S_

/-- Two columns, one's logarithm added to the other. -/
def joined (M L : FVec Ideal S32x128x64 .f32) : FVec Ideal S32x128x64x1 .f32 :=
  addf (broadcastInDim S32x128x64x1 ![0, 1, 2] bcast_S32x128x64_S32x128x64x1_0_1_2 M)
    (Host.log (broadcastInDim S32x128x64x1 ![0, 1, 2] bcast_S32x128x64_S32x128x64x1_0_1_2 L))

/-- The scores' logarithm of summed exponentials. -/
def logits (s : FVec Ideal S32x128x64x128 .f32) : FVec Ideal S32x128x64x1 .f32 := joined (tops s) (sums s (tops s))

/-- The scores' weighted values. -/
def mixed (s : FVec Ideal S32x128x64x128 .f32) (v : FVec Ideal S32x128x64x64 .f32) : FVec Ideal S32x128x64x64 .f32 :=
  Host.dotGeneral (φ₁ := .f32) (φ₂ := .f32) dot_S32x128x64x128_S32x128x128x64_S32x128x64x64_3_2_2_3_01_01 none
    (Host.exp (subf s (broadcastInDim S32x128x64x128 ![0, 1, 2, 3] bcast_S32x128x64x1_S32x128x64x128_0_1_2_3 (logits s)))) (doubled v)

def together (o : FVec Ideal S32x128x64x64 .f32) (l : FVec Ideal S32x128x64x1 .f32) : FVec Ideal S32x8192x128 .f32 :=
  concatenate S32x8192x128 2 [⟨S32x8192x64, (shapeCast _ o shapeCasts_S32x128x64x64_S32x8192x64)⟩,
    ⟨S32x8192x64, (broadcastInDim S32x8192x64 ![0, 1, 2] bcast_S32x8192x1_S32x8192x64_0_1_2 (shapeCast _ l shapeCasts_S32x128x64x1_S32x8192x1))⟩]
    concatenates_S32x8192x64_S32x8192x64_S32x8192x128_d2

/-- The reference's result. -/
def whole (w : FVec Ideal S262144x128 .f32) (u : FVec Ideal S262144 .f32) : FVec Ideal S32x8192x128 .f32 :=
  together (mixed (dots (queries w) (tokens u)) (valuesOf w)) (logits (dots (queries w) (tokens u)))

theorem out_eq (m : (ℓ : Loc nD τ sig) → Buf (Elt Ideal) ℓ) (c : Dev nD) :
    Cert.AttendReferenceIdeal.Value.res_out0 m c = whole (m (c.tc.loc main_arg0)) (m (c.tc.loc main_arg1)) := rfl

/-- The head's row that row `i` of chunk `c` is. -/
def at' (c : Fin 128) (i : Fin 64) : Fin 8192 := ⟨64 * c.val + i.val, by omega⟩
def before (c : Fin 128) : Fin 128 := ⟨(c.val + 127) % 128, by omega⟩

theorem queries_apply (w : FVec Ideal S262144x128 .f32) (h : Fin 32) (c : Fin 128) (i d : Fin 64) :
    queries w (ix4 h c i d) = headRow w h (at' c i) (qlane d) := by
  pointwise [queries, headRow, at', qlane]
  blk_ext []

theorem valuesOf_apply (w : FVec Ideal S262144x128 .f32) (h : Fin 32) (c : Fin 128) (i d : Fin 64) :
    valuesOf w (ix4 h c i d) = headRow w h (at' c i) (vlane d) := by
  pointwise [valuesOf, headRow, at', vlane]
  blk_ext []

theorem tokens_apply (u : FVec Ideal S262144 .f32) (h : Fin 32) (c : Fin 128) (i : Fin 64) :
    tokens u (ix3 h c i) = headTok u h (at' c i) := by
  pointwise [tokens, headTok, at']
  blk_ext []

theorem unit_apply (q : FVec Ideal S32x128x64x64 .f32) (h : Fin 32) (c : Fin 128) (i d : Fin 64) :
    unit q (ix4 h c i d) = Ideal.div (q (ix4 h c i d)) (length fun d => q (ix4 h c i d)) := by
  pointwise [unit, length]
  rw [max_comm]
  rfl

theorem doubled_apply (x : FVec Ideal S32x128x64x64 .f32) (h : Fin 32) (c : Fin 128) (k : Fin 128) (d : Fin 64) :
    doubled x (ix4 h c k d) = if hk : k.val < 64 then x (ix4 h c ⟨k.val, hk⟩ d) else x (ix4 h (before c) ⟨k.val - 64, by omega⟩ d) := by
  pointwise [doubled, before]
  split <;> [rfl; skip]
  split <;> blk_ext []

theorem doubledTokens_apply (x : FVec Ideal S32x128x64 .f32) (h : Fin 32) (c : Fin 128) (k : Fin 128) :
    doubledTokens x (ix3 h c k) = if hk : k.val < 64 then x (ix3 h c ⟨k.val, hk⟩) else x (ix3 h (before c) ⟨k.val - 64, by omega⟩) := by
  pointwise [doubledTokens, before]
  split <;> [rfl; skip]
  split <;> blk_ext []

open Classical in
theorem dots_apply (q : FVec Ideal S32x128x64x64 .f32) (t : FVec Ideal S32x128x64 .f32) (h : Fin 32) (c : Fin 128) (i : Fin 64) (k : Fin 128) :
    dots q t (ix4 h c i k) = if t (ix3 h c i) = doubledTokens t (ix3 h c k) then self
      else (∑ d, q (ix4 h c i d) * doubled (unit q) (ix4 h c k d)) * Ideal.ofBits FTy.f32 0x3E000000#32 := by
  pointwise [dots, self]
  rfl

theorem tops_apply (s : FVec Ideal S32x128x64x128 .f32) (h : Fin 32) (c : Fin 128) (i : Fin 64) :
    tops s (ix3 h c i) = top (fun k => s (ix4 h c i k)) := by
  pointwise [tops, top]

theorem sums_apply (s : FVec Ideal S32x128x64x128 .f32) (M : FVec Ideal S32x128x64 .f32) (h : Fin 32) (c : Fin 128) (i : Fin 64) :
    sums s M (ix3 h c i) = ∑ k, Ideal.exp (s (ix4 h c i k) - M (ix3 h c i)) := by
  pointwise [sums]

theorem joined_apply (M L : FVec Ideal S32x128x64 .f32) (h : Fin 32) (c : Fin 128) (i : Fin 64) :
    joined M L (ix4 h c i 0) = M (ix3 h c i) + Ideal.log (L (ix3 h c i)) := by
  pointwise [joined]

theorem logits_apply (s : FVec Ideal S32x128x64x128 .f32) (h : Fin 32) (c : Fin 128) (i : Fin 64) :
    logits s (ix4 h c i 0) = lse (fun k => s (ix4 h c i k)) := by
  unfold logits lse mass
  rw [joined_apply, sums_apply, tops_apply]

theorem mixed_apply (s : FVec Ideal S32x128x64x128 .f32) (v : FVec Ideal S32x128x64x64 .f32) (h : Fin 32) (c : Fin 128) (i d : Fin 64) :
    mixed s v (ix4 h c i d) = shifted (fun k => s (ix4 h c i k)) (fun k => doubled v (ix4 h c k d)) := by
  pointwise [mixed, shifted]
  simp only [logits_apply]

theorem together_apply (o : FVec Ideal S32x128x64x64 .f32) (l : FVec Ideal S32x128x64x1 .f32) (h : Fin 32) (n : Fin 8192) (k : Fin 128) :
    together o l (ix3 h n k) = if hk : k.val < 64 then o (ix4 h ⟨n.val / 64, by omega⟩ ⟨n.val % 64, by omega⟩ ⟨k.val, hk⟩)
      else l (ix4 h ⟨n.val / 64, by omega⟩ ⟨n.val % 64, by omega⟩ 0) := by
  pointwise [together]

theorem other_eq (n : Fin 8192) (k : Fin 128) : other n k =
    if hk : k.val < 64 then at' ⟨n.val / 64, by omega⟩ ⟨k.val, hk⟩ else at' (before ⟨n.val / 64, by omega⟩) ⟨k.val - 64, by omega⟩ := by
  unfold other at' before
  by_cases hk : k.val < 64 <;> simp only [hk, if_true, if_false, dite_true, dite_false] <;> exact Fin.ext (by simp only; omega)

theorem whole_apply (w : FVec Ideal S262144x128 .f32) (u : FVec Ideal S262144 .f32) (h : Fin 32) (n : Fin 8192) (l : Fin 128) :
    whole w u (ix3 h n l) = referenceOut (headRow w h) (headTok u h) n l := by
  have hn : at' ⟨n.val / 64, by omega⟩ ⟨n.val % 64, by omega⟩ = n := Fin.ext (by simp only [at']; omega)
  have hu (k : Fin 128) (d : Fin 64) : doubled (unit (queries w)) (ix4 h ⟨n.val / 64, by omega⟩ k d)
      = Ideal.div (headRow w h (other n k) (qlane d)) (length fun d => headRow w h (other n k) (qlane d)) := by
    rw [doubled_apply, other_eq]
    split <;> simp only [unit_apply, queries_apply]
  have hv (k : Fin 128) (d : Fin 64) : doubled (valuesOf w) (ix4 h ⟨n.val / 64, by omega⟩ k d) = headRow w h (other n k) (vlane d) := by
    rw [doubled_apply, other_eq]
    split <;> simp only [valuesOf_apply]
  have ht (k : Fin 128) : doubledTokens (tokens u) (ix3 h ⟨n.val / 64, by omega⟩ k) = headTok u h (other n k) := by
    rw [doubledTokens_apply, other_eq]
    split <;> simp only [tokens_apply]
  have hs : (fun k => dots (queries w) (tokens u) (ix4 h ⟨n.val / 64, by omega⟩ ⟨n.val % 64, by omega⟩ k)) = score (headRow w h) (headTok u h) n := by
    funext k
    rw [dots_apply, ht, tokens_apply, hn]
    unfold score narrow
    simp only [queries_apply, hu, hn]
  unfold whole referenceOut
  rw [together_apply]
  split
  · rw [mixed_apply, hs]
    simp only [hv]
  · rw [logits_apply, hs]

/-- The results agree where the precondition holds. -/
theorem results_agree (w : FVec Ideal S262144x128 .f32) (u : FVec Ideal S262144 .f32) (h : Cert.Pre_tokens_apart.fn w u = fun _ => 1#1) :
    Cert.AttendIdeal.RefValue.result w u = whole w u := by
  obtain ⟨hfin, hap⟩ := Cert.Pre_tokens_apart.Decode.apart w u h
  have tok (b : Fin 32) (n : Fin 8192) : headTok u b n
      = Cert.Pre_tokens_apart.Decode.chunks u (ix3 b ⟨n.val / 64, by omega⟩ ⟨n.val % 64, by omega⟩) := by
    rw [Cert.Pre_tokens_apart.Decode.chunks_apply]
    exact congrArg (fun r => u (ix1 r)) (Fin.ext (by simp only; omega))
  funext x
  obtain ⟨b, n, l, rfl⟩ : ∃ (b : Fin 32) (n : Fin 8192) (l : Fin 128), x = ix3 b n l := ⟨x 0, x 1, x 2, by funext a; fin_cases a <;> rfl⟩
  rw [whole_apply, Cert.AttendIdeal.RefValue.result_apply]
  refine agree (headRow w b) (headTok u b) (fun n d => hfin _ d) (fun n k hc ht => ?_) (fun n k hc ht => ?_) n l
  · rw [tok, tok, show (⟨n.val / 64, by omega⟩ : Fin 128) = ⟨k.val / 64, by omega⟩ from Fin.ext hc] at ht
    have := congrArg Fin.val ((hap b _ _ _).1 ht)
    exact Fin.ext (by simp only at this; omega)
  · rw [tok, tok, show (⟨k.val / 64, by omega⟩ : Fin 128) = ⟨(n.val / 64 + 127) % 128, by omega⟩ from Fin.ext hc.symm] at ht
    exact (hap b ⟨n.val / 64, by omega⟩ _ _).2 ht

end Cert.AttendReferenceIdeal.RefValue

namespace Cert.Proof

open Idealize.ShloMosaic Idealize.ShloMosaic.TcCoe Idealize.SL.Sem

theorem frame_Attend : Cert.quiescent_Attend := fun m ρ _ => Cert.Attend.Gen.frame (F := Bits) m ρ
theorem frame_AttendIdeal : Cert.quiescent_AttendIdeal := fun m ρ _ => Cert.AttendIdeal.Gen.frame (F := Ideal) m ρ
theorem frame_AttendReferenceIdeal : Cert.quiescent_AttendReferenceIdeal := fun m ρ _ =>
  (θ_run Cert.AttendReferenceIdeal.defs _ _).mono (fun r h => ⟨fun c => (h c).2, sem_eq_zero_of_no_sems (by decide) r.2⟩)
    (Cert.AttendReferenceIdeal.Value.run (F := Ideal) m ρ)

theorem frame_AttendIdeal_pre : Cert.quiescent_AttendIdeal_pre_tokens_apart := fun m ρ _ => frame_AttendIdeal m ρ trivial
theorem frame_AttendReferenceIdeal_pre : Cert.quiescent_AttendReferenceIdeal_pre_tokens_apart := fun m ρ _ =>
  frame_AttendReferenceIdeal m ρ trivial

theorem preserves_attend : Cert.preserves_Attend_AttendIdeal := IdealRules.named_const.statement Cert.AttendIdeal.κ "mask" .f32 0xF149F2CA#32 ⊥ rfl

theorem algebraic_attend : Cert.algebraic_AttendIdeal_AttendReferenceIdeal_pre_tokens_apart := by
  intro m g m' g' hpre hagree
  refine ⟨fun c => (Cert.AttendIdeal.Gen.dats m 0 c).arrAt 2 Cert.AttendIdeal.cfg0.N, Cert.AttendIdeal.Value.run_blocks m g, ?_⟩
  refine (θ_run Cert.AttendReferenceIdeal.defs _ _).mono (fun r h c => ⟨?_, (h c).2⟩) (Cert.AttendReferenceIdeal.Value.run (F := Ideal) m' g')
  refine (h c).1.trans ((Cert.AttendReferenceIdeal.RefValue.out_eq m' c).trans ?_)
  rw [(hagree c).1, (hagree c).2]
  exact ((Cert.AttendIdeal.RefValue.final m c).trans (Cert.AttendReferenceIdeal.RefValue.results_agree _ _ (hpre c))).symm

end Cert.Proof

end
-- ==== Proof.CombineRef.lean ====
/-
  The combination of the rounds and the output projection, read at an index: the reference's term as one sum.
-/
module

public import proofs.«01_k».proof.Defs
public import proofs.«01_k».proof.Proof.Gen.CombineIdeal.Frame
public import proofs.«01_k».proof.Proof.Gen.CombineReferenceIdeal
public import Idealize.ShloMosaic.Lib.Pipeline.ValueKit

@[expose] public section

set_option maxRecDepth 16384

noncomputable section

namespace Cert.CombineIdeal.RefValue

open Cert.CombineIdeal Cert.CombineIdeal.Gen Idealize.ShloMosaic

/-- The rows' sum with the last round added, the heads still apart. -/
def headsOf (v13 : FVec Ideal S16x4x256x1 .f32) (v35 : FVec Ideal S16x256x64 .f32) (v36 : Vec Ideal S16x1x256x64 .f32) :
    FVec Ideal S16x256x64 .f32 :=
  addf v35 (mulf (shapeCast S16x256x64 v36 shapeCasts_S16x1x256x64_S16x256x64)
    (broadcastTo S16x256x64 (shapeCast S16x256x1 (extractStridedSlice S16x1x256x1 ![0, 3, 0, 0] v13
      slices_S16x4x256x1_o0_3_0_0_S16x1x256x1) shapeCasts_S16x1x256x1_S16x256x1) broadcasts_S16x256x1_S16x256x64))

theorem headsOf_apply (v13 : FVec Ideal S16x4x256x1 .f32) (v35 : FVec Ideal S16x256x64 .f32) (v36 : Vec Ideal S16x1x256x64 .f32)
    (h : Fin 16) (n : Fin 256) (d : Fin 64) :
    headsOf v13 v35 v36 (ix3 h n d) = v35 (ix3 h n d) + v36 (ix4 h 0 n d) * v13 (ix4 h 3 n 0) := by
  pointwise [headsOf]

theorem slices_head : ∀ n : Fin 16, Shape.Slices S16x256x64 ![n.val, 0, 0] S1x256x64 := by decide

/-- One head's rows. -/
def headRow (x : FVec Ideal S16x256x64 .f32) (n : Fin 16) : FVec Ideal S256x64 .f32 :=
  shapeCast S256x64 (extractStridedSlice S1x256x64 ![n.val, 0, 0] x (slices_head n)) shapeCasts_S1x256x64_S256x64

theorem headRow_apply (x : FVec Ideal S16x256x64 .f32) (h : Fin 16) (n : Fin 256) (d : Fin 64) :
    headRow x h (ix2 n d) = x (ix3 h n d) := by
  pointwise [headRow]

/-- The heads side by side along the lanes. -/
def besides (x : FVec Ideal S16x256x64 .f32) : FVec Ideal S256x1024 .f32 :=
  concatenate S256x1024 1 (List.ofFn fun n : Fin 16 => ⟨S256x64, headRow x n⟩)
    concatenates_S256x64_S256x64_S256x64_S256x64_S256x64_S256x64_S256x64_S256x64_S256x64_S256x64_S256x64_S256x64_S256x64_S256x64_S256x64_S256x64_S256x1024_d1

theorem besides_apply (x : FVec Ideal S16x256x64 .f32) (n : Fin 256) (k : Fin 1024) :
    besides x (ix2 n k) = x (ix3 ⟨k.val / 64, by omega⟩ n ⟨k.val % 64, by omega⟩) := by
  refine (concatenate_ofFn_apply (t := S256x1024) 1 (headRow x) _ rfl 64 rfl (ix2 n k) ⟨k.val / 64, by omega⟩ rfl (ix2 n ⟨k.val % 64, by omega⟩) rfl ?_).trans
    (headRow_apply x _ n _)
  intro b hb
  match b with
  | ⟨0, _⟩ => rfl
  | ⟨1, _⟩ => exact absurd rfl hb

/-- The product with the output weights, and the bias added. -/
def projected (x : FVec Ideal S256x1024 .f32) (w : Vec Ideal S1024x1024 .f32) (b : Vec Ideal S1x1024 .f32) :
    FVec Ideal S1x256x1024 .f32 :=
  shapeCast S1x256x1024 (addf (matmul (φ₁ := .f32) (φ₂ := .f32) dot_S256x1024_S1024x1024_S256x1024_1_0_0_1_n_n none x w (constant S256x1024 .f32 0x00000000#32))
    (broadcastTo S256x1024 (shapeCast S1x1024 b shapeCasts_S1x1024_S1x1024) broadcasts_S1x1024_S256x1024))
    shapeCasts_S256x1024_S1x256x1024

theorem projected_apply (x : FVec Ideal S256x1024 .f32) (w : Vec Ideal S1024x1024 .f32) (b : Vec Ideal S1x1024 .f32)
    (z : Fin 1) (n : Fin 256) (c : Fin 1024) :
    projected x w b (ix3 z n c) = (∑ k : Fin 1024, x (ix2 n k) * w (ix2 k c)) + b (ix2 0 c) := by
  pointwise [projected]

theorem pay1_eq (v13 : FVec Ideal S16x4x256x1 .f32) (v35 : FVec Ideal S16x256x64 .f32) (v36 : Vec Ideal S16x1x256x64 .f32)
    (v76 : Vec Ideal S1024x1024 .f32) (v78 : Vec Ideal S1x1024 .f32) :
    k0_pay1 v13 v35 v36 v76 v78 = projected (besides (headsOf v13 v35 v36)) v76 v78 := rfl

/-- A round's weight from the four rounds' logits: the exponential of its distance below their logarithm of summed exponentials. -/
def weightOf (l : Fin 4 → EReal) (r : Fin 4) : EReal :=
  Ideal.exp (l r - (Finset.fold max (Ideal.ofBits FTy.f32 0xFF800000#32) l Finset.univ + Ideal.log
    (∑ s, Ideal.exp (l s - Finset.fold max (Ideal.ofBits FTy.f32 0xFF800000#32) l Finset.univ))))

theorem pay2_apply (v : Vec Ideal S16x4x256x1 .f32) (h : Fin 16) (r : Fin 4) (n : Fin 256) (z : Fin 1) :
    k0_pay2 v (ix4 h r n z) = weightOf (fun s => v (ix4 h s n 0)) r := by
  pointwise [k0_pay2, weightOf]
  rw [show z = 0 from Subsingleton.elim z 0]

theorem pay3_apply (v0 : Vec Ideal S16x4x256x1 .f32) (v15 v22 v29 : Vec Ideal S16x1x256x64 .f32) (h : Fin 16) (n : Fin 256) (d : Fin 64) :
    k0_pay3 v0 v15 v22 v29 (ix3 h n d) = v15 (ix4 h 0 n d) * k0_pay2 v0 (ix4 h 0 n 0) + v22 (ix4 h 0 n d) * k0_pay2 v0 (ix4 h 1 n 0)
      + v29 (ix4 h 0 n d) * k0_pay2 v0 (ix4 h 2 n 0) := by
  pointwise [k0_pay3]

/-- The combined row of four rounds: lane `d` of each round's output, weighted, summed. -/
def mixed (x : Fin 4 → Fin 128 → EReal) (d : Fin 64) : EReal :=
  ∑ r : Fin 4, x r ⟨d.val, by omega⟩ * weightOf (fun s => x s 64) r

/-- The result at an index: the heads' combined rows side by side, times the weights, plus the bias. -/
def resultAt (x : FVec Ideal S262144x128 .f32) (w : FVec Ideal S1024x1024 .f32) (b : FVec Ideal S1024 .f32)
    (i : Fin 2) (n : Fin 2048) (c : Fin 1024) : EReal :=
  (∑ k : Fin 1024, mixed (fun r l => x (ix2 ⟨(i.val * 16 + k.val / 64) * 8192 + r.val * 2048 + n.val, by omega⟩ l)) ⟨k.val % 64, by omega⟩
    * w (ix2 k c)) + b (ix1 c)

end Cert.CombineIdeal.RefValue

namespace Cert.CombineReferenceIdeal.RefValue

open Cert.CombineReferenceIdeal Cert.CombineReferenceIdeal.Gen Idealize.ShloMosaic
open Cert.CombineIdeal.RefValue (weightOf mixed resultAt)

/-- The logits: lane 64 of every row. -/
def logits (x : FVec Ideal S262144x128 .f32) : FVec Ideal S32x4x2048x1 .f32 :=
  extractStridedSlice S32x4x2048x1 ![0, 0, 0, 64] (shapeCast S32x4x2048x128 x shapeCasts_S262144x128_S32x4x2048x128) slices_S32x4x2048x128_S32x4x2048x1_0_0_0_64

theorem logits_apply (x : FVec Ideal S262144x128 .f32) (h : Fin 32) (r : Fin 4) (n : Fin 2048) (z : Fin 1) :
    logits x (ix4 h r n z) = x (ix2 ⟨h.val * 8192 + r.val * 2048 + n.val, by omega⟩ 64) := by
  pointwise [logits]

/-- The four rounds' weights. -/
def weights (l : FVec Ideal S32x4x2048x1 .f32) : FVec Ideal S32x4x2048x1 .f32 :=
  Host.exp (subf l (broadcastInDim S32x4x2048x1 ![0, 1, 2, 3] bcast_S32x1x2048x1_S32x4x2048x1_0_1_2_3 (addf (broadcastInDim S32x1x2048x1 ![0, 2, 3] bcast_S32x2048x1_S32x1x2048x1_0_2_3 (Host.reduce FloatOps.maximumf l (constant S_ .f32 0xFF800000#32) reducesTo_S32x4x2048x1_S32x2048x1_d1 h_S_)) (Host.log (broadcastInDim S32x1x2048x1 ![0, 2, 3] bcast_S32x2048x1_S32x1x2048x1_0_2_3 (Host.reduceAdd (Host.exp (subf l (broadcastInDim S32x4x2048x1 ![0, 1, 2, 3] bcast_S32x1x2048x1_S32x4x2048x1_0_1_2_3 (broadcastInDim S32x1x2048x1 ![0, 2, 3] bcast_S32x2048x1_S32x1x2048x1_0_2_3 (Host.reduce FloatOps.maximumf l (constant S_ .f32 0xFF800000#32) reducesTo_S32x4x2048x1_S32x2048x1_d1 h_S_))))) (constant S_ .f32 0x00000000#32) reducesTo_S32x4x2048x1_S32x2048x1_d1 h_S_))))))

theorem weights_apply (l : FVec Ideal S32x4x2048x1 .f32) (h : Fin 32) (r : Fin 4) (n : Fin 2048) (z : Fin 1) :
    weights l (ix4 h r n z) = weightOf (fun s => l (ix4 h s n 0)) r := by
  pointwise [weights, weightOf]
  rw [show z = 0 from Subsingleton.elim z 0]

/-- The rounds combined. -/
def rounds (x : FVec Ideal S262144x128 .f32) (p : FVec Ideal S32x4x2048x1 .f32) : FVec Ideal S32x2048x64 .f32 :=
  Host.reduceAdd (mulf (extractStridedSlice S32x4x2048x64 ![0, 0, 0, 0] (shapeCast S32x4x2048x128 x shapeCasts_S262144x128_S32x4x2048x128) slices_S32x4x2048x128_S32x4x2048x64_0_0_0_0) (broadcastInDim S32x4x2048x64 ![0, 1, 2, 3] bcast_S32x4x2048x1_S32x4x2048x64_0_1_2_3 p)) (constant S_ .f32 0x00000000#32) reducesTo_S32x4x2048x64_S32x2048x64_d1 h_S_

theorem rounds_apply (x : FVec Ideal S262144x128 .f32) (p : FVec Ideal S32x4x2048x1 .f32) (h : Fin 32) (n : Fin 2048) (d : Fin 64) :
    rounds x p (ix3 h n d) = ∑ r : Fin 4, x (ix2 ⟨h.val * 8192 + r.val * 2048 + n.val, by omega⟩ ⟨d.val, by omega⟩) * p (ix4 h r n 0) := by
  pointwise [rounds]

/-- The heads side by side, times the weights, plus the bias. -/
def out (o : FVec Ideal S32x2048x64 .f32) (w : FVec Ideal S1024x1024 .f32) (b : FVec Ideal S1024 .f32) : FVec Ideal S2x2048x1024 .f32 :=
  addf (Host.dotGeneral dot_S2x2048x1024_S1024x1024_S2x2048x1024_2_0_01_1_n_n none (shapeCast S2x2048x1024 (transpose S2x2048x16x64 [0, 2, 1, 3] (shapeCast S2x16x2048x64 o shapeCasts_S32x2048x64_S2x16x2048x64) transposes_S2x16x2048x64_S2x2048x16x64_0_2_1_3) shapeCasts_S2x2048x16x64_S2x2048x1024) w) (broadcastInDim S2x2048x1024 ![0, 1, 2] bcast_S1x1x1024_S2x2048x1024_0_1_2 (broadcastInDim S1x1x1024 ![2] bcast_S1024_S1x1x1024_2 b))

theorem out_apply (o : FVec Ideal S32x2048x64 .f32) (w : FVec Ideal S1024x1024 .f32) (b : FVec Ideal S1024 .f32) (i : Fin 2) (n : Fin 2048) (c : Fin 1024) :
    out o w b (ix3 i n c) = (∑ k : Fin 1024, o (ix3 ⟨i.val * 16 + k.val / 64, by omega⟩ n ⟨k.val % 64, by omega⟩) * w (ix2 k c)) + b (ix1 c) := by
  pointwise [out]

/-- The reference's result. -/
def whole (x : FVec Ideal S262144x128 .f32) (w : FVec Ideal S1024x1024 .f32) (b : FVec Ideal S1024 .f32) : FVec Ideal S2x2048x1024 .f32 :=
  out (rounds x (weights (logits x))) w b

theorem whole_apply (x : FVec Ideal S262144x128 .f32) (w : FVec Ideal S1024x1024 .f32) (b : FVec Ideal S1024 .f32) (i : Fin 2) (n : Fin 2048) (c : Fin 1024) :
    whole x w b (ix3 i n c) = resultAt x w b i n c := by
  unfold whole resultAt
  rw [out_apply]
  refine congrArg (· + b (ix1 c)) (Finset.sum_congr rfl fun k _ => congrArg (· * w (ix2 k c)) ?_)
  rw [rounds_apply]
  refine Finset.sum_congr rfl fun r _ => congrArg (x _ * ·) ?_
  rw [weights_apply]
  refine congrArg (weightOf · r) (funext fun s => ?_)
  rw [logits_apply]

end Cert.CombineReferenceIdeal.RefValue

end
-- ==== Proof.CombineVal.lean ====
/-
  The combination's grid writes, block by block, what its reference computes: the frames and the value claim.
-/
module

public import proofs.«01_k».proof.Defs
public import proofs.«01_k».proof.Proof.CombineRef
public import proofs.«01_k».proof.Proof.Gen.Combine.Frame
public import proofs.«01_k».proof.Proof.Gen.CombineIdeal.Value
public import proofs.«01_k».proof.Proof.Gen.CombineReferenceIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CombineIdeal.RefValue

open Cert.CombineIdeal Cert.CombineIdeal.Gen

variable (m : (ℓ : Loc nD τ sig) → Buf (Elt Ideal) ℓ)

/-- The windows' block indices at a point: batch `t / 8`, tile `t % 8`. -/
theorem idx : ∀ t : Fin cfg0.N, win0_0.index t = ![t.val / 8, 0, t.val % 8, 0] ∧ win0_1.index t = ![0, 0]
    ∧ win0_2.index t = ![0, 0] ∧ win0_3.index t = ![t.val / 8, t.val % 8, 0] ∧ t.val < 16 :=
  (by decide +kernel : ∀ t : Fin grid0.N, _)

/-- The block of rows at a point. -/
theorem rows_apply (c : Dev nD) (t : Fin cfg0.N) (h : Fin 16) (r : Fin 4) (n : Fin 256) (l : Fin 128)
    (R : Fin 262144) (hR : R.val = (t.val / 8 * 16 + h.val) * 8192 + r.val * 2048 + (t.val % 8 * 256 + n.val)) :
    (show FVec Ideal S16x4x256x128 .f32 from iblk m c 0 t) (ix4 h r n l) = (m ((c : Thread nD τ).loc main_arg0) : FVec Ideal S262144x128 .f32) (ix2 R l) := by
  blk_simp [iblk, idx t]
  entry_read
  pointwise
  blk_ext [idx t]

theorem weights_block (c : Dev nD) (t : Fin cfg0.N) :
    iblk m c 1 t = m ((c : Thread nD τ).loc main_arg1) := by
  blk_ext! [iblk, V, idx t]

theorem bias_block (c : Dev nD) (t : Fin cfg0.N) (z : Fin 1) (k : Fin 1024) :
    (show FVec Ideal S1x1024 .f32 from iblk m c 2 t) (ix2 z k) = (m ((c : Thread nD τ).loc main_arg2) : FVec Ideal S1024 .f32) (ix1 k) := by
  blk_simp [iblk, idx t]
  entry_read
  pointwise
  blk_ext [idx t]

theorem ld_logit (v : Vec Ideal S16x4x256x128 .f32) (h : Fin 16) (r : Fin 4) (n : Fin 256) :
    View.ld v r0_0 (ix4 h r n 0) = v (ix4 h r n 64) := by pointwise
theorem ld_row0 (v : Vec Ideal S16x4x256x128 .f32) (h : Fin 16) (n : Fin 256) (d : Fin 64) :
    View.ld v r0_1 (ix4 h 0 n d) = v (ix4 h 0 n ⟨d.val, by omega⟩) := by pointwise
theorem ld_row1 (v : Vec Ideal S16x4x256x128 .f32) (h : Fin 16) (n : Fin 256) (d : Fin 64) :
    View.ld v r0_2 (ix4 h 0 n d) = v (ix4 h 1 n ⟨d.val, by omega⟩) := by pointwise
theorem ld_row2 (v : Vec Ideal S16x4x256x128 .f32) (h : Fin 16) (n : Fin 256) (d : Fin 64) :
    View.ld v r0_3 (ix4 h 0 n d) = v (ix4 h 2 n ⟨d.val, by omega⟩) := by pointwise
theorem ld_row3 (v : Vec Ideal S16x4x256x128 .f32) (h : Fin 16) (n : Fin 256) (d : Fin 64) :
    View.ld v r0_4 (ix4 h 0 n d) = v (ix4 h 3 n ⟨d.val, by omega⟩) := by pointwise

/-- What the body stores at a point is the result at the index it stores it to. -/
theorem point (c : Dev nD) (t : Fin cfg0.N) (z : Fin 1) (n : Fin 256) (k : Fin 1024) :
    k0_pay1 (k0_pay2 (View.ld (iblk m c 0 t) r0_0))
      (k0_pay3 (View.ld (iblk m c 0 t) r0_0) (View.ld (iblk m c 0 t) r0_1) (View.ld (iblk m c 0 t) r0_2) (View.ld (iblk m c 0 t) r0_3))
      (View.ld (iblk m c 0 t) r0_4) (iblk m c 1 t) (iblk m c 2 t) (ix3 z n k)
    = resultAt (m ((c : Thread nD τ).loc main_arg0)) (m ((c : Thread nD τ).loc main_arg1)) (m ((c : Thread nD τ).loc main_arg2))
      ⟨t.val / 8, by have := (idx t).2.2.2.2; omega⟩ ⟨t.val % 8 * 256 + n.val, by omega⟩ k := by
  have ht := (idx t).2.2.2.2
  rw [pay1_eq, projected_apply, weights_block m c t]
  unfold resultAt
  refine congrArg₂ (· + ·) (Finset.sum_congr rfl fun j _ => congrArg (· * _) ?_) (bias_block m c t 0 k)
  rw [besides_apply, headsOf_apply, pay3_apply]
  simp only [pay2_apply]
  unfold mixed
  rw [Fin.sum_univ_four]
  have hw : (fun s => View.ld (iblk m c 0 t) r0_0 (ix4 ⟨j.val / 64, by omega⟩ s n 0)) = fun s =>
      (m ((c : Thread nD τ).loc main_arg0) : FVec Ideal S262144x128 .f32)
        (ix2 ⟨(t.val / 8 * 16 + j.val / 64) * 8192 + s.val * 2048 + (t.val % 8 * 256 + n.val), by omega⟩ 64) :=
    funext fun s => (ld_logit _ _ _ _).trans (rows_apply m c t _ _ _ _ _ rfl)
  rw [hw]
  exact congrArg₂ (· + ·) (congrArg₂ (· + ·) (congrArg₂ (· + ·)
    (congrArg (· * _) ((ld_row0 _ _ _ _).trans (rows_apply m c t _ _ _ _ _ rfl)))
    (congrArg (· * _) ((ld_row1 _ _ _ _).trans (rows_apply m c t _ _ _ _ _ rfl))))
    (congrArg (· * _) ((ld_row2 _ _ _ _).trans (rows_apply m c t _ _ _ _ _ rfl))))
    (congrArg (· * _) ((ld_row3 _ _ _ _).trans (rows_apply m c t _ _ _ _ _ rfl)))

theorem final (c : Dev nD) : (dats m 0 c).arrAt 3 cfg0.N
    = Cert.CombineReferenceIdeal.RefValue.whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨z, n, k, rfl⟩ : ∃ (z : Fin 1) (n : Fin 256) (k : Fin 1024), y = ix3 z n k := ⟨y 0, y 1, y 2, by funext a; fin_cases a <;> rfl⟩
  refine (point m c t z n k).trans ?_
  refine ((congrArg _ ?_).trans (Cert.CombineReferenceIdeal.RefValue.whole_apply _ _ _ _ _ _)).symm
  blk_ext [idx t]

end Cert.CombineIdeal.RefValue

namespace Cert.Proof

theorem frame_Combine : Cert.quiescent_Combine := fun m ρ _ => Cert.Combine.Gen.frame (F := Bits) m ρ
theorem frame_CombineIdeal : Cert.quiescent_CombineIdeal := fun m ρ _ => Cert.CombineIdeal.Gen.frame (F := Ideal) m ρ
theorem frame_CombineReferenceIdeal : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

theorem algebraic_combine : Cert.algebraic_CombineIdeal_CombineReferenceIdeal := by
  intro m g m' g' _ hagree
  refine ⟨fun c => (Cert.CombineIdeal.Gen.dats m 0 c).arrAt 3 Cert.CombineIdeal.cfg0.N, Cert.CombineIdeal.Value.run_blocks m g, ?_⟩
  refine (θ_run Cert.CombineReferenceIdeal.defs _ _).mono (fun r h c => ⟨?_, (h c).2⟩) (Cert.CombineReferenceIdeal.Value.run (F := Ideal) m' g')
  rw [(h c).1, (hagree c).1, (hagree c).2.1, (hagree c).2.2]
  exact (Cert.CombineIdeal.RefValue.final m c).symm

end Cert.Proof

end
-- ==== Proof.ProjectMath.lean ====
/-
  The first place of the largest of 32 numbers: by the sum of powers of two over the places that attain it, whose exponent
  is read off by halving, and by a fold that keeps the larger number and, of equal ones, the earlier place.
-/
module

public import Idealize.ShloMosaic.Lib.Pipeline.ValueKit

@[expose] public section

set_option maxRecDepth 16384

noncomputable section

namespace Cert.ProjectMath

open Idealize.ShloMosaic

/-- `c` is the first place at which `f` is largest. -/
def IsFirst {n : ℕ} (f : Fin n → EReal) (c : Fin n) : Prop := (∀ k, f k ≤ f c) ∧ ∀ k, k < c → f k < f c

theorem exists_first {n : ℕ} [NeZero n] (f : Fin n → EReal) : ∃ c, IsFirst f c := by
  obtain ⟨b, -, hb⟩ := Finset.exists_max_image Finset.univ f ⟨0, Finset.mem_univ _⟩
  obtain ⟨c, hc, hmin⟩ := Finset.exists_min_image (Finset.univ.filter fun k => f k = f b) id ⟨b, by simp⟩
  have e : f c = f b := (Finset.mem_filter.1 hc).2
  refine ⟨c, fun k => e ▸ hb k (Finset.mem_univ _), fun k hk => lt_of_le_of_ne (e ▸ hb k (Finset.mem_univ _)) fun h => ?_⟩
  exact absurd (hmin k (Finset.mem_filter.2 ⟨Finset.mem_univ _, h.trans e⟩)) (not_le.2 hk)

/-! ## The sum of powers -/

/-- The powers of two at the places where `f` is `M`, the first place's largest. -/
def powers (f : Fin 32 → EReal) (M : EReal) : EReal := ∑ c : Fin 32, (if f c = M then 1 else 0) * (((2 : ℝ) ^ (31 - c.val) : ℝ) : EReal)

theorem tail_lt : ∀ a : Fin 32, (∑ c : Fin 32, if a ≤ c then 2 ^ (31 - c.val) else 0) < 2 ^ (31 - a.val + 1) := by decide +kernel

theorem powers_eq (f : Fin 32 → EReal) (a : Fin 32) (h : IsFirst f a) :
    ∃ v : ℝ, powers f (f a) = v ∧ 2 ^ (31 - a.val) ≤ v ∧ v < 2 ^ (31 - a.val + 1) := by
  classical
  let S : ℕ := ∑ c : Fin 32, if f c = f a then 2 ^ (31 - c.val) else 0
  have cast : powers f (f a) = ((S : ℝ) : EReal) := by
    have : ∀ s : Finset (Fin 32), ∑ c ∈ s, (if f c = f a then 1 else 0) * (((2 : ℝ) ^ (31 - c.val) : ℝ) : EReal)
        = (((∑ c ∈ s, if f c = f a then 2 ^ (31 - c.val) else 0 : ℕ) : ℝ) : EReal) := by
      intro s
      induction s using Finset.induction_on with
      | empty => simp
      | insert c s hc ih =>
        rw [Finset.sum_insert hc, Finset.sum_insert hc, ih, Nat.cast_add, EReal.coe_add]
        congr 1
        split <;> simp
    exact this _
  have lo : 2 ^ (31 - a.val) ≤ S := by
    refine le_trans (le_of_eq ?_) (Finset.single_le_sum (f := fun c : Fin 32 => if f c = f a then 2 ^ (31 - c.val) else 0)
      (fun _ _ => Nat.zero_le _) (Finset.mem_univ a))
    simp
  have hi : S < 2 ^ (31 - a.val + 1) := by
    refine lt_of_le_of_lt (Finset.sum_le_sum fun c _ => ?_) (tail_lt a)
    by_cases hc : a ≤ c
    · rw [if_pos hc]
      split <;> simp
    · rw [if_neg hc, if_neg (h.2 c (not_le.1 hc)).ne]
  exact ⟨S, cast, by exact_mod_cast lo, by exact_mod_cast hi⟩

/-! ## Words of powers -/

/-- The word with exponent `e` and no fraction is that power of two. -/
theorem word_eq (e : Fin 255) (he : e.val ≠ 0) : Ideal.ofBits FTy.f32 (BitVec.ofNat 32 e.val <<< 23) = (((2 : ℝ) ^ ((e.val : ℤ) - 127) : ℝ) : EReal) := by
  have fields : ∀ e : Fin 255, (BitVec.extractLsb' (8 + 23) 1 (BitVec.ofNat 32 e.val <<< 23) == 1#1) = false
      ∧ (BitVec.extractLsb' 23 8 (BitVec.ofNat 32 e.val <<< 23)).toNat = e.val ∧ (BitVec.extractLsb' 0 23 (BitVec.ofNat 32 e.val <<< 23)).toNat = 0 := by
    decide +kernel
  obtain ⟨h1, h2, h3⟩ := fields e
  show Ideal.ieee 8 23 _ = _
  unfold Ideal.ieee
  simp only [h1, h2, h3]
  rw [if_neg (by omega), if_neg he]
  refine congrArg _ ?_
  have hz : ((e.val : ℤ) - (2 ^ (8 - 1) - 1) - ((23 : ℕ) : ℤ)) = ((e.val : ℤ) - 127) - (23 : ℕ) := by norm_num
  have hn : (((2 ^ 23 + 0 : ℕ) : ℝ)) = (2 : ℝ) ^ 23 := by norm_num
  rw [hz, hn, zpow_sub₀ (by norm_num), zpow_natCast, if_neg (by decide), one_mul, mul_div_cancel₀ _ (by positivity)]

theorem pow_word (p : BitVec 32) (e : Fin 255) (k : ℕ) (hp : p = BitVec.ofNat 32 e.val <<< 23 ∧ e.val ≠ 0) (hk : (e.val : ℤ) - 127 = k) :
    Ideal.ofBits FTy.f32 p = ((2 ^ k : ℝ) : EReal) := by
  rw [hp.1, word_eq e hp.2, hk, zpow_natCast]

theorem inv_word (p : BitVec 32) (e : Fin 255) (k : ℕ) (hp : p = BitVec.ofNat 32 e.val <<< 23 ∧ e.val ≠ 0) (hk : (e.val : ℤ) - 127 = -k) :
    Ideal.ofBits FTy.f32 p = (((2 ^ k : ℝ)⁻¹ : ℝ) : EReal) := by
  rw [hp.1, word_eq e hp.2, hk, zpow_neg, zpow_natCast]

/-! ## The exponent by halving -/

/-- Whether `x` is at least the number of the word `p`. -/
def big (p : BitVec 32) (x : EReal) : BitVec 1 := FloatOps.cmpf (F := Ideal) (φ := .f32) .oge x (Ideal.ofBits FTy.f32 p)

/-- One step: where `x` is at least `p`, it is multiplied by `q`. -/
def reduced (p q : BitVec 32) (x : EReal) : EReal := Scalar.select (big p x) (x * Ideal.ofBits FTy.f32 q) x

/-- A number between the powers `a` and `a + 1` of two. -/
def Between (a : ℕ) (x : EReal) : Prop := ∃ v : ℝ, x = v ∧ 2 ^ a ≤ v ∧ v < 2 ^ (a + 1)

section Step

variable {p q : BitVec 32} {k a : ℕ} {x : EReal} (hp : Ideal.ofBits FTy.f32 p = ((2 ^ k : ℝ) : EReal))
  (hq : Ideal.ofBits FTy.f32 q = (((2 ^ k : ℝ)⁻¹ : ℝ) : EReal)) (hx : Between a x)
include hp hx

theorem big_eq : big p x = BitVec.ofBool (decide (k ≤ a)) := by
  obtain ⟨v, rfl, lo, hi⟩ := hx
  have : (((2 ^ k : ℝ) : EReal) ≤ (v : EReal)) ↔ k ≤ a := by
    rw [EReal.coe_le_coe_iff]
    constructor
    · intro h
      by_contra hn
      exact absurd (h.trans_lt hi) (not_lt.2 (pow_le_pow_right₀ (by norm_num) (by omega)))
    · exact fun h => (pow_le_pow_right₀ (by norm_num) h).trans lo
  unfold big
  rw [hp]
  show BitVec.ofBool (decide (((2 ^ k : ℝ) : EReal) ≤ (v : EReal))) = _
  simp only [this]

include hq in
theorem reduced_between : Between (if k ≤ a then a - k else a) (reduced p q x) := by
  unfold reduced
  rw [big_eq hp hx]
  by_cases h : k ≤ a
  · obtain ⟨v, rfl, lo, hi⟩ := hx
    rw [if_pos h, hq]
    refine ⟨v * (2 ^ k)⁻¹, ?_, ?_, ?_⟩
    · simp [h, Scalar.select]
    · rw [← div_eq_mul_inv, le_div_iff₀ (by positivity), ← pow_add, Nat.sub_add_cancel h]
      exact lo
    · rw [← div_eq_mul_inv, div_lt_iff₀ (by positivity), ← pow_add, show a - k + 1 + k = a + 1 by omega]
      exact hi
  · rw [if_neg h]
    simpa [h, Scalar.select] using hx

end Step

/-- The 158 less the exponent, biased by 127, as the body reads it. -/
def place (x : EReal) : BitVec 32 :=
  let x0 := reduced 0x4F800000#32 0x2F800000#32 x
  let x1 := reduced 0x47800000#32 0x37800000#32 x0
  let x2 := reduced 0x43800000#32 0x3B800000#32 x1
  let x3 := reduced 0x41800000#32 0x3D800000#32 x2
  let x4 := reduced 0x40800000#32 0x3E800000#32 x3
  158#32 - (Scalar.select (big 0x3F800000#32 x) 127#32 0#32 + Scalar.select (big 0x4F800000#32 x) 32#32 0#32 + Scalar.select (big 0x47800000#32 x0) 16#32 0#32 + Scalar.select (big 0x43800000#32 x1) 8#32 0#32
    + Scalar.select (big 0x41800000#32 x2) 4#32 0#32 + Scalar.select (big 0x40800000#32 x3) 2#32 0#32
    + Scalar.select (big 0x40000000#32 x4) 1#32 0#32)

theorem place_eq (c : Fin 32) (x : EReal) (hx : Between (31 - c.val) x) : place x = BitVec.ofNat 32 c.val := by
  have h0 := pow_word 0x3F800000#32 127 0 (by decide) (by norm_num)
  have h32 := pow_word 0x4F800000#32 159 32 (by decide) (by norm_num)
  have h16 := pow_word 0x47800000#32 143 16 (by decide) (by norm_num)
  have h8 := pow_word 0x43800000#32 135 8 (by decide) (by norm_num)
  have h4 := pow_word 0x41800000#32 131 4 (by decide) (by norm_num)
  have h2 := pow_word 0x40800000#32 129 2 (by decide) (by norm_num)
  have h1 := pow_word 0x40000000#32 128 1 (by decide) (by norm_num)
  have q32 := inv_word 0x2F800000#32 95 32 (by decide) (by norm_num)
  have q16 := inv_word 0x37800000#32 111 16 (by decide) (by norm_num)
  have q8 := inv_word 0x3B800000#32 119 8 (by decide) (by norm_num)
  have q4 := inv_word 0x3D800000#32 123 4 (by decide) (by norm_num)
  have q2 := inv_word 0x3E800000#32 125 2 (by decide) (by norm_num)
  have b0 := reduced_between h32 q32 hx
  have b1 := reduced_between h16 q16 b0
  have b2 := reduced_between h8 q8 b1
  have b3 := reduced_between h4 q4 b2
  have b4 := reduced_between h2 q2 b3
  unfold place
  simp only [big_eq h0 hx, big_eq h32 hx, big_eq h16 b0, big_eq h8 b1, big_eq h4 b2, big_eq h2 b3, big_eq h1 b4]
  clear b0 b1 b2 b3 b4 hx
  revert c
  decide +kernel

/-- The place read off the powers of two where `f` is largest. -/
theorem place_powers (f : Fin 32 → EReal) (a : Fin 32) (h : IsFirst f a) : place (powers f (f a)) = BitVec.ofNat 32 a.val :=
  place_eq a _ (powers_eq f a h)

/-! ## The largest by halving -/

/-- `t` holds the largest of `f` over the lanes that are equal modulo `w`. -/
def Tops (f : Fin 128 → EReal) (w : ℕ) (t : Fin w → EReal) : Prop :=
  ∀ l : Fin w, (∀ j : Fin 128, j.val % w = l.val → f j ≤ t l) ∧ ∃ j : Fin 128, j.val % w = l.val ∧ t l = f j

theorem tops_all (f : Fin 128 → EReal) : Tops f 128 f := fun l =>
  ⟨fun j h => by rw [show j = l from Fin.ext (by omega)], l, Nat.mod_eq_of_lt l.isLt, rfl⟩

theorem halve {f : Fin 128 → EReal} {w : ℕ} {t : Fin (w + w) → EReal} {s : Fin w → EReal} (ht : Tops f (w + w) t)
    (hs : ∀ l : Fin w, s l = max (t ⟨l.val, by omega⟩) (t ⟨w + l.val, by omega⟩)) : Tops f w s := by
  intro l
  have hw : 0 < w := Nat.lt_of_le_of_lt (Nat.zero_le _) l.isLt
  have down (j : ℕ) : j % (w + w) % w = j % w := Nat.mod_mod_of_dvd j ⟨2, by omega⟩
  constructor
  · intro j hj
    rw [hs]
    have hr : j.val % (w + w) < w + w := Nat.mod_lt _ (by omega)
    have hd := down j.val
    by_cases h : j.val % (w + w) < w
    · rw [Nat.mod_eq_of_lt h] at hd
      exact ((ht ⟨l.val, by omega⟩).1 j (hd.trans hj)).trans (le_max_left _ _)
    · refine ((ht ⟨w + l.val, by omega⟩).1 j ?_).trans (le_max_right _ _)
      rw [Nat.mod_eq_sub_mod (not_lt.1 h), Nat.mod_eq_of_lt (by omega)] at hd
      simp only
      omega
  · rw [hs]
    rcases max_choice (t ⟨l.val, by omega⟩) (t ⟨w + l.val, by omega⟩) with h | h <;> rw [h]
    · obtain ⟨j, hj, e⟩ := (ht ⟨l.val, by omega⟩).2
      exact ⟨j, by rw [← down, hj]; exact Nat.mod_eq_of_lt l.isLt, e⟩
    · obtain ⟨j, hj, e⟩ := (ht ⟨w + l.val, by omega⟩).2
      exact ⟨j, by rw [← down, hj, Nat.add_mod_left]; exact Nat.mod_eq_of_lt l.isLt, e⟩

/-- Lane `4 c + r`. -/
def lane (r : Fin 4) (c : Fin 32) : Fin 128 := ⟨4 * c.val + r.val, by omega⟩

/-- The largest over a hash round's lanes, at its first place. -/
theorem tops_first {f : Fin 128 → EReal} {t : Fin 4 → EReal} (ht : Tops f 4 t) (r : Fin 4) (a : Fin 32) (h : IsFirst (fun c => f (lane r c)) a) :
    t r = f (lane r a) := by
  apply le_antisymm
  · obtain ⟨j, hj, e⟩ := (ht r).2
    rw [e, show j = lane r ⟨j.val / 4, by omega⟩ from Fin.ext (by simp only [lane]; omega)]
    exact h.1 _
  · exact (ht r).1 _ (by simp only [lane]; omega)

/-- A sum over 128 lanes whose terms off a hash round's are zero. -/
theorem sum_lanes (g : Fin 128 → EReal) (r : Fin 4) (h : ∀ j : Fin 128, j.val % 4 ≠ r.val → g j = 0) : ∑ j, g j = ∑ c, g (lane r c) := by
  symm
  refine Finset.sum_of_injOn (lane r) (fun a _ b _ e => ?_) (fun _ _ => Finset.mem_coe.2 (Finset.mem_univ _)) (fun j _ hj => ?_) (fun _ _ => rfl)
  · have := congrArg Fin.val e
    exact Fin.ext (by simp only [lane] at this; omega)
  · apply h
    intro e
    exact hj ⟨⟨j.val / 4, by omega⟩, Finset.mem_coe.2 (Finset.mem_univ _), Fin.ext (by simp only [lane]; omega)⟩

end Cert.ProjectMath

end
-- ==== Proof.ProjectBody.lean ====
/-
  The projection's body, read at an index: a head's packed rows, and the place of the largest of its hashes.
-/
module

public import proofs.«01_k».proof.Defs
public import proofs.«01_k».proof.Proof.ProjectMath
public import proofs.«01_k».proof.Proof.Gen.ProjectIdeal.Frame
public import Idealize.ShloMosaic.Lib.Pipeline.ValueKit

@[expose] public section

set_option maxRecDepth 16384

noncomputable section

namespace Cert.ProjectIdeal.RefValue

open Cert.ProjectIdeal Cert.ProjectIdeal.Gen Idealize.ShloMosaic Cert.ProjectMath

/-! ## A head's rows -/

/-- A head's columns. -/
def cols (v : FVec Ideal S256x1024 .f32) (o : ℕ) (h : Shape.Slices S256x1024 ![0, o] S256x64) : FVec Ideal S256x64 .f32 :=
  extractStridedSlice S256x64 ![0, o] v h

theorem cols_apply (v : FVec Ideal S256x1024 .f32) (o : ℕ) (h : Shape.Slices S256x1024 ![0, o] S256x64) (ho : o + 64 ≤ 1024) (n : Fin 256) (d : Fin 64) :
    cols v o h (ix2 n d) = v (ix2 n ⟨o + d.val, by omega⟩) := by
  pointwise [cols]
  blk_ext []

/-- The queries' and the values' columns of a head side by side. -/
def packed (q v : FVec Ideal S256x64 .f32) : FVec Ideal S1x256x128 .f32 :=
  shapeCast S1x256x128 (concatenate S256x128 1 [⟨S256x64, q⟩, ⟨S256x64, v⟩] concatenates_S256x64_S256x64_S256x128_d1) shapeCasts_S256x128_S1x256x128

theorem packed_apply (q v : FVec Ideal S256x64 .f32) (z : Fin 1) (n : Fin 256) (l : Fin 128) :
    packed q v (ix3 z n l) = if h : l.val < 64 then q (ix2 n ⟨l.val, h⟩) else v (ix2 n ⟨l.val - 64, by omega⟩) := by
  pointwise [packed]

/-! ## The hashes and their largest -/

/-- The hashes of a head's rows. -/
def hashed (q : FVec Ideal S256x64 .f32) (r : FVec Ideal S64x128 .f32) : FVec Ideal S256x128 .f32 :=
  matmul (φ₁ := .f32) (φ₂ := .f32) dot_S256x64_S64x128_S256x128_1_0_0_1_n_n none q r (constant S256x128 .f32 0x00000000#32)

theorem hashed_apply (q : FVec Ideal S256x64 .f32) (r : FVec Ideal S64x128 .f32) (n : Fin 256) (j : Fin 128) :
    hashed q r (ix2 n j) = ∑ d : Fin 64, q (ix2 n d) * r (ix2 d j) := by
  pointwise [hashed]

def top64 (x : FVec Ideal S256x128 .f32) : FVec Ideal S256x64 .f32 :=
  maximumf (extractStridedSlice S256x64 ![0, 0] x slices_S256x128_o0_0_S256x64) (extractStridedSlice S256x64 ![0, 64] x slices_S256x128_o0_64_S256x64)
def top32 (x : FVec Ideal S256x64 .f32) : FVec Ideal S256x32 .f32 :=
  maximumf (extractStridedSlice S256x32 ![0, 0] x slices_S256x64_o0_0_S256x32) (extractStridedSlice S256x32 ![0, 32] x slices_S256x64_o0_32_S256x32)
def top16 (x : FVec Ideal S256x32 .f32) : FVec Ideal S256x16 .f32 :=
  maximumf (extractStridedSlice S256x16 ![0, 0] x slices_S256x32_o0_0_S256x16) (extractStridedSlice S256x16 ![0, 16] x slices_S256x32_o0_16_S256x16)
def top8 (x : FVec Ideal S256x16 .f32) : FVec Ideal S256x8 .f32 :=
  maximumf (extractStridedSlice S256x8 ![0, 0] x slices_S256x16_o0_0_S256x8) (extractStridedSlice S256x8 ![0, 8] x slices_S256x16_o0_8_S256x8)
def top4 (x : FVec Ideal S256x8 .f32) : FVec Ideal S256x4 .f32 :=
  maximumf (extractStridedSlice S256x4 ![0, 0] x slices_S256x8_o0_0_S256x4) (extractStridedSlice S256x4 ![0, 4] x slices_S256x8_o0_4_S256x4)

theorem top64_apply (x : FVec Ideal S256x128 .f32) (n : Fin 256) (l : Fin 64) : top64 x (ix2 n l) = max (x (ix2 n ⟨l.val, by omega⟩)) (x (ix2 n ⟨64 + l.val, by omega⟩)) := by
  pointwise [top64]
theorem top32_apply (x : FVec Ideal S256x64 .f32) (n : Fin 256) (l : Fin 32) : top32 x (ix2 n l) = max (x (ix2 n ⟨l.val, by omega⟩)) (x (ix2 n ⟨32 + l.val, by omega⟩)) := by
  pointwise [top32]
theorem top16_apply (x : FVec Ideal S256x32 .f32) (n : Fin 256) (l : Fin 16) : top16 x (ix2 n l) = max (x (ix2 n ⟨l.val, by omega⟩)) (x (ix2 n ⟨16 + l.val, by omega⟩)) := by
  pointwise [top16]
theorem top8_apply (x : FVec Ideal S256x16 .f32) (n : Fin 256) (l : Fin 8) : top8 x (ix2 n l) = max (x (ix2 n ⟨l.val, by omega⟩)) (x (ix2 n ⟨8 + l.val, by omega⟩)) := by
  pointwise [top8]
theorem top4_apply (x : FVec Ideal S256x8 .f32) (n : Fin 256) (l : Fin 4) : top4 x (ix2 n l) = max (x (ix2 n ⟨l.val, by omega⟩)) (x (ix2 n ⟨4 + l.val, by omega⟩)) := by
  pointwise [top4]

/-- The largest of each round's hashes. -/
def tops (x : FVec Ideal S256x128 .f32) : FVec Ideal S256x4 .f32 := top4 (top8 (top16 (top32 (top64 x))))

theorem tops_tops (x : FVec Ideal S256x128 .f32) (n : Fin 256) : Tops (fun j => x (ix2 n j)) 4 fun r => tops x (ix2 n r) :=
  halve (w := 4) (t := fun l => top8 (top16 (top32 (top64 x))) (ix2 n l))
    (halve (w := 8) (t := fun l => top16 (top32 (top64 x)) (ix2 n l))
      (halve (w := 16) (t := fun l => top32 (top64 x) (ix2 n l))
        (halve (w := 32) (t := fun l => top64 x (ix2 n l))
          (halve (w := 64) (tops_all _) fun l => top64_apply x n l) fun l => top32_apply _ n l) fun l => top16_apply _ n l) fun l => top8_apply _ n l)
    fun l => top4_apply _ n l

/-- The four rounds' values repeated over the lanes. -/
def spread (t : FVec Ideal S256x4 .f32) : FVec Ideal S256x128 .f32 :=
  have a : FVec Ideal S256x8 .f32 := concatenate S256x8 1 [⟨S256x4, t⟩, ⟨S256x4, t⟩] concatenates_S256x4_S256x4_S256x8_d1
  have b : FVec Ideal S256x16 .f32 := concatenate S256x16 1 [⟨S256x8, a⟩, ⟨S256x8, a⟩] concatenates_S256x8_S256x8_S256x16_d1
  have c : FVec Ideal S256x32 .f32 := concatenate S256x32 1 [⟨S256x16, b⟩, ⟨S256x16, b⟩] concatenates_S256x16_S256x16_S256x32_d1
  have d : FVec Ideal S256x64 .f32 := concatenate S256x64 1 [⟨S256x32, c⟩, ⟨S256x32, c⟩] concatenates_S256x32_S256x32_S256x64_d1
  concatenate S256x128 1 [⟨S256x64, d⟩, ⟨S256x64, d⟩] concatenates_S256x64_S256x64_S256x128_d1

theorem twice8 (t : FVec Ideal S256x4 .f32) (n : Fin 256) (j : Fin 8) :
    concatenate S256x8 1 [⟨S256x4, t⟩, ⟨S256x4, t⟩] concatenates_S256x4_S256x4_S256x8_d1 (ix2 n j) = t (ix2 n ⟨j.val % 4, by omega⟩) := by
  pointwise
  split <;> blk_ext []
theorem twice16 (t : FVec Ideal S256x8 .f32) (n : Fin 256) (j : Fin 16) :
    concatenate S256x16 1 [⟨S256x8, t⟩, ⟨S256x8, t⟩] concatenates_S256x8_S256x8_S256x16_d1 (ix2 n j) = t (ix2 n ⟨j.val % 8, by omega⟩) := by
  pointwise
  split <;> blk_ext []
theorem twice32 (t : FVec Ideal S256x16 .f32) (n : Fin 256) (j : Fin 32) :
    concatenate S256x32 1 [⟨S256x16, t⟩, ⟨S256x16, t⟩] concatenates_S256x16_S256x16_S256x32_d1 (ix2 n j) = t (ix2 n ⟨j.val % 16, by omega⟩) := by
  pointwise
  split <;> blk_ext []
theorem twice64 (t : FVec Ideal S256x32 .f32) (n : Fin 256) (j : Fin 64) :
    concatenate S256x64 1 [⟨S256x32, t⟩, ⟨S256x32, t⟩] concatenates_S256x32_S256x32_S256x64_d1 (ix2 n j) = t (ix2 n ⟨j.val % 32, by omega⟩) := by
  pointwise
  split <;> blk_ext []
theorem twice128 (t : FVec Ideal S256x64 .f32) (n : Fin 256) (j : Fin 128) :
    concatenate S256x128 1 [⟨S256x64, t⟩, ⟨S256x64, t⟩] concatenates_S256x64_S256x64_S256x128_d1 (ix2 n j) = t (ix2 n ⟨j.val % 64, by omega⟩) := by
  pointwise
  split <;> blk_ext []

theorem spread_apply (t : FVec Ideal S256x4 .f32) (n : Fin 256) (j : Fin 128) : spread t (ix2 n j) = t (ix2 n ⟨j.val % 4, by omega⟩) := by
  unfold spread
  rw [twice128, twice64, twice32, twice16, twice8]
  exact congrArg t (congrArg (ix2 n) (Fin.ext (by simp only; omega)))

/-- Where a hash is its round's largest. -/
def largest (x : FVec Ideal S256x128 .f32) : IVec S256x128 1 := cmpf .oeq x (spread (tops x))

theorem largest_apply (x : FVec Ideal S256x128 .f32) (n : Fin 256) (j : Fin 128) :
    largest x (ix2 n j) = BitVec.ofBool (decide (x (ix2 n j) = tops x (ix2 n ⟨j.val % 4, by omega⟩))) := by
  rw [show tops x (ix2 n ⟨j.val % 4, by omega⟩) = spread (tops x) (ix2 n j) from (spread_apply _ n j).symm]
  rfl

/-! ## The weights of the places -/

/-- The remainder by four and the quotient by four, as the body computes them. -/
def residue (v : BitVec 32) : BitVec 32 :=
  Scalar.select (IntOp.andi (IntOp.xori (IntOp.cmpi .slt (IntOp.remsi ArithUnit.vector v (Scalar.select (Scalar.cmpi .eq 4#32 0#32) 1#32 4#32)) 0#32)
      (Scalar.cmpi .slt (Scalar.select (Scalar.cmpi .eq 4#32 0#32) 1#32 4#32) 0#32))
      (IntOp.cmpi .ne (IntOp.remsi ArithUnit.vector v (Scalar.select (Scalar.cmpi .eq 4#32 0#32) 1#32 4#32)) 0#32))
    (IntOp.addi (IntOp.remsi ArithUnit.vector v (Scalar.select (Scalar.cmpi .eq 4#32 0#32) 1#32 4#32)) (Scalar.select (Scalar.cmpi .eq 4#32 0#32) 1#32 4#32))
    (IntOp.remsi ArithUnit.vector v (Scalar.select (Scalar.cmpi .eq 4#32 0#32) 1#32 4#32))
def quotient (v : BitVec 32) : BitVec 32 :=
  Scalar.select (IntOp.andi (IntOp.cmpi .ne (IntOp.subi (BitVec.setWidth 32 (IntOp.cmpi .sgt v 0#32)) (BitVec.setWidth 32 (IntOp.cmpi .slt v 0#32)))
      (Scalar.subi (Scalar.extui (Scalar.cmpi .sgt 4#32 0#32)) (Scalar.extui (Scalar.cmpi .slt 4#32 0#32))))
      (IntOp.cmpi .ne (IntOp.remsi ArithUnit.vector v 4#32) 0#32))
    (IntOp.subi (IntOp.divsi ArithUnit.vector v 4#32) 1#32) (IntOp.divsi ArithUnit.vector v 4#32)

theorem residue_eq : ∀ (j : Fin 128) (r : Fin 4),
    IntOp.cmpi .eq (residue (BitVec.ofNat 32 j.val)) (BitVec.ofNat 32 r.val) = BitVec.ofBool (decide (j.val % 4 = r.val)) := by decide +kernel
theorem quotient_eq : ∀ j : Fin 128,
    IntOp.shli ArithUnit.vector (IntOp.subi 158#32 (quotient (BitVec.ofNat 32 j.val))) 23#32 = BitVec.ofNat 32 (158 - j.val / 4) <<< 23 := by decide +kernel

/-- The weights: in each round's column, descending powers of two on its lanes. -/
def weight : FVec Ideal S128x4 .f32 :=
  k0_pay7 (iota .tc S128x4 32 [0] iota_S128x4_d0_w32) (iota .tc S128x4 32 [1] iota_S128x4_d1_w32) (k0_pay6 (F := Ideal))

theorem weight_apply (j : Fin 128) (r : Fin 4) :
    weight (ix2 j r) = if j.val % 4 = r.val then (((2 : ℝ) ^ (31 - j.val / 4) : ℝ) : EReal) else 0 := by
  have e : weight (ix2 j r) = Scalar.select (IntOp.cmpi .eq (residue (BitVec.ofNat 32 j.val)) (BitVec.ofNat 32 r.val))
      (Ideal.ofBits FTy.f32 (IntOp.shli ArithUnit.vector (IntOp.subi 158#32 (quotient (BitVec.ofNat 32 j.val))) 23#32)) 0 := by
    pointwise [weight, k0_pay7, k0_pay6]
    rfl
  rw [e, residue_eq, quotient_eq, pow_word _ ⟨158 - j.val / 4, by omega⟩ (31 - j.val / 4) ⟨rfl, by simp only; omega⟩ (by simp only; omega)]
  by_cases h : j.val % 4 = r.val <;> simp [h, Scalar.select]

/-- The weights summed over the largest hashes' lanes. -/
def score (e : IVec S256x128 1) (w : FVec Ideal S128x4 .f32) : FVec Ideal S4x256 .f32 :=
  transpose S4x256 [1, 0] (matmul (φ₁ := .f32) (φ₂ := .f32) dot_S256x128_S128x4_S256x4_1_0_0_1_n_n none
    (select e (broadcast S256x128 (Scalar.ofBits .f32 0x3F800000#32)) (broadcast S256x128 (Scalar.ofBits .f32 0x00000000#32))) w
    (constant S256x4 .f32 0x00000000#32)) transposes_S256x4_p1_0_S4x256

theorem score_apply (e : IVec S256x128 1) (w : FVec Ideal S128x4 .f32) (r : Fin 4) (n : Fin 256) :
    score e w (ix2 r n) = ∑ j : Fin 128, Scalar.select (e (ix2 n j)) 1 0 * w (ix2 j r) := by
  have one : Ideal.ofBits FTy.f32 0x3F800000#32 = 1 := by
    rw [pow_word 0x3F800000#32 127 0 (by decide) (by norm_num)]
    simp
  pointwise [score]
  try rw [one]

theorem score_eq (x : FVec Ideal S256x128 .f32) (n : Fin 256) (r : Fin 4) (a : Fin 32) (h : IsFirst (fun c => x (ix2 n (lane r c))) a) :
    score (largest x) weight (ix2 r n) = powers (fun c => x (ix2 n (lane r c))) (x (ix2 n (lane r a))) := by
  rw [score_apply, sum_lanes _ r fun j hj => by rw [weight_apply, if_neg hj, mul_zero]]
  unfold powers
  refine Finset.sum_congr rfl fun c _ => ?_
  have m4 : (lane r c).val % 4 = r.val := by simp only [lane]; omega
  have d4 : (lane r c).val / 4 = c.val := by simp only [lane]; omega
  rw [weight_apply, if_pos m4, d4, largest_apply, show (⟨(lane r c).val % 4, by omega⟩ : Fin 4) = r from Fin.ext m4,
    show tops x (ix2 n r) = _ from tops_first (tops_tops x n) r a h]
  by_cases e : x (ix2 n (lane r c)) = x (ix2 n (lane r a)) <;> simp [e, Scalar.select]

/-! ## The place -/

/-- One step: where the sum is at least `p`, it is multiplied by `q`. -/
def step (p q : BitVec 32) (s : FVec Ideal S4x256 .f32) : FVec Ideal S4x256 .f32 :=
  select (cmpf .oge s (broadcast S4x256 (Scalar.ofBits .f32 p))) (mulf s (broadcast S4x256 (Scalar.ofBits .f32 q))) s

/-- A step's share of the exponent. -/
def share (p k : BitVec 32) (s : FVec Ideal S4x256 .f32) : IVec S4x256 32 :=
  select (cmpf .oge s (broadcast S4x256 (Scalar.ofBits .f32 p))) (broadcast S4x256 k) (broadcast S4x256 0#32)

/-- The places read off the sums. -/
def places (s : FVec Ideal S4x256 .f32) : IVec S1x4x256 32 :=
  have s0 : FVec Ideal S4x256 .f32 := step 0x4F800000#32 0x2F800000#32 s
  have s1 : FVec Ideal S4x256 .f32 := step 0x47800000#32 0x37800000#32 s0
  have s2 : FVec Ideal S4x256 .f32 := step 0x43800000#32 0x3B800000#32 s1
  have s3 : FVec Ideal S4x256 .f32 := step 0x41800000#32 0x3D800000#32 s2
  have s4 : FVec Ideal S4x256 .f32 := step 0x40800000#32 0x3E800000#32 s3
  shapeCast S1x4x256 (subi (broadcast S4x256 158#32) (addi (addi (addi (addi (addi (addi (share 0x3F800000#32 127#32 s) (share 0x4F800000#32 32#32 s)) (share 0x47800000#32 16#32 s0))
    (share 0x43800000#32 8#32 s1)) (share 0x41800000#32 4#32 s2)) (share 0x40800000#32 2#32 s3)) (share 0x40000000#32 1#32 s4)))
    shapeCasts_S4x256_S1x4x256

theorem cast_apply (x : IVec S4x256 32) (z : Fin 1) (r : Fin 4) (n : Fin 256) :
    shapeCast S1x4x256 x shapeCasts_S4x256_S1x4x256 (ix3 z r n) = x (ix2 r n) := by pointwise

theorem places_apply (s : FVec Ideal S4x256 .f32) (z : Fin 1) (r : Fin 4) (n : Fin 256) : places s (ix3 z r n) = place (s (ix2 r n)) := by
  unfold places
  rw [cast_apply]
  rfl

/-- A head's places of the largest hashes. -/
def bucketed (q : FVec Ideal S256x64 .f32) (rot : FVec Ideal S64x128 .f32) (w : FVec Ideal S128x4 .f32) : IVec S1x4x256 32 :=
  places (score (largest (hashed q rot)) w)

theorem bucketed_apply (q : FVec Ideal S256x64 .f32) (rot : FVec Ideal S64x128 .f32) (z : Fin 1) (r : Fin 4) (n : Fin 256) (a : Fin 32)
    (h : IsFirst (fun c => ∑ d : Fin 64, q (ix2 n d) * rot (ix2 d (lane r c))) a) :
    bucketed q rot weight (ix3 z r n) = BitVec.ofNat 32 a.val := by
  have h' : IsFirst (fun c => hashed q rot (ix2 n (lane r c))) a := by
    simpa only [hashed_apply] using h
  unfold bucketed
  rw [places_apply, score_eq _ n r a h']
  exact place_powers _ a h'

end Cert.ProjectIdeal.RefValue

end
-- ==== Proof.ProjectVal.lean ====
/-
  The projection's grid writes, block by block, the packed rows and the buckets of its arguments.
-/
module

public import proofs.«01_k».proof.Defs
public import proofs.«01_k».proof.Proof.ProjectBody
public import proofs.«01_k».proof.Proof.Gen.ProjectIdeal.Value

@[expose] public section

set_option maxRecDepth 16384

noncomputable section

open Idealize.ShloMosaic Idealize.ShloMosaic.TcCoe Idealize.SL.Sem
open Idealize.ShloMosaic.Pipeline (Dat)
open Cert.ProjectMath

namespace Cert.ProjectIdeal.RefValue

open Cert.ProjectIdeal Cert.ProjectIdeal.Gen

/-- A tile's product with the weights. -/
def prod (x : Vec Ideal S1x256x1024 .f32) (w : Vec Ideal S1024x1024 .f32) (n : Fin 256) (k : Fin 1024) : EReal :=
  ∑ e : Fin 1024, x (ix3 0 n e) * w (ix2 e k)

theorem qk_apply (x0 : Vec Ideal S1x256x1024 .f32) (x1 x2 : Vec Ideal S1024x1024 .f32) (x3 : Vec Ideal S64x128 .f32) (n : Fin 256) (k : Fin 1024) :
    k0_pay223 x0 x1 x2 x3 (ix2 n k) = prod x0 x1 n k := by
  pointwise [k0_pay223, k0_pay3, k0_pay2, prod]
theorem v_apply (x0 : Vec Ideal S1x256x1024 .f32) (x1 x2 : Vec Ideal S1024x1024 .f32) (x3 : Vec Ideal S64x128 .f32) (n : Fin 256) (k : Fin 1024) :
    k0_pay224 x0 x1 x2 x3 (ix2 n k) = prod x0 x2 n k := by
  pointwise [k0_pay224, k0_pay4, k0_pay2, prod]
theorem rot_apply (x0 : Vec Ideal S1x256x1024 .f32) (x1 x2 : Vec Ideal S1024x1024 .f32) (x3 : Vec Ideal S64x128 .f32) (d : Fin 64) (j : Fin 128) :
    k0_pay225 x0 x1 x2 x3 (ix2 d j) = x3 (ix2 d j) := by
  pointwise [k0_pay225, k0_pay5]

/-- A block's packed rows. -/
def packedBlock (x0 : Vec Ideal S1x256x1024 .f32) (x1 x2 : Vec Ideal S1024x1024 .f32) (h : Fin 16) (n : Fin 256) (l : Fin 128) : EReal :=
  if hl : l.val < 64 then prod x0 x1 n ⟨64 * h.val + l.val, by omega⟩ else prod x0 x2 n ⟨64 * h.val + (l.val - 64), by omega⟩

/-- A row's hashes. -/
def hashBlock (x0 : Vec Ideal S1x256x1024 .f32) (x1 : Vec Ideal S1024x1024 .f32) (x3 : Vec Ideal S64x128 .f32) (h : Fin 16) (r : Fin 4) (n : Fin 256) (c : Fin 32) : EReal :=
  ∑ d : Fin 64, prod x0 x1 n ⟨64 * h.val + d.val, by omega⟩ * x3 (ix2 d (lane r c))

section Stores

variable {x0 : Vec Ideal S1x256x1024 .f32} {x1 x2 : Vec Ideal S1024x1024 .f32} {x3 : Vec Ideal S64x128 .f32}

theorem packed_at {h : Fin 16} {n : Fin 256} {l : Fin 128} {x : S1x256x128.Idx} {o : ℕ} {hs} (ho : o = 64 * h.val)
    (hn : n.val = (x 1).val) (hl : l.val = (x 2).val) :
    packed (cols (k0_pay223 x0 x1 x2 x3) o hs) (cols (k0_pay224 x0 x1 x2 x3) o hs) x = packedBlock x0 x1 x2 h n l := by
  obtain ⟨z, i, k, rfl⟩ : ∃ (z : Fin 1) (i : Fin 256) (k : Fin 128), x = ix3 z i k := ⟨x 0, x 1, x 2, by funext a; fin_cases a <;> rfl⟩
  obtain rfl : n = i := Fin.ext hn
  obtain rfl : l = k := Fin.ext hl
  subst ho
  rw [packed_apply]
  unfold packedBlock
  split
  · rw [cols_apply _ _ _ (by omega), qk_apply]
  · rw [cols_apply _ _ _ (by omega), v_apply]

theorem bucketed_at {h : Fin 16} {r : Fin 4} {n : Fin 256} {x : S1x4x256.Idx} {o : ℕ} {hs} (a : Fin 32) (hf : IsFirst (hashBlock x0 x1 x3 h r n) a) (ho : o = 64 * h.val)
    (hr : r.val = (x 1).val) (hn : n.val = (x 2).val) :
    bucketed (cols (k0_pay223 x0 x1 x2 x3) o hs) (k0_pay225 x0 x1 x2 x3) (k0_pay226 x0 x1 x2 x3) x = BitVec.ofNat 32 a.val := by
  obtain ⟨z, s, i, rfl⟩ : ∃ (z : Fin 1) (s : Fin 4) (i : Fin 256), x = ix3 z s i := ⟨x 0, x 1, x 2, by funext a; fin_cases a <;> rfl⟩
  obtain rfl : n = i := Fin.ext hn
  obtain rfl : r = s := Fin.ext hr
  subst ho
  refine bucketed_apply _ _ z r n a ?_
  refine cast (congrArg (IsFirst · a) (funext fun c => Finset.sum_congr rfl fun d _ => ?_)) hf
  rw [cols_apply _ _ _ (by omega), qk_apply, rot_apply]

end Stores

theorem out4_apply (x0 : Vec Ideal S1x256x1024 .f32) (x1 x2 : Vec Ideal S1024x1024 .f32) (x3 : Vec Ideal S64x128 .f32) (y : S16x256x128.Idx) :
    out0_4 x0 x1 x2 x3 y = packedBlock x0 x1 x2 (y 0) (y 1) (y 2) := by
  unfold out0_4
  canon_tiles x h
  all_goals exact packed_at (by omega) h1 h2

theorem out5_apply (x0 : Vec Ideal S1x256x1024 .f32) (x1 x2 : Vec Ideal S1024x1024 .f32) (x3 : Vec Ideal S64x128 .f32) (y : S16x4x256.Idx)
    (a : Fin 32) (hf : IsFirst (hashBlock x0 x1 x3 (y 0) (y 1) (y 2)) a) :
    out0_5 x0 x1 x2 x3 y = BitVec.ofNat 32 a.val := by
  unfold out0_5
  canon_tiles x h
  case piece4 =>
    unfold k0_pay246 k0_pay247
    exact bucketed_at a hf (by omega) h1 h2
  case piece8 =>
    unfold k0_pay239
    exact bucketed_at a hf (by omega) h1 h2
  case piece13 =>
    unfold k0_pay230
    exact bucketed_at a hf (by omega) h1 h2
  all_goals exact bucketed_at a hf (by omega) h1 h2

/-! ## The arrays -/

/-- A product at an index. -/
def prodAt (x : FVec Ideal S2x2048x1024 .f32) (w : FVec Ideal S1024x1024 .f32) (b : Fin 2) (n : Fin 2048) (k : Fin 1024) : EReal :=
  ∑ e : Fin 1024, x (ix3 b n e) * w (ix2 e k)

/-- The packed rows at an index. -/
def packedAt (x : FVec Ideal S2x2048x1024 .f32) (w u : FVec Ideal S1024x1024 .f32) (H : Fin 32) (n : Fin 2048) (l : Fin 128) : EReal :=
  if hl : l.val < 64 then prodAt x w ⟨H.val / 16, by omega⟩ n ⟨64 * (H.val % 16) + l.val, by omega⟩
  else prodAt x u ⟨H.val / 16, by omega⟩ n ⟨64 * (H.val % 16) + (l.val - 64), by omega⟩

/-- The rotations, and past the sixteenth their negations. -/
def turned (rot : FVec Ideal S64x4x16 .f32) (d : Fin 64) (r : Fin 4) (c : Fin 32) : EReal :=
  if hc : c.val < 16 then rot (ix3 d r ⟨c.val, hc⟩) else -rot (ix3 d r ⟨c.val - 16, by omega⟩)

/-- The hashes at an index. -/
def hashAt (x : FVec Ideal S2x2048x1024 .f32) (w : FVec Ideal S1024x1024 .f32) (rot : FVec Ideal S64x4x16 .f32) (H : Fin 32) (r : Fin 4) (n : Fin 2048) (c : Fin 32) : EReal :=
  ∑ d : Fin 64, prodAt x w ⟨H.val / 16, by omega⟩ n ⟨64 * (H.val % 16) + d.val, by omega⟩ * turned rot d r c

/-- A first place of the largest. -/
def firstOf (f : Fin 32 → EReal) : Fin 32 := Classical.choose (exists_first f)
theorem firstOf_spec (f : Fin 32 → EReal) : IsFirst f (firstOf f) := Classical.choose_spec (exists_first f)

def packedAll (x : FVec Ideal S2x2048x1024 .f32) (w u : FVec Ideal S1024x1024 .f32) : FVec Ideal S32x2048x128 .f32 :=
  fun i => packedAt x w u (i 0) (i 1) (i 2)
def bucketAll (f : Fin 32 → Fin 4 → Fin 2048 → Fin 32 → EReal) : IVec S32x4x2048 32 :=
  fun i => BitVec.ofNat 32 (firstOf (f (i 0) (i 1) (i 2))).val

theorem packedAll_apply (x : FVec Ideal S2x2048x1024 .f32) (w u : FVec Ideal S1024x1024 .f32) (H : Fin 32) (n : Fin 2048) (l : Fin 128) :
    packedAll x w u (ix3 H n l) = packedAt x w u H n l := rfl
theorem bucketAll_apply (f : Fin 32 → Fin 4 → Fin 2048 → Fin 32 → EReal) (H : Fin 32) (r : Fin 4) (n : Fin 2048) :
    bucketAll f (ix3 H r n) = BitVec.ofNat 32 (firstOf (f H r n)).val := rfl

variable (m : (ℓ : Loc nD τ sig) → Buf (Elt Ideal) ℓ)

/-- The windows' block indices at a point: batch `t / 8`, tile `t % 8`. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![t.val / 8, t.val % 8, 0] ∧ win0_5.index t = ![t.val / 8, 0, t.val % 8] ∧ t.val < 16 :=
  (by decide +kernel : ∀ t : Fin grid0.N, _)

theorem rows_block (c : Dev nD) (t : Fin cfg0.N) (z : Fin 1) (n : Fin 256) (e : Fin 1024) (b : Fin 2) (N : Fin 2048) (hb : b.val = t.val / 8) (hN : N.val = t.val % 8 * 256 + n.val) :
    (show FVec Ideal S1x256x1024 .f32 from iblk m c 0 t) (ix3 z n e) = (m ((c : Thread nD τ).loc main_arg0) : FVec Ideal S2x2048x1024 .f32) (ix3 b N e) := by
  blk_simp [iblk, idx t]
  entry_read
  pointwise
  blk_ext [idx t]

theorem qk_block (c : Dev nD) (t : Fin cfg0.N) : iblk m c 1 t = m ((c : Thread nD τ).loc main_arg1) := by
  blk_ext! [iblk, V, idx t]
theorem v_block (c : Dev nD) (t : Fin cfg0.N) : iblk m c 2 t = m ((c : Thread nD τ).loc main_arg2) := by
  blk_ext! [iblk, V, idx t]

/-- The rotations and their negations by lanes. -/
def byLanes (rot : FVec Ideal S64x4x16 .f32) : FVec Ideal S64x128 .f32 :=
  shapeCast S64x128 (transpose S64x32x4 [0, 2, 1] (concatenate S64x4x32 2 [⟨S64x4x16, rot⟩, ⟨S64x4x16, Host.negf rot⟩] concatenates_S64x4x16_S64x4x16_S64x4x32_d2)
    transposes_S64x4x32_S64x32x4_0_2_1) shapeCasts_S64x32x4_S64x128

theorem byLanes_apply (rot : FVec Ideal S64x4x16 .f32) (d : Fin 64) (r : Fin 4) (k : Fin 32) : byLanes rot (ix2 d (lane r k)) = turned rot d r k := by
  have e : byLanes rot (ix2 d (lane r k)) = turned rot d ⟨(lane r k).val % 4, by omega⟩ ⟨(lane r k).val / 4, by omega⟩ := by
    pointwise [byLanes, turned]
  rw [e]
  exact congrArg₂ (turned rot d) (Fin.ext (by simp only [lane]; omega)) (Fin.ext (by simp only [lane]; omega))

theorem rot_block (c : Dev nD) (t : Fin cfg0.N) (d : Fin 64) (r : Fin 4) (k : Fin 32) :
    (show FVec Ideal S64x128 .f32 from iblk m c 3 t) (ix2 d (lane r k)) = turned (m ((c : Thread nD τ).loc main_arg3)) d r k := by
  refine Eq.trans ?_ (byLanes_apply _ d r k)
  blk_simp [iblk, idx t]
  entry_read
  refine congrArg (byLanes _) ?_
  blk_ext [idx t]

/-- The index of a row in the whole and of its head. -/
theorem prod_eq (c : Dev nD) (t : Fin cfg0.N) (w : FVec Ideal S1024x1024 .f32) (n : Fin 256) (k : Fin 1024) (H : Fin 32) (h : Fin 16) (N : Fin 2048)
    (hH : H.val = t.val / 8 * 16 + h.val) (hN : N.val = t.val % 8 * 256 + n.val) (K : Fin 1024) (hK : K.val = k.val) :
    prod (iblk m c 0 t) w n k = prodAt (m ((c : Thread nD τ).loc main_arg0)) w ⟨H.val / 16, by omega⟩ N K := by
  obtain rfl := Fin.ext hK
  exact Finset.sum_congr rfl fun e _ => congrArg (· * _) (rows_block m c t 0 n e _ N (by simp only; omega) hN)

theorem final4 (c : Dev nD) : (dats m 0 c).arrAt 4 cfg0.N
    = packedAll (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht := (idx t).2.2.2.2.2.2
  blk_simp
  rw [after0_4]
  obtain ⟨h, n, l, rfl⟩ : ∃ (h : Fin 16) (n : Fin 256) (l : Fin 128), y = ix3 h n l := ⟨y 0, y 1, y 2, by funext a; fin_cases a <;> rfl⟩
  refine (out4_apply _ _ _ _ (ix3 h n l)).trans ?_
  have e : packedBlock (iblk m c 0 t) (iblk m c 1 t) (iblk m c 2 t) h n l
      = packedAll (m ((c : Thread nD τ).loc main_arg0)) (m ((c : Thread nD τ).loc main_arg1)) (m ((c : Thread nD τ).loc main_arg2))
        (ix3 ⟨t.val / 8 * 16 + h.val, by omega⟩ ⟨t.val % 8 * 256 + n.val, by omega⟩ l) := by
    rw [packedAll_apply, qk_block m c t, v_block m c t]
    unfold packedBlock packedAt
    split
    · exact prod_eq m c t _ n _ _ h _ rfl rfl _ (by simp only; omega)
    · exact prod_eq m c t _ n _ _ h _ rfl rfl _ (by simp only; omega)
  refine e.trans (congrArg _ ?_)
  blk_ext [idx t]

theorem hash_block (c : Dev nD) (t : Fin cfg0.N) (h : Fin 16) (r : Fin 4) (n : Fin 256) (H : Fin 32) (N : Fin 2048) (hH : H.val = t.val / 8 * 16 + h.val)
    (hN : N.val = t.val % 8 * 256 + n.val) : hashBlock (iblk m c 0 t) (iblk m c 1 t) (iblk m c 3 t) h r n
      = hashAt (m ((c : Thread nD τ).loc main_arg0)) (m ((c : Thread nD τ).loc main_arg1)) (m ((c : Thread nD τ).loc main_arg3)) H r N := by
  funext k
  unfold hashBlock hashAt
  rw [qk_block m c t]
  exact Finset.sum_congr rfl fun d _ => congrArg₂ (· * ·) (prod_eq m c t _ n _ H h N hH hN _ (by simp only; omega)) (rot_block m c t d r k)

theorem out5_block (c : Dev nD) (t : Fin cfg0.N) (h : Fin 16) (r : Fin 4) (n : Fin 256) (H : Fin 32) (N : Fin 2048) (hH : H.val = t.val / 8 * 16 + h.val)
    (hN : N.val = t.val % 8 * 256 + n.val) : out0_5 (iblk m c 0 t) (iblk m c 1 t) (iblk m c 2 t) (iblk m c 3 t) (ix3 h r n)
      = bucketAll (hashAt (m ((c : Thread nD τ).loc main_arg0)) (m ((c : Thread nD τ).loc main_arg1)) (m ((c : Thread nD τ).loc main_arg3))) (ix3 H r N) := by
  rw [bucketAll_apply]
  refine out5_apply _ _ _ _ _ _ ?_
  show IsFirst (hashBlock (iblk m c 0 t) (iblk m c 1 t) (iblk m c 3 t) h r n) _
  rw [hash_block m c t h r n H N hH hN]
  exact firstOf_spec _

theorem final5 (c : Dev nD) : (dats m 0 c).arrAt 5 cfg0.N
    = bucketAll (hashAt (m ((c : Thread nD τ).loc main_arg0)) (m ((c : Thread nD τ).loc main_arg1)) (m ((c : Thread nD τ).loc main_arg3))) := by
  refine (dats m 0 c).arrAt_eq_of_covers 5 _ (by decide +kernel) fun t _ y => ?_
  have ht := (idx t).2.2.2.2.2.2
  blk_simp
  rw [after0_5]
  obtain ⟨h, r, n, rfl⟩ : ∃ (h : Fin 16) (r : Fin 4) (n : Fin 256), y = ix3 h r n := ⟨y 0, y 1, y 2, by funext a; fin_cases a <;> rfl⟩
  refine (out5_block m c t h r n ⟨t.val / 8 * 16 + h.val, by omega⟩ ⟨t.val % 8 * 256 + n.val, by omega⟩ rfl rfl).trans (congrArg _ ?_)
  blk_ext [idx t]

end Cert.ProjectIdeal.RefValue

end
-- ==== Proof.ProjectRef.lean ====
/-
  The projection's reference: its run, and its two results read at an index.
-/
module

public import proofs.«01_k».proof.Defs
public import proofs.«01_k».proof.Proof.ProjectMath
public import proofs.«01_k».proof.Proof.Gen.ProjectReferenceIdeal
public import Idealize.ShloMosaic.Lib.StableHlo.Run
public import Idealize.ShloMosaic.Lib.Pipeline.ValueKit
public import Idealize.ShloMosaic.Lib.Quiescent

@[expose] public section

set_option maxRecDepth 16384

noncomputable section

namespace Cert.ProjectReferenceIdeal.RefValue

open Cert.ProjectReferenceIdeal Cert.ProjectReferenceIdeal.Gen Idealize.ShloMosaic Idealize.ShloMosaic.TcCoe Idealize.SL.Sem Idealize.ShloMosaic.StableHlo
open Cert.ProjectMath

/-! ## The results -/

/-- The heads' rows of a product. -/
def heads (x : FVec Ideal S2x2048x1024 .f32) (w : FVec Ideal S1024x1024 .f32) : FVec Ideal S32x2048x64 .f32 :=
  shapeCast S32x2048x64 (transpose S2x16x2048x64 [0, 2, 1, 3] (shapeCast S2x2048x16x64
    (Host.dotGeneral dot_S2x2048x1024_S1024x1024_S2x2048x1024_2_0_01_1_n_n none x w) shapeCasts_S2x2048x1024_S2x2048x16x64)
    transposes_S2x2048x16x64_S2x16x2048x64_0_2_1_3) shapeCasts_S2x16x2048x64_S32x2048x64

theorem heads_apply (x : FVec Ideal S2x2048x1024 .f32) (w : FVec Ideal S1024x1024 .f32) (H : Fin 32) (n : Fin 2048) (d : Fin 64) :
    heads x w (ix3 H n d) = ∑ e : Fin 1024, x (ix3 ⟨H.val / 16, by omega⟩ n e) * w (ix2 e ⟨64 * (H.val % 16) + d.val, by omega⟩) := by
  pointwise [heads]
  simp only [Nat.mul_comm]

/-- The two products' rows side by side. -/
def joined (q v : FVec Ideal S32x2048x64 .f32) : FVec Ideal S32x2048x128 .f32 :=
  concatenate S32x2048x128 2 [⟨S32x2048x64, q⟩, ⟨S32x2048x64, v⟩] concatenates_S32x2048x64_S32x2048x64_S32x2048x128_d2

theorem joined_apply (q v : FVec Ideal S32x2048x64 .f32) (H : Fin 32) (n : Fin 2048) (l : Fin 128) :
    joined q v (ix3 H n l) = if h : l.val < 64 then q (ix3 H n ⟨l.val, h⟩) else v (ix3 H n ⟨l.val - 64, by omega⟩) := by
  pointwise [joined]

/-- The hashes, and past the sixteenth their negations. -/
def hashes (rot : FVec Ideal S64x4x16 .f32) (q : FVec Ideal S32x2048x64 .f32) : FVec Ideal S32x4x2048x16 .f32 :=
  transpose S32x4x2048x16 [2, 0, 3, 1] (Host.dotGeneral dot_S64x4x16_S32x2048x64_S4x16x32x2048_0_2_12_01_n_n none rot q) transposes_S4x16x32x2048_S32x4x2048x16_2_0_3_1
def signed (y : FVec Ideal S32x4x2048x16 .f32) : FVec Ideal S32x4x2048x32 .f32 :=
  concatenate S32x4x2048x32 3 [⟨S32x4x2048x16, y⟩, ⟨S32x4x2048x16, Host.negf y⟩] concatenates_S32x4x2048x16_S32x4x2048x16_S32x4x2048x32_d3

theorem hashes_apply (rot : FVec Ideal S64x4x16 .f32) (q : FVec Ideal S32x2048x64 .f32) (H : Fin 32) (r : Fin 4) (n : Fin 2048) (c : Fin 16) :
    hashes rot q (ix4 H r n c) = ∑ d : Fin 64, rot (ix3 d r c) * q (ix3 H n d) := by
  pointwise [hashes]

theorem signed_apply (y : FVec Ideal S32x4x2048x16 .f32) (H : Fin 32) (r : Fin 4) (n : Fin 2048) (c : Fin 32) :
    signed y (ix4 H r n c) = if h : c.val < 16 then y (ix4 H r n ⟨c.val, h⟩) else -y (ix4 H r n ⟨c.val - 16, by omega⟩) := by
  pointwise [signed]

/-- The second results of the reduction over pairs: one index for each cell of the result. -/
def indexOf {s t u : Shape} {axes : List (Fin s.rank)} (x : FVec Ideal s .f32) (y : s.Idx → BitVec 32) (ix : FVec Ideal u .f32) (iy : u.Idx → BitVec 32)
    (h : s.ReducesTo axes t) (hu : 0 < u.numel) : t.Idx → BitVec 32 :=
  fun j => (Host.argReduce (reducer_argmax_f32_i32 (F := Ideal)) x y ix iy h hu j).2

/-- The index of the largest entry along the last axis. -/
def argmax (y : FVec Ideal S32x4x2048x32 .f32) : IVec S32x4x2048 32 :=
  indexOf y (iotaInDim S32x4x2048x32 32 3) (constant S_ .f32 0xFF800000#32) (constantI S_ 32 0#32) reducesTo_S32x4x2048x32_S32x4x2048_d3 h_S_

/-- A pair whose value is less than the largest, or the largest at its first place or later. -/
def Worse (f : Fin 32 → EReal) (a : Fin 32) (p : EReal × BitVec 32) : Prop :=
  ∃ i : Fin 32, p.2 = BitVec.ofNat 32 i.val ∧ (p.1 < f a ∨ p.1 = f a ∧ a ≤ i)

theorem slt_eq : ∀ i j : Fin 32, IntOp.cmpi .slt (BitVec.ofNat 32 i.val) (BitVec.ofNat 32 j.val) = BitVec.ofBool (decide (i < j)) := by decide +kernel

theorem reducer_eq (x y : EReal) (i j : Fin 32) :
    reducer_argmax_f32_i32 (F := Ideal) (x, BitVec.ofNat 32 i.val) (y, BitVec.ofNat 32 j.val)
      = if y < x then (x, BitVec.ofNat 32 i.val) else if x = y ∧ i < j then (y, BitVec.ofNat 32 i.val) else (y, BitVec.ofNat 32 j.val) := by
  unfold reducer_argmax_f32_i32
  have gt : FloatOps.cmpf (F := Ideal) (φ := .f32) .ogt x y = BitVec.ofBool (decide (y < x)) := rfl
  have ne : FloatOps.cmpf (F := Ideal) (φ := .f32) .une x x = BitVec.ofBool (decide (x ≠ x)) := rfl
  have eq : FloatOps.cmpf (F := Ideal) (φ := .f32) .oeq x y = BitVec.ofBool (decide (x = y)) := rfl
  simp only [gt, ne, eq, slt_eq]
  by_cases h1 : y < x
  · by_cases h3 : i < j <;> simp [h1, h1.ne', h3, Scalar.select, IntOp.ori, IntOp.andi]
  · by_cases h2 : x = y <;> by_cases h3 : i < j <;> simp [h1, h2, h3, Scalar.select, IntOp.ori, IntOp.andi]

/-- The reducer keeps to such pairs, and keeps the largest at its first place. -/
theorem reducer_worse {f : Fin 32 → EReal} {a : Fin 32} {p q : EReal × BitVec 32} (hp : Worse f a p) (hq : Worse f a q) :
    Worse f a (reducer_argmax_f32_i32 (F := Ideal) p q)
      ∧ (p = (f a, BitVec.ofNat 32 a.val) ∨ q = (f a, BitVec.ofNat 32 a.val) → reducer_argmax_f32_i32 (F := Ideal) p q = (f a, BitVec.ofNat 32 a.val)) := by
  obtain ⟨x, pi⟩ := p
  obtain ⟨y, qj⟩ := q
  obtain ⟨i, hi, hx⟩ := hp
  obtain ⟨j, hj, hy⟩ := hq
  simp only at hi hj hx hy
  subst hi hj
  have inj : ∀ i j : Fin 32, BitVec.ofNat 32 i.val = BitVec.ofNat 32 j.val → i = j := by decide +kernel
  have lex : x ≤ f a := by rcases hx with h | h <;> [exact h.le; exact h.1.le]
  rw [reducer_eq]
  split_ifs with h1 h2
  · refine ⟨⟨i, rfl, hx⟩, ?_⟩
    rintro (h | h)
    · exact h
    · rw [(Prod.mk.inj h).1] at h1
      exact absurd lex (not_le.2 h1)
  · refine ⟨⟨i, rfl, h2.1 ▸ hx⟩, ?_⟩
    rintro (h | h)
    · rw [← h2.1]
      exact h
    · obtain ⟨e, e'⟩ := Prod.mk.inj h
      have := inj _ _ e'
      rcases hx with hx | hx
      · exact absurd (h2.1.trans e) hx.ne
      · exact absurd (hx.2.trans_lt h2.2) (by rw [this]; exact lt_irrefl _)
  · refine ⟨⟨j, rfl, hy⟩, ?_⟩
    rintro (h | h)
    · obtain ⟨e, e'⟩ := Prod.mk.inj h
      have := inj _ _ e'
      rcases hy with hy | hy
      · exact absurd (e ▸ hy) h1
      · have hji : j = a := le_antisymm (by rw [← this]; exact not_lt.1 fun hc => h2 ⟨e.trans hy.1.symm, hc⟩) hy.2
        rw [hy.1, hji]
    · exact h

theorem fold_best {f : Fin 32 → EReal} {a : Fin 32} (l : List (EReal × BitVec 32)) (acc : EReal × BitVec 32) (hl : ∀ p ∈ l, Worse f a p) (ha : Worse f a acc)
    (hb : acc = (f a, BitVec.ofNat 32 a.val) ∨ (f a, BitVec.ofNat 32 a.val) ∈ l) :
    l.foldl (reducer_argmax_f32_i32 (F := Ideal)) acc = (f a, BitVec.ofNat 32 a.val) := by
  induction l generalizing acc with
  | nil => simpa using hb
  | cons p l ih =>
    have hr := reducer_worse ha (hl p List.mem_cons_self)
    refine ih _ (fun q hq => hl q (List.mem_cons_of_mem _ hq)) hr.1 ?_
    rcases hb with h | h
    · exact Or.inl (hr.2 (Or.inl h))
    · rcases List.mem_cons.1 h with h | h
      · exact Or.inl (hr.2 (Or.inr h.symm))
      · exact Or.inr h

theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨k, hk, e⟩
    exact ⟨_, by simpa using (List.mem_filter.1 hk).2, e⟩
  · rintro ⟨i, hi, e⟩
    exact ⟨s.rowMajor i, List.mem_filter.2 ⟨List.mem_finRange _, by simpa using hi⟩, by simpa using e⟩

theorem fold_fiber {s t u : Shape} {axes : List (Fin s.rank)} (x : FVec Ideal s .f32) (y : s.Idx → BitVec 32) (ix : FVec Ideal u .f32) (iy : u.Idx → BitVec 32)
    (h : s.ReducesTo axes t) (hu : 0 < u.numel) (j : t.Idx) (f : Fin 32 → EReal) (a : Fin 32) (hf : IsFirst f a)
    (hx : ∀ i, h.drop i = j → ∃ c : Fin 32, x i = f c ∧ y i = BitVec.ofNat 32 c.val) (hc : ∃ i, h.drop i = j ∧ x i = f a ∧ y i = BitVec.ofNat 32 a.val)
    (hix : ix (Shape.Idx.first hu) = ⊥) (hiy : iy (Shape.Idx.first hu) = 0#32) :
    indexOf x y ix iy h hu j = BitVec.ofNat 32 a.val := by
  unfold indexOf
  rw [Ideal.argReduce_eq_reduce2, Host.reduce2_eq_foldl_fiber, fold_best (f := f) (a := a)]
  · intro p hp
    obtain ⟨i, hi, rfl⟩ := (mem_fiber _ _ _ _ _).1 hp
    obtain ⟨c, e1, e2⟩ := hx i hi
    refine ⟨c, e2, ?_⟩
    simp only [e1]
    rcases lt_or_eq_of_le (hf.1 c) with e | e
    · exact Or.inl e
    · exact Or.inr ⟨e, not_lt.1 fun hc => (hf.2 c hc).ne e⟩
  · rw [hix, hiy]
    refine ⟨0, rfl, ?_⟩
    rcases lt_or_eq_of_le (bot_le : ⊥ ≤ f a) with e | e
    · exact Or.inl e
    · refine Or.inr ⟨e, not_lt.1 fun hc => ?_⟩
      have := hf.2 0 hc
      rw [← e] at this
      exact not_lt_bot this
  · obtain ⟨i, hi, e1, e2⟩ := hc
    exact Or.inr ((mem_fiber _ _ _ _ _).2 ⟨i, hi, by rw [e1, e2]⟩)

theorem drop_eq (H : Fin 32) (r : Fin 4) (n : Fin 2048) (c : Fin 32) : reducesTo_S32x4x2048x32_S32x4x2048_d3.drop (ix4 H r n c) = ix3 H r n := by
  funext b
  fin_cases b <;> rfl

theorem iota_apply (H : Fin 32) (r : Fin 4) (n : Fin 2048) (c : Fin 32) : iotaInDim S32x4x2048x32 32 3 (ix4 H r n c) = BitVec.ofNat 32 c.val := by pointwise

theorem index_eq (i : S32x4x2048x32.Idx) (H : Fin 32) (r : Fin 4) (n : Fin 2048) (hd : reducesTo_S32x4x2048x32_S32x4x2048_d3.drop i = ix3 H r n) :
    ∃ c : Fin 32, i = ix4 H r n c := by
  obtain ⟨H', r', n', c, rfl⟩ : ∃ (H' : Fin 32) (r' : Fin 4) (n' : Fin 2048) (c : Fin 32), i = ix4 H' r' n' c := ⟨i 0, i 1, i 2, i 3, by funext a; fin_cases a <;> rfl⟩
  rw [drop_eq] at hd
  obtain rfl : H' = H := congrFun hd 0
  obtain rfl : r' = r := congrFun hd 1
  obtain rfl : n' = n := congrFun hd 2
  exact ⟨c, rfl⟩

theorem neg_inf : Ideal.ofBits FTy.f32 0xFF800000#32 = ⊥ := by simp [Ideal.ofBits, Ideal.ieee]

theorem bot_eq : (constant S_ .f32 0xFF800000#32 : FVec Ideal S_ .f32) (Shape.Idx.first h_S_) = ⊥ := neg_inf

theorem fun_of_index (y : FVec Ideal S32x4x2048x32 .f32) (H : Fin 32) (r : Fin 4) (n : Fin 2048) (i : S32x4x2048x32.Idx)
    (hd : reducesTo_S32x4x2048x32_S32x4x2048_d3.drop i = ix3 H r n) :
    ∃ c : Fin 32, y i = y (ix4 H r n c) ∧ iotaInDim S32x4x2048x32 32 3 i = BitVec.ofNat 32 c.val := by
  obtain ⟨c, rfl⟩ := index_eq i H r n hd
  exact ⟨c, rfl, iota_apply H r n c⟩

theorem argmax_apply (y : FVec Ideal S32x4x2048x32 .f32) (H : Fin 32) (r : Fin 4) (n : Fin 2048) (a : Fin 32) (h : IsFirst (fun c => y (ix4 H r n c)) a) :
    argmax y (ix3 H r n) = BitVec.ofNat 32 a.val := by
  exact fold_fiber y _ _ _ reducesTo_S32x4x2048x32_S32x4x2048_d3 h_S_ (ix3 H r n) (fun c => y (ix4 H r n c)) a h (fun_of_index y H r n) ⟨ix4 H r n a, drop_eq H r n a, rfl, iota_apply H r n a⟩ bot_eq rfl

end Cert.ProjectReferenceIdeal.RefValue

end
-- ==== Proof.ProjectRun.lean ====
/-
  The run of the projection's reference: its operations in order, and what its two results hold at the end.
-/
module

public import proofs.«01_k».proof.Proof.ProjectRef

@[expose] public section

set_option maxRecDepth 16384

noncomputable section

namespace Cert.ProjectReferenceIdeal.Value

open Cert.ProjectReferenceIdeal Cert.ProjectReferenceIdeal.Gen Cert.ProjectReferenceIdeal.RefValue
open Idealize.ShloMosaic Idealize.ShloMosaic.TcCoe Idealize.SL.Sem Idealize.ShloMosaic.StableHlo

variable {F : FTy → Type} [FloatOps F]

/-- The operations of the program, in order. -/
abbrev ops : List (HloOp τ sig (Elt F)) :=
  [ binary main_arg0 main_arg1 main_v0 ((fun l r => Host.dotGeneral (F := F) dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    binary main_arg0 main_arg2 main_v1 ((fun l r => Host.dotGeneral (F := F) dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    reshape main_v0 main_v2 (rfl : (.f32 : EltTy) = .f32) shapeCasts_S2x2048x1024_S2x2048x16x64,
    unary main_v2 main_v3 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    reshape main_v3 main_v4 (rfl : (.f32 : EltTy) = .f32) shapeCasts_S2x16x2048x64_S32x2048x64,
    reshape main_v1 main_v5 (rfl : (.f32 : EltTy) = .f32) shapeCasts_S2x2048x1024_S2x2048x16x64,
    unary main_v5 main_v6 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    reshape main_v6 main_v7 (rfl : (.f32 : EltTy) = .f32) shapeCasts_S2x16x2048x64_S32x2048x64,
    binary main_arg3 main_v4 main_v8 ((fun l r => Host.dotGeneral (F := F) dot_S64x4x16_S32x2048x64_S4x16x32x2048_0_2_12_01_n_n none l r) : (⟨S64x4x16, .f32⟩ : BufTy).Contents (Elt F) → (⟨S32x2048x64, .f32⟩ : BufTy).Contents (Elt F) → (⟨S4x16x32x2048, .f32⟩ : BufTy).Contents (Elt F)),
    unary main_v8 main_v9 ((transpose S32x4x2048x16 [2, 0, 3, 1] · transposes_S4x16x32x2048_S32x4x2048x16_2_0_3_1) : (⟨S4x16x32x2048, .f32⟩ : BufTy).Contents (Elt F) → (⟨S32x4x2048x16, .f32⟩ : BufTy).Contents (Elt F)),
    unary main_v9 main_v10 (Host.negf (F := F) : (⟨S32x4x2048x16, .f32⟩ : BufTy).Contents (Elt F) → (⟨S32x4x2048x16, .f32⟩ : BufTy).Contents (Elt F)),
    binary main_v9 main_v10 main_v11 ((fun a b => concatenate S32x4x2048x32 3 [⟨S32x4x2048x16, a⟩, ⟨S32x4x2048x16, b⟩] concatenates_S32x4x2048x16_S32x4x2048x16_S32x4x2048x32_d3) : (⟨S32x4x2048x16, .f32⟩ : BufTy).Contents (Elt F) → (⟨S32x4x2048x16, .f32⟩ : BufTy).Contents (Elt F) → (⟨S32x4x2048x32, .f32⟩ : BufTy).Contents (Elt F)),
    TRef.nullary main_call0.v0 (iotaInDim S32x4x2048x32 32 3),
    TRef.nullary main_call0.cst (constant (F := F) S_ .f32 0xFF800000#32),
    TRef.nullary main_call0.c (constantI S_ 32 0#32),
    TRef.quaternary (TRef.of (T := ⟨S32x4x2048x32, .f32⟩) main_v11) main_call0.v0 main_call0.cst main_call0.c main_call0.v1_0 (fun (x : FVec F S32x4x2048x32 .f32) (y : IVec S32x4x2048x32 32) (u : FVec F S_ .f32) (v : IVec S_ 32) j => (Host.argReduce (reducer_argmax_f32_i32 (F := F)) x y u v reducesTo_S32x4x2048x32_S32x4x2048_d3 h_S_ j).1),
    TRef.quaternary (TRef.of (T := ⟨S32x4x2048x32, .f32⟩) main_v11) main_call0.v0 main_call0.cst main_call0.c main_call0.v1_1 (fun (x : FVec F S32x4x2048x32 .f32) (y : IVec S32x4x2048x32 32) (u : FVec F S_ .f32) (v : IVec S_ 32) j => (Host.argReduce (reducer_argmax_f32_i32 (F := F)) x y u v reducesTo_S32x4x2048x32_S32x4x2048_d3 h_S_ j).2),
    binary main_v4 main_v7 main_v13 ((fun a b => concatenate S32x2048x128 2 [⟨S32x2048x64, a⟩, ⟨S32x2048x64, b⟩] concatenates_S32x2048x64_S32x2048x64_S32x2048x128_d2) : (⟨S32x2048x64, .f32⟩ : BufTy).Contents (Elt F) → (⟨S32x2048x64, .f32⟩ : BufTy).Contents (Elt F) → (⟨S32x2048x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., reshape_bufs_sub .., unary_bufs_sub .., reshape_bufs_sub .., reshape_bufs_sub .., unary_bufs_sub .., reshape_bufs_sub .., binary_bufs_sub .., unary_bufs_sub .., unary_bufs_sub .., binary_bufs_sub .., nullary_bufs_sub .., nullary_bufs_sub .., nullary_bufs_sub .., quaternary_bufs_sub .., quaternary_bufs_sub .., binary_bufs_sub ..⟩

set_option maxHeartbeats 2000000 in
/-- Every run ends with the rows side by side and the buckets in the two results, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = joined (heads (m ((c.tc : Thread nD τ).loc main_arg0)) (m ((c.tc : Thread nD τ).loc main_arg1))) (heads (m ((c.tc : Thread nD τ).loc main_arg0)) (m ((c.tc : Thread nD τ).loc main_arg2)))
      ∧ r.2.mem ((c.tc : Thread nD τ).loc main_v12) = argmax (signed (hashes (m ((c.tc : Thread nD τ).loc main_arg3)) (heads (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (by after_results <;> rfl), (h c main_v12).trans (by after_results <;> rfl),
      (h c main_arg0).trans (by after_results <;> rfl), (h c main_arg1).trans (by after_results <;> rfl),
      (h c main_arg2).trans (by after_results <;> rfl), (h c main_arg3).trans (by after_results <;> rfl)⟩)
    (run_seq scopedRefs_eq scopedSems_eq defs main (fun _ => ops (F := Ideal)) (main_eq (F := Ideal)) (fun _ => ops_sub (F := Ideal)) m ρ)

end Cert.ProjectReferenceIdeal.Value

end
-- ==== Proof.ProjectPre.lean ====
/-
  What the precondition of the projection's claim says: queries, weights and rotations finite; and what follows for sums of products.
-/
module

public import proofs.«01_k».proof.Defs
public import proofs.«01_k».proof.Proof.Gen.Pre_all_finite
public import Idealize.ShloMosaic.Lib.Pipeline.ValueKit
public import Idealize.ShloMosaic.Lib.ReduceAll

@[expose] public section

set_option maxRecDepth 16384

noncomputable section

namespace Cert.Pre_all_finite.Decode

open Cert.Pre_all_finite Idealize.ShloMosaic Facts

/-- Neither of the two infinities. -/
def Finite (x : EReal) : Prop := x ≠ ⊥ ∧ x ≠ ⊤

theorem Finite.coe (x : ℝ) : Finite (x : EReal) := ⟨EReal.coe_ne_bot x, EReal.coe_ne_top x⟩

theorem Finite.lift {x : EReal} (h : Finite x) : ∃ y : ℝ, x = y := ⟨x.toReal, (EReal.coe_toReal h.2 h.1).symm⟩

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem finite_sum {ι : Type} [Fintype ι] {f g : ι → EReal} (hf : ∀ i, Finite (f i)) (hg : ∀ i, Finite (g i)) : Finite (∑ i, f i * g i) := by
  choose a ha using fun i => (hf i).lift
  choose b hb using fun i => (hg i).lift
  simp only [ha, hb, ← EReal.coe_mul, sum_coe]
  exact Finite.coe _

/-- A finite sum of products with one factor negated is the negation of the sum. -/
theorem neg_sum {ι : Type} [Fintype ι] {f g : ι → EReal} (hf : ∀ i, Finite (f i)) (hg : ∀ i, Finite (g i)) :
    -∑ i, g i * f i = ∑ i, f i * -g i := by
  choose a ha using fun i => (hf i).lift
  choose b hb using fun i => (hg i).lift
  simp only [ha, hb, ← EReal.coe_mul, ← EReal.coe_neg, sum_coe]
  refine congrArg _ ?_
  rw [← Finset.sum_neg_distrib]
  exact Finset.sum_congr rfl fun i _ => by ring

theorem andi_one {a b : BitVec 1} (h : IntOp.andi a b = 1#1) : a = 1#1 ∧ b = 1#1 := by revert a b; decide

/-- The comparison the predicate makes of each number, read. -/
theorem finite_of {x : EReal} (e : BitVec.ofBool (decide (max x (-x) < (⊤ : EReal))) = 1#1) : Finite x := by
  have lt : max x (-x) < ⊤ := by
    by_contra hn
    rw [decide_eq_false hn] at e
    exact absurd e (by decide)
  constructor
  · rintro rfl
    simp at lt
  · rintro rfl
    simp at lt

/-- Where an array is finite. -/
def below {s : Shape} (b : S_.BroadcastsInDim s ![]) (x : FVec Ideal s .f32) : IVec s 1 :=
  cmpf .olt (Host.absf x) (broadcastInDim s ![] b (constant S_ .f32 0x7F800000#32))

theorem below_apply {s : Shape} (b : S_.BroadcastsInDim s ![]) (x : FVec Ideal s .f32) (i : s.Idx) (e : below b x i = 1#1) : Finite (x i) := by
  have top : Ideal.ofBits FTy.f32 0x7F800000#32 = ⊤ := by simp [Ideal.ofBits, Ideal.ieee]
  have : below b x i = BitVec.ofBool (decide (max (x i) (-x i) < (Ideal.ofBits FTy.f32 0x7F800000#32 : EReal))) := rfl
  rw [this, top] at e
  exact finite_of e

theorem fn_eq (x : FVec Ideal S2x2048x1024 .f32) (w u : FVec Ideal S1024x1024 .f32) (rot : FVec Ideal S64x4x16 .f32) : fn x w u rot =
    andi (Host.reduce IntOp.andi (below bcast_S_S2x2048x1024 x) (constantI S_ 1 1#1) reducesTo_S2x2048x1024_S_d0_1_2 h_S_)
      (andi (Host.reduce IntOp.andi (below bcast_S_S1024x1024 w) (constantI S_ 1 1#1) reducesTo_S1024x1024_S_d0_1 h_S_)
        (Host.reduce IntOp.andi (below bcast_S_S64x4x16 rot) (constantI S_ 1 1#1) reducesTo_S64x4x16_S_d0_1_2 h_S_)) := rfl

/-- The precondition, decoded. -/
theorem finite (x : FVec Ideal S2x2048x1024 .f32) (w u : FVec Ideal S1024x1024 .f32) (rot : FVec Ideal S64x4x16 .f32) (h : fn x w u rot = fun _ => 1#1) :
    (∀ i, Finite (x i)) ∧ (∀ i, Finite (w i)) ∧ ∀ i, Finite (rot i) := by
  rw [fn_eq] at h
  have : Subsingleton S_.Idx := ⟨fun x y => funext fun a => a.elim0⟩
  obtain ⟨h1, h2⟩ := andi_one (congrFun h (fun x => x.elim0))
  obtain ⟨h2, h3⟩ := andi_one h2
  exact ⟨fun i => below_apply _ _ i (Host.reduce_andi_all _ _ _ _ _ h1 i), fun i => below_apply _ _ i (Host.reduce_andi_all _ _ _ _ _ h2 i),
    fun i => below_apply _ _ i (Host.reduce_andi_all _ _ _ _ _ h3 i)⟩

end Cert.Pre_all_finite.Decode

end
-- ==== Proof.ProjectClaim.lean ====
/-
  The claims of the projection: the frames, and that its two results are the reference's.
-/
module

public import proofs.«01_k».proof.Defs
public import proofs.«01_k».proof.Proof.ProjectVal
public import proofs.«01_k».proof.Proof.ProjectRun
public import proofs.«01_k».proof.Proof.ProjectPre
public import proofs.«01_k».proof.Proof.Gen.Project.Frame
public import proofs.«01_k».proof.Proof.Gen.ProjectIdeal.Value
public import Idealize.ShloMosaic.Lib.Quiescent

@[expose] public section

set_option maxRecDepth 16384

noncomputable section

namespace Cert.ProjectReferenceIdeal.RefValue

open Cert.ProjectReferenceIdeal Idealize.ShloMosaic Cert.ProjectMath Cert.ProjectIdeal.RefValue Cert.Pre_all_finite.Decode

variable (x : FVec Ideal S2x2048x1024 .f32) (w u : FVec Ideal S1024x1024 .f32) (rot : FVec Ideal S64x4x16 .f32)

theorem heads_eq (H : Fin 32) (n : Fin 2048) (d : Fin 64) :
    heads x w (ix3 H n d) = prodAt x w ⟨H.val / 16, by omega⟩ n ⟨64 * (H.val % 16) + d.val, by omega⟩ := by
  rw [heads_apply]
  rfl

theorem joined_eq : joined (heads x w) (heads x u) = packedAll x w u := by
  funext i
  obtain ⟨H, n, l, rfl⟩ : ∃ (H : Fin 32) (n : Fin 2048) (l : Fin 128), i = ix3 H n l := ⟨i 0, i 1, i 2, by funext a; fin_cases a <;> rfl⟩
  rw [joined_apply, packedAll_apply]
  unfold packedAt
  split
  · rw [heads_eq]
  · rw [heads_eq]

theorem signed_eq (hx : ∀ i, Finite (x i)) (hw : ∀ i, Finite (w i)) (hr : ∀ i, Finite (rot i)) (H : Fin 32) (r : Fin 4) (n : Fin 2048) :
    (fun c => signed (hashes rot (heads x w)) (ix4 H r n c)) = hashAt x w rot H r n := by
  funext c
  rw [signed_apply]
  unfold hashAt turned
  split
  · rename_i h
    rw [hashes_apply]
    refine Finset.sum_congr rfl fun d _ => ?_
    rw [heads_eq, mul_comm]
  · rename_i h
    rw [hashes_apply, neg_sum (fun d => ?_) (fun d => hr _)]
    · refine Finset.sum_congr rfl fun d _ => ?_
      rw [heads_eq]
    · rw [heads_eq]
      exact finite_sum (fun e => hx _) fun e => hw _

theorem argmax_eq (hx : ∀ i, Finite (x i)) (hw : ∀ i, Finite (w i)) (hr : ∀ i, Finite (rot i)) :
    argmax (signed (hashes rot (heads x w))) = bucketAll (hashAt x w rot) := by
  funext i
  obtain ⟨H, r, n, rfl⟩ : ∃ (H : Fin 32) (r : Fin 4) (n : Fin 2048), i = ix3 H r n := ⟨i 0, i 1, i 2, by funext a; fin_cases a <;> rfl⟩
  rw [bucketAll_apply, argmax_apply]
  rw [signed_eq x w rot hx hw hr]
  exact firstOf_spec _

end Cert.ProjectReferenceIdeal.RefValue

namespace Cert.Proof

open Idealize.ShloMosaic Idealize.ShloMosaic.TcCoe Idealize.SL.Sem

theorem frame_Project : Cert.quiescent_Project := fun m ρ _ => Cert.Project.Gen.frame (F := Bits) m ρ
theorem frame_ProjectIdeal : Cert.quiescent_ProjectIdeal := fun m ρ _ => Cert.ProjectIdeal.Gen.frame (F := Ideal) m ρ
theorem frame_ProjectReferenceIdeal : Cert.quiescent_ProjectReferenceIdeal := fun m ρ _ =>
  (θ_run Cert.ProjectReferenceIdeal.defs _ _).mono (fun r h => ⟨fun c => (h c).2.2, sem_eq_zero_of_no_sems (by decide) r.2⟩)
    (Cert.ProjectReferenceIdeal.Value.run m ρ)

theorem frame_ProjectIdeal_pre : Cert.quiescent_ProjectIdeal_pre_all_finite := fun m ρ _ => frame_ProjectIdeal m ρ trivial
theorem frame_ProjectReferenceIdeal_pre : Cert.quiescent_ProjectReferenceIdeal_pre_all_finite := fun m ρ _ => frame_ProjectReferenceIdeal m ρ trivial

theorem algebraic_project : Cert.algebraic_ProjectIdeal_ProjectReferenceIdeal_pre_all_finite := by
  intro m g m' g' hpre hagree
  refine ⟨fun c => (Cert.ProjectIdeal.Gen.dats m 0 c).arrAt 4 Cert.ProjectIdeal.cfg0.N, fun c => (Cert.ProjectIdeal.Gen.dats m 0 c).arrAt 5 Cert.ProjectIdeal.cfg0.N,
    Cert.ProjectIdeal.Value.run_blocks m g, ?_⟩
  refine (θ_run Cert.ProjectReferenceIdeal.defs _ _).mono (fun r h c => ⟨?_, ?_, (h c).2.2⟩) (Cert.ProjectReferenceIdeal.Value.run m' g')
  · rw [(h c).1, (hagree c).1, (hagree c).2.1, (hagree c).2.2.1]
    exact (Cert.ProjectReferenceIdeal.RefValue.joined_eq _ _ _).trans (Cert.ProjectIdeal.RefValue.final4 m c).symm
  · rw [(h c).2.1, (hagree c).1, (hagree c).2.1, (hagree c).2.2.2]
    obtain ⟨hx, hw, hr⟩ := Cert.Pre_all_finite.Decode.finite _ _ _ _ (hpre c)
    exact (Cert.ProjectReferenceIdeal.RefValue.argmax_eq _ _ _ hx hw hr).trans (Cert.ProjectIdeal.RefValue.final5 m c).symm

end Cert.Proof

end
-- ==== Proof.lean ====
module

public import proofs.«01_k».proof.Defs
public import proofs.«01_k».proof.Proof.Frames
public import proofs.«01_k».proof.Proof.Values
public import proofs.«01_k».proof.Proof.AttendRef
public import proofs.«01_k».proof.Proof.CombineVal
public import proofs.«01_k».proof.Proof.ProjectClaim
public import proofs.«01_k».proof.Proof.Gen.Attend.Frame
public import proofs.«01_k».proof.Proof.Gen.Project.Frame
public import proofs.«01_k».proof.Proof.Gen.ProjectIdeal.Value
public import proofs.«01_k».proof.Proof.Gen.ProjectReferenceIdeal
public import proofs.«01_k».proof.Proof.Gen.Pre_all_finite
public import proofs.«01_k».proof.Proof.Gen.AttendIdeal.Value
public import proofs.«01_k».proof.Proof.Gen.AttendReferenceIdeal.Run
public import proofs.«01_k».proof.Proof.Gen.Pre_tokens_apart

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts,
  Cert.Project.Gen.facts, Cert.ProjectIdeal.Gen.facts, Cert.ProjectReferenceIdeal.Gen.facts,
  Cert.Attend.Gen.facts, Cert.AttendIdeal.Gen.facts, Cert.AttendReferenceIdeal.Gen.facts,
  Cert.Combine.Gen.facts, Cert.CombineIdeal.Gen.facts, Cert.CombineReferenceIdeal.Gen.facts,
  Cert.Pre_buckets_in_range.Gen.facts, Cert.Pre_all_finite.Gen.facts, Cert.Pre_tokens_apart.Gen.facts,
  frame_Kernel, frame_KernelIdeal, frame_ReferenceIdeal, frame_Reference,
  frame_Project, frame_ProjectIdeal, frame_ProjectIdeal_pre, frame_ProjectReferenceIdeal, frame_ProjectReferenceIdeal_pre,
  frame_Attend, frame_AttendIdeal, frame_AttendIdeal_pre, frame_AttendReferenceIdeal, frame_AttendReferenceIdeal_pre,
  frame_Combine, frame_CombineIdeal, frame_CombineReferenceIdeal,
  trivial, bitexact, algebraic, trivial, algebraic_project, preserves_attend, algebraic_attend, trivial, algebraic_combine⟩

end Cert.Proof

end
